-- ==== Defs.lean ====
def Pre_AttnLat (m : (ℓ : Loc Cert.AttnLat.nD Cert.AttnLat.τ Cert.AttnLat.sig) → Buf (Elt Bits) ℓ) : Prop :=
  True

def Pre_AttnLatIdeal (m : (ℓ : Loc Cert.AttnLatIdeal.nD Cert.AttnLatIdeal.τ Cert.AttnLatIdeal.sig) → Buf (Elt Ideal) ℓ) : Prop :=
  True

def Pre_AttnLatIdeal_finite_qk [hPre_finite_qk : Cert.Pre_finite_qk.Facts] (m : (ℓ : Loc Cert.AttnLatIdeal.nD Cert.AttnLatIdeal.τ Cert.AttnLatIdeal.sig) → Buf (Elt Ideal) ℓ) : Prop :=
  ∀ c : Dev Cert.AttnLatIdeal.nD,
    (Cert.Pre_finite_qk.fn (F := Ideal) (m ((c.tc : Thread Cert.AttnLatIdeal.nD Cert.AttnLatIdeal.τ).loc Cert.AttnLatIdeal.main_arg0)) (m ((c.tc : Thread Cert.AttnLatIdeal.nD Cert.AttnLatIdeal.τ).loc Cert.AttnLatIdeal.main_arg1)) (m ((c.tc : Thread Cert.AttnLatIdeal.nD Cert.AttnLatIdeal.τ).loc Cert.AttnLatIdeal.main_arg2))).1 = (fun _ => 1#1)
    ∧ (Cert.Pre_finite_qk.fn (F := Ideal) (m ((c.tc : Thread Cert.AttnLatIdeal.nD Cert.AttnLatIdeal.τ).loc Cert.AttnLatIdeal.main_arg0)) (m ((c.tc : Thread Cert.AttnLatIdeal.nD Cert.AttnLatIdeal.τ).loc Cert.AttnLatIdeal.main_arg1)) (m ((c.tc : Thread Cert.AttnLatIdeal.nD Cert.AttnLatIdeal.τ).loc Cert.AttnLatIdeal.main_arg2))).2 = (fun _ => 1#1)

def Pre_AttnLatRefIdeal (m : (ℓ : Loc Cert.AttnLatRefIdeal.nD Cert.AttnLatRefIdeal.τ Cert.AttnLatRefIdeal.sig) → Buf (Elt Ideal) ℓ) : Prop :=
  True

def Pre_AttnLatRefIdeal_finite_qk [hPre_finite_qk : Cert.Pre_finite_qk.Facts] (m : (ℓ : Loc Cert.AttnLatRefIdeal.nD Cert.AttnLatRefIdeal.τ Cert.AttnLatRefIdeal.sig) → Buf (Elt Ideal) ℓ) : Prop :=
  ∀ c : Dev Cert.AttnLatRefIdeal.nD,
    (Cert.Pre_finite_qk.fn (F := Ideal) (m ((c.tc : Thread Cert.AttnLatRefIdeal.nD Cert.AttnLatRefIdeal.τ).loc Cert.AttnLatRefIdeal.main_arg0)) (m ((c.tc : Thread Cert.AttnLatRefIdeal.nD Cert.AttnLatRefIdeal.τ).loc Cert.AttnLatRefIdeal.main_arg1)) (m ((c.tc : Thread Cert.AttnLatRefIdeal.nD Cert.AttnLatRefIdeal.τ).loc Cert.AttnLatRefIdeal.main_arg2))).1 = (fun _ => 1#1)
    ∧ (Cert.Pre_finite_qk.fn (F := Ideal) (m ((c.tc : Thread Cert.AttnLatRefIdeal.nD Cert.AttnLatRefIdeal.τ).loc Cert.AttnLatRefIdeal.main_arg0)) (m ((c.tc : Thread Cert.AttnLatRefIdeal.nD Cert.AttnLatRefIdeal.τ).loc Cert.AttnLatRefIdeal.main_arg1)) (m ((c.tc : Thread Cert.AttnLatRefIdeal.nD Cert.AttnLatRefIdeal.τ).loc Cert.AttnLatRefIdeal.main_arg2))).2 = (fun _ => 1#1)

def Pre_AttnCtx (m : (ℓ : Loc Cert.AttnCtx.nD Cert.AttnCtx.τ Cert.AttnCtx.sig) → Buf (Elt Bits) ℓ) : Prop :=
  True

def Pre_AttnCtxIdeal (m : (ℓ : Loc Cert.AttnCtxIdeal.nD Cert.AttnCtxIdeal.τ Cert.AttnCtxIdeal.sig) → Buf (Elt Ideal) ℓ) : Prop :=
  True

def Pre_AttnCtxIdeal_finite_qk [hPre_finite_qk : Cert.Pre_finite_qk.Facts] (m : (ℓ : Loc Cert.AttnCtxIdeal.nD Cert.AttnCtxIdeal.τ Cert.AttnCtxIdeal.sig) → Buf (Elt Ideal) ℓ) : Prop :=
  ∀ c : Dev Cert.AttnCtxIdeal.nD,
    (Cert.Pre_finite_qk.fn (F := Ideal) (m ((c.tc : Thread Cert.AttnCtxIdeal.nD Cert.AttnCtxIdeal.τ).loc Cert.AttnCtxIdeal.main_arg0)) (m ((c.tc : Thread Cert.AttnCtxIdeal.nD Cert.AttnCtxIdeal.τ).loc Cert.AttnCtxIdeal.main_arg1)) (m ((c.tc : Thread Cert.AttnCtxIdeal.nD Cert.AttnCtxIdeal.τ).loc Cert.AttnCtxIdeal.main_arg2))).1 = (fun _ => 1#1)
    ∧ (Cert.Pre_finite_qk.fn (F := Ideal) (m ((c.tc : Thread Cert.AttnCtxIdeal.nD Cert.AttnCtxIdeal.τ).loc Cert.AttnCtxIdeal.main_arg0)) (m ((c.tc : Thread Cert.AttnCtxIdeal.nD Cert.AttnCtxIdeal.τ).loc Cert.AttnCtxIdeal.main_arg1)) (m ((c.tc : Thread Cert.AttnCtxIdeal.nD Cert.AttnCtxIdeal.τ).loc Cert.AttnCtxIdeal.main_arg2))).2 = (fun _ => 1#1)

def Pre_AttnCtxRefIdeal (m : (ℓ : Loc Cert.AttnCtxRefIdeal.nD Cert.AttnCtxRefIdeal.τ Cert.AttnCtxRefIdeal.sig) → Buf (Elt Ideal) ℓ) : Prop :=
  True

def Pre_AttnCtxRefIdeal_finite_qk [hPre_finite_qk : Cert.Pre_finite_qk.Facts] (m : (ℓ : Loc Cert.AttnCtxRefIdeal.nD Cert.AttnCtxRefIdeal.τ Cert.AttnCtxRefIdeal.sig) → Buf (Elt Ideal) ℓ) : Prop :=
  ∀ c : Dev Cert.AttnCtxRefIdeal.nD,
    (Cert.Pre_finite_qk.fn (F := Ideal) (m ((c.tc : Thread Cert.AttnCtxRefIdeal.nD Cert.AttnCtxRefIdeal.τ).loc Cert.AttnCtxRefIdeal.main_arg0)) (m ((c.tc : Thread Cert.AttnCtxRefIdeal.nD Cert.AttnCtxRefIdeal.τ).loc Cert.AttnCtxRefIdeal.main_arg1)) (m ((c.tc : Thread Cert.AttnCtxRefIdeal.nD Cert.AttnCtxRefIdeal.τ).loc Cert.AttnCtxRefIdeal.main_arg2))).1 = (fun _ => 1#1)
    ∧ (Cert.Pre_finite_qk.fn (F := Ideal) (m ((c.tc : Thread Cert.AttnCtxRefIdeal.nD Cert.AttnCtxRefIdeal.τ).loc Cert.AttnCtxRefIdeal.main_arg0)) (m ((c.tc : Thread Cert.AttnCtxRefIdeal.nD Cert.AttnCtxRefIdeal.τ).loc Cert.AttnCtxRefIdeal.main_arg1)) (m ((c.tc : Thread Cert.AttnCtxRefIdeal.nD Cert.AttnCtxRefIdeal.τ).loc Cert.AttnCtxRefIdeal.main_arg2))).2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeRefIdeal (m : (ℓ : Loc Cert.MoeRefIdeal.nD Cert.MoeRefIdeal.τ Cert.MoeRefIdeal.sig) → Buf (Elt Ideal) ℓ) : Prop :=
  True

def Pre_FourCh (m : (ℓ : Loc Cert.FourCh.nD Cert.FourCh.τ Cert.FourCh.sig) → Buf (Elt Bits) ℓ) : Prop :=
  True

def Pre_FourChIdeal (m : (ℓ : Loc Cert.FourChIdeal.nD Cert.FourChIdeal.τ Cert.FourChIdeal.sig) → Buf (Elt Ideal) ℓ) : Prop :=
  True

def Pre_FourChRefIdeal (m : (ℓ : Loc Cert.FourChRefIdeal.nD Cert.FourChRefIdeal.τ Cert.FourChRefIdeal.sig) → Buf (Elt Ideal) ℓ) : Prop :=
  True

def Pre_FourLat (m : (ℓ : Loc Cert.FourLat.nD Cert.FourLat.τ Cert.FourLat.sig) → Buf (Elt Bits) ℓ) : Prop :=
  True

def Pre_FourLatIdeal (m : (ℓ : Loc Cert.FourLatIdeal.nD Cert.FourLatIdeal.τ Cert.FourLatIdeal.sig) → Buf (Elt Ideal) ℓ) : Prop :=
  True

def Pre_FourLatRefIdeal (m : (ℓ : Loc Cert.FourLatRefIdeal.nD Cert.FourLatRefIdeal.τ Cert.FourLatRefIdeal.sig) → Buf (Elt Ideal) ℓ) : Prop :=
  True

def Pre_FourCtx (m : (ℓ : Loc Cert.FourCtx.nD Cert.FourCtx.τ Cert.FourCtx.sig) → Buf (Elt Bits) ℓ) : Prop :=
  True

def Pre_FourCtxIdeal (m : (ℓ : Loc Cert.FourCtxIdeal.nD Cert.FourCtxIdeal.τ Cert.FourCtxIdeal.sig) → Buf (Elt Ideal) ℓ) : Prop :=
  True

def Pre_FourCtxRefIdeal (m : (ℓ : Loc Cert.FourCtxRefIdeal.nD Cert.FourCtxRefIdeal.τ Cert.FourCtxRefIdeal.sig) → Buf (Elt Ideal) ℓ) : Prop :=
  True

def Pre_AdaLn (m : (ℓ : Loc Cert.AdaLn.nD Cert.AdaLn.τ Cert.AdaLn.sig) → Buf (Elt Bits) ℓ) : Prop :=
  True

def Pre_AdaLnIdeal (m : (ℓ : Loc Cert.AdaLnIdeal.nD Cert.AdaLnIdeal.τ Cert.AdaLnIdeal.sig) → Buf (Elt Ideal) ℓ) : Prop :=
  True

def Pre_AdaLnRefIdeal (m : (ℓ : Loc Cert.AdaLnRefIdeal.nD Cert.AdaLnRefIdeal.τ Cert.AdaLnRefIdeal.sig) → Buf (Elt Ideal) ℓ) : Prop :=
  True

def Pre_AttnPrep (m : (ℓ : Loc Cert.AttnPrep.nD Cert.AttnPrep.τ Cert.AttnPrep.sig) → Buf (Elt Bits) ℓ) : Prop :=
  True

def Pre_AttnPrepIdeal (m : (ℓ : Loc Cert.AttnPrepIdeal.nD Cert.AttnPrepIdeal.τ Cert.AttnPrepIdeal.sig) → Buf (Elt Ideal) ℓ) : Prop :=
  True

def Pre_AttnPrepRefIdeal (m : (ℓ : Loc Cert.AttnPrepRefIdeal.nD Cert.AttnPrepRefIdeal.τ Cert.AttnPrepRefIdeal.sig) → Buf (Elt Ideal) ℓ) : Prop :=
  True

def quiescent_AttnLat [hAttnLat : Cert.AttnLat.Facts] : Prop :=
  ∀ (m : (ℓ : Loc Cert.AttnLat.nD Cert.AttnLat.τ Cert.AttnLat.sig) → Buf (Elt Bits) ℓ) (g : Dev Cert.AttnLat.nD → PrngReg), Pre_AttnLat m →
    θ_run (Cert.AttnLat.defs (F := Bits)) (onTc (τ := Cert.AttnLat.τ) (Cert.AttnLat.main (F := Bits))) ⟨m, fun _ => 0, g⟩ (fun r => (∀ c : Dev Cert.AttnLat.nD,
      r.2.mem ((c.tc : Thread Cert.AttnLat.nD Cert.AttnLat.τ).loc Cert.AttnLat.main_arg0) = m ((c.tc : Thread Cert.AttnLat.nD Cert.AttnLat.τ).loc Cert.AttnLat.main_arg0)
      ∧ r.2.mem ((c.tc : Thread Cert.AttnLat.nD Cert.AttnLat.τ).loc Cert.AttnLat.main_arg1) = m ((c.tc : Thread Cert.AttnLat.nD Cert.AttnLat.τ).loc Cert.AttnLat.main_arg1)
      ∧ r.2.mem ((c.tc : Thread Cert.AttnLat.nD Cert.AttnLat.τ).loc Cert.AttnLat.main_arg2) = m ((c.tc : Thread Cert.AttnLat.nD Cert.AttnLat.τ).loc Cert.AttnLat.main_arg2))
      ∧ r.2.sem = fun _ => 0)

def quiescent_AttnLatIdeal [hAttnLatIdeal : Cert.AttnLatIdeal.Facts] : Prop :=
  ∀ (m : (ℓ : Loc Cert.AttnLatIdeal.nD Cert.AttnLatIdeal.τ Cert.AttnLatIdeal.sig) → Buf (Elt Ideal) ℓ) (g : Dev Cert.AttnLatIdeal.nD → PrngReg), Pre_AttnLatIdeal m →
    θ_run (Cert.AttnLatIdeal.defs (F := Ideal)) (onTc (τ := Cert.AttnLatIdeal.τ) (Cert.AttnLatIdeal.main (F := Ideal))) ⟨m, fun _ => 0, g⟩ (fun r => (∀ c : Dev Cert.AttnLatIdeal.nD,
      r.2.mem ((c.tc : Thread Cert.AttnLatIdeal.nD Cert.AttnLatIdeal.τ).loc Cert.AttnLatIdeal.main_arg0) = m ((c.tc : Thread Cert.AttnLatIdeal.nD Cert.AttnLatIdeal.τ).loc Cert.AttnLatIdeal.main_arg0)
      ∧ r.2.mem ((c.tc : Thread Cert.AttnLatIdeal.nD Cert.AttnLatIdeal.τ).loc Cert.AttnLatIdeal.main_arg1) = m ((c.tc : Thread Cert.AttnLatIdeal.nD Cert.AttnLatIdeal.τ).loc Cert.AttnLatIdeal.main_arg1)
      ∧ r.2.mem ((c.tc : Thread Cert.AttnLatIdeal.nD Cert.AttnLatIdeal.τ).loc Cert.AttnLatIdeal.main_arg2) = m ((c.tc : Thread Cert.AttnLatIdeal.nD Cert.AttnLatIdeal.τ).loc Cert.AttnLatIdeal.main_arg2))
      ∧ r.2.sem = fun _ => 0)

def quiescent_AttnLatIdeal_pre_finite_qk [hAttnLatIdeal : Cert.AttnLatIdeal.Facts] [hPre_finite_qk : Cert.Pre_finite_qk.Facts] : Prop :=
  ∀ (m : (ℓ : Loc Cert.AttnLatIdeal.nD Cert.AttnLatIdeal.τ Cert.AttnLatIdeal.sig) → Buf (Elt Ideal) ℓ) (g : Dev Cert.AttnLatIdeal.nD → PrngReg), Pre_AttnLatIdeal_finite_qk m →
    θ_run (Cert.AttnLatIdeal.defs (F := Ideal)) (onTc (τ := Cert.AttnLatIdeal.τ) (Cert.AttnLatIdeal.main (F := Ideal))) ⟨m, fun _ => 0, g⟩ (fun r => (∀ c : Dev Cert.AttnLatIdeal.nD,
      r.2.mem ((c.tc : Thread Cert.AttnLatIdeal.nD Cert.AttnLatIdeal.τ).loc Cert.AttnLatIdeal.main_arg0) = m ((c.tc : Thread Cert.AttnLatIdeal.nD Cert.AttnLatIdeal.τ).loc Cert.AttnLatIdeal.main_arg0)
      ∧ r.2.mem ((c.tc : Thread Cert.AttnLatIdeal.nD Cert.AttnLatIdeal.τ).loc Cert.AttnLatIdeal.main_arg1) = m ((c.tc : Thread Cert.AttnLatIdeal.nD Cert.AttnLatIdeal.τ).loc Cert.AttnLatIdeal.main_arg1)
      ∧ r.2.mem ((c.tc : Thread Cert.AttnLatIdeal.nD Cert.AttnLatIdeal.τ).loc Cert.AttnLatIdeal.main_arg2) = m ((c.tc : Thread Cert.AttnLatIdeal.nD Cert.AttnLatIdeal.τ).loc Cert.AttnLatIdeal.main_arg2))
      ∧ r.2.sem = fun _ => 0)

def quiescent_AttnLatRefIdeal [hAttnLatRefIdeal : Cert.AttnLatRefIdeal.Facts] : Prop :=
  ∀ (m : (ℓ : Loc Cert.AttnLatRefIdeal.nD Cert.AttnLatRefIdeal.τ Cert.AttnLatRefIdeal.sig) → Buf (Elt Ideal) ℓ) (g : Dev Cert.AttnLatRefIdeal.nD → PrngReg), Pre_AttnLatRefIdeal m →
    θ_run (Cert.AttnLatRefIdeal.defs (F := Ideal)) (onTc (τ := Cert.AttnLatRefIdeal.τ) (Cert.AttnLatRefIdeal.main (F := Ideal))) ⟨m, fun _ => 0, g⟩ (fun r => (∀ c : Dev Cert.AttnLatRefIdeal.nD,
      r.2.mem ((c.tc : Thread Cert.AttnLatRefIdeal.nD Cert.AttnLatRefIdeal.τ).loc Cert.AttnLatRefIdeal.main_arg0) = m ((c.tc : Thread Cert.AttnLatRefIdeal.nD Cert.AttnLatRefIdeal.τ).loc Cert.AttnLatRefIdeal.main_arg0)
      ∧ r.2.mem ((c.tc : Thread Cert.AttnLatRefIdeal.nD Cert.AttnLatRefIdeal.τ).loc Cert.AttnLatRefIdeal.main_arg1) = m ((c.tc : Thread Cert.AttnLatRefIdeal.nD Cert.AttnLatRefIdeal.τ).loc Cert.AttnLatRefIdeal.main_arg1)
      ∧ r.2.mem ((c.tc : Thread Cert.AttnLatRefIdeal.nD Cert.AttnLatRefIdeal.τ).loc Cert.AttnLatRefIdeal.main_arg2) = m ((c.tc : Thread Cert.AttnLatRefIdeal.nD Cert.AttnLatRefIdeal.τ).loc Cert.AttnLatRefIdeal.main_arg2))
      ∧ r.2.sem = fun _ => 0)

def quiescent_AttnLatRefIdeal_pre_finite_qk [hAttnLatRefIdeal : Cert.AttnLatRefIdeal.Facts] [hPre_finite_qk : Cert.Pre_finite_qk.Facts] : Prop :=
  ∀ (m : (ℓ : Loc Cert.AttnLatRefIdeal.nD Cert.AttnLatRefIdeal.τ Cert.AttnLatRefIdeal.sig) → Buf (Elt Ideal) ℓ) (g : Dev Cert.AttnLatRefIdeal.nD → PrngReg), Pre_AttnLatRefIdeal_finite_qk m →
    θ_run (Cert.AttnLatRefIdeal.defs (F := Ideal)) (onTc (τ := Cert.AttnLatRefIdeal.τ) (Cert.AttnLatRefIdeal.main (F := Ideal))) ⟨m, fun _ => 0, g⟩ (fun r => (∀ c : Dev Cert.AttnLatRefIdeal.nD,
      r.2.mem ((c.tc : Thread Cert.AttnLatRefIdeal.nD Cert.AttnLatRefIdeal.τ).loc Cert.AttnLatRefIdeal.main_arg0) = m ((c.tc : Thread Cert.AttnLatRefIdeal.nD Cert.AttnLatRefIdeal.τ).loc Cert.AttnLatRefIdeal.main_arg0)
      ∧ r.2.mem ((c.tc : Thread Cert.AttnLatRefIdeal.nD Cert.AttnLatRefIdeal.τ).loc Cert.AttnLatRefIdeal.main_arg1) = m ((c.tc : Thread Cert.AttnLatRefIdeal.nD Cert.AttnLatRefIdeal.τ).loc Cert.AttnLatRefIdeal.main_arg1)
      ∧ r.2.mem ((c.tc : Thread Cert.AttnLatRefIdeal.nD Cert.AttnLatRefIdeal.τ).loc Cert.AttnLatRefIdeal.main_arg2) = m ((c.tc : Thread Cert.AttnLatRefIdeal.nD Cert.AttnLatRefIdeal.τ).loc Cert.AttnLatRefIdeal.main_arg2))
      ∧ r.2.sem = fun _ => 0)

def quiescent_AttnCtx [hAttnCtx : Cert.AttnCtx.Facts] : Prop :=
  ∀ (m : (ℓ : Loc Cert.AttnCtx.nD Cert.AttnCtx.τ Cert.AttnCtx.sig) → Buf (Elt Bits) ℓ) (g : Dev Cert.AttnCtx.nD → PrngReg), Pre_AttnCtx m →
    θ_run (Cert.AttnCtx.defs (F := Bits)) (onTc (τ := Cert.AttnCtx.τ) (Cert.AttnCtx.main (F := Bits))) ⟨m, fun _ => 0, g⟩ (fun r => (∀ c : Dev Cert.AttnCtx.nD,
      r.2.mem ((c.tc : Thread Cert.AttnCtx.nD Cert.AttnCtx.τ).loc Cert.AttnCtx.main_arg0) = m ((c.tc : Thread Cert.AttnCtx.nD Cert.AttnCtx.τ).loc Cert.AttnCtx.main_arg0)
      ∧ r.2.mem ((c.tc : Thread Cert.AttnCtx.nD Cert.AttnCtx.τ).loc Cert.AttnCtx.main_arg1) = m ((c.tc : Thread Cert.AttnCtx.nD Cert.AttnCtx.τ).loc Cert.AttnCtx.main_arg1)
      ∧ r.2.mem ((c.tc : Thread Cert.AttnCtx.nD Cert.AttnCtx.τ).loc Cert.AttnCtx.main_arg2) = m ((c.tc : Thread Cert.AttnCtx.nD Cert.AttnCtx.τ).loc Cert.AttnCtx.main_arg2))
      ∧ r.2.sem = fun _ => 0)

def quiescent_AttnCtxIdeal [hAttnCtxIdeal : Cert.AttnCtxIdeal.Facts] : Prop :=
  ∀ (m : (ℓ : Loc Cert.AttnCtxIdeal.nD Cert.AttnCtxIdeal.τ Cert.AttnCtxIdeal.sig) → Buf (Elt Ideal) ℓ) (g : Dev Cert.AttnCtxIdeal.nD → PrngReg), Pre_AttnCtxIdeal m →
    θ_run (Cert.AttnCtxIdeal.defs (F := Ideal)) (onTc (τ := Cert.AttnCtxIdeal.τ) (Cert.AttnCtxIdeal.main (F := Ideal))) ⟨m, fun _ => 0, g⟩ (fun r => (∀ c : Dev Cert.AttnCtxIdeal.nD,
      r.2.mem ((c.tc : Thread Cert.AttnCtxIdeal.nD Cert.AttnCtxIdeal.τ).loc Cert.AttnCtxIdeal.main_arg0) = m ((c.tc : Thread Cert.AttnCtxIdeal.nD Cert.AttnCtxIdeal.τ).loc Cert.AttnCtxIdeal.main_arg0)
      ∧ r.2.mem ((c.tc : Thread Cert.AttnCtxIdeal.nD Cert.AttnCtxIdeal.τ).loc Cert.AttnCtxIdeal.main_arg1) = m ((c.tc : Thread Cert.AttnCtxIdeal.nD Cert.AttnCtxIdeal.τ).loc Cert.AttnCtxIdeal.main_arg1)
      ∧ r.2.mem ((c.tc : Thread Cert.AttnCtxIdeal.nD Cert.AttnCtxIdeal.τ).loc Cert.AttnCtxIdeal.main_arg2) = m ((c.tc : Thread Cert.AttnCtxIdeal.nD Cert.AttnCtxIdeal.τ).loc Cert.AttnCtxIdeal.main_arg2))
      ∧ r.2.sem = fun _ => 0)

def quiescent_AttnCtxIdeal_pre_finite_qk [hAttnCtxIdeal : Cert.AttnCtxIdeal.Facts] [hPre_finite_qk : Cert.Pre_finite_qk.Facts] : Prop :=
  ∀ (m : (ℓ : Loc Cert.AttnCtxIdeal.nD Cert.AttnCtxIdeal.τ Cert.AttnCtxIdeal.sig) → Buf (Elt Ideal) ℓ) (g : Dev Cert.AttnCtxIdeal.nD → PrngReg), Pre_AttnCtxIdeal_finite_qk m →
    θ_run (Cert.AttnCtxIdeal.defs (F := Ideal)) (onTc (τ := Cert.AttnCtxIdeal.τ) (Cert.AttnCtxIdeal.main (F := Ideal))) ⟨m, fun _ => 0, g⟩ (fun r => (∀ c : Dev Cert.AttnCtxIdeal.nD,
      r.2.mem ((c.tc : Thread Cert.AttnCtxIdeal.nD Cert.AttnCtxIdeal.τ).loc Cert.AttnCtxIdeal.main_arg0) = m ((c.tc : Thread Cert.AttnCtxIdeal.nD Cert.AttnCtxIdeal.τ).loc Cert.AttnCtxIdeal.main_arg0)
      ∧ r.2.mem ((c.tc : Thread Cert.AttnCtxIdeal.nD Cert.AttnCtxIdeal.τ).loc Cert.AttnCtxIdeal.main_arg1) = m ((c.tc : Thread Cert.AttnCtxIdeal.nD Cert.AttnCtxIdeal.τ).loc Cert.AttnCtxIdeal.main_arg1)
      ∧ r.2.mem ((c.tc : Thread Cert.AttnCtxIdeal.nD Cert.AttnCtxIdeal.τ).loc Cert.AttnCtxIdeal.main_arg2) = m ((c.tc : Thread Cert.AttnCtxIdeal.nD Cert.AttnCtxIdeal.τ).loc Cert.AttnCtxIdeal.main_arg2))
      ∧ r.2.sem = fun _ => 0)

def quiescent_AttnCtxRefIdeal [hAttnCtxRefIdeal : Cert.AttnCtxRefIdeal.Facts] : Prop :=
  ∀ (m : (ℓ : Loc Cert.AttnCtxRefIdeal.nD Cert.AttnCtxRefIdeal.τ Cert.AttnCtxRefIdeal.sig) → Buf (Elt Ideal) ℓ) (g : Dev Cert.AttnCtxRefIdeal.nD → PrngReg), Pre_AttnCtxRefIdeal m →
    θ_run (Cert.AttnCtxRefIdeal.defs (F := Ideal)) (onTc (τ := Cert.AttnCtxRefIdeal.τ) (Cert.AttnCtxRefIdeal.main (F := Ideal))) ⟨m, fun _ => 0, g⟩ (fun r => (∀ c : Dev Cert.AttnCtxRefIdeal.nD,
      r.2.mem ((c.tc : Thread Cert.AttnCtxRefIdeal.nD Cert.AttnCtxRefIdeal.τ).loc Cert.AttnCtxRefIdeal.main_arg0) = m ((c.tc : Thread Cert.AttnCtxRefIdeal.nD Cert.AttnCtxRefIdeal.τ).loc Cert.AttnCtxRefIdeal.main_arg0)
      ∧ r.2.mem ((c.tc : Thread Cert.AttnCtxRefIdeal.nD Cert.AttnCtxRefIdeal.τ).loc Cert.AttnCtxRefIdeal.main_arg1) = m ((c.tc : Thread Cert.AttnCtxRefIdeal.nD Cert.AttnCtxRefIdeal.τ).loc Cert.AttnCtxRefIdeal.main_arg1)
      ∧ r.2.mem ((c.tc : Thread Cert.AttnCtxRefIdeal.nD Cert.AttnCtxRefIdeal.τ).loc Cert.AttnCtxRefIdeal.main_arg2) = m ((c.tc : Thread Cert.AttnCtxRefIdeal.nD Cert.AttnCtxRefIdeal.τ).loc Cert.AttnCtxRefIdeal.main_arg2))
      ∧ r.2.sem = fun _ => 0)

def quiescent_AttnCtxRefIdeal_pre_finite_qk [hAttnCtxRefIdeal : Cert.AttnCtxRefIdeal.Facts] [hPre_finite_qk : Cert.Pre_finite_qk.Facts] : Prop :=
  ∀ (m : (ℓ : Loc Cert.AttnCtxRefIdeal.nD Cert.AttnCtxRefIdeal.τ Cert.AttnCtxRefIdeal.sig) → Buf (Elt Ideal) ℓ) (g : Dev Cert.AttnCtxRefIdeal.nD → PrngReg), Pre_AttnCtxRefIdeal_finite_qk m →
    θ_run (Cert.AttnCtxRefIdeal.defs (F := Ideal)) (onTc (τ := Cert.AttnCtxRefIdeal.τ) (Cert.AttnCtxRefIdeal.main (F := Ideal))) ⟨m, fun _ => 0, g⟩ (fun r => (∀ c : Dev Cert.AttnCtxRefIdeal.nD,
      r.2.mem ((c.tc : Thread Cert.AttnCtxRefIdeal.nD Cert.AttnCtxRefIdeal.τ).loc Cert.AttnCtxRefIdeal.main_arg0) = m ((c.tc : Thread Cert.AttnCtxRefIdeal.nD Cert.AttnCtxRefIdeal.τ).loc Cert.AttnCtxRefIdeal.main_arg0)
      ∧ r.2.mem ((c.tc : Thread Cert.AttnCtxRefIdeal.nD Cert.AttnCtxRefIdeal.τ).loc Cert.AttnCtxRefIdeal.main_arg1) = m ((c.tc : Thread Cert.AttnCtxRefIdeal.nD Cert.AttnCtxRefIdeal.τ).loc Cert.AttnCtxRefIdeal.main_arg1)
      ∧ r.2.mem ((c.tc : Thread Cert.AttnCtxRefIdeal.nD Cert.AttnCtxRefIdeal.τ).loc Cert.AttnCtxRefIdeal.main_arg2) = m ((c.tc : Thread Cert.AttnCtxRefIdeal.nD Cert.AttnCtxRefIdeal.τ).loc Cert.AttnCtxRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5))
      ∧ r.2.sem = fun _ => 0)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6)
      ∧ r.2.mem ((c.tc : Thread Cert.Moe.nD Cert.Moe.τ).loc Cert.Moe.main_arg7) = m ((c.tc : Thread Cert.Moe.nD Cert.Moe.τ).loc Cert.Moe.main_arg7)
      ∧ r.2.mem ((c.tc : Thread Cert.Moe.nD Cert.Moe.τ).loc Cert.Moe.main_arg8) = m ((c.tc : Thread Cert.Moe.nD Cert.Moe.τ).loc Cert.Moe.main_arg8)
      ∧ r.2.mem ((c.tc : Thread Cert.Moe.nD Cert.Moe.τ).loc Cert.Moe.main_arg9) = m ((c.tc : Thread Cert.Moe.nD Cert.Moe.τ).loc Cert.Moe.main_arg9))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
      ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8)
      ∧ r.2.mem ((c.tc : Thread Cert.MoeIdeal.nD Cert.MoeIdeal.τ).loc Cert.MoeIdeal.main_arg9) = m ((c.tc : Thread Cert.MoeIdeal.nD Cert.MoeIdeal.τ).loc Cert.MoeIdeal.main_arg9))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7)
      ∧ r.2.mem ((c.tc : Thread Cert.MoeRefIdeal.nD Cert.MoeRefIdeal.τ).loc Cert.MoeRefIdeal.main_arg8) = m ((c.tc : Thread Cert.MoeRefIdeal.nD Cert.MoeRefIdeal.τ).loc Cert.MoeRefIdeal.main_arg8)
      ∧ r.2.mem ((c.tc : Thread Cert.MoeRefIdeal.nD Cert.MoeRefIdeal.τ).loc Cert.MoeRefIdeal.main_arg9) = m ((c.tc : Thread Cert.MoeRefIdeal.nD Cert.MoeRefIdeal.τ).loc Cert.MoeRefIdeal.main_arg9))
      ∧ r.2.sem = fun _ => 0)

def quiescent_FourCh [hFourCh : Cert.FourCh.Facts] : Prop :=
  ∀ (m : (ℓ : Loc Cert.FourCh.nD Cert.FourCh.τ Cert.FourCh.sig) → Buf (Elt Bits) ℓ) (g : Dev Cert.FourCh.nD → PrngReg), Pre_FourCh m →
    θ_run (Cert.FourCh.defs (F := Bits)) (onTc (τ := Cert.FourCh.τ) (Cert.FourCh.main (F := Bits))) ⟨m, fun _ => 0, g⟩ (fun r => (∀ c : Dev Cert.FourCh.nD,
      r.2.mem ((c.tc : Thread Cert.FourCh.nD Cert.FourCh.τ).loc Cert.FourCh.main_arg0) = m ((c.tc : Thread Cert.FourCh.nD Cert.FourCh.τ).loc Cert.FourCh.main_arg0)
      ∧ r.2.mem ((c.tc : Thread Cert.FourCh.nD Cert.FourCh.τ).loc Cert.FourCh.main_arg1) = m ((c.tc : Thread Cert.FourCh.nD Cert.FourCh.τ).loc Cert.FourCh.main_arg1)
      ∧ r.2.mem ((c.tc : Thread Cert.FourCh.nD Cert.FourCh.τ).loc Cert.FourCh.main_arg2) = m ((c.tc : Thread Cert.FourCh.nD Cert.FourCh.τ).loc Cert.FourCh.main_arg2))
      ∧ r.2.sem = fun _ => 0)

def quiescent_FourChIdeal [hFourChIdeal : Cert.FourChIdeal.Facts] : Prop :=
  ∀ (m : (ℓ : Loc Cert.FourChIdeal.nD Cert.FourChIdeal.τ Cert.FourChIdeal.sig) → Buf (Elt Ideal) ℓ) (g : Dev Cert.FourChIdeal.nD → PrngReg), Pre_FourChIdeal m →
    θ_run (Cert.FourChIdeal.defs (F := Ideal)) (onTc (τ := Cert.FourChIdeal.τ) (Cert.FourChIdeal.main (F := Ideal))) ⟨m, fun _ => 0, g⟩ (fun r => (∀ c : Dev Cert.FourChIdeal.nD,
      r.2.mem ((c.tc : Thread Cert.FourChIdeal.nD Cert.FourChIdeal.τ).loc Cert.FourChIdeal.main_arg0) = m ((c.tc : Thread Cert.FourChIdeal.nD Cert.FourChIdeal.τ).loc Cert.FourChIdeal.main_arg0)
      ∧ r.2.mem ((c.tc : Thread Cert.FourChIdeal.nD Cert.FourChIdeal.τ).loc Cert.FourChIdeal.main_arg1) = m ((c.tc : Thread Cert.FourChIdeal.nD Cert.FourChIdeal.τ).loc Cert.FourChIdeal.main_arg1)
      ∧ r.2.mem ((c.tc : Thread Cert.FourChIdeal.nD Cert.FourChIdeal.τ).loc Cert.FourChIdeal.main_arg2) = m ((c.tc : Thread Cert.FourChIdeal.nD Cert.FourChIdeal.τ).loc Cert.FourChIdeal.main_arg2))
      ∧ r.2.sem = fun _ => 0)

def quiescent_FourChRefIdeal [hFourChRefIdeal : Cert.FourChRefIdeal.Facts] : Prop :=
  ∀ (m : (ℓ : Loc Cert.FourChRefIdeal.nD Cert.FourChRefIdeal.τ Cert.FourChRefIdeal.sig) → Buf (Elt Ideal) ℓ) (g : Dev Cert.FourChRefIdeal.nD → PrngReg), Pre_FourChRefIdeal m →
    θ_run (Cert.FourChRefIdeal.defs (F := Ideal)) (onTc (τ := Cert.FourChRefIdeal.τ) (Cert.FourChRefIdeal.main (F := Ideal))) ⟨m, fun _ => 0, g⟩ (fun r => (∀ c : Dev Cert.FourChRefIdeal.nD,
      r.2.mem ((c.tc : Thread Cert.FourChRefIdeal.nD Cert.FourChRefIdeal.τ).loc Cert.FourChRefIdeal.main_arg0) = m ((c.tc : Thread Cert.FourChRefIdeal.nD Cert.FourChRefIdeal.τ).loc Cert.FourChRefIdeal.main_arg0)
      ∧ r.2.mem ((c.tc : Thread Cert.FourChRefIdeal.nD Cert.FourChRefIdeal.τ).loc Cert.FourChRefIdeal.main_arg1) = m ((c.tc : Thread Cert.FourChRefIdeal.nD Cert.FourChRefIdeal.τ).loc Cert.FourChRefIdeal.main_arg1)
      ∧ r.2.mem ((c.tc : Thread Cert.FourChRefIdeal.nD Cert.FourChRefIdeal.τ).loc Cert.FourChRefIdeal.main_arg2) = m ((c.tc : Thread Cert.FourChRefIdeal.nD Cert.FourChRefIdeal.τ).loc Cert.FourChRefIdeal.main_arg2))
      ∧ r.2.sem = fun _ => 0)

def quiescent_FourLat [hFourLat : Cert.FourLat.Facts] : Prop :=
  ∀ (m : (ℓ : Loc Cert.FourLat.nD Cert.FourLat.τ Cert.FourLat.sig) → Buf (Elt Bits) ℓ) (g : Dev Cert.FourLat.nD → PrngReg), Pre_FourLat m →
    θ_run (Cert.FourLat.defs (F := Bits)) (onTc (τ := Cert.FourLat.τ) (Cert.FourLat.main (F := Bits))) ⟨m, fun _ => 0, g⟩ (fun r => (∀ c : Dev Cert.FourLat.nD,
      r.2.mem ((c.tc : Thread Cert.FourLat.nD Cert.FourLat.τ).loc Cert.FourLat.main_arg0) = m ((c.tc : Thread Cert.FourLat.nD Cert.FourLat.τ).loc Cert.FourLat.main_arg0)
      ∧ r.2.mem ((c.tc : Thread Cert.FourLat.nD Cert.FourLat.τ).loc Cert.FourLat.main_arg1) = m ((c.tc : Thread Cert.FourLat.nD Cert.FourLat.τ).loc Cert.FourLat.main_arg1)
      ∧ r.2.mem ((c.tc : Thread Cert.FourLat.nD Cert.FourLat.τ).loc Cert.FourLat.main_arg2) = m ((c.tc : Thread Cert.FourLat.nD Cert.FourLat.τ).loc Cert.FourLat.main_arg2))
      ∧ r.2.sem = fun _ => 0)

def quiescent_FourLatIdeal [hFourLatIdeal : Cert.FourLatIdeal.Facts] : Prop :=
  ∀ (m : (ℓ : Loc Cert.FourLatIdeal.nD Cert.FourLatIdeal.τ Cert.FourLatIdeal.sig) → Buf (Elt Ideal) ℓ) (g : Dev Cert.FourLatIdeal.nD → PrngReg), Pre_FourLatIdeal m →
    θ_run (Cert.FourLatIdeal.defs (F := Ideal)) (onTc (τ := Cert.FourLatIdeal.τ) (Cert.FourLatIdeal.main (F := Ideal))) ⟨m, fun _ => 0, g⟩ (fun r => (∀ c : Dev Cert.FourLatIdeal.nD,
      r.2.mem ((c.tc : Thread Cert.FourLatIdeal.nD Cert.FourLatIdeal.τ).loc Cert.FourLatIdeal.main_arg0) = m ((c.tc : Thread Cert.FourLatIdeal.nD Cert.FourLatIdeal.τ).loc Cert.FourLatIdeal.main_arg0)
      ∧ r.2.mem ((c.tc : Thread Cert.FourLatIdeal.nD Cert.FourLatIdeal.τ).loc Cert.FourLatIdeal.main_arg1) = m ((c.tc : Thread Cert.FourLatIdeal.nD Cert.FourLatIdeal.τ).loc Cert.FourLatIdeal.main_arg1)
      ∧ r.2.mem ((c.tc : Thread Cert.FourLatIdeal.nD Cert.FourLatIdeal.τ).loc Cert.FourLatIdeal.main_arg2) = m ((c.tc : Thread Cert.FourLatIdeal.nD Cert.FourLatIdeal.τ).loc Cert.FourLatIdeal.main_arg2))
      ∧ r.2.sem = fun _ => 0)

def quiescent_FourLatRefIdeal [hFourLatRefIdeal : Cert.FourLatRefIdeal.Facts] : Prop :=
  ∀ (m : (ℓ : Loc Cert.FourLatRefIdeal.nD Cert.FourLatRefIdeal.τ Cert.FourLatRefIdeal.sig) → Buf (Elt Ideal) ℓ) (g : Dev Cert.FourLatRefIdeal.nD → PrngReg), Pre_FourLatRefIdeal m →
    θ_run (Cert.FourLatRefIdeal.defs (F := Ideal)) (onTc (τ := Cert.FourLatRefIdeal.τ) (Cert.FourLatRefIdeal.main (F := Ideal))) ⟨m, fun _ => 0, g⟩ (fun r => (∀ c : Dev Cert.FourLatRefIdeal.nD,
      r.2.mem ((c.tc : Thread Cert.FourLatRefIdeal.nD Cert.FourLatRefIdeal.τ).loc Cert.FourLatRefIdeal.main_arg0) = m ((c.tc : Thread Cert.FourLatRefIdeal.nD Cert.FourLatRefIdeal.τ).loc Cert.FourLatRefIdeal.main_arg0)
      ∧ r.2.mem ((c.tc : Thread Cert.FourLatRefIdeal.nD Cert.FourLatRefIdeal.τ).loc Cert.FourLatRefIdeal.main_arg1) = m ((c.tc : Thread Cert.FourLatRefIdeal.nD Cert.FourLatRefIdeal.τ).loc Cert.FourLatRefIdeal.main_arg1)
      ∧ r.2.mem ((c.tc : Thread Cert.FourLatRefIdeal.nD Cert.FourLatRefIdeal.τ).loc Cert.FourLatRefIdeal.main_arg2) = m ((c.tc : Thread Cert.FourLatRefIdeal.nD Cert.FourLatRefIdeal.τ).loc Cert.FourLatRefIdeal.main_arg2))
      ∧ r.2.sem = fun _ => 0)

def quiescent_FourCtx [hFourCtx : Cert.FourCtx.Facts] : Prop :=
  ∀ (m : (ℓ : Loc Cert.FourCtx.nD Cert.FourCtx.τ Cert.FourCtx.sig) → Buf (Elt Bits) ℓ) (g : Dev Cert.FourCtx.nD → PrngReg), Pre_FourCtx m →
    θ_run (Cert.FourCtx.defs (F := Bits)) (onTc (τ := Cert.FourCtx.τ) (Cert.FourCtx.main (F := Bits))) ⟨m, fun _ => 0, g⟩ (fun r => (∀ c : Dev Cert.FourCtx.nD,
      r.2.mem ((c.tc : Thread Cert.FourCtx.nD Cert.FourCtx.τ).loc Cert.FourCtx.main_arg0) = m ((c.tc : Thread Cert.FourCtx.nD Cert.FourCtx.τ).loc Cert.FourCtx.main_arg0)
      ∧ r.2.mem ((c.tc : Thread Cert.FourCtx.nD Cert.FourCtx.τ).loc Cert.FourCtx.main_arg1) = m ((c.tc : Thread Cert.FourCtx.nD Cert.FourCtx.τ).loc Cert.FourCtx.main_arg1)
      ∧ r.2.mem ((c.tc : Thread Cert.FourCtx.nD Cert.FourCtx.τ).loc Cert.FourCtx.main_arg2) = m ((c.tc : Thread Cert.FourCtx.nD Cert.FourCtx.τ).loc Cert.FourCtx.main_arg2))
      ∧ r.2.sem = fun _ => 0)

def quiescent_FourCtxIdeal [hFourCtxIdeal : Cert.FourCtxIdeal.Facts] : Prop :=
  ∀ (m : (ℓ : Loc Cert.FourCtxIdeal.nD Cert.FourCtxIdeal.τ Cert.FourCtxIdeal.sig) → Buf (Elt Ideal) ℓ) (g : Dev Cert.FourCtxIdeal.nD → PrngReg), Pre_FourCtxIdeal m →
    θ_run (Cert.FourCtxIdeal.defs (F := Ideal)) (onTc (τ := Cert.FourCtxIdeal.τ) (Cert.FourCtxIdeal.main (F := Ideal))) ⟨m, fun _ => 0, g⟩ (fun r => (∀ c : Dev Cert.FourCtxIdeal.nD,
      r.2.mem ((c.tc : Thread Cert.FourCtxIdeal.nD Cert.FourCtxIdeal.τ).loc Cert.FourCtxIdeal.main_arg0) = m ((c.tc : Thread Cert.FourCtxIdeal.nD Cert.FourCtxIdeal.τ).loc Cert.FourCtxIdeal.main_arg0)
      ∧ r.2.mem ((c.tc : Thread Cert.FourCtxIdeal.nD Cert.FourCtxIdeal.τ).loc Cert.FourCtxIdeal.main_arg1) = m ((c.tc : Thread Cert.FourCtxIdeal.nD Cert.FourCtxIdeal.τ).loc Cert.FourCtxIdeal.main_arg1)
      ∧ r.2.mem ((c.tc : Thread Cert.FourCtxIdeal.nD Cert.FourCtxIdeal.τ).loc Cert.FourCtxIdeal.main_arg2) = m ((c.tc : Thread Cert.FourCtxIdeal.nD Cert.FourCtxIdeal.τ).loc Cert.FourCtxIdeal.main_arg2))
      ∧ r.2.sem = fun _ => 0)

def quiescent_FourCtxRefIdeal [hFourCtxRefIdeal : Cert.FourCtxRefIdeal.Facts] : Prop :=
  ∀ (m : (ℓ : Loc Cert.FourCtxRefIdeal.nD Cert.FourCtxRefIdeal.τ Cert.FourCtxRefIdeal.sig) → Buf (Elt Ideal) ℓ) (g : Dev Cert.FourCtxRefIdeal.nD → PrngReg), Pre_FourCtxRefIdeal m →
    θ_run (Cert.FourCtxRefIdeal.defs (F := Ideal)) (onTc (τ := Cert.FourCtxRefIdeal.τ) (Cert.FourCtxRefIdeal.main (F := Ideal))) ⟨m, fun _ => 0, g⟩ (fun r => (∀ c : Dev Cert.FourCtxRefIdeal.nD,
      r.2.mem ((c.tc : Thread Cert.FourCtxRefIdeal.nD Cert.FourCtxRefIdeal.τ).loc Cert.FourCtxRefIdeal.main_arg0) = m ((c.tc : Thread Cert.FourCtxRefIdeal.nD Cert.FourCtxRefIdeal.τ).loc Cert.FourCtxRefIdeal.main_arg0)
      ∧ r.2.mem ((c.tc : Thread Cert.FourCtxRefIdeal.nD Cert.FourCtxRefIdeal.τ).loc Cert.FourCtxRefIdeal.main_arg1) = m ((c.tc : Thread Cert.FourCtxRefIdeal.nD Cert.FourCtxRefIdeal.τ).loc Cert.FourCtxRefIdeal.main_arg1)
      ∧ r.2.mem ((c.tc : Thread Cert.FourCtxRefIdeal.nD Cert.FourCtxRefIdeal.τ).loc Cert.FourCtxRefIdeal.main_arg2) = m ((c.tc : Thread Cert.FourCtxRefIdeal.nD Cert.FourCtxRefIdeal.τ).loc Cert.FourCtxRefIdeal.main_arg2))
      ∧ r.2.sem = fun _ => 0)

def quiescent_AdaLn [hAdaLn : Cert.AdaLn.Facts] : Prop :=
  ∀ (m : (ℓ : Loc Cert.AdaLn.nD Cert.AdaLn.τ Cert.AdaLn.sig) → Buf (Elt Bits) ℓ) (g : Dev Cert.AdaLn.nD → PrngReg), Pre_AdaLn m →
    θ_run (Cert.AdaLn.defs (F := Bits)) (onTc (τ := Cert.AdaLn.τ) (Cert.AdaLn.main (F := Bits))) ⟨m, fun _ => 0, g⟩ (fun r => (∀ c : Dev Cert.AdaLn.nD,
      r.2.mem ((c.tc : Thread Cert.AdaLn.nD Cert.AdaLn.τ).loc Cert.AdaLn.main_arg0) = m ((c.tc : Thread Cert.AdaLn.nD Cert.AdaLn.τ).loc Cert.AdaLn.main_arg0)
      ∧ r.2.mem ((c.tc : Thread Cert.AdaLn.nD Cert.AdaLn.τ).loc Cert.AdaLn.main_arg1) = m ((c.tc : Thread Cert.AdaLn.nD Cert.AdaLn.τ).loc Cert.AdaLn.main_arg1)
      ∧ r.2.mem ((c.tc : Thread Cert.AdaLn.nD Cert.AdaLn.τ).loc Cert.AdaLn.main_arg2) = m ((c.tc : Thread Cert.AdaLn.nD Cert.AdaLn.τ).loc Cert.AdaLn.main_arg2)
      ∧ r.2.mem ((c.tc : Thread Cert.AdaLn.nD Cert.AdaLn.τ).loc Cert.AdaLn.main_arg3) = m ((c.tc : Thread Cert.AdaLn.nD Cert.AdaLn.τ).loc Cert.AdaLn.main_arg3))
      ∧ r.2.sem = fun _ => 0)

def quiescent_AdaLnIdeal [hAdaLnIdeal : Cert.AdaLnIdeal.Facts] : Prop :=
  ∀ (m : (ℓ : Loc Cert.AdaLnIdeal.nD Cert.AdaLnIdeal.τ Cert.AdaLnIdeal.sig) → Buf (Elt Ideal) ℓ) (g : Dev Cert.AdaLnIdeal.nD → PrngReg), Pre_AdaLnIdeal m →
    θ_run (Cert.AdaLnIdeal.defs (F := Ideal)) (onTc (τ := Cert.AdaLnIdeal.τ) (Cert.AdaLnIdeal.main (F := Ideal))) ⟨m, fun _ => 0, g⟩ (fun r => (∀ c : Dev Cert.AdaLnIdeal.nD,
      r.2.mem ((c.tc : Thread Cert.AdaLnIdeal.nD Cert.AdaLnIdeal.τ).loc Cert.AdaLnIdeal.main_arg0) = m ((c.tc : Thread Cert.AdaLnIdeal.nD Cert.AdaLnIdeal.τ).loc Cert.AdaLnIdeal.main_arg0)
      ∧ r.2.mem ((c.tc : Thread Cert.AdaLnIdeal.nD Cert.AdaLnIdeal.τ).loc Cert.AdaLnIdeal.main_arg1) = m ((c.tc : Thread Cert.AdaLnIdeal.nD Cert.AdaLnIdeal.τ).loc Cert.AdaLnIdeal.main_arg1)
      ∧ r.2.mem ((c.tc : Thread Cert.AdaLnIdeal.nD Cert.AdaLnIdeal.τ).loc Cert.AdaLnIdeal.main_arg2) = m ((c.tc : Thread Cert.AdaLnIdeal.nD Cert.AdaLnIdeal.τ).loc Cert.AdaLnIdeal.main_arg2)
      ∧ r.2.mem ((c.tc : Thread Cert.AdaLnIdeal.nD Cert.AdaLnIdeal.τ).loc Cert.AdaLnIdeal.main_arg3) = m ((c.tc : Thread Cert.AdaLnIdeal.nD Cert.AdaLnIdeal.τ).loc Cert.AdaLnIdeal.main_arg3))
      ∧ r.2.sem = fun _ => 0)

def quiescent_AdaLnRefIdeal [hAdaLnRefIdeal : Cert.AdaLnRefIdeal.Facts] : Prop :=
  ∀ (m : (ℓ : Loc Cert.AdaLnRefIdeal.nD Cert.AdaLnRefIdeal.τ Cert.AdaLnRefIdeal.sig) → Buf (Elt Ideal) ℓ) (g : Dev Cert.AdaLnRefIdeal.nD → PrngReg), Pre_AdaLnRefIdeal m →
    θ_run (Cert.AdaLnRefIdeal.defs (F := Ideal)) (onTc (τ := Cert.AdaLnRefIdeal.τ) (Cert.AdaLnRefIdeal.main (F := Ideal))) ⟨m, fun _ => 0, g⟩ (fun r => (∀ c : Dev Cert.AdaLnRefIdeal.nD,
      r.2.mem ((c.tc : Thread Cert.AdaLnRefIdeal.nD Cert.AdaLnRefIdeal.τ).loc Cert.AdaLnRefIdeal.main_arg0) = m ((c.tc : Thread Cert.AdaLnRefIdeal.nD Cert.AdaLnRefIdeal.τ).loc Cert.AdaLnRefIdeal.main_arg0)
      ∧ r.2.mem ((c.tc : Thread Cert.AdaLnRefIdeal.nD Cert.AdaLnRefIdeal.τ).loc Cert.AdaLnRefIdeal.main_arg1) = m ((c.tc : Thread Cert.AdaLnRefIdeal.nD Cert.AdaLnRefIdeal.τ).loc Cert.AdaLnRefIdeal.main_arg1)
      ∧ r.2.mem ((c.tc : Thread Cert.AdaLnRefIdeal.nD Cert.AdaLnRefIdeal.τ).loc Cert.AdaLnRefIdeal.main_arg2) = m ((c.tc : Thread Cert.AdaLnRefIdeal.nD Cert.AdaLnRefIdeal.τ).loc Cert.AdaLnRefIdeal.main_arg2)
      ∧ r.2.mem ((c.tc : Thread Cert.AdaLnRefIdeal.nD Cert.AdaLnRefIdeal.τ).loc Cert.AdaLnRefIdeal.main_arg3) = m ((c.tc : Thread Cert.AdaLnRefIdeal.nD Cert.AdaLnRefIdeal.τ).loc Cert.AdaLnRefIdeal.main_arg3))
      ∧ r.2.sem = fun _ => 0)

def quiescent_AttnPrep [hAttnPrep : Cert.AttnPrep.Facts] : Prop :=
  ∀ (m : (ℓ : Loc Cert.AttnPrep.nD Cert.AttnPrep.τ Cert.AttnPrep.sig) → Buf (Elt Bits) ℓ) (g : Dev Cert.AttnPrep.nD → PrngReg), Pre_AttnPrep m →
    θ_run (Cert.AttnPrep.defs (F := Bits)) (onTc (τ := Cert.AttnPrep.τ) (Cert.AttnPrep.main (F := Bits))) ⟨m, fun _ => 0, g⟩ (fun r => (∀ c : Dev Cert.AttnPrep.nD,
      r.2.mem ((c.tc : Thread Cert.AttnPrep.nD Cert.AttnPrep.τ).loc Cert.AttnPrep.main_arg0) = m ((c.tc : Thread Cert.AttnPrep.nD Cert.AttnPrep.τ).loc Cert.AttnPrep.main_arg0)
      ∧ r.2.mem ((c.tc : Thread Cert.AttnPrep.nD Cert.AttnPrep.τ).loc Cert.AttnPrep.main_arg1) = m ((c.tc : Thread Cert.AttnPrep.nD Cert.AttnPrep.τ).loc Cert.AttnPrep.main_arg1)
      ∧ r.2.mem ((c.tc : Thread Cert.AttnPrep.nD Cert.AttnPrep.τ).loc Cert.AttnPrep.main_arg2) = m ((c.tc : Thread Cert.AttnPrep.nD Cert.AttnPrep.τ).loc Cert.AttnPrep.main_arg2)
      ∧ r.2.mem ((c.tc : Thread Cert.AttnPrep.nD Cert.AttnPrep.τ).loc Cert.AttnPrep.main_arg3) = m ((c.tc : Thread Cert.AttnPrep.nD Cert.AttnPrep.τ).loc Cert.AttnPrep.main_arg3)
      ∧ r.2.mem ((c.tc : Thread Cert.AttnPrep.nD Cert.AttnPrep.τ).loc Cert.AttnPrep.main_arg4) = m ((c.tc : Thread Cert.AttnPrep.nD Cert.AttnPrep.τ).loc Cert.AttnPrep.main_arg4))
      ∧ r.2.sem = fun _ => 0)

def quiescent_AttnPrepIdeal [hAttnPrepIdeal : Cert.AttnPrepIdeal.Facts] : Prop :=
  ∀ (m : (ℓ : Loc Cert.AttnPrepIdeal.nD Cert.AttnPrepIdeal.τ Cert.AttnPrepIdeal.sig) → Buf (Elt Ideal) ℓ) (g : Dev Cert.AttnPrepIdeal.nD → PrngReg), Pre_AttnPrepIdeal m →
    θ_run (Cert.AttnPrepIdeal.defs (F := Ideal)) (onTc (τ := Cert.AttnPrepIdeal.τ) (Cert.AttnPrepIdeal.main (F := Ideal))) ⟨m, fun _ => 0, g⟩ (fun r => (∀ c : Dev Cert.AttnPrepIdeal.nD,
      r.2.mem ((c.tc : Thread Cert.AttnPrepIdeal.nD Cert.AttnPrepIdeal.τ).loc Cert.AttnPrepIdeal.main_arg0) = m ((c.tc : Thread Cert.AttnPrepIdeal.nD Cert.AttnPrepIdeal.τ).loc Cert.AttnPrepIdeal.main_arg0)
      ∧ r.2.mem ((c.tc : Thread Cert.AttnPrepIdeal.nD Cert.AttnPrepIdeal.τ).loc Cert.AttnPrepIdeal.main_arg1) = m ((c.tc : Thread Cert.AttnPrepIdeal.nD Cert.AttnPrepIdeal.τ).loc Cert.AttnPrepIdeal.main_arg1)
      ∧ r.2.mem ((c.tc : Thread Cert.AttnPrepIdeal.nD Cert.AttnPrepIdeal.τ).loc Cert.AttnPrepIdeal.main_arg2) = m ((c.tc : Thread Cert.AttnPrepIdeal.nD Cert.AttnPrepIdeal.τ).loc Cert.AttnPrepIdeal.main_arg2)
      ∧ r.2.mem ((c.tc : Thread Cert.AttnPrepIdeal.nD Cert.AttnPrepIdeal.τ).loc Cert.AttnPrepIdeal.main_arg3) = m ((c.tc : Thread Cert.AttnPrepIdeal.nD Cert.AttnPrepIdeal.τ).loc Cert.AttnPrepIdeal.main_arg3)
      ∧ r.2.mem ((c.tc : Thread Cert.AttnPrepIdeal.nD Cert.AttnPrepIdeal.τ).loc Cert.AttnPrepIdeal.main_arg4) = m ((c.tc : Thread Cert.AttnPrepIdeal.nD Cert.AttnPrepIdeal.τ).loc Cert.AttnPrepIdeal.main_arg4))
      ∧ r.2.sem = fun _ => 0)

def quiescent_AttnPrepRefIdeal [hAttnPrepRefIdeal : Cert.AttnPrepRefIdeal.Facts] : Prop :=
  ∀ (m : (ℓ : Loc Cert.AttnPrepRefIdeal.nD Cert.AttnPrepRefIdeal.τ Cert.AttnPrepRefIdeal.sig) → Buf (Elt Ideal) ℓ) (g : Dev Cert.AttnPrepRefIdeal.nD → PrngReg), Pre_AttnPrepRefIdeal m →
    θ_run (Cert.AttnPrepRefIdeal.defs (F := Ideal)) (onTc (τ := Cert.AttnPrepRefIdeal.τ) (Cert.AttnPrepRefIdeal.main (F := Ideal))) ⟨m, fun _ => 0, g⟩ (fun r => (∀ c : Dev Cert.AttnPrepRefIdeal.nD,
      r.2.mem ((c.tc : Thread Cert.AttnPrepRefIdeal.nD Cert.AttnPrepRefIdeal.τ).loc Cert.AttnPrepRefIdeal.main_arg0) = m ((c.tc : Thread Cert.AttnPrepRefIdeal.nD Cert.AttnPrepRefIdeal.τ).loc Cert.AttnPrepRefIdeal.main_arg0)
      ∧ r.2.mem ((c.tc : Thread Cert.AttnPrepRefIdeal.nD Cert.AttnPrepRefIdeal.τ).loc Cert.AttnPrepRefIdeal.main_arg1) = m ((c.tc : Thread Cert.AttnPrepRefIdeal.nD Cert.AttnPrepRefIdeal.τ).loc Cert.AttnPrepRefIdeal.main_arg1)
      ∧ r.2.mem ((c.tc : Thread Cert.AttnPrepRefIdeal.nD Cert.AttnPrepRefIdeal.τ).loc Cert.AttnPrepRefIdeal.main_arg2) = m ((c.tc : Thread Cert.AttnPrepRefIdeal.nD Cert.AttnPrepRefIdeal.τ).loc Cert.AttnPrepRefIdeal.main_arg2)
      ∧ r.2.mem ((c.tc : Thread Cert.AttnPrepRefIdeal.nD Cert.AttnPrepRefIdeal.τ).loc Cert.AttnPrepRefIdeal.main_arg3) = m ((c.tc : Thread Cert.AttnPrepRefIdeal.nD Cert.AttnPrepRefIdeal.τ).loc Cert.AttnPrepRefIdeal.main_arg3)
      ∧ r.2.mem ((c.tc : Thread Cert.AttnPrepRefIdeal.nD Cert.AttnPrepRefIdeal.τ).loc Cert.AttnPrepRefIdeal.main_arg4) = m ((c.tc : Thread Cert.AttnPrepRefIdeal.nD Cert.AttnPrepRefIdeal.τ).loc Cert.AttnPrepRefIdeal.main_arg4))
      ∧ r.2.sem = fun _ => 0)

def preserves_AttnLat_AttnLatIdeal : Prop :=
  True

def algebraic_AttnLatIdeal_AttnLatRefIdeal_pre_finite_qk [hAttnLatIdeal : Cert.AttnLatIdeal.Facts] [hAttnLatRefIdeal : Cert.AttnLatRefIdeal.Facts] [hPre_finite_qk : Cert.Pre_finite_qk.Facts] : Prop :=
  ∀ (m : (ℓ : Loc Cert.AttnLatIdeal.nD Cert.AttnLatIdeal.τ Cert.AttnLatIdeal.sig) → Buf (Elt Ideal) ℓ) (g : Dev Cert.AttnLatIdeal.nD → PrngReg)
    (m' : (ℓ : Loc Cert.AttnLatRefIdeal.nD Cert.AttnLatRefIdeal.τ Cert.AttnLatRefIdeal.sig) → Buf (Elt Ideal) ℓ) (g' : Dev Cert.AttnLatRefIdeal.nD → PrngReg), Pre_AttnLatIdeal_finite_qk m →
    (∀ c : Dev Cert.AttnLatIdeal.nD,
      m' ((c.tc : Thread Cert.AttnLatRefIdeal.nD Cert.AttnLatRefIdeal.τ).loc Cert.AttnLatRefIdeal.main_arg0) = m ((c.tc : Thread Cert.AttnLatIdeal.nD Cert.AttnLatIdeal.τ).loc Cert.AttnLatIdeal.main_arg0)
      ∧ m' ((c.tc : Thread Cert.AttnLatRefIdeal.nD Cert.AttnLatRefIdeal.τ).loc Cert.AttnLatRefIdeal.main_arg1) = m ((c.tc : Thread Cert.AttnLatIdeal.nD Cert.AttnLatIdeal.τ).loc Cert.AttnLatIdeal.main_arg1)
      ∧ m' ((c.tc : Thread Cert.AttnLatRefIdeal.nD Cert.AttnLatRefIdeal.τ).loc Cert.AttnLatRefIdeal.main_arg2) = m ((c.tc : Thread Cert.AttnLatIdeal.nD Cert.AttnLatIdeal.τ).loc Cert.AttnLatIdeal.main_arg2)) →
    ∃ (v0 : (c : Dev Cert.AttnLatIdeal.nD) → Buf (Elt Ideal) ((c.tc : Thread Cert.AttnLatIdeal.nD Cert.AttnLatIdeal.τ).loc Cert.AttnLatIdeal.main_v0)),
      θ_run (Cert.AttnLatIdeal.defs (F := Ideal)) (onTc (τ := Cert.AttnLatIdeal.τ) (Cert.AttnLatIdeal.main (F := Ideal))) ⟨m, fun _ => 0, g⟩ (fun r => ∀ c : Dev Cert.AttnLatIdeal.nD,
          r.2.mem ((c.tc : Thread Cert.AttnLatIdeal.nD Cert.AttnLatIdeal.τ).loc Cert.AttnLatIdeal.main_v0) = v0 c
          ∧ r.2.mem ((c.tc : Thread Cert.AttnLatIdeal.nD Cert.AttnLatIdeal.τ).loc Cert.AttnLatIdeal.main_arg0) = m ((c.tc : Thread Cert.AttnLatIdeal.nD Cert.AttnLatIdeal.τ).loc Cert.AttnLatIdeal.main_arg0)
          ∧ r.2.mem ((c.tc : Thread Cert.AttnLatIdeal.nD Cert.AttnLatIdeal.τ).loc Cert.AttnLatIdeal.main_arg1) = m ((c.tc : Thread Cert.AttnLatIdeal.nD Cert.AttnLatIdeal.τ).loc Cert.AttnLatIdeal.main_arg1)
          ∧ r.2.mem ((c.tc : Thread Cert.AttnLatIdeal.nD Cert.AttnLatIdeal.τ).loc Cert.AttnLatIdeal.main_arg2) = m ((c.tc : Thread Cert.AttnLatIdeal.nD Cert.AttnLatIdeal.τ).loc Cert.AttnLatIdeal.main_arg2))
      ∧ θ_run (Cert.AttnLatRefIdeal.defs (F := Ideal)) (onTc (τ := Cert.AttnLatRefIdeal.τ) (Cert.AttnLatRefIdeal.main (F := Ideal))) ⟨m', fun _ => 0, g'⟩ (fun r => ∀ c : Dev Cert.AttnLatRefIdeal.nD,
          r.2.mem ((c.tc : Thread Cert.AttnLatRefIdeal.nD Cert.AttnLatRefIdeal.τ).loc Cert.AttnLatRefIdeal.main_v32) = v0 c
          ∧ r.2.mem ((c.tc : Thread Cert.AttnLatRefIdeal.nD Cert.AttnLatRefIdeal.τ).loc Cert.AttnLatRefIdeal.main_arg0) = m' ((c.tc : Thread Cert.AttnLatRefIdeal.nD Cert.AttnLatRefIdeal.τ).loc Cert.AttnLatRefIdeal.main_arg0)
          ∧ r.2.mem ((c.tc : Thread Cert.AttnLatRefIdeal.nD Cert.AttnLatRefIdeal.τ).loc Cert.AttnLatRefIdeal.main_arg1) = m' ((c.tc : Thread Cert.AttnLatRefIdeal.nD Cert.AttnLatRefIdeal.τ).loc Cert.AttnLatRefIdeal.main_arg1)
          ∧ r.2.mem ((c.tc : Thread Cert.AttnLatRefIdeal.nD Cert.AttnLatRefIdeal.τ).loc Cert.AttnLatRefIdeal.main_arg2) = m' ((c.tc : Thread Cert.AttnLatRefIdeal.nD Cert.AttnLatRefIdeal.τ).loc Cert.AttnLatRefIdeal.main_arg2))

def preserves_AttnCtx_AttnCtxIdeal : Prop :=
  True

def algebraic_AttnCtxIdeal_AttnCtxRefIdeal_pre_finite_qk [hAttnCtxIdeal : Cert.AttnCtxIdeal.Facts] [hAttnCtxRefIdeal : Cert.AttnCtxRefIdeal.Facts] [hPre_finite_qk : Cert.Pre_finite_qk.Facts] : Prop :=
  ∀ (m : (ℓ : Loc Cert.AttnCtxIdeal.nD Cert.AttnCtxIdeal.τ Cert.AttnCtxIdeal.sig) → Buf (Elt Ideal) ℓ) (g : Dev Cert.AttnCtxIdeal.nD → PrngReg)
    (m' : (ℓ : Loc Cert.AttnCtxRefIdeal.nD Cert.AttnCtxRefIdeal.τ Cert.AttnCtxRefIdeal.sig) → Buf (Elt Ideal) ℓ) (g' : Dev Cert.AttnCtxRefIdeal.nD → PrngReg), Pre_AttnCtxIdeal_finite_qk m →
    (∀ c : Dev Cert.AttnCtxIdeal.nD,
      m' ((c.tc : Thread Cert.AttnCtxRefIdeal.nD Cert.AttnCtxRefIdeal.τ).loc Cert.AttnCtxRefIdeal.main_arg0) = m ((c.tc : Thread Cert.AttnCtxIdeal.nD Cert.AttnCtxIdeal.τ).loc Cert.AttnCtxIdeal.main_arg0)
      ∧ m' ((c.tc : Thread Cert.AttnCtxRefIdeal.nD Cert.AttnCtxRefIdeal.τ).loc Cert.AttnCtxRefIdeal.main_arg1) = m ((c.tc : Thread Cert.AttnCtxIdeal.nD Cert.AttnCtxIdeal.τ).loc Cert.AttnCtxIdeal.main_arg1)
      ∧ m' ((c.tc : Thread Cert.AttnCtxRefIdeal.nD Cert.AttnCtxRefIdeal.τ).loc Cert.AttnCtxRefIdeal.main_arg2) = m ((c.tc : Thread Cert.AttnCtxIdeal.nD Cert.AttnCtxIdeal.τ).loc Cert.AttnCtxIdeal.main_arg2)) →
    ∃ (v0 : (c : Dev Cert.AttnCtxIdeal.nD) → Buf (Elt Ideal) ((c.tc : Thread Cert.AttnCtxIdeal.nD Cert.AttnCtxIdeal.τ).loc Cert.AttnCtxIdeal.main_v0)),
      θ_run (Cert.AttnCtxIdeal.defs (F := Ideal)) (onTc (τ := Cert.AttnCtxIdeal.τ) (Cert.AttnCtxIdeal.main (F := Ideal))) ⟨m, fun _ => 0, g⟩ (fun r => ∀ c : Dev Cert.AttnCtxIdeal.nD,
          r.2.mem ((c.tc : Thread Cert.AttnCtxIdeal.nD Cert.AttnCtxIdeal.τ).loc Cert.AttnCtxIdeal.main_v0) = v0 c
          ∧ r.2.mem ((c.tc : Thread Cert.AttnCtxIdeal.nD Cert.AttnCtxIdeal.τ).loc Cert.AttnCtxIdeal.main_arg0) = m ((c.tc : Thread Cert.AttnCtxIdeal.nD Cert.AttnCtxIdeal.τ).loc Cert.AttnCtxIdeal.main_arg0)
          ∧ r.2.mem ((c.tc : Thread Cert.AttnCtxIdeal.nD Cert.AttnCtxIdeal.τ).loc Cert.AttnCtxIdeal.main_arg1) = m ((c.tc : Thread Cert.AttnCtxIdeal.nD Cert.AttnCtxIdeal.τ).loc Cert.AttnCtxIdeal.main_arg1)
          ∧ r.2.mem ((c.tc : Thread Cert.AttnCtxIdeal.nD Cert.AttnCtxIdeal.τ).loc Cert.AttnCtxIdeal.main_arg2) = m ((c.tc : Thread Cert.AttnCtxIdeal.nD Cert.AttnCtxIdeal.τ).loc Cert.AttnCtxIdeal.main_arg2))
      ∧ θ_run (Cert.AttnCtxRefIdeal.defs (F := Ideal)) (onTc (τ := Cert.AttnCtxRefIdeal.τ) (Cert.AttnCtxRefIdeal.main (F := Ideal))) ⟨m', fun _ => 0, g'⟩ (fun r => ∀ c : Dev Cert.AttnCtxRefIdeal.nD,
          r.2.mem ((c.tc : Thread Cert.AttnCtxRefIdeal.nD Cert.AttnCtxRefIdeal.τ).loc Cert.AttnCtxRefIdeal.main_v25) = v0 c
          ∧ r.2.mem ((c.tc : Thread Cert.AttnCtxRefIdeal.nD Cert.AttnCtxRefIdeal.τ).loc Cert.AttnCtxRefIdeal.main_arg0) = m' ((c.tc : Thread Cert.AttnCtxRefIdeal.nD Cert.AttnCtxRefIdeal.τ).loc Cert.AttnCtxRefIdeal.main_arg0)
          ∧ r.2.mem ((c.tc : Thread Cert.AttnCtxRefIdeal.nD Cert.AttnCtxRefIdeal.τ).loc Cert.AttnCtxRefIdeal.main_arg1) = m' ((c.tc : Thread Cert.AttnCtxRefIdeal.nD Cert.AttnCtxRefIdeal.τ).loc Cert.AttnCtxRefIdeal.main_arg1)
          ∧ r.2.mem ((c.tc : Thread Cert.AttnCtxRefIdeal.nD Cert.AttnCtxRefIdeal.τ).loc Cert.AttnCtxRefIdeal.main_arg2) = m' ((c.tc : Thread Cert.AttnCtxRefIdeal.nD Cert.AttnCtxRefIdeal.τ).loc Cert.AttnCtxRefIdeal.main_arg2))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)) →
    ∃ (v0 : (c : Dev Cert.InProjIdeal.nD) → Buf (Elt Ideal) ((c.tc : Thread Cert.InProjIdeal.nD Cert.InProjIdeal.τ).loc Cert.InProjIdeal.main_v30)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v30) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v68) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v22) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)) →
    ∃ (v0 : (c : Dev Cert.OutProjIdeal.nD) → Buf (Elt Ideal) ((c.tc : Thread Cert.OutProjIdeal.nD Cert.OutProjIdeal.τ).loc Cert.OutProjIdeal.main_v8)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v8) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v18) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5))

def preserves_Moe_MoeIdeal : Prop :=
  True

def algebraic_MoeIdeal_MoeRefIdeal [hMoeIdeal : Cert.MoeIdeal.Facts] [hMoeRefIdeal : Cert.MoeRefIdeal.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)
      ∧ m' ((c.tc : Thread Cert.MoeRefIdeal.nD Cert.MoeRefIdeal.τ).loc Cert.MoeRefIdeal.main_arg7) = m ((c.tc : Thread Cert.MoeIdeal.nD Cert.MoeIdeal.τ).loc Cert.MoeIdeal.main_arg7)
      ∧ m' ((c.tc : Thread Cert.MoeRefIdeal.nD Cert.MoeRefIdeal.τ).loc Cert.MoeRefIdeal.main_arg8) = m ((c.tc : Thread Cert.MoeIdeal.nD Cert.MoeIdeal.τ).loc Cert.MoeIdeal.main_arg8)
      ∧ m' ((c.tc : Thread Cert.MoeRefIdeal.nD Cert.MoeRefIdeal.τ).loc Cert.MoeRefIdeal.main_arg9) = m ((c.tc : Thread Cert.MoeIdeal.nD Cert.MoeIdeal.τ).loc Cert.MoeIdeal.main_arg9)) →
    ∃ (v0 : (c : Dev Cert.MoeIdeal.nD) → Buf (Elt Ideal) ((c.tc : Thread Cert.MoeIdeal.nD Cert.MoeIdeal.τ).loc Cert.MoeIdeal.main_v11)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v11) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
          ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
          ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8)
          ∧ r.2.mem ((c.tc : Thread Cert.MoeIdeal.nD Cert.MoeIdeal.τ).loc Cert.MoeIdeal.main_arg9) = m ((c.tc : Thread Cert.MoeIdeal.nD Cert.MoeIdeal.τ).loc Cert.MoeIdeal.main_arg9))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v49) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6)
          ∧ r.2.mem ((c.tc : Thread Cert.MoeRefIdeal.nD Cert.MoeRefIdeal.τ).loc Cert.MoeRefIdeal.main_arg7) = m' ((c.tc : Thread Cert.MoeRefIdeal.nD Cert.MoeRefIdeal.τ).loc Cert.MoeRefIdeal.main_arg7)
          ∧ r.2.mem ((c.tc : Thread Cert.MoeRefIdeal.nD Cert.MoeRefIdeal.τ).loc Cert.MoeRefIdeal.main_arg8) = m' ((c.tc : Thread Cert.MoeRefIdeal.nD Cert.MoeRefIdeal.τ).loc Cert.MoeRefIdeal.main_arg8)
          ∧ r.2.mem ((c.tc : Thread Cert.MoeRefIdeal.nD Cert.MoeRefIdeal.τ).loc Cert.MoeRefIdeal.main_arg9) = m' ((c.tc : Thread Cert.MoeRefIdeal.nD Cert.MoeRefIdeal.τ).loc Cert.MoeRefIdeal.main_arg9))

def preserves_FourCh_FourChIdeal : Prop :=
  True

def algebraic_FourChIdeal_FourChRefIdeal [hFourChIdeal : Cert.FourChIdeal.Facts] [hFourChRefIdeal : Cert.FourChRefIdeal.Facts] : Prop :=
  ∀ (m : (ℓ : Loc Cert.FourChIdeal.nD Cert.FourChIdeal.τ Cert.FourChIdeal.sig) → Buf (Elt Ideal) ℓ) (g : Dev Cert.FourChIdeal.nD → PrngReg)
    (m' : (ℓ : Loc Cert.FourChRefIdeal.nD Cert.FourChRefIdeal.τ Cert.FourChRefIdeal.sig) → Buf (Elt Ideal) ℓ) (g' : Dev Cert.FourChRefIdeal.nD → PrngReg), Pre_FourChIdeal m →
    (∀ c : Dev Cert.FourChIdeal.nD,
      m' ((c.tc : Thread Cert.FourChRefIdeal.nD Cert.FourChRefIdeal.τ).loc Cert.FourChRefIdeal.main_arg0) = m ((c.tc : Thread Cert.FourChIdeal.nD Cert.FourChIdeal.τ).loc Cert.FourChIdeal.main_arg0)
      ∧ m' ((c.tc : Thread Cert.FourChRefIdeal.nD Cert.FourChRefIdeal.τ).loc Cert.FourChRefIdeal.main_arg1) = m ((c.tc : Thread Cert.FourChIdeal.nD Cert.FourChIdeal.τ).loc Cert.FourChIdeal.main_arg1)
      ∧ m' ((c.tc : Thread Cert.FourChRefIdeal.nD Cert.FourChRefIdeal.τ).loc Cert.FourChRefIdeal.main_arg2) = m ((c.tc : Thread Cert.FourChIdeal.nD Cert.FourChIdeal.τ).loc Cert.FourChIdeal.main_arg2)) →
    ∃ (v0 : (c : Dev Cert.FourChIdeal.nD) → Buf (Elt Ideal) ((c.tc : Thread Cert.FourChIdeal.nD Cert.FourChIdeal.τ).loc Cert.FourChIdeal.main_v20)),
      θ_run (Cert.FourChIdeal.defs (F := Ideal)) (onTc (τ := Cert.FourChIdeal.τ) (Cert.FourChIdeal.main (F := Ideal))) ⟨m, fun _ => 0, g⟩ (fun r => ∀ c : Dev Cert.FourChIdeal.nD,
          r.2.mem ((c.tc : Thread Cert.FourChIdeal.nD Cert.FourChIdeal.τ).loc Cert.FourChIdeal.main_v20) = v0 c
          ∧ r.2.mem ((c.tc : Thread Cert.FourChIdeal.nD Cert.FourChIdeal.τ).loc Cert.FourChIdeal.main_arg0) = m ((c.tc : Thread Cert.FourChIdeal.nD Cert.FourChIdeal.τ).loc Cert.FourChIdeal.main_arg0)
          ∧ r.2.mem ((c.tc : Thread Cert.FourChIdeal.nD Cert.FourChIdeal.τ).loc Cert.FourChIdeal.main_arg1) = m ((c.tc : Thread Cert.FourChIdeal.nD Cert.FourChIdeal.τ).loc Cert.FourChIdeal.main_arg1)
          ∧ r.2.mem ((c.tc : Thread Cert.FourChIdeal.nD Cert.FourChIdeal.τ).loc Cert.FourChIdeal.main_arg2) = m ((c.tc : Thread Cert.FourChIdeal.nD Cert.FourChIdeal.τ).loc Cert.FourChIdeal.main_arg2))
      ∧ θ_run (Cert.FourChRefIdeal.defs (F := Ideal)) (onTc (τ := Cert.FourChRefIdeal.τ) (Cert.FourChRefIdeal.main (F := Ideal))) ⟨m', fun _ => 0, g'⟩ (fun r => ∀ c : Dev Cert.FourChRefIdeal.nD,
          r.2.mem ((c.tc : Thread Cert.FourChRefIdeal.nD Cert.FourChRefIdeal.τ).loc Cert.FourChRefIdeal.main_v8) = v0 c
          ∧ r.2.mem ((c.tc : Thread Cert.FourChRefIdeal.nD Cert.FourChRefIdeal.τ).loc Cert.FourChRefIdeal.main_arg0) = m' ((c.tc : Thread Cert.FourChRefIdeal.nD Cert.FourChRefIdeal.τ).loc Cert.FourChRefIdeal.main_arg0)
          ∧ r.2.mem ((c.tc : Thread Cert.FourChRefIdeal.nD Cert.FourChRefIdeal.τ).loc Cert.FourChRefIdeal.main_arg1) = m' ((c.tc : Thread Cert.FourChRefIdeal.nD Cert.FourChRefIdeal.τ).loc Cert.FourChRefIdeal.main_arg1)
          ∧ r.2.mem ((c.tc : Thread Cert.FourChRefIdeal.nD Cert.FourChRefIdeal.τ).loc Cert.FourChRefIdeal.main_arg2) = m' ((c.tc : Thread Cert.FourChRefIdeal.nD Cert.FourChRefIdeal.τ).loc Cert.FourChRefIdeal.main_arg2))

def preserves_FourLat_FourLatIdeal : Prop :=
  True

def algebraic_FourLatIdeal_FourLatRefIdeal [hFourLatIdeal : Cert.FourLatIdeal.Facts] [hFourLatRefIdeal : Cert.FourLatRefIdeal.Facts] : Prop :=
  ∀ (m : (ℓ : Loc Cert.FourLatIdeal.nD Cert.FourLatIdeal.τ Cert.FourLatIdeal.sig) → Buf (Elt Ideal) ℓ) (g : Dev Cert.FourLatIdeal.nD → PrngReg)
    (m' : (ℓ : Loc Cert.FourLatRefIdeal.nD Cert.FourLatRefIdeal.τ Cert.FourLatRefIdeal.sig) → Buf (Elt Ideal) ℓ) (g' : Dev Cert.FourLatRefIdeal.nD → PrngReg), Pre_FourLatIdeal m →
    (∀ c : Dev Cert.FourLatIdeal.nD,
      m' ((c.tc : Thread Cert.FourLatRefIdeal.nD Cert.FourLatRefIdeal.τ).loc Cert.FourLatRefIdeal.main_arg0) = m ((c.tc : Thread Cert.FourLatIdeal.nD Cert.FourLatIdeal.τ).loc Cert.FourLatIdeal.main_arg0)
      ∧ m' ((c.tc : Thread Cert.FourLatRefIdeal.nD Cert.FourLatRefIdeal.τ).loc Cert.FourLatRefIdeal.main_arg1) = m ((c.tc : Thread Cert.FourLatIdeal.nD Cert.FourLatIdeal.τ).loc Cert.FourLatIdeal.main_arg1)
      ∧ m' ((c.tc : Thread Cert.FourLatRefIdeal.nD Cert.FourLatRefIdeal.τ).loc Cert.FourLatRefIdeal.main_arg2) = m ((c.tc : Thread Cert.FourLatIdeal.nD Cert.FourLatIdeal.τ).loc Cert.FourLatIdeal.main_arg2)) →
    ∃ (v0 : (c : Dev Cert.FourLatIdeal.nD) → Buf (Elt Ideal) ((c.tc : Thread Cert.FourLatIdeal.nD Cert.FourLatIdeal.τ).loc Cert.FourLatIdeal.main_v2)),
      θ_run (Cert.FourLatIdeal.defs (F := Ideal)) (onTc (τ := Cert.FourLatIdeal.τ) (Cert.FourLatIdeal.main (F := Ideal))) ⟨m, fun _ => 0, g⟩ (fun r => ∀ c : Dev Cert.FourLatIdeal.nD,
          r.2.mem ((c.tc : Thread Cert.FourLatIdeal.nD Cert.FourLatIdeal.τ).loc Cert.FourLatIdeal.main_v2) = v0 c
          ∧ r.2.mem ((c.tc : Thread Cert.FourLatIdeal.nD Cert.FourLatIdeal.τ).loc Cert.FourLatIdeal.main_arg0) = m ((c.tc : Thread Cert.FourLatIdeal.nD Cert.FourLatIdeal.τ).loc Cert.FourLatIdeal.main_arg0)
          ∧ r.2.mem ((c.tc : Thread Cert.FourLatIdeal.nD Cert.FourLatIdeal.τ).loc Cert.FourLatIdeal.main_arg1) = m ((c.tc : Thread Cert.FourLatIdeal.nD Cert.FourLatIdeal.τ).loc Cert.FourLatIdeal.main_arg1)
          ∧ r.2.mem ((c.tc : Thread Cert.FourLatIdeal.nD Cert.FourLatIdeal.τ).loc Cert.FourLatIdeal.main_arg2) = m ((c.tc : Thread Cert.FourLatIdeal.nD Cert.FourLatIdeal.τ).loc Cert.FourLatIdeal.main_arg2))
      ∧ θ_run (Cert.FourLatRefIdeal.defs (F := Ideal)) (onTc (τ := Cert.FourLatRefIdeal.τ) (Cert.FourLatRefIdeal.main (F := Ideal))) ⟨m', fun _ => 0, g'⟩ (fun r => ∀ c : Dev Cert.FourLatRefIdeal.nD,
          r.2.mem ((c.tc : Thread Cert.FourLatRefIdeal.nD Cert.FourLatRefIdeal.τ).loc Cert.FourLatRefIdeal.main_v11) = v0 c
          ∧ r.2.mem ((c.tc : Thread Cert.FourLatRefIdeal.nD Cert.FourLatRefIdeal.τ).loc Cert.FourLatRefIdeal.main_arg0) = m' ((c.tc : Thread Cert.FourLatRefIdeal.nD Cert.FourLatRefIdeal.τ).loc Cert.FourLatRefIdeal.main_arg0)
          ∧ r.2.mem ((c.tc : Thread Cert.FourLatRefIdeal.nD Cert.FourLatRefIdeal.τ).loc Cert.FourLatRefIdeal.main_arg1) = m' ((c.tc : Thread Cert.FourLatRefIdeal.nD Cert.FourLatRefIdeal.τ).loc Cert.FourLatRefIdeal.main_arg1)
          ∧ r.2.mem ((c.tc : Thread Cert.FourLatRefIdeal.nD Cert.FourLatRefIdeal.τ).loc Cert.FourLatRefIdeal.main_arg2) = m' ((c.tc : Thread Cert.FourLatRefIdeal.nD Cert.FourLatRefIdeal.τ).loc Cert.FourLatRefIdeal.main_arg2))

def preserves_FourCtx_FourCtxIdeal : Prop :=
  True

def algebraic_FourCtxIdeal_FourCtxRefIdeal [hFourCtxIdeal : Cert.FourCtxIdeal.Facts] [hFourCtxRefIdeal : Cert.FourCtxRefIdeal.Facts] : Prop :=
  ∀ (m : (ℓ : Loc Cert.FourCtxIdeal.nD Cert.FourCtxIdeal.τ Cert.FourCtxIdeal.sig) → Buf (Elt Ideal) ℓ) (g : Dev Cert.FourCtxIdeal.nD → PrngReg)
    (m' : (ℓ : Loc Cert.FourCtxRefIdeal.nD Cert.FourCtxRefIdeal.τ Cert.FourCtxRefIdeal.sig) → Buf (Elt Ideal) ℓ) (g' : Dev Cert.FourCtxRefIdeal.nD → PrngReg), Pre_FourCtxIdeal m →
    (∀ c : Dev Cert.FourCtxIdeal.nD,
      m' ((c.tc : Thread Cert.FourCtxRefIdeal.nD Cert.FourCtxRefIdeal.τ).loc Cert.FourCtxRefIdeal.main_arg0) = m ((c.tc : Thread Cert.FourCtxIdeal.nD Cert.FourCtxIdeal.τ).loc Cert.FourCtxIdeal.main_arg0)
      ∧ m' ((c.tc : Thread Cert.FourCtxRefIdeal.nD Cert.FourCtxRefIdeal.τ).loc Cert.FourCtxRefIdeal.main_arg1) = m ((c.tc : Thread Cert.FourCtxIdeal.nD Cert.FourCtxIdeal.τ).loc Cert.FourCtxIdeal.main_arg1)
      ∧ m' ((c.tc : Thread Cert.FourCtxRefIdeal.nD Cert.FourCtxRefIdeal.τ).loc Cert.FourCtxRefIdeal.main_arg2) = m ((c.tc : Thread Cert.FourCtxIdeal.nD Cert.FourCtxIdeal.τ).loc Cert.FourCtxIdeal.main_arg2)) →
    ∃ (v0 : (c : Dev Cert.FourCtxIdeal.nD) → Buf (Elt Ideal) ((c.tc : Thread Cert.FourCtxIdeal.nD Cert.FourCtxIdeal.τ).loc Cert.FourCtxIdeal.main_v2)),
      θ_run (Cert.FourCtxIdeal.defs (F := Ideal)) (onTc (τ := Cert.FourCtxIdeal.τ) (Cert.FourCtxIdeal.main (F := Ideal))) ⟨m, fun _ => 0, g⟩ (fun r => ∀ c : Dev Cert.FourCtxIdeal.nD,
          r.2.mem ((c.tc : Thread Cert.FourCtxIdeal.nD Cert.FourCtxIdeal.τ).loc Cert.FourCtxIdeal.main_v2) = v0 c
          ∧ r.2.mem ((c.tc : Thread Cert.FourCtxIdeal.nD Cert.FourCtxIdeal.τ).loc Cert.FourCtxIdeal.main_arg0) = m ((c.tc : Thread Cert.FourCtxIdeal.nD Cert.FourCtxIdeal.τ).loc Cert.FourCtxIdeal.main_arg0)
          ∧ r.2.mem ((c.tc : Thread Cert.FourCtxIdeal.nD Cert.FourCtxIdeal.τ).loc Cert.FourCtxIdeal.main_arg1) = m ((c.tc : Thread Cert.FourCtxIdeal.nD Cert.FourCtxIdeal.τ).loc Cert.FourCtxIdeal.main_arg1)
          ∧ r.2.mem ((c.tc : Thread Cert.FourCtxIdeal.nD Cert.FourCtxIdeal.τ).loc Cert.FourCtxIdeal.main_arg2) = m ((c.tc : Thread Cert.FourCtxIdeal.nD Cert.FourCtxIdeal.τ).loc Cert.FourCtxIdeal.main_arg2))
      ∧ θ_run (Cert.FourCtxRefIdeal.defs (F := Ideal)) (onTc (τ := Cert.FourCtxRefIdeal.τ) (Cert.FourCtxRefIdeal.main (F := Ideal))) ⟨m', fun _ => 0, g'⟩ (fun r => ∀ c : Dev Cert.FourCtxRefIdeal.nD,
          r.2.mem ((c.tc : Thread Cert.FourCtxRefIdeal.nD Cert.FourCtxRefIdeal.τ).loc Cert.FourCtxRefIdeal.main_v11) = v0 c
          ∧ r.2.mem ((c.tc : Thread Cert.FourCtxRefIdeal.nD Cert.FourCtxRefIdeal.τ).loc Cert.FourCtxRefIdeal.main_arg0) = m' ((c.tc : Thread Cert.FourCtxRefIdeal.nD Cert.FourCtxRefIdeal.τ).loc Cert.FourCtxRefIdeal.main_arg0)
          ∧ r.2.mem ((c.tc : Thread Cert.FourCtxRefIdeal.nD Cert.FourCtxRefIdeal.τ).loc Cert.FourCtxRefIdeal.main_arg1) = m' ((c.tc : Thread Cert.FourCtxRefIdeal.nD Cert.FourCtxRefIdeal.τ).loc Cert.FourCtxRefIdeal.main_arg1)
          ∧ r.2.mem ((c.tc : Thread Cert.FourCtxRefIdeal.nD Cert.FourCtxRefIdeal.τ).loc Cert.FourCtxRefIdeal.main_arg2) = m' ((c.tc : Thread Cert.FourCtxRefIdeal.nD Cert.FourCtxRefIdeal.τ).loc Cert.FourCtxRefIdeal.main_arg2))

def preserves_AdaLn_AdaLnIdeal : Prop :=
  True

def algebraic_AdaLnIdeal_AdaLnRefIdeal [hAdaLnIdeal : Cert.AdaLnIdeal.Facts] [hAdaLnRefIdeal : Cert.AdaLnRefIdeal.Facts] : Prop :=
  ∀ (m : (ℓ : Loc Cert.AdaLnIdeal.nD Cert.AdaLnIdeal.τ Cert.AdaLnIdeal.sig) → Buf (Elt Ideal) ℓ) (g : Dev Cert.AdaLnIdeal.nD → PrngReg)
    (m' : (ℓ : Loc Cert.AdaLnRefIdeal.nD Cert.AdaLnRefIdeal.τ Cert.AdaLnRefIdeal.sig) → Buf (Elt Ideal) ℓ) (g' : Dev Cert.AdaLnRefIdeal.nD → PrngReg), Pre_AdaLnIdeal m →
    (∀ c : Dev Cert.AdaLnIdeal.nD,
      m' ((c.tc : Thread Cert.AdaLnRefIdeal.nD Cert.AdaLnRefIdeal.τ).loc Cert.AdaLnRefIdeal.main_arg0) = m ((c.tc : Thread Cert.AdaLnIdeal.nD Cert.AdaLnIdeal.τ).loc Cert.AdaLnIdeal.main_arg0)
      ∧ m' ((c.tc : Thread Cert.AdaLnRefIdeal.nD Cert.AdaLnRefIdeal.τ).loc Cert.AdaLnRefIdeal.main_arg1) = m ((c.tc : Thread Cert.AdaLnIdeal.nD Cert.AdaLnIdeal.τ).loc Cert.AdaLnIdeal.main_arg1)
      ∧ m' ((c.tc : Thread Cert.AdaLnRefIdeal.nD Cert.AdaLnRefIdeal.τ).loc Cert.AdaLnRefIdeal.main_arg2) = m ((c.tc : Thread Cert.AdaLnIdeal.nD Cert.AdaLnIdeal.τ).loc Cert.AdaLnIdeal.main_arg2)
      ∧ m' ((c.tc : Thread Cert.AdaLnRefIdeal.nD Cert.AdaLnRefIdeal.τ).loc Cert.AdaLnRefIdeal.main_arg3) = m ((c.tc : Thread Cert.AdaLnIdeal.nD Cert.AdaLnIdeal.τ).loc Cert.AdaLnIdeal.main_arg3)) →
    ∃ (v0 : (c : Dev Cert.AdaLnIdeal.nD) → Buf (Elt Ideal) ((c.tc : Thread Cert.AdaLnIdeal.nD Cert.AdaLnIdeal.τ).loc Cert.AdaLnIdeal.main_v4)),
      θ_run (Cert.AdaLnIdeal.defs (F := Ideal)) (onTc (τ := Cert.AdaLnIdeal.τ) (Cert.AdaLnIdeal.main (F := Ideal))) ⟨m, fun _ => 0, g⟩ (fun r => ∀ c : Dev Cert.AdaLnIdeal.nD,
          r.2.mem ((c.tc : Thread Cert.AdaLnIdeal.nD Cert.AdaLnIdeal.τ).loc Cert.AdaLnIdeal.main_v4) = v0 c
          ∧ r.2.mem ((c.tc : Thread Cert.AdaLnIdeal.nD Cert.AdaLnIdeal.τ).loc Cert.AdaLnIdeal.main_arg0) = m ((c.tc : Thread Cert.AdaLnIdeal.nD Cert.AdaLnIdeal.τ).loc Cert.AdaLnIdeal.main_arg0)
          ∧ r.2.mem ((c.tc : Thread Cert.AdaLnIdeal.nD Cert.AdaLnIdeal.τ).loc Cert.AdaLnIdeal.main_arg1) = m ((c.tc : Thread Cert.AdaLnIdeal.nD Cert.AdaLnIdeal.τ).loc Cert.AdaLnIdeal.main_arg1)
          ∧ r.2.mem ((c.tc : Thread Cert.AdaLnIdeal.nD Cert.AdaLnIdeal.τ).loc Cert.AdaLnIdeal.main_arg2) = m ((c.tc : Thread Cert.AdaLnIdeal.nD Cert.AdaLnIdeal.τ).loc Cert.AdaLnIdeal.main_arg2)
          ∧ r.2.mem ((c.tc : Thread Cert.AdaLnIdeal.nD Cert.AdaLnIdeal.τ).loc Cert.AdaLnIdeal.main_arg3) = m ((c.tc : Thread Cert.AdaLnIdeal.nD Cert.AdaLnIdeal.τ).loc Cert.AdaLnIdeal.main_arg3))
      ∧ θ_run (Cert.AdaLnRefIdeal.defs (F := Ideal)) (onTc (τ := Cert.AdaLnRefIdeal.τ) (Cert.AdaLnRefIdeal.main (F := Ideal))) ⟨m', fun _ => 0, g'⟩ (fun r => ∀ c : Dev Cert.AdaLnRefIdeal.nD,
          r.2.mem ((c.tc : Thread Cert.AdaLnRefIdeal.nD Cert.AdaLnRefIdeal.τ).loc Cert.AdaLnRefIdeal.main_v8) = v0 c
          ∧ r.2.mem ((c.tc : Thread Cert.AdaLnRefIdeal.nD Cert.AdaLnRefIdeal.τ).loc Cert.AdaLnRefIdeal.main_arg0) = m' ((c.tc : Thread Cert.AdaLnRefIdeal.nD Cert.AdaLnRefIdeal.τ).loc Cert.AdaLnRefIdeal.main_arg0)
          ∧ r.2.mem ((c.tc : Thread Cert.AdaLnRefIdeal.nD Cert.AdaLnRefIdeal.τ).loc Cert.AdaLnRefIdeal.main_arg1) = m' ((c.tc : Thread Cert.AdaLnRefIdeal.nD Cert.AdaLnRefIdeal.τ).loc Cert.AdaLnRefIdeal.main_arg1)
          ∧ r.2.mem ((c.tc : Thread Cert.AdaLnRefIdeal.nD Cert.AdaLnRefIdeal.τ).loc Cert.AdaLnRefIdeal.main_arg2) = m' ((c.tc : Thread Cert.AdaLnRefIdeal.nD Cert.AdaLnRefIdeal.τ).loc Cert.AdaLnRefIdeal.main_arg2)
          ∧ r.2.mem ((c.tc : Thread Cert.AdaLnRefIdeal.nD Cert.AdaLnRefIdeal.τ).loc Cert.AdaLnRefIdeal.main_arg3) = m' ((c.tc : Thread Cert.AdaLnRefIdeal.nD Cert.AdaLnRefIdeal.τ).loc Cert.AdaLnRefIdeal.main_arg3))

def preserves_AttnPrep_AttnPrepIdeal : Prop :=
  True

def algebraic_AttnPrepIdeal_AttnPrepRefIdeal [hAttnPrepIdeal : Cert.AttnPrepIdeal.Facts] [hAttnPrepRefIdeal : Cert.AttnPrepRefIdeal.Facts] : Prop :=
  ∀ (m : (ℓ : Loc Cert.AttnPrepIdeal.nD Cert.AttnPrepIdeal.τ Cert.AttnPrepIdeal.sig) → Buf (Elt Ideal) ℓ) (g : Dev Cert.AttnPrepIdeal.nD → PrngReg)
    (m' : (ℓ : Loc Cert.AttnPrepRefIdeal.nD Cert.AttnPrepRefIdeal.τ Cert.AttnPrepRefIdeal.sig) → Buf (Elt Ideal) ℓ) (g' : Dev Cert.AttnPrepRefIdeal.nD → PrngReg), Pre_AttnPrepIdeal m →
    (∀ c : Dev Cert.AttnPrepIdeal.nD,
      m' ((c.tc : Thread Cert.AttnPrepRefIdeal.nD Cert.AttnPrepRefIdeal.τ).loc Cert.AttnPrepRefIdeal.main_arg0) = m ((c.tc : Thread Cert.AttnPrepIdeal.nD Cert.AttnPrepIdeal.τ).loc Cert.AttnPrepIdeal.main_arg0)
      ∧ m' ((c.tc : Thread Cert.AttnPrepRefIdeal.nD Cert.AttnPrepRefIdeal.τ).loc Cert.AttnPrepRefIdeal.main_arg1) = m ((c.tc : Thread Cert.AttnPrepIdeal.nD Cert.AttnPrepIdeal.τ).loc Cert.AttnPrepIdeal.main_arg1)
      ∧ m' ((c.tc : Thread Cert.AttnPrepRefIdeal.nD Cert.AttnPrepRefIdeal.τ).loc Cert.AttnPrepRefIdeal.main_arg2) = m ((c.tc : Thread Cert.AttnPrepIdeal.nD Cert.AttnPrepIdeal.τ).loc Cert.AttnPrepIdeal.main_arg2)
      ∧ m' ((c.tc : Thread Cert.AttnPrepRefIdeal.nD Cert.AttnPrepRefIdeal.τ).loc Cert.AttnPrepRefIdeal.main_arg3) = m ((c.tc : Thread Cert.AttnPrepIdeal.nD Cert.AttnPrepIdeal.τ).loc Cert.AttnPrepIdeal.main_arg3)
      ∧ m' ((c.tc : Thread Cert.AttnPrepRefIdeal.nD Cert.AttnPrepRefIdeal.τ).loc Cert.AttnPrepRefIdeal.main_arg4) = m ((c.tc : Thread Cert.AttnPrepIdeal.nD Cert.AttnPrepIdeal.τ).loc Cert.AttnPrepIdeal.main_arg4)) →
    ∃ (v0 : (c : Dev Cert.AttnPrepIdeal.nD) → Buf (Elt Ideal) ((c.tc : Thread Cert.AttnPrepIdeal.nD Cert.AttnPrepIdeal.τ).loc Cert.AttnPrepIdeal.main_v26_0)) (v1 : (c : Dev Cert.AttnPrepIdeal.nD) → Buf (Elt Ideal) ((c.tc : Thread Cert.AttnPrepIdeal.nD Cert.AttnPrepIdeal.τ).loc Cert.AttnPrepIdeal.main_v26_1)),
      θ_run (Cert.AttnPrepIdeal.defs (F := Ideal)) (onTc (τ := Cert.AttnPrepIdeal.τ) (Cert.AttnPrepIdeal.main (F := Ideal))) ⟨m, fun _ => 0, g⟩ (fun r => ∀ c : Dev Cert.AttnPrepIdeal.nD,
          r.2.mem ((c.tc : Thread Cert.AttnPrepIdeal.nD Cert.AttnPrepIdeal.τ).loc Cert.AttnPrepIdeal.main_v26_0) = v0 c
          ∧ r.2.mem ((c.tc : Thread Cert.AttnPrepIdeal.nD Cert.AttnPrepIdeal.τ).loc Cert.AttnPrepIdeal.main_v26_1) = v1 c
          ∧ r.2.mem ((c.tc : Thread Cert.AttnPrepIdeal.nD Cert.AttnPrepIdeal.τ).loc Cert.AttnPrepIdeal.main_arg0) = m ((c.tc : Thread Cert.AttnPrepIdeal.nD Cert.AttnPrepIdeal.τ).loc Cert.AttnPrepIdeal.main_arg0)
          ∧ r.2.mem ((c.tc : Thread Cert.AttnPrepIdeal.nD Cert.AttnPrepIdeal.τ).loc Cert.AttnPrepIdeal.main_arg1) = m ((c.tc : Thread Cert.AttnPrepIdeal.nD Cert.AttnPrepIdeal.τ).loc Cert.AttnPrepIdeal.main_arg1)
          ∧ r.2.mem ((c.tc : Thread Cert.AttnPrepIdeal.nD Cert.AttnPrepIdeal.τ).loc Cert.AttnPrepIdeal.main_arg2) = m ((c.tc : Thread Cert.AttnPrepIdeal.nD Cert.AttnPrepIdeal.τ).loc Cert.AttnPrepIdeal.main_arg2)
          ∧ r.2.mem ((c.tc : Thread Cert.AttnPrepIdeal.nD Cert.AttnPrepIdeal.τ).loc Cert.AttnPrepIdeal.main_arg3) = m ((c.tc : Thread Cert.AttnPrepIdeal.nD Cert.AttnPrepIdeal.τ).loc Cert.AttnPrepIdeal.main_arg3)
          ∧ r.2.mem ((c.tc : Thread Cert.AttnPrepIdeal.nD Cert.AttnPrepIdeal.τ).loc Cert.AttnPrepIdeal.main_arg4) = m ((c.tc : Thread Cert.AttnPrepIdeal.nD Cert.AttnPrepIdeal.τ).loc Cert.AttnPrepIdeal.main_arg4))
      ∧ θ_run (Cert.AttnPrepRefIdeal.defs (F := Ideal)) (onTc (τ := Cert.AttnPrepRefIdeal.τ) (Cert.AttnPrepRefIdeal.main (F := Ideal))) ⟨m', fun _ => 0, g'⟩ (fun r => ∀ c : Dev Cert.AttnPrepRefIdeal.nD,
          r.2.mem ((c.tc : Thread Cert.AttnPrepRefIdeal.nD Cert.AttnPrepRefIdeal.τ).loc Cert.AttnPrepRefIdeal.main_v92) = v0 c
          ∧ r.2.mem ((c.tc : Thread Cert.AttnPrepRefIdeal.nD Cert.AttnPrepRefIdeal.τ).loc Cert.AttnPrepRefIdeal.main_v93) = v1 c
          ∧ r.2.mem ((c.tc : Thread Cert.AttnPrepRefIdeal.nD Cert.AttnPrepRefIdeal.τ).loc Cert.AttnPrepRefIdeal.main_arg0) = m' ((c.tc : Thread Cert.AttnPrepRefIdeal.nD Cert.AttnPrepRefIdeal.τ).loc Cert.AttnPrepRefIdeal.main_arg0)
          ∧ r.2.mem ((c.tc : Thread Cert.AttnPrepRefIdeal.nD Cert.AttnPrepRefIdeal.τ).loc Cert.AttnPrepRefIdeal.main_arg1) = m' ((c.tc : Thread Cert.AttnPrepRefIdeal.nD Cert.AttnPrepRefIdeal.τ).loc Cert.AttnPrepRefIdeal.main_arg1)
          ∧ r.2.mem ((c.tc : Thread Cert.AttnPrepRefIdeal.nD Cert.AttnPrepRefIdeal.τ).loc Cert.AttnPrepRefIdeal.main_arg2) = m' ((c.tc : Thread Cert.AttnPrepRefIdeal.nD Cert.AttnPrepRefIdeal.τ).loc Cert.AttnPrepRefIdeal.main_arg2)
          ∧ r.2.mem ((c.tc : Thread Cert.AttnPrepRefIdeal.nD Cert.AttnPrepRefIdeal.τ).loc Cert.AttnPrepRefIdeal.main_arg3) = m' ((c.tc : Thread Cert.AttnPrepRefIdeal.nD Cert.AttnPrepRefIdeal.τ).loc Cert.AttnPrepRefIdeal.main_arg3)
          ∧ r.2.mem ((c.tc : Thread Cert.AttnPrepRefIdeal.nD Cert.AttnPrepRefIdeal.τ).loc Cert.AttnPrepRefIdeal.main_arg4) = m' ((c.tc : Thread Cert.AttnPrepRefIdeal.nD Cert.AttnPrepRefIdeal.τ).loc Cert.AttnPrepRefIdeal.main_arg4))

def Claim : Prop :=
  ∃ (hAttnLat : Cert.AttnLat.Facts) (hAttnLatIdeal : Cert.AttnLatIdeal.Facts) (hAttnLatRefIdeal : Cert.AttnLatRefIdeal.Facts) (hAttnCtx : Cert.AttnCtx.Facts) (hAttnCtxIdeal : Cert.AttnCtxIdeal.Facts) (hAttnCtxRefIdeal : Cert.AttnCtxRefIdeal.Facts) (hInProj : Cert.InProj.Facts) (hInProjIdeal : Cert.InProjIdeal.Facts) (hInProjRefIdeal : Cert.InProjRefIdeal.Facts) (hMerge : Cert.Merge.Facts) (hMergeIdeal : Cert.MergeIdeal.Facts) (hMergeRefIdeal : Cert.MergeRefIdeal.Facts) (hOutProj : Cert.OutProj.Facts) (hOutProjIdeal : Cert.OutProjIdeal.Facts) (hOutProjRefIdeal : Cert.OutProjRefIdeal.Facts) (hMoe : Cert.Moe.Facts) (hMoeIdeal : Cert.MoeIdeal.Facts) (hMoeRefIdeal : Cert.MoeRefIdeal.Facts) (hFourCh : Cert.FourCh.Facts) (hFourChIdeal : Cert.FourChIdeal.Facts) (hFourChRefIdeal : Cert.FourChRefIdeal.Facts) (hFourLat : Cert.FourLat.Facts) (hFourLatIdeal : Cert.FourLatIdeal.Facts) (hFourLatRefIdeal : Cert.FourLatRefIdeal.Facts) (hFourCtx : Cert.FourCtx.Facts) (hFourCtxIdeal : Cert.FourCtxIdeal.Facts) (hFourCtxRefIdeal : Cert.FourCtxRefIdeal.Facts) (hAdaLn : Cert.AdaLn.Facts) (hAdaLnIdeal : Cert.AdaLnIdeal.Facts) (hAdaLnRefIdeal : Cert.AdaLnRefIdeal.Facts) (hAttnPrep : Cert.AttnPrep.Facts) (hAttnPrepIdeal : Cert.AttnPrepIdeal.Facts) (hAttnPrepRefIdeal : Cert.AttnPrepRefIdeal.Facts) (hPre_finite_qk : Cert.Pre_finite_qk.Facts),
    quiescent_AttnLat (hAttnLat := hAttnLat)
    ∧ quiescent_AttnLatIdeal (hAttnLatIdeal := hAttnLatIdeal)
    ∧ quiescent_AttnLatIdeal_pre_finite_qk (hAttnLatIdeal := hAttnLatIdeal) (hPre_finite_qk := hPre_finite_qk)
    ∧ quiescent_AttnLatRefIdeal (hAttnLatRefIdeal := hAttnLatRefIdeal)
    ∧ quiescent_AttnLatRefIdeal_pre_finite_qk (hAttnLatRefIdeal := hAttnLatRefIdeal) (hPre_finite_qk := hPre_finite_qk)
    ∧ quiescent_AttnCtx (hAttnCtx := hAttnCtx)
    ∧ quiescent_AttnCtxIdeal (hAttnCtxIdeal := hAttnCtxIdeal)
    ∧ quiescent_AttnCtxIdeal_pre_finite_qk (hAttnCtxIdeal := hAttnCtxIdeal) (hPre_finite_qk := hPre_finite_qk)
    ∧ quiescent_AttnCtxRefIdeal (hAttnCtxRefIdeal := hAttnCtxRefIdeal)
    ∧ quiescent_AttnCtxRefIdeal_pre_finite_qk (hAttnCtxRefIdeal := hAttnCtxRefIdeal) (hPre_finite_qk := hPre_finite_qk)
    ∧ quiescent_InProj (hInProj := hInProj)
    ∧ quiescent_InProjIdeal (hInProjIdeal := hInProjIdeal)
    ∧ quiescent_InProjRefIdeal (hInProjRefIdeal := hInProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Moe (hMoe := hMoe)
    ∧ quiescent_MoeIdeal (hMoeIdeal := hMoeIdeal)
    ∧ quiescent_MoeRefIdeal (hMoeRefIdeal := hMoeRefIdeal)
    ∧ quiescent_FourCh (hFourCh := hFourCh)
    ∧ quiescent_FourChIdeal (hFourChIdeal := hFourChIdeal)
    ∧ quiescent_FourChRefIdeal (hFourChRefIdeal := hFourChRefIdeal)
    ∧ quiescent_FourLat (hFourLat := hFourLat)
    ∧ quiescent_FourLatIdeal (hFourLatIdeal := hFourLatIdeal)
    ∧ quiescent_FourLatRefIdeal (hFourLatRefIdeal := hFourLatRefIdeal)
    ∧ quiescent_FourCtx (hFourCtx := hFourCtx)
    ∧ quiescent_FourCtxIdeal (hFourCtxIdeal := hFourCtxIdeal)
    ∧ quiescent_FourCtxRefIdeal (hFourCtxRefIdeal := hFourCtxRefIdeal)
    ∧ quiescent_AdaLn (hAdaLn := hAdaLn)
    ∧ quiescent_AdaLnIdeal (hAdaLnIdeal := hAdaLnIdeal)
    ∧ quiescent_AdaLnRefIdeal (hAdaLnRefIdeal := hAdaLnRefIdeal)
    ∧ quiescent_AttnPrep (hAttnPrep := hAttnPrep)
    ∧ quiescent_AttnPrepIdeal (hAttnPrepIdeal := hAttnPrepIdeal)
    ∧ quiescent_AttnPrepRefIdeal (hAttnPrepRefIdeal := hAttnPrepRefIdeal)
    ∧ preserves_AttnLat_AttnLatIdeal
    ∧ algebraic_AttnLatIdeal_AttnLatRefIdeal_pre_finite_qk (hAttnLatIdeal := hAttnLatIdeal) (hAttnLatRefIdeal := hAttnLatRefIdeal) (hPre_finite_qk := hPre_finite_qk)
    ∧ preserves_AttnCtx_AttnCtxIdeal
    ∧ algebraic_AttnCtxIdeal_AttnCtxRefIdeal_pre_finite_qk (hAttnCtxIdeal := hAttnCtxIdeal) (hAttnCtxRefIdeal := hAttnCtxRefIdeal) (hPre_finite_qk := hPre_finite_qk)
    ∧ preserves_InProj_InProjIdeal
    ∧ algebraic_InProjIdeal_InProjRefIdeal (hInProjIdeal := hInProjIdeal) (hInProjRefIdeal := hInProjRefIdeal)
    ∧ preserves_Merge_MergeIdeal
    ∧ algebraic_MergeIdeal_MergeRefIdeal (hMergeIdeal := hMergeIdeal) (hMergeRefIdeal := hMergeRefIdeal)
    ∧ preserves_OutProj_OutProjIdeal
    ∧ algebraic_OutProjIdeal_OutProjRefIdeal (hOutProjIdeal := hOutProjIdeal) (hOutProjRefIdeal := hOutProjRefIdeal)
    ∧ preserves_Moe_MoeIdeal
    ∧ algebraic_MoeIdeal_MoeRefIdeal (hMoeIdeal := hMoeIdeal) (hMoeRefIdeal := hMoeRefIdeal)
    ∧ preserves_FourCh_FourChIdeal
    ∧ algebraic_FourChIdeal_FourChRefIdeal (hFourChIdeal := hFourChIdeal) (hFourChRefIdeal := hFourChRefIdeal)
    ∧ preserves_FourLat_FourLatIdeal
    ∧ algebraic_FourLatIdeal_FourLatRefIdeal (hFourLatIdeal := hFourLatIdeal) (hFourLatRefIdeal := hFourLatRefIdeal)
    ∧ preserves_FourCtx_FourCtxIdeal
    ∧ algebraic_FourCtxIdeal_FourCtxRefIdeal (hFourCtxIdeal := hFourCtxIdeal) (hFourCtxRefIdeal := hFourCtxRefIdeal)
    ∧ preserves_AdaLn_AdaLnIdeal
    ∧ algebraic_AdaLnIdeal_AdaLnRefIdeal (hAdaLnIdeal := hAdaLnIdeal) (hAdaLnRefIdeal := hAdaLnRefIdeal)
    ∧ preserves_AttnPrep_AttnPrepIdeal
    ∧ algebraic_AttnPrepIdeal_AttnPrepRefIdeal (hAttnPrepIdeal := hAttnPrepIdeal) (hAttnPrepRefIdeal := hAttnPrepRefIdeal)
-- ==== Pre_finite_qk.lean ====
abbrev S36864x1024 : Shape := ⟨2, ![36864, 1024]⟩
abbrev S36864x256 : Shape := ⟨2, ![36864, 256]⟩
abbrev S36864x10752 : Shape := ⟨2, ![36864, 10752]⟩
abbrev S_ : Shape := ⟨0, ![]⟩

class Facts : Prop where
  bitsLt_bf16_f32 : FTy.bits .bf16 < FTy.bits .f32
  bcast_S_S36864x1024 : S_.BroadcastsInDim S36864x1024 (![] : Fin 0 → Fin S36864x1024.rank)
  bcast_S_S36864x256 : S_.BroadcastsInDim S36864x256 (![] : Fin 0 → Fin S36864x256.rank)

variable [Facts]

def fn {F : FTy → Type} [FloatOps F] (main_arg0 : FVec F S36864x1024 .bf16) (main_arg1 : FVec F S36864x256 .bf16) (main_arg2 : FVec F S36864x10752 .bf16) : IVec S36864x1024 1 × IVec S36864x256 1 :=
  let main_v0 : FVec F S36864x1024 .f32 := (extf .f32 · bitsLt_bf16_f32) main_arg0
  let main_v1 : FVec F S36864x1024 .f32 := Host.absf main_v0
  let main_cst : FVec F S_ .f32 := constant S_ .f32 0x7F800000#32
  let main_v2 : FVec F S36864x1024 .f32 := broadcastInDim S36864x1024 ![] bcast_S_S36864x1024 main_cst
  let main_v3 : IVec S36864x1024 1 := cmpf .olt main_v1 main_v2
  let main_v4 : FVec F S36864x256 .f32 := (extf .f32 · bitsLt_bf16_f32) main_arg1
  let main_v5 : FVec F S36864x256 .f32 := Host.absf main_v4
  let main_cst_0 : FVec F S_ .f32 := constant S_ .f32 0x7F800000#32
  let main_v6 : FVec F S36864x256 .f32 := broadcastInDim S36864x256 ![] bcast_S_S36864x256 main_cst_0
  let main_v7 : IVec S36864x256 1 := cmpf .olt main_v5 main_v6
  (main_v3, main_v7)
-- ==== AttnLat.lean ====
abbrev S36864x1024 : Shape := ⟨2, ![36864, 1024]⟩
abbrev S36864x256 : Shape := ⟨2, ![36864, 256]⟩
abbrev S36864x10752 : Shape := ⟨2, ![36864, 10752]⟩
abbrev S32768x1024 : Shape := ⟨2, ![32768, 1024]⟩
abbrev S512x512 : Shape := ⟨2, ![512, 512]⟩
abbrev S256x128 : Shape := ⟨2, ![256, 128]⟩
abbrev S2048x128 : Shape := ⟨2, ![2048, 128]⟩
abbrev S512x128 : Shape := ⟨2, ![512, 128]⟩
abbrev S512x256 : Shape := ⟨2, ![512, 256]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 12
  | .smem => 0
  | _ => 0

abbrev bufTy : (tb : Table) → Fin (tcTables nBuf tb) → BufTy
  | .hbm, ⟨0, _⟩ => ⟨S36864x1024, .bf16⟩
  | .hbm, ⟨1, _⟩ => ⟨S36864x256, .bf16⟩
  | .hbm, ⟨2, _⟩ => ⟨S36864x10752, .bf16⟩
  | .hbm, ⟨3, _⟩ => ⟨S32768x1024, .bf16⟩
  | .local _ .vmem, ⟨0, _⟩ => ⟨S512x512, .bf16⟩
  | .local _ .vmem, ⟨1, _⟩ => ⟨S512x512, .bf16⟩
  | .local _ .vmem, ⟨2, _⟩ => ⟨S256x128, .bf16⟩
  | .local _ .vmem, ⟨3, _⟩ => ⟨S256x128, .bf16⟩
  | .local _ .vmem, ⟨4, _⟩ => ⟨S2048x128, .bf16⟩
  | .local _ .vmem, ⟨5, _⟩ => ⟨S2048x128, .bf16⟩
  | .local _ .vmem, ⟨6, _⟩ => ⟨S256x128, .bf16⟩
  | .local _ .vmem, ⟨7, _⟩ => ⟨S256x128, .bf16⟩
  | .local _ .vmem, ⟨8, _⟩ => ⟨S2048x128, .bf16⟩
  | .local _ .vmem, ⟨9, _⟩ => ⟨S2048x128, .bf16⟩
  | .local _ .vmem, ⟨10, _⟩ => ⟨S512x512, .bf16⟩
  | .local _ .vmem, ⟨11, _⟩ => ⟨S512x512, .bf16⟩
  | _, _ => ⟨S36864x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.addi c128_i32 arg0
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.addi c128_i32 arg0
  let c78_i32 : BitVec 32 := 78#32
  let v1 : BitVec 32 := Scalar.addi c78_i32 arg1
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c78_i32 : BitVec 32 := 78#32
  let v0 : BitVec 32 := Scalar.addi c78_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== AttnLatRefIdeal.lean ====
abbrev S36864x1024 : Shape := ⟨2, ![36864, 1024]⟩
abbrev S36864x256 : Shape := ⟨2, ![36864, 256]⟩
abbrev S36864x10752 : Shape := ⟨2, ![36864, 10752]⟩
abbrev S32768x1024 : Shape := ⟨2, ![32768, 1024]⟩
abbrev S16x2048x2x4x128 : Shape := ⟨5, ![16, 2048, 2, 4, 128]⟩
abbrev S4096x256 : Shape := ⟨2, ![4096, 256]⟩
abbrev S16x256x2x128 : Shape := ⟨4, ![16, 256, 2, 128]⟩
abbrev S32768x256 : Shape := ⟨2, ![32768, 256]⟩
abbrev S16x2048x2x128 : Shape := ⟨4, ![16, 2048, 2, 128]⟩
abbrev S16x2304x2x128 : Shape := ⟨4, ![16, 2304, 2, 128]⟩
abbrev S16x2x2304x2048x4 : Shape := ⟨5, ![16, 2, 2304, 2048, 4]⟩
abbrev S16x2x4x2048x2304 : Shape := ⟨5, ![16, 2, 4, 2048, 2304]⟩
abbrev S_ : Shape := ⟨0, ![]⟩
abbrev S16x2x4x2048 : Shape := ⟨4, ![16, 2, 4, 2048]⟩
abbrev S16x2x4x2048x1 : Shape := ⟨5, ![16, 2, 4, 2048, 1]⟩
abbrev S16x2x128x4x2048 : Shape := ⟨5, ![16, 2, 128, 4, 2048]⟩

abbrev nBuf : Space → Nat
  | .hbm => 39
  | .vmem => 0
  | .smem => 0
  | _ => 0

abbrev bufTy : (tb : Table) → Fin (tcTables nBuf tb) → BufTy
  | .hbm, ⟨0, _⟩ => ⟨S36864x1024, .bf16⟩
  | .hbm, ⟨1, _⟩ => ⟨S36864x256, .bf16⟩
  | .hbm, ⟨2, _⟩ => ⟨S36864x10752, .bf16⟩
  | .hbm, ⟨3, _⟩ => ⟨S36864x1024, .f32⟩
  | .hbm, ⟨4, _⟩ => ⟨S32768x1024, .f32⟩
  | .hbm, ⟨5, _⟩ => ⟨S16x2048x2x4x128, .f32⟩
  | .hbm, ⟨6, _⟩ => ⟨S36864x256, .f32⟩
  | .hbm, ⟨7, _⟩ => ⟨S36864x10752, .f32⟩
  | .hbm, ⟨8, _⟩ => ⟨S36864x256, .f32⟩
  | .hbm, ⟨9, _⟩ => ⟨S4096x256, .f32⟩
  | .hbm, ⟨10, _⟩ => ⟨S16x256x2x128, .f32⟩
  | .hbm, ⟨11, _⟩ => ⟨S32768x256, .f32⟩
  | .hbm, ⟨12, _⟩ => ⟨S16x2048x2x128, .f32⟩
  | .hbm, ⟨13, _⟩ => ⟨S16x2304x2x128, .f32⟩
  | .hbm, ⟨14, _⟩ => ⟨S4096x256, .f32⟩
  | .hbm, ⟨15, _⟩ => ⟨S16x256x2x128, .f32⟩
  | .hbm, ⟨16, _⟩ => ⟨S32768x256, .f32⟩
  | .hbm, ⟨17, _⟩ => ⟨S16x2048x2x128, .f32⟩
  | .hbm, ⟨18, _⟩ => ⟨S16x2304x2x128, .f32⟩
  | .hbm, ⟨19, _⟩ => ⟨S16x2x2304x2048x4, .f32⟩
  | .hbm, ⟨20, _⟩ => ⟨S16x2x4x2048x2304, .f32⟩
  | .hbm, ⟨21, _⟩ => ⟨S_, .f32⟩
  | .hbm, ⟨22, _⟩ => ⟨S16x2x4x2048, .f32⟩
  | .hbm, ⟨23, _⟩ => ⟨S_, .f32⟩
  | .hbm, ⟨24, _⟩ => ⟨S16x2x4x2048, .f32⟩
  | .hbm, ⟨25, _⟩ => ⟨S16x2x4x2048, .f32⟩
  | .hbm, ⟨26, _⟩ => ⟨S16x2x4x2048x1, .f32⟩
  | .hbm, ⟨27, _⟩ => ⟨S16x2x4x2048x2304, .f32⟩
  | .hbm, ⟨28, _⟩ => ⟨S16x2x4x2048x2304, .f32⟩
  | .hbm, ⟨29, _⟩ => ⟨S16x2x4x2048x2304, .f32⟩
  | .hbm, ⟨30, _⟩ => ⟨S_, .f32⟩
  | .hbm, ⟨31, _⟩ => ⟨S16x2x4x2048, .f32⟩
  | .hbm, ⟨32, _⟩ => ⟨S16x2x4x2048x1, .f32⟩
  | .hbm, ⟨33, _⟩ => ⟨S16x2x4x2048x2304, .f32⟩
  | .hbm, ⟨34, _⟩ => ⟨S16x2x4x2048x2304, .f32⟩
  | .hbm, ⟨35, _⟩ => ⟨S16x2x128x4x2048, .f32⟩
  | .hbm, ⟨36, _⟩ => ⟨S16x2048x2x4x128, .f32⟩
  | .hbm, ⟨37, _⟩ => ⟨S32768x1024, .f32⟩
  | .hbm, ⟨38, _⟩ => ⟨S32768x1024, .bf16⟩
  | _, _ => ⟨S36864x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_1 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩

abbrev nD : Nat := 1
abbrev τ : Topo := Topo.v7x

variable {F : FTy → Type} [FloatOps F]
-- ==== AttnCtx.lean ====
abbrev S36864x1024 : Shape := ⟨2, ![36864, 1024]⟩
abbrev S36864x256 : Shape := ⟨2, ![36864, 256]⟩
abbrev S36864x10752 : Shape := ⟨2, ![36864, 10752]⟩
abbrev S4096x1024 : Shape := ⟨2, ![4096, 1024]⟩
abbrev S256x512 : Shape := ⟨2, ![256, 512]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 4
  | .vmem => 8
  | .smem => 0
  | _ => 0

abbrev bufTy : (tb : Table) → Fin (tcTables nBuf tb) → BufTy
  | .hbm, ⟨0, _⟩ => ⟨S36864x1024, .bf16⟩
  | .hbm, ⟨1, _⟩ => ⟨S36864x256, .bf16⟩
  | .hbm, ⟨2, _⟩ => ⟨S36864x10752, .bf16⟩
  | .hbm, ⟨3, _⟩ => ⟨S4096x1024, .bf16⟩
  | .local _ .vmem, ⟨0, _⟩ => ⟨S256x512, .bf16⟩
  | .local _ .vmem, ⟨1, _⟩ => ⟨S256x512, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S256x512, .bf16⟩
  | .local _ .vmem, ⟨7, _⟩ => ⟨S256x512, .bf16⟩
  | _, _ => ⟨S36864x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.addi c128_i32 arg0
  let c0_i32 : BitVec 32 := 0#32
  ![v0.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.addi c128_i32 arg0
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.addi c128_i32 arg0
  let c78_i32 : BitVec 32 := 78#32
  let v1 : BitVec 32 := Scalar.addi c78_i32 arg1
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== AttnCtxRefIdeal.lean ====
abbrev S36864x1024 : Shape := ⟨2, ![36864, 1024]⟩
abbrev S36864x256 : Shape := ⟨2, ![36864, 256]⟩
abbrev S36864x10752 : Shape := ⟨2, ![36864, 10752]⟩
abbrev S4096x1024 : Shape := ⟨2, ![4096, 1024]⟩
abbrev S16x256x2x4x128 : Shape := ⟨5, ![16, 256, 2, 4, 128]⟩
abbrev S4096x256 : Shape := ⟨2, ![4096, 256]⟩
abbrev S16x256x2x128 : Shape := ⟨4, ![16, 256, 2, 128]⟩
abbrev S16x2x256x256x4 : Shape := ⟨5, ![16, 2, 256, 256, 4]⟩
abbrev S16x2x4x256x256 : Shape := ⟨5, ![16, 2, 4, 256, 256]⟩
abbrev S_ : Shape := ⟨0, ![]⟩
abbrev S16x2x4x256 : Shape := ⟨4, ![16, 2, 4, 256]⟩
abbrev S16x2x4x256x1 : Shape := ⟨5, ![16, 2, 4, 256, 1]⟩
abbrev S16x2x128x4x256 : Shape := ⟨5, ![16, 2, 128, 4, 256]⟩

abbrev nBuf : Space → Nat
  | .hbm => 32
  | .vmem => 0
  | .smem => 0
  | _ => 0

abbrev bufTy : (tb : Table) → Fin (tcTables nBuf tb) → BufTy
  | .hbm, ⟨0, _⟩ => ⟨S36864x1024, .bf16⟩
  | .hbm, ⟨1, _⟩ => ⟨S36864x256, .bf16⟩
  | .hbm, ⟨2, _⟩ => ⟨S36864x10752, .bf16⟩
  | .hbm, ⟨3, _⟩ => ⟨S36864x1024, .f32⟩
  | .hbm, ⟨4, _⟩ => ⟨S4096x1024, .f32⟩
  | .hbm, ⟨5, _⟩ => ⟨S16x256x2x4x128, .f32⟩
  | .hbm, ⟨6, _⟩ => ⟨S36864x256, .f32⟩
  | .hbm, ⟨7, _⟩ => ⟨S4096x256, .f32⟩
  | .hbm, ⟨8, _⟩ => ⟨S16x256x2x128, .f32⟩
  | .hbm, ⟨9, _⟩ => ⟨S36864x10752, .f32⟩
  | .hbm, ⟨10, _⟩ => ⟨S4096x256, .f32⟩
  | .hbm, ⟨11, _⟩ => ⟨S16x256x2x128, .f32⟩
  | .hbm, ⟨12, _⟩ => ⟨S16x2x256x256x4, .f32⟩
  | .hbm, ⟨13, _⟩ => ⟨S16x2x4x256x256, .f32⟩
  | .hbm, ⟨14, _⟩ => ⟨S_, .f32⟩
  | .hbm, ⟨15, _⟩ => ⟨S16x2x4x256, .f32⟩
  | .hbm, ⟨16, _⟩ => ⟨S_, .f32⟩
  | .hbm, ⟨17, _⟩ => ⟨S16x2x4x256, .f32⟩
  | .hbm, ⟨18, _⟩ => ⟨S16x2x4x256, .f32⟩
  | .hbm, ⟨19, _⟩ => ⟨S16x2x4x256x1, .f32⟩
  | .hbm, ⟨20, _⟩ => ⟨S16x2x4x256x256, .f32⟩
  | .hbm, ⟨21, _⟩ => ⟨S16x2x4x256x256, .f32⟩
  | .hbm, ⟨22, _⟩ => ⟨S16x2x4x256x256, .f32⟩
  | .hbm, ⟨23, _⟩ => ⟨S_, .f32⟩
  | .hbm, ⟨24, _⟩ => ⟨S16x2x4x256, .f32⟩
  | .hbm, ⟨25, _⟩ => ⟨S16x2x4x256x1, .f32⟩
  | .hbm, ⟨26, _⟩ => ⟨S16x2x4x256x256, .f32⟩
  | .hbm, ⟨27, _⟩ => ⟨S16x2x4x256x256, .f32⟩
  | .hbm, ⟨28, _⟩ => ⟨S16x2x128x4x256, .f32⟩
  | .hbm, ⟨29, _⟩ => ⟨S16x256x2x4x128, .f32⟩
  | .hbm, ⟨30, _⟩ => ⟨S4096x1024, .f32⟩
  | .hbm, ⟨31, _⟩ => ⟨S4096x1024, .bf16⟩
  | _, _ => ⟨S36864x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== InProj.lean ====
abbrev S16x2048x2048 : Shape := ⟨3, ![16, 2048, 2048]⟩
abbrev S16x256x2048 : Shape := ⟨3, ![16, 256, 2048]⟩
abbrev S16x12288 : Shape := ⟨2, ![16, 12288]⟩
abbrev S12288 : Shape := ⟨1, ![12288]⟩
abbrev S2048 : Shape := ⟨1, ![2048]⟩
abbrev S2048x10368 : Shape := ⟨2, ![2048, 10368]⟩
abbrev S1x12288 : Shape := ⟨2, ![1, 12288]⟩
abbrev S_ : Shape := ⟨0, ![]⟩
abbrev S15x12288 : Shape := ⟨2, ![15, 12288]⟩
abbrev S32x12288 : Shape := ⟨2, ![32, 12288]⟩
abbrev S32x6x1x2048 : Shape := ⟨4, ![32, 6, 1, 2048]⟩
abbrev S32768x2048 : Shape := ⟨2, ![32768, 2048]⟩
abbrev S4096x2048 : Shape := ⟨2, ![4096, 2048]⟩
abbrev S36864x2048 : Shape := ⟨2, ![36864, 2048]⟩
abbrev S1x2048x10368 : Shape := ⟨3, ![1, 2048, 10368]⟩
abbrev S1x2048x6144 : Shape := ⟨3, ![1, 2048, 6144]⟩
abbrev S1x2048x512 : Shape := ⟨3, ![1, 2048, 512]⟩
abbrev S1x2048x96 : Shape := ⟨3, ![1, 2048, 96]⟩
abbrev S1x2048x128 : Shape := ⟨3, ![1, 2048, 128]⟩
abbrev S1x2048x1024 : Shape := ⟨3, ![1, 2048, 1024]⟩
abbrev S1x2048x256 : Shape := ⟨3, ![1, 2048, 256]⟩
abbrev S1x2048x10496 : Shape := ⟨3, ![1, 2048, 10496]⟩
abbrev S1x2048x10752 : Shape := ⟨3, ![1, 2048, 10752]⟩
abbrev S2048x10752 : Shape := ⟨2, ![2048, 10752]⟩
abbrev S1x2048 : Shape := ⟨2, ![1, 2048]⟩
abbrev S36864x10752 : Shape := ⟨2, ![36864, 10752]⟩
abbrev S1024x2048 : Shape := ⟨2, ![1024, 2048]⟩
abbrev S1x1x1x2048 : Shape := ⟨4, ![1, 1, 1, 2048]⟩
abbrev S2048x1536 : Shape := ⟨2, ![2048, 1536]⟩
abbrev S1024x1536 : Shape := ⟨2, ![1024, 1536]⟩
abbrev S1024 : Shape := ⟨1, ![1024]⟩
abbrev S1024x1 : Shape := ⟨2, ![1024, 1]⟩

abbrev nBuf : Space → Nat
  | .hbm => 48
  | .vmem => 12
  | .smem => 0
  | _ => 0

abbrev bufTy : (tb : Table) → Fin (tcTables nBuf tb) → BufTy
  | .hbm, ⟨0, _⟩ => ⟨S16x2048x2048, .f32⟩
  | .hbm, ⟨1, _⟩ => ⟨S16x256x2048, .f32⟩
  | .hbm, ⟨2, _⟩ => ⟨S16x12288, .f32⟩
  | .hbm, ⟨3, _⟩ => ⟨S12288, .f32⟩
  | .hbm, ⟨4, _⟩ => ⟨S2048, .f32⟩
  | .hbm, ⟨5, _⟩ => ⟨S2048x10368, .f32⟩
  | .hbm, ⟨6, _⟩ => ⟨S1x12288, .f32⟩
  | .hbm, ⟨7, _⟩ => ⟨S_, .f32⟩
  | .hbm, ⟨8, _⟩ => ⟨S15x12288, .f32⟩
  | .hbm, ⟨9, _⟩ => ⟨S32x12288, .f32⟩
  | .hbm, ⟨10, _⟩ => ⟨S32x6x1x2048, .f32⟩
  | .hbm, ⟨11, _⟩ => ⟨S32768x2048, .f32⟩
  | .hbm, ⟨12, _⟩ => ⟨S4096x2048, .f32⟩
  | .hbm, ⟨13, _⟩ => ⟨S36864x2048, .f32⟩
  | .hbm, ⟨14, _⟩ => ⟨S1x2048x10368, .f32⟩
  | .hbm, ⟨15, _⟩ => ⟨S1x2048x6144, .f32⟩
  | .hbm, ⟨16, _⟩ => ⟨S1x2048x512, .f32⟩
  | .hbm, ⟨17, _⟩ => ⟨S1x2048x512, .f32⟩
  | .hbm, ⟨18, _⟩ => ⟨S1x2048x96, .f32⟩
  | .hbm, ⟨19, _⟩ => ⟨S_, .i32⟩
  | .hbm, ⟨20, _⟩ => ⟨S_, .f32⟩
  | .hbm, ⟨21, _⟩ => ⟨S1x2048x128, .f32⟩
  | .hbm, ⟨22, _⟩ => ⟨S1x2048x96, .f32⟩
  | .hbm, ⟨23, _⟩ => ⟨S_, .i32⟩
  | .hbm, ⟨24, _⟩ => ⟨S_, .f32⟩
  | .hbm, ⟨25, _⟩ => ⟨S1x2048x128, .f32⟩
  | .hbm, ⟨26, _⟩ => ⟨S1x2048x96, .f32⟩
  | .hbm, ⟨27, _⟩ => ⟨S_, .i32⟩
  | .hbm, ⟨28, _⟩ => ⟨S_, .f32⟩
  | .hbm, ⟨29, _⟩ => ⟨S1x2048x128, .f32⟩
  | .hbm, ⟨30, _⟩ => ⟨S1x2048x96, .f32⟩
  | .hbm, ⟨31, _⟩ => ⟨S_, .i32⟩
  | .hbm, ⟨32, _⟩ => ⟨S_, .f32⟩
  | .hbm, ⟨33, _⟩ => ⟨S1x2048x128, .f32⟩
  | .hbm, ⟨34, _⟩ => ⟨S1x2048x512, .f32⟩
  | .hbm, ⟨35, _⟩ => ⟨S1x2048x1024, .f32⟩
  | .hbm, ⟨36, _⟩ => ⟨S1x2048x512, .f32⟩
  | .hbm, ⟨37, _⟩ => ⟨S1x2048x256, .f32⟩
  | .hbm, ⟨38, _⟩ => ⟨S1x2048x256, .f32⟩
  | .hbm, ⟨39, _⟩ => ⟨S1x2048x256, .f32⟩
  | .hbm, ⟨40, _⟩ => ⟨S1x2048x10496, .f32⟩
  | .hbm, ⟨41, _⟩ => ⟨S_, .i32⟩
  | .hbm, ⟨42, _⟩ => ⟨S_, .f32⟩
  | .hbm, ⟨43, _⟩ => ⟨S1x2048x10752, .f32⟩
  | .hbm, ⟨44, _⟩ => ⟨S1x2048x10752, .bf16⟩
  | .hbm, ⟨45, _⟩ => ⟨S2048x10752, .bf16⟩
  | .hbm, ⟨46, _⟩ => ⟨S1x2048, .f32⟩
  | .hbm, ⟨47, _⟩ => ⟨S36864x10752, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x1x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1x2048, .f32⟩
  | .local _ .vmem, ⟨7, _⟩ => ⟨S2048x1536, .bf16⟩
  | .local _ .vmem, ⟨8, _⟩ => ⟨S2048x1536, .bf16⟩
  | .local _ .vmem, ⟨9, _⟩ => ⟨S1024x1536, .bf16⟩
  | .local _ .vmem, ⟨10, _⟩ => ⟨S1024x1536, .bf16⟩
  | .local _ .vmem, ⟨11, _⟩ => ⟨S1024x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_call0_v0 : Ref sig .tc := ⟨.hbm, 20, rfl⟩
abbrev main_v12 : Ref sig .tc := ⟨.hbm, 21, rfl⟩
abbrev main_v13 : Ref sig .tc := ⟨.hbm, 22, rfl⟩
abbrev main_c_0 : Ref sig .tc := ⟨.hbm, 23, rfl⟩
abbrev main_call1_v0 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_call2_v0 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_call3_v0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_3 : Ref sig .tc := ⟨.hbm, 41, rfl⟩
abbrev main_call4_v0 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![36, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32 : BitVec 32 := 16#32
  let v17 : BitVec 32 := Scalar.minsi v16 c16_i32
  let c1_i32_4 : BitVec 32 := 1#32
  let c0_i32_5 : BitVec 32 := 0#32
  let c0_i32_6 : BitVec 32 := 0#32
  let c0_i32_7 : BitVec 32 := 0#32
  ![v17.toNat, c1_i32_4.toNat, c0_i32_5.toNat, c0_i32_6.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32 : BitVec 32 := 16#32
  let v17 : BitVec 32 := Scalar.minsi v16 c16_i32
  let c0_i32_4 : BitVec 32 := 0#32
  let c0_i32_5 : BitVec 32 := 0#32
  let c0_i32_6 : BitVec 32 := 0#32
  let c0_i32_7 : BitVec 32 := 0#32
  ![v17.toNat, c0_i32_4.toNat, c0_i32_5.toNat, c0_i32_6.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InProjRefIdeal.lean ====
abbrev S16x2048x2048 : Shape := ⟨3, ![16, 2048, 2048]⟩
abbrev S16x256x2048 : Shape := ⟨3, ![16, 256, 2048]⟩
abbrev S16x12288 : Shape := ⟨2, ![16, 12288]⟩
abbrev S12288 : Shape := ⟨1, ![12288]⟩
abbrev S2048 : Shape := ⟨1, ![2048]⟩
abbrev S2048x10368 : Shape := ⟨2, ![2048, 10368]⟩
abbrev S16x2048 : Shape := ⟨2, ![16, 2048]⟩
abbrev S16x1x2048 : Shape := ⟨3, ![16, 1, 2048]⟩
abbrev S_ : Shape := ⟨0, ![]⟩
abbrev S16x2048x1 : Shape := ⟨3, ![16, 2048, 1]⟩
abbrev S1x1x2048 : Shape := ⟨3, ![1, 1, 2048]⟩
abbrev S16x256 : Shape := ⟨2, ![16, 256]⟩
abbrev S16x256x1 : Shape := ⟨3, ![16, 256, 1]⟩
abbrev S32768x2048 : Shape := ⟨2, ![32768, 2048]⟩
abbrev S4096x2048 : Shape := ⟨2, ![4096, 2048]⟩
abbrev S36864x2048 : Shape := ⟨2, ![36864, 2048]⟩
abbrev S36864x10368 : Shape := ⟨2, ![36864, 10368]⟩
abbrev S36864x512 : Shape := ⟨2, ![36864, 512]⟩
abbrev S36864x96 : Shape := ⟨2, ![36864, 96]⟩
abbrev S36864x256 : Shape := ⟨2, ![36864, 256]⟩
abbrev S36864x1024 : Shape := ⟨2, ![36864, 1024]⟩
abbrev S36864x6144 : Shape := ⟨2, ![36864, 6144]⟩
abbrev S36864x32 : Shape := ⟨2, ![36864, 32]⟩
abbrev S36864x10240 : Shape := ⟨2, ![36864, 10240]⟩
abbrev S36864x10752 : Shape := ⟨2, ![36864, 10752]⟩

abbrev nBuf : Space → Nat
  | .hbm => 85
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S16x256x2048, .f32⟩
  | .hbm, ⟨2, _⟩ => ⟨S16x12288, .f32⟩
  | .hbm, ⟨3, _⟩ => ⟨S12288, .f32⟩
  | .hbm, ⟨4, _⟩ => ⟨S2048, .f32⟩
  | .hbm, ⟨5, _⟩ => ⟨S2048x10368, .f32⟩
  | .hbm, ⟨6, _⟩ => ⟨S16x2048, .f32⟩
  | .hbm, ⟨7, _⟩ => ⟨S16x1x2048, .f32⟩
  | .hbm, ⟨8, _⟩ => ⟨S16x2048, .f32⟩
  | .hbm, ⟨9, _⟩ => ⟨S16x1x2048, .f32⟩
  | .hbm, ⟨10, _⟩ => ⟨S16x2048x2048, .f32⟩
  | .hbm, ⟨11, _⟩ => ⟨S_, .f32⟩
  | .hbm, ⟨12, _⟩ => ⟨S16x2048, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S_, .f32⟩
  | .hbm, ⟨18, _⟩ => ⟨S16x2048x1, .f32⟩
  | .hbm, ⟨19, _⟩ => ⟨S16x2048x1, .f32⟩
  | .hbm, ⟨20, _⟩ => ⟨S16x2048x1, .f32⟩
  | .hbm, ⟨21, _⟩ => ⟨S16x2048x2048, .f32⟩
  | .hbm, ⟨22, _⟩ => ⟨S16x2048x2048, .f32⟩
  | .hbm, ⟨23, _⟩ => ⟨S1x1x2048, .f32⟩
  | .hbm, ⟨24, _⟩ => ⟨S16x2048x2048, .f32⟩
  | .hbm, ⟨25, _⟩ => ⟨S16x2048x2048, .f32⟩
  | .hbm, ⟨26, _⟩ => ⟨S_, .f32⟩
  | .hbm, ⟨27, _⟩ => ⟨S16x1x2048, .f32⟩
  | .hbm, ⟨28, _⟩ => ⟨S16x1x2048, .f32⟩
  | .hbm, ⟨29, _⟩ => ⟨S16x2048x2048, .f32⟩
  | .hbm, ⟨30, _⟩ => ⟨S16x2048x2048, .f32⟩
  | .hbm, ⟨31, _⟩ => ⟨S16x2048x2048, .f32⟩
  | .hbm, ⟨32, _⟩ => ⟨S16x2048x2048, .f32⟩
  | .hbm, ⟨33, _⟩ => ⟨S2048, .f32⟩
  | .hbm, ⟨34, _⟩ => ⟨S2048, .f32⟩
  | .hbm, ⟨35, _⟩ => ⟨S16x256x2048, .f32⟩
  | .hbm, ⟨36, _⟩ => ⟨S_, .f32⟩
  | .hbm, ⟨37, _⟩ => ⟨S16x256, .f32⟩
  | .hbm, ⟨38, _⟩ => ⟨S16x256x1, .f32⟩
  | .hbm, ⟨39, _⟩ => ⟨S_, .f32⟩
  | .hbm, ⟨40, _⟩ => ⟨S16x256x1, .f32⟩
  | .hbm, ⟨41, _⟩ => ⟨S16x256x1, .f32⟩
  | .hbm, ⟨42, _⟩ => ⟨S_, .f32⟩
  | .hbm, ⟨43, _⟩ => ⟨S16x256x1, .f32⟩
  | .hbm, ⟨44, _⟩ => ⟨S16x256x1, .f32⟩
  | .hbm, ⟨45, _⟩ => ⟨S16x256x1, .f32⟩
  | .hbm, ⟨46, _⟩ => ⟨S16x256x2048, .f32⟩
  | .hbm, ⟨47, _⟩ => ⟨S16x256x2048, .f32⟩
  | .hbm, ⟨48, _⟩ => ⟨S1x1x2048, .f32⟩
  | .hbm, ⟨49, _⟩ => ⟨S16x256x2048, .f32⟩
  | .hbm, ⟨50, _⟩ => ⟨S16x256x2048, .f32⟩
  | .hbm, ⟨51, _⟩ => ⟨S_, .f32⟩
  | .hbm, ⟨52, _⟩ => ⟨S2048, .f32⟩
  | .hbm, ⟨53, _⟩ => ⟨S2048, .f32⟩
  | .hbm, ⟨54, _⟩ => ⟨S1x1x2048, .f32⟩
  | .hbm, ⟨55, _⟩ => ⟨S16x256x2048, .f32⟩
  | .hbm, ⟨56, _⟩ => ⟨S16x256x2048, .f32⟩
  | .hbm, ⟨57, _⟩ => ⟨S1x1x2048, .f32⟩
  | .hbm, ⟨58, _⟩ => ⟨S16x256x2048, .f32⟩
  | .hbm, ⟨59, _⟩ => ⟨S16x256x2048, .f32⟩
  | .hbm, ⟨60, _⟩ => ⟨S32768x2048, .f32⟩
  | .hbm, ⟨61, _⟩ => ⟨S4096x2048, .f32⟩
  | .hbm, ⟨62, _⟩ => ⟨S36864x2048, .f32⟩
  | .hbm, ⟨63, _⟩ => ⟨S36864x10368, .f32⟩
  | .hbm, ⟨64, _⟩ => ⟨S36864x512, .f32⟩
  | .hbm, ⟨65, _⟩ => ⟨S36864x512, .f32⟩
  | .hbm, ⟨66, _⟩ => ⟨S36864x96, .f32⟩
  | .hbm, ⟨67, _⟩ => ⟨S36864x96, .f32⟩
  | .hbm, ⟨68, _⟩ => ⟨S36864x96, .f32⟩
  | .hbm, ⟨69, _⟩ => ⟨S36864x96, .f32⟩
  | .hbm, ⟨70, _⟩ => ⟨S36864x256, .f32⟩
  | .hbm, ⟨71, _⟩ => ⟨S36864x256, .f32⟩
  | .hbm, ⟨72, _⟩ => ⟨S36864x512, .f32⟩
  | .hbm, ⟨73, _⟩ => ⟨S36864x256, .f32⟩
  | .hbm, ⟨74, _⟩ => ⟨S36864x1024, .f32⟩
  | .hbm, ⟨75, _⟩ => ⟨S36864x512, .f32⟩
  | .hbm, ⟨76, _⟩ => ⟨S36864x6144, .f32⟩
  | .hbm, ⟨77, _⟩ => ⟨S_, .f32⟩
  | .hbm, ⟨78, _⟩ => ⟨S36864x32, .f32⟩
  | .hbm, ⟨79, _⟩ => ⟨S_, .f32⟩
  | .hbm, ⟨80, _⟩ => ⟨S36864x256, .f32⟩
  | .hbm, ⟨81, _⟩ => ⟨S36864x10240, .f32⟩
  | .hbm, ⟨82, _⟩ => ⟨S36864x512, .f32⟩
  | .hbm, ⟨83, _⟩ => ⟨S36864x10752, .f32⟩
  | .hbm, ⟨84, _⟩ => ⟨S36864x10752, .bf16⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_7 : Ref sig .tc := ⟨.hbm, 77, rfl⟩
abbrev main_v63 : Ref sig .tc := ⟨.hbm, 78, rfl⟩
abbrev main_cst_8 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩

abbrev nD : Nat := 1
abbrev τ : Topo := Topo.v7x

variable {F : FTy → Type} [FloatOps F]
-- ==== Merge.lean ====
abbrev S36864x512 : Shape := ⟨2, ![36864, 512]⟩
abbrev S36864x1024 : Shape := ⟨2, ![36864, 1024]⟩
abbrev S36864x10752 : Shape := ⟨2, ![36864, 10752]⟩
abbrev S512x2048 : Shape := ⟨2, ![512, 2048]⟩
abbrev S1024x2048 : Shape := ⟨2, ![1024, 2048]⟩
abbrev S36864x2048 : Shape := ⟨2, ![36864, 2048]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 11
  | .vmem => 20
  | .smem => 0
  | _ => 0

abbrev bufTy : (tb : Table) → Fin (tcTables nBuf tb) → BufTy
  | .hbm, ⟨0, _⟩ => ⟨S36864x512, .bf16⟩
  | .hbm, ⟨1, _⟩ => ⟨S36864x512, .bf16⟩
  | .hbm, ⟨2, _⟩ => ⟨S36864x1024, .bf16⟩
  | .hbm, ⟨3, _⟩ => ⟨S36864x10752, .bf16⟩
  | .hbm, ⟨4, _⟩ => ⟨S512x2048, .f32⟩
  | .hbm, ⟨5, _⟩ => ⟨S512x2048, .f32⟩
  | .hbm, ⟨6, _⟩ => ⟨S1024x2048, .f32⟩
  | .hbm, ⟨7, _⟩ => ⟨S512x2048, .bf16⟩
  | .hbm, ⟨8, _⟩ => ⟨S512x2048, .bf16⟩
  | .hbm, ⟨9, _⟩ => ⟨S1024x2048, .bf16⟩
  | .hbm, ⟨10, _⟩ => ⟨S36864x2048, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | _, _ => ⟨S36864x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 36], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeRefIdeal.lean ====
abbrev S36864x512 : Shape := ⟨2, ![36864, 512]⟩
abbrev S36864x1024 : Shape := ⟨2, ![36864, 1024]⟩
abbrev S36864x10752 : Shape := ⟨2, ![36864, 10752]⟩
abbrev S512x2048 : Shape := ⟨2, ![512, 2048]⟩
abbrev S1024x2048 : Shape := ⟨2, ![1024, 2048]⟩
abbrev S36864x6144 : Shape := ⟨2, ![36864, 6144]⟩
abbrev S_ : Shape := ⟨0, ![]⟩
abbrev S36864x2048 : Shape := ⟨2, ![36864, 2048]⟩

abbrev nBuf : Space → Nat
  | .hbm => 32
  | .vmem => 0
  | .smem => 0
  | _ => 0

abbrev bufTy : (tb : Table) → Fin (tcTables nBuf tb) → BufTy
  | .hbm, ⟨0, _⟩ => ⟨S36864x512, .bf16⟩
  | .hbm, ⟨1, _⟩ => ⟨S36864x512, .bf16⟩
  | .hbm, ⟨2, _⟩ => ⟨S36864x1024, .bf16⟩
  | .hbm, ⟨3, _⟩ => ⟨S36864x10752, .bf16⟩
  | .hbm, ⟨4, _⟩ => ⟨S512x2048, .f32⟩
  | .hbm, ⟨5, _⟩ => ⟨S512x2048, .f32⟩
  | .hbm, ⟨6, _⟩ => ⟨S1024x2048, .f32⟩
  | .hbm, ⟨7, _⟩ => ⟨S36864x10752, .f32⟩
  | .hbm, ⟨8, _⟩ => ⟨S36864x6144, .f32⟩
  | .hbm, ⟨9, _⟩ => ⟨S36864x6144, .f32⟩
  | .hbm, ⟨10, _⟩ => ⟨S36864x6144, .f32⟩
  | .hbm, ⟨11, _⟩ => ⟨S_, .f32⟩
  | .hbm, ⟨12, _⟩ => ⟨S36864x6144, .f32⟩
  | .hbm, ⟨13, _⟩ => ⟨S36864x6144, .f32⟩
  | .hbm, ⟨14, _⟩ => ⟨S_, .f32⟩
  | .hbm, ⟨15, _⟩ => ⟨S36864x6144, .f32⟩
  | .hbm, ⟨16, _⟩ => ⟨S36864x6144, .f32⟩
  | .hbm, ⟨17, _⟩ => ⟨S36864x2048, .f32⟩
  | .hbm, ⟨18, _⟩ => ⟨S36864x2048, .f32⟩
  | .hbm, ⟨19, _⟩ => ⟨S36864x2048, .f32⟩
  | .hbm, ⟨20, _⟩ => ⟨S36864x512, .f32⟩
  | .hbm, ⟨21, _⟩ => ⟨S36864x2048, .f32⟩
  | .hbm, ⟨22, _⟩ => ⟨S36864x2048, .f32⟩
  | .hbm, ⟨23, _⟩ => ⟨S36864x512, .f32⟩
  | .hbm, ⟨24, _⟩ => ⟨S36864x2048, .f32⟩
  | .hbm, ⟨25, _⟩ => ⟨S36864x2048, .f32⟩
  | .hbm, ⟨26, _⟩ => ⟨S36864x2048, .f32⟩
  | .hbm, ⟨27, _⟩ => ⟨S36864x1024, .f32⟩
  | .hbm, ⟨28, _⟩ => ⟨S36864x2048, .f32⟩
  | .hbm, ⟨29, _⟩ => ⟨S36864x2048, .f32⟩
  | .hbm, ⟨30, _⟩ => ⟨S36864x2048, .f32⟩
  | .hbm, ⟨31, _⟩ => ⟨S36864x2048, .bf16⟩
  | _, _ => ⟨S36864x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== OutProj.lean ====
abbrev S36864x2048 : Shape := ⟨2, ![36864, 2048]⟩
abbrev S16x2048x2048 : Shape := ⟨3, ![16, 2048, 2048]⟩
abbrev S16x256x2048 : Shape := ⟨3, ![16, 256, 2048]⟩
abbrev S16x12288 : Shape := ⟨2, ![16, 12288]⟩
abbrev S12288 : Shape := ⟨1, ![12288]⟩
abbrev S2048x2048 : Shape := ⟨2, ![2048, 2048]⟩
abbrev S1x12288 : Shape := ⟨2, ![1, 12288]⟩
abbrev S_ : Shape := ⟨0, ![]⟩
abbrev S15x12288 : Shape := ⟨2, ![15, 12288]⟩
abbrev S32x12288 : Shape := ⟨2, ![32, 12288]⟩
abbrev S32x6x1x2048 : Shape := ⟨4, ![32, 6, 1, 2048]⟩
abbrev S32768x2048 : Shape := ⟨2, ![32768, 2048]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩
abbrev S1x1x1x1024 : Shape := ⟨4, ![1, 1, 1, 1024]⟩
abbrev S1x1024 : Shape := ⟨2, ![1, 1024]⟩

abbrev nBuf : Space → Nat
  | .hbm => 16
  | .vmem => 10
  | .smem => 0
  | _ => 0

abbrev bufTy : (tb : Table) → Fin (tcTables nBuf tb) → BufTy
  | .hbm, ⟨0, _⟩ => ⟨S36864x2048, .bf16⟩
  | .hbm, ⟨1, _⟩ => ⟨S16x2048x2048, .f32⟩
  | .hbm, ⟨2, _⟩ => ⟨S16x256x2048, .f32⟩
  | .hbm, ⟨3, _⟩ => ⟨S16x12288, .f32⟩
  | .hbm, ⟨4, _⟩ => ⟨S12288, .f32⟩
  | .hbm, ⟨5, _⟩ => ⟨S2048x2048, .f32⟩
  | .hbm, ⟨6, _⟩ => ⟨S1x12288, .f32⟩
  | .hbm, ⟨7, _⟩ => ⟨S_, .f32⟩
  | .hbm, ⟨8, _⟩ => ⟨S15x12288, .f32⟩
  | .hbm, ⟨9, _⟩ => ⟨S32x12288, .f32⟩
  | .hbm, ⟨10, _⟩ => ⟨S32x6x1x2048, .f32⟩
  | .hbm, ⟨11, _⟩ => ⟨S32768x2048, .f32⟩
  | .hbm, ⟨12, _⟩ => ⟨S4096x2048, .f32⟩
  | .hbm, ⟨13, _⟩ => ⟨S36864x2048, .f32⟩
  | .hbm, ⟨14, _⟩ => ⟨S2048x2048, .bf16⟩
  | .hbm, ⟨15, _⟩ => ⟨S36864x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1024x1024, .f32⟩
  | .local _ .vmem, ⟨9, _⟩ => ⟨S1024x1024, .f32⟩
  | _, _ => ⟨S36864x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 36], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32 : BitVec 32 := 16#32
  let v17 : BitVec 32 := Scalar.minsi v16 c16_i32
  let c2_i32_4 : BitVec 32 := 2#32
  let c0_i32_5 : BitVec 32 := 0#32
  let c0_i32_6 : BitVec 32 := 0#32
  ![v17.toNat, c2_i32_4.toNat, c0_i32_5.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutProjRefIdeal.lean ====
abbrev S36864x2048 : Shape := ⟨2, ![36864, 2048]⟩
abbrev S16x2048x2048 : Shape := ⟨3, ![16, 2048, 2048]⟩
abbrev S16x256x2048 : Shape := ⟨3, ![16, 256, 2048]⟩
abbrev S16x12288 : Shape := ⟨2, ![16, 12288]⟩
abbrev S12288 : Shape := ⟨1, ![12288]⟩
abbrev S2048x2048 : Shape := ⟨2, ![2048, 2048]⟩
abbrev S16x2048 : Shape := ⟨2, ![16, 2048]⟩
abbrev S16x1x2048 : Shape := ⟨3, ![16, 1, 2048]⟩
abbrev S32768x2048 : Shape := ⟨2, ![32768, 2048]⟩
abbrev S2048 : Shape := ⟨1, ![2048]⟩
abbrev S4096x2048 : Shape := ⟨2, ![4096, 2048]⟩
abbrev S1x1x2048 : Shape := ⟨3, ![1, 1, 2048]⟩

abbrev nBuf : Space → Nat
  | .hbm => 25
  | .vmem => 0
  | .smem => 0
  | _ => 0

abbrev bufTy : (tb : Table) → Fin (tcTables nBuf tb) → BufTy
  | .hbm, ⟨0, _⟩ => ⟨S36864x2048, .bf16⟩
  | .hbm, ⟨1, _⟩ => ⟨S16x2048x2048, .f32⟩
  | .hbm, ⟨2, _⟩ => ⟨S16x256x2048, .f32⟩
  | .hbm, ⟨3, _⟩ => ⟨S16x12288, .f32⟩
  | .hbm, ⟨4, _⟩ => ⟨S12288, .f32⟩
  | .hbm, ⟨5, _⟩ => ⟨S2048x2048, .f32⟩
  | .hbm, ⟨6, _⟩ => ⟨S36864x2048, .f32⟩
  | .hbm, ⟨7, _⟩ => ⟨S36864x2048, .f32⟩
  | .hbm, ⟨8, _⟩ => ⟨S16x2048, .f32⟩
  | .hbm, ⟨9, _⟩ => ⟨S16x1x2048, .f32⟩
  | .hbm, ⟨10, _⟩ => ⟨S32768x2048, .f32⟩
  | .hbm, ⟨11, _⟩ => ⟨S16x2048x2048, .f32⟩
  | .hbm, ⟨12, _⟩ => ⟨S16x2048x2048, .f32⟩
  | .hbm, ⟨13, _⟩ => ⟨S16x2048x2048, .f32⟩
  | .hbm, ⟨14, _⟩ => ⟨S16x2048x2048, .f32⟩
  | .hbm, ⟨15, _⟩ => ⟨S2048, .f32⟩
  | .hbm, ⟨16, _⟩ => ⟨S4096x2048, .f32⟩
  | .hbm, ⟨17, _⟩ => ⟨S16x256x2048, .f32⟩
  | .hbm, ⟨18, _⟩ => ⟨S1x1x2048, .f32⟩
  | .hbm, ⟨19, _⟩ => ⟨S16x256x2048, .f32⟩
  | .hbm, ⟨20, _⟩ => ⟨S16x256x2048, .f32⟩
  | .hbm, ⟨21, _⟩ => ⟨S16x256x2048, .f32⟩
  | .hbm, ⟨22, _⟩ => ⟨S32768x2048, .f32⟩
  | .hbm, ⟨23, _⟩ => ⟨S4096x2048, .f32⟩
  | .hbm, ⟨24, _⟩ => ⟨S36864x2048, .f32⟩
  | _, _ => ⟨S36864x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Moe.lean ====
abbrev S36864x2048 : Shape := ⟨2, ![36864, 2048]⟩
abbrev S36864x128 : Shape := ⟨2, ![36864, 128]⟩
abbrev S16x2048x2048 : Shape := ⟨3, ![16, 2048, 2048]⟩
abbrev S16x256x2048 : Shape := ⟨3, ![16, 256, 2048]⟩
abbrev S16x12288 : Shape := ⟨2, ![16, 12288]⟩
abbrev S12288 : Shape := ⟨1, ![12288]⟩
abbrev S32x2048x1024 : Shape := ⟨3, ![32, 2048, 1024]⟩
abbrev S32x1024 : Shape := ⟨2, ![32, 1024]⟩
abbrev S32x512x2048 : Shape := ⟨3, ![32, 512, 2048]⟩
abbrev S32x2048 : Shape := ⟨2, ![32, 2048]⟩
abbrev S1x12288 : Shape := ⟨2, ![1, 12288]⟩
abbrev S_ : Shape := ⟨0, ![]⟩
abbrev S15x12288 : Shape := ⟨2, ![15, 12288]⟩
abbrev S32x12288 : Shape := ⟨2, ![32, 12288]⟩
abbrev S32x6x1x2048 : Shape := ⟨4, ![32, 6, 1, 2048]⟩
abbrev S32768x2048 : Shape := ⟨2, ![32768, 2048]⟩
abbrev S4096x2048 : Shape := ⟨2, ![4096, 2048]⟩
abbrev S32x1x1024 : Shape := ⟨3, ![32, 1, 1024]⟩
abbrev S32x1x2048 : Shape := ⟨3, ![32, 1, 2048]⟩
abbrev S512x2048 : Shape := ⟨2, ![512, 2048]⟩
abbrev S512x128 : Shape := ⟨2, ![512, 128]⟩
abbrev S1x2048x1024 : Shape := ⟨3, ![1, 2048, 1024]⟩
abbrev S1x1x1024 : Shape := ⟨3, ![1, 1, 1024]⟩
abbrev S1x512x2048 : Shape := ⟨3, ![1, 512, 2048]⟩
abbrev S1x1x2048 : Shape := ⟨3, ![1, 1, 2048]⟩
abbrev S1x1x1x2048 : Shape := ⟨4, ![1, 1, 1, 2048]⟩
abbrev S2048x1024 : Shape := ⟨2, ![2048, 1024]⟩
abbrev S1x1024 : Shape := ⟨2, ![1, 1024]⟩
abbrev S1x2048 : Shape := ⟨2, ![1, 2048]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 23
  | .vmem => 19
  | .smem => 0
  | _ => 0

abbrev bufTy : (tb : Table) → Fin (tcTables nBuf tb) → BufTy
  | .hbm, ⟨0, _⟩ => ⟨S36864x2048, .bf16⟩
  | .hbm, ⟨1, _⟩ => ⟨S36864x128, .f32⟩
  | .hbm, ⟨2, _⟩ => ⟨S16x2048x2048, .f32⟩
  | .hbm, ⟨3, _⟩ => ⟨S16x256x2048, .f32⟩
  | .hbm, ⟨4, _⟩ => ⟨S16x12288, .f32⟩
  | .hbm, ⟨5, _⟩ => ⟨S12288, .f32⟩
  | .hbm, ⟨6, _⟩ => ⟨S32x2048x1024, .f32⟩
  | .hbm, ⟨7, _⟩ => ⟨S32x1024, .f32⟩
  | .hbm, ⟨8, _⟩ => ⟨S32x512x2048, .f32⟩
  | .hbm, ⟨9, _⟩ => ⟨S32x2048, .f32⟩
  | .hbm, ⟨10, _⟩ => ⟨S1x12288, .f32⟩
  | .hbm, ⟨11, _⟩ => ⟨S_, .f32⟩
  | .hbm, ⟨12, _⟩ => ⟨S15x12288, .f32⟩
  | .hbm, ⟨13, _⟩ => ⟨S32x12288, .f32⟩
  | .hbm, ⟨14, _⟩ => ⟨S32x6x1x2048, .f32⟩
  | .hbm, ⟨15, _⟩ => ⟨S32768x2048, .f32⟩
  | .hbm, ⟨16, _⟩ => ⟨S4096x2048, .f32⟩
  | .hbm, ⟨17, _⟩ => ⟨S36864x2048, .f32⟩
  | .hbm, ⟨18, _⟩ => ⟨S32x2048x1024, .bf16⟩
  | .hbm, ⟨19, _⟩ => ⟨S32x1x1024, .f32⟩
  | .hbm, ⟨20, _⟩ => ⟨S32x512x2048, .bf16⟩
  | .hbm, ⟨21, _⟩ => ⟨S32x1x2048, .f32⟩
  | .hbm, ⟨22, _⟩ => ⟨S36864x2048, .f32⟩
  | .local _ .vmem, ⟨0, _⟩ => ⟨S512x2048, .bf16⟩
  | .local _ .vmem, ⟨1, _⟩ => ⟨S512x2048, .bf16⟩
  | .local _ .vmem, ⟨2, _⟩ => ⟨S512x128, .f32⟩
  | .local _ .vmem, ⟨3, _⟩ => ⟨S512x128, .f32⟩
  | .local _ .vmem, ⟨4, _⟩ => ⟨S1x2048x1024, .bf16⟩
  | .local _ .vmem, ⟨5, _⟩ => ⟨S1x2048x1024, .bf16⟩
  | .local _ .vmem, ⟨6, _⟩ => ⟨S1x1x1024, .f32⟩
  | .local _ .vmem, ⟨7, _⟩ => ⟨S1x1x1024, .f32⟩
  | .local _ .vmem, ⟨8, _⟩ => ⟨S1x512x2048, .bf16⟩
  | .local _ .vmem, ⟨9, _⟩ => ⟨S1x512x2048, .bf16⟩
  | .local _ .vmem, ⟨10, _⟩ => ⟨S1x1x2048, .f32⟩
  | .local _ .vmem, ⟨11, _⟩ => ⟨S1x1x2048, .f32⟩
  | .local _ .vmem, ⟨12, _⟩ => ⟨S512x2048, .f32⟩
  | .local _ .vmem, ⟨13, _⟩ => ⟨S512x2048, .f32⟩
  | .local _ .vmem, ⟨14, _⟩ => ⟨S1x1x1x2048, .f32⟩
  | .local _ .vmem, ⟨15, _⟩ => ⟨S1x1x1x2048, .f32⟩
  | .local _ .vmem, ⟨16, _⟩ => ⟨S512x2048, .f32⟩
  | .local _ .vmem, ⟨17, _⟩ => ⟨S512x2048, .f32⟩
  | .local _ .vmem, ⟨18, _⟩ => ⟨S512x2048, .f32⟩
  | _, _ => ⟨S36864x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![72, 32], ![false, false]⟩

def k0_cond2 (i : grid0.Coords) : BitVec 1 :=
  let arg1 : BitVec 32 := BitVec.ofNat 32 (i 1).val
  let c31_i32 : BitVec 32 := 31#32
  let v55 : BitVec 1 := Scalar.cmpi .eq arg1 c31_i32
  let v56 : BitVec 32 := Scalar.extui v55
  let c0_i32_31 : BitVec 32 := 0#32
  let v57 : BitVec 1 := Scalar.cmpi .ne v56 c0_i32_31
  v57

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32 : BitVec 32 := 16#32
  let v17 : BitVec 32 := Scalar.minsi v16 c16_i32
  let c5_i32 : BitVec 32 := 5#32
  let c0_i32_4 : BitVec 32 := 0#32
  let c0_i32_5 : BitVec 32 := 0#32
  let c0_i32_6 : BitVec 32 := 0#32
  ![v17.toNat, c5_i32.toNat, c0_i32_4.toNat, c0_i32_5.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== MoeRefIdeal.lean ====
abbrev S36864x2048 : Shape := ⟨2, ![36864, 2048]⟩
abbrev S36864x128 : Shape := ⟨2, ![36864, 128]⟩
abbrev S16x2048x2048 : Shape := ⟨3, ![16, 2048, 2048]⟩
abbrev S16x256x2048 : Shape := ⟨3, ![16, 256, 2048]⟩
abbrev S16x12288 : Shape := ⟨2, ![16, 12288]⟩
abbrev S12288 : Shape := ⟨1, ![12288]⟩
abbrev S32x2048x1024 : Shape := ⟨3, ![32, 2048, 1024]⟩
abbrev S32x1024 : Shape := ⟨2, ![32, 1024]⟩
abbrev S32x512x2048 : Shape := ⟨3, ![32, 512, 2048]⟩
abbrev S32x2048 : Shape := ⟨2, ![32, 2048]⟩
abbrev S32x1024x36864 : Shape := ⟨3, ![32, 1024, 36864]⟩
abbrev S32x36864x1024 : Shape := ⟨3, ![32, 36864, 1024]⟩
abbrev S32x1x1024 : Shape := ⟨3, ![32, 1, 1024]⟩
abbrev S32x36864x512 : Shape := ⟨3, ![32, 36864, 512]⟩
abbrev S_ : Shape := ⟨0, ![]⟩
abbrev S32x36864x2048 : Shape := ⟨3, ![32, 36864, 2048]⟩
abbrev S32x1x2048 : Shape := ⟨3, ![32, 1, 2048]⟩
abbrev S36864x32 : Shape := ⟨2, ![36864, 32]⟩
abbrev S32x36864 : Shape := ⟨2, ![32, 36864]⟩
abbrev S32x36864x1 : Shape := ⟨3, ![32, 36864, 1]⟩
abbrev S16x2048 : Shape := ⟨2, ![16, 2048]⟩
abbrev S16x1x2048 : Shape := ⟨3, ![16, 1, 2048]⟩
abbrev S32768x2048 : Shape := ⟨2, ![32768, 2048]⟩
abbrev S2048 : Shape := ⟨1, ![2048]⟩
abbrev S4096x2048 : Shape := ⟨2, ![4096, 2048]⟩
abbrev S1x1x2048 : Shape := ⟨3, ![1, 1, 2048]⟩

abbrev nBuf : Space → Nat
  | .hbm => 73
  | .vmem => 0
  | .smem => 0
  | _ => 0

abbrev bufTy : (tb : Table) → Fin (tcTables nBuf tb) → BufTy
  | .hbm, ⟨0, _⟩ => ⟨S36864x2048, .bf16⟩
  | .hbm, ⟨1, _⟩ => ⟨S36864x128, .f32⟩
  | .hbm, ⟨2, _⟩ => ⟨S16x2048x2048, .f32⟩
  | .hbm, ⟨3, _⟩ => ⟨S16x256x2048, .f32⟩
  | .hbm, ⟨4, _⟩ => ⟨S16x12288, .f32⟩
  | .hbm, ⟨5, _⟩ => ⟨S12288, .f32⟩
  | .hbm, ⟨6, _⟩ => ⟨S32x2048x1024, .f32⟩
  | .hbm, ⟨7, _⟩ => ⟨S32x1024, .f32⟩
  | .hbm, ⟨8, _⟩ => ⟨S32x512x2048, .f32⟩
  | .hbm, ⟨9, _⟩ => ⟨S32x2048, .f32⟩
  | .hbm, ⟨10, _⟩ => ⟨S36864x2048, .f32⟩
  | .hbm, ⟨11, _⟩ => ⟨S32x1024x36864, .f32⟩
  | .hbm, ⟨12, _⟩ => ⟨S32x36864x1024, .f32⟩
  | .hbm, ⟨13, _⟩ => ⟨S32x1x1024, .f32⟩
  | .hbm, ⟨14, _⟩ => ⟨S32x36864x1024, .f32⟩
  | .hbm, ⟨15, _⟩ => ⟨S32x36864x1024, .f32⟩
  | .hbm, ⟨16, _⟩ => ⟨S32x36864x512, .f32⟩
  | .hbm, ⟨17, _⟩ => ⟨S_, .f32⟩
  | .hbm, ⟨18, _⟩ => ⟨S32x36864x512, .f32⟩
  | .hbm, ⟨19, _⟩ => ⟨S32x36864x512, .f32⟩
  | .hbm, ⟨20, _⟩ => ⟨S32x36864x512, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S32x36864x512, .f32⟩
  | .hbm, ⟨25, _⟩ => ⟨S32x36864x512, .f32⟩
  | .hbm, ⟨26, _⟩ => ⟨S_, .f32⟩
  | .hbm, ⟨27, _⟩ => ⟨S32x36864x512, .f32⟩
  | .hbm, ⟨28, _⟩ => ⟨S32x36864x512, .f32⟩
  | .hbm, ⟨29, _⟩ => ⟨S_, .f32⟩
  | .hbm, ⟨30, _⟩ => ⟨S32x36864x512, .f32⟩
  | .hbm, ⟨31, _⟩ => ⟨S32x36864x512, .f32⟩
  | .hbm, ⟨32, _⟩ => ⟨S32x36864x512, .f32⟩
  | .hbm, ⟨33, _⟩ => ⟨S_, .f32⟩
  | .hbm, ⟨34, _⟩ => ⟨S32x36864x512, .f32⟩
  | .hbm, ⟨35, _⟩ => ⟨S32x36864x512, .f32⟩
  | .hbm, ⟨36, _⟩ => ⟨S32x36864x512, .f32⟩
  | .hbm, ⟨37, _⟩ => ⟨S32x36864x512, .f32⟩
  | .hbm, ⟨38, _⟩ => ⟨S_, .f32⟩
  | .hbm, ⟨39, _⟩ => ⟨S32x36864x512, .f32⟩
  | .hbm, ⟨40, _⟩ => ⟨S32x36864x512, .f32⟩
  | .hbm, ⟨41, _⟩ => ⟨S_, .f32⟩
  | .hbm, ⟨42, _⟩ => ⟨S32x36864x512, .f32⟩
  | .hbm, ⟨43, _⟩ => ⟨S32x36864x512, .f32⟩
  | .hbm, ⟨44, _⟩ => ⟨S32x36864x512, .f32⟩
  | .hbm, ⟨45, _⟩ => ⟨S32x36864x2048, .f32⟩
  | .hbm, ⟨46, _⟩ => ⟨S32x1x2048, .f32⟩
  | .hbm, ⟨47, _⟩ => ⟨S32x36864x2048, .f32⟩
  | .hbm, ⟨48, _⟩ => ⟨S32x36864x2048, .f32⟩
  | .hbm, ⟨49, _⟩ => ⟨S36864x32, .f32⟩
  | .hbm, ⟨50, _⟩ => ⟨S32x36864, .f32⟩
  | .hbm, ⟨51, _⟩ => ⟨S32x36864x1, .f32⟩
  | .hbm, ⟨52, _⟩ => ⟨S32x36864x2048, .f32⟩
  | .hbm, ⟨53, _⟩ => ⟨S32x36864x2048, .f32⟩
  | .hbm, ⟨54, _⟩ => ⟨S_, .f32⟩
  | .hbm, ⟨55, _⟩ => ⟨S36864x2048, .f32⟩
  | .hbm, ⟨56, _⟩ => ⟨S16x2048, .f32⟩
  | .hbm, ⟨57, _⟩ => ⟨S16x1x2048, .f32⟩
  | .hbm, ⟨58, _⟩ => ⟨S32768x2048, .f32⟩
  | .hbm, ⟨59, _⟩ => ⟨S16x2048x2048, .f32⟩
  | .hbm, ⟨60, _⟩ => ⟨S16x2048x2048, .f32⟩
  | .hbm, ⟨61, _⟩ => ⟨S16x2048x2048, .f32⟩
  | .hbm, ⟨62, _⟩ => ⟨S16x2048x2048, .f32⟩
  | .hbm, ⟨63, _⟩ => ⟨S2048, .f32⟩
  | .hbm, ⟨64, _⟩ => ⟨S4096x2048, .f32⟩
  | .hbm, ⟨65, _⟩ => ⟨S16x256x2048, .f32⟩
  | .hbm, ⟨66, _⟩ => ⟨S1x1x2048, .f32⟩
  | .hbm, ⟨67, _⟩ => ⟨S16x256x2048, .f32⟩
  | .hbm, ⟨68, _⟩ => ⟨S16x256x2048, .f32⟩
  | .hbm, ⟨69, _⟩ => ⟨S16x256x2048, .f32⟩
  | .hbm, ⟨70, _⟩ => ⟨S32768x2048, .f32⟩
  | .hbm, ⟨71, _⟩ => ⟨S4096x2048, .f32⟩
  | .hbm, ⟨72, _⟩ => ⟨S36864x2048, .f32⟩
  | _, _ => ⟨S36864x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v10 : Ref sig .tc := ⟨.hbm, 28, rfl⟩
abbrev main_cst_2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_3 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_4 : Ref sig .tc := ⟨.hbm, 38, rfl⟩
abbrev main_v18 : Ref sig .tc := ⟨.hbm, 39, rfl⟩
abbrev main_v19 : Ref sig .tc := ⟨.hbm, 40, rfl⟩
abbrev main_cst_5 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_6 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩

abbrev nD : Nat := 1
abbrev τ : Topo := Topo.v7x

variable {F : FTy → Type} [FloatOps F]
-- ==== FourCh.lean ====
abbrev S36864x10752 : Shape := ⟨2, ![36864, 10752]⟩
abbrev S128x128 : Shape := ⟨2, ![128, 128]⟩
abbrev S4x4 : Shape := ⟨2, ![4, 4]⟩
abbrev S_ : Shape := ⟨0, ![]⟩
abbrev S4x1x4x1 : Shape := ⟨4, ![4, 1, 4, 1]⟩
abbrev S1x128x1x128 : Shape := ⟨4, ![1, 128, 1, 128]⟩
abbrev S4x128x4x128 : Shape := ⟨4, ![4, 128, 4, 128]⟩
abbrev S512x512 : Shape := ⟨2, ![512, 512]⟩
abbrev S512x1024 : Shape := ⟨2, ![512, 1024]⟩
abbrev S36864x1024 : Shape := ⟨2, ![36864, 1024]⟩
abbrev S256x512 : Shape := ⟨2, ![256, 512]⟩
abbrev S256x1024 : Shape := ⟨2, ![256, 1024]⟩

abbrev nBuf : Space → Nat
  | .hbm => 25
  | .vmem => 5
  | .smem => 0
  | _ => 0

abbrev bufTy : (tb : Table) → Fin (tcTables nBuf tb) → BufTy
  | .hbm, ⟨0, _⟩ => ⟨S36864x10752, .bf16⟩
  | .hbm, ⟨1, _⟩ => ⟨S128x128, .f32⟩
  | .hbm, ⟨2, _⟩ => ⟨S128x128, .f32⟩
  | .hbm, ⟨3, _⟩ => ⟨S4x4, .i32⟩
  | .hbm, ⟨4, _⟩ => ⟨S4x4, .i32⟩
  | .hbm, ⟨5, _⟩ => ⟨S_, .i32⟩
  | .hbm, ⟨6, _⟩ => ⟨S4x4, .i32⟩
  | .hbm, ⟨7, _⟩ => ⟨S4x4, .i32⟩
  | .hbm, ⟨8, _⟩ => ⟨S4x4, .i1⟩
  | .hbm, ⟨9, _⟩ => ⟨S4x4, .f32⟩
  | .hbm, ⟨10, _⟩ => ⟨S4x1x4x1, .f32⟩
  | .hbm, ⟨11, _⟩ => ⟨S1x128x1x128, .f32⟩
  | .hbm, ⟨12, _⟩ => ⟨S4x128x4x128, .f32⟩
  | .hbm, ⟨13, _⟩ => ⟨S4x128x4x128, .f32⟩
  | .hbm, ⟨14, _⟩ => ⟨S4x128x4x128, .f32⟩
  | .hbm, ⟨15, _⟩ => ⟨S512x512, .f32⟩
  | .hbm, ⟨16, _⟩ => ⟨S4x1x4x1, .f32⟩
  | .hbm, ⟨17, _⟩ => ⟨S1x128x1x128, .f32⟩
  | .hbm, ⟨18, _⟩ => ⟨S4x128x4x128, .f32⟩
  | .hbm, ⟨19, _⟩ => ⟨S4x128x4x128, .f32⟩
  | .hbm, ⟨20, _⟩ => ⟨S4x128x4x128, .f32⟩
  | .hbm, ⟨21, _⟩ => ⟨S512x512, .f32⟩
  | .hbm, ⟨22, _⟩ => ⟨S512x1024, .f32⟩
  | .hbm, ⟨23, _⟩ => ⟨S512x1024, .bf16⟩
  | .hbm, ⟨24, _⟩ => ⟨S36864x1024, .bf16⟩
  | .local _ .vmem, ⟨0, _⟩ => ⟨S256x512, .bf16⟩
  | .local _ .vmem, ⟨1, _⟩ => ⟨S256x512, .bf16⟩
  | .local _ .vmem, ⟨2, _⟩ => ⟨S512x1024, .bf16⟩
  | .local _ .vmem, ⟨3, _⟩ => ⟨S256x1024, .bf16⟩
  | .local _ .vmem, ⟨4, _⟩ => ⟨S256x1024, .bf16⟩
  | _, _ => ⟨S36864x10752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![144], ![false]⟩

def cc0_transform_0 (i : grid0.Coords) : Fin 2 → Nat :=
  let arg0 : BitVec 32 := BitVec.ofNat 32 (i 0).val
  let c18_i32 : BitVec 32 := 18#32
  let c0_i32 : BitVec 32 := 0#32
  ![arg0.toNat, c18_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FourChRefIdeal.lean ====
abbrev S36864x10752 : Shape := ⟨2, ![36864, 10752]⟩
abbrev S128x128 : Shape := ⟨2, ![128, 128]⟩
abbrev S36864x512 : Shape := ⟨2, ![36864, 512]⟩
abbrev S36864x4x128 : Shape := ⟨3, ![36864, 4, 128]⟩
abbrev S36864x1024 : Shape := ⟨2, ![36864, 1024]⟩

abbrev nBuf : Space → Nat
  | .hbm => 12
  | .vmem => 0
  | .smem => 0
  | _ => 0

abbrev bufTy : (tb : Table) → Fin (tcTables nBuf tb) → BufTy
  | .hbm, ⟨0, _⟩ => ⟨S36864x10752, .bf16⟩
  | .hbm, ⟨1, _⟩ => ⟨S128x128, .f32⟩
  | .hbm, ⟨2, _⟩ => ⟨S128x128, .f32⟩
  | .hbm, ⟨3, _⟩ => ⟨S36864x10752, .f32⟩
  | .hbm, ⟨4, _⟩ => ⟨S36864x512, .f32⟩
  | .hbm, ⟨5, _⟩ => ⟨S36864x4x128, .f32⟩
  | .hbm, ⟨6, _⟩ => ⟨S36864x4x128, .f32⟩
  | .hbm, ⟨7, _⟩ => ⟨S36864x4x128, .f32⟩
  | .hbm, ⟨8, _⟩ => ⟨S36864x512, .f32⟩
  | .hbm, ⟨9, _⟩ => ⟨S36864x512, .f32⟩
  | .hbm, ⟨10, _⟩ => ⟨S36864x1024, .f32⟩
  | .hbm, ⟨11, _⟩ => ⟨S36864x1024, .bf16⟩
  | _, _ => ⟨S36864x10752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== FourLat.lean ====
abbrev S36864x1024 : Shape := ⟨2, ![36864, 1024]⟩
abbrev S2048x2048 : Shape := ⟨2, ![2048, 2048]⟩
abbrev S32768x512 : Shape := ⟨2, ![32768, 512]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 6
  | .vmem => 10
  | .smem => 0
  | _ => 0

abbrev bufTy : (tb : Table) → Fin (tcTables nBuf tb) → BufTy
  | .hbm, ⟨0, _⟩ => ⟨S36864x1024, .bf16⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2048x2048, .bf16⟩
  | .hbm, ⟨5, _⟩ => ⟨S32768x512, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S1024x512, .bf16⟩
  | .local _ .vmem, ⟨9, _⟩ => ⟨S1024x512, .bf16⟩
  | _, _ => ⟨S36864x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  ![v0.toNat, c1_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c0_i32 : BitVec 32 := 0#32
  let c0_i32_0 : BitVec 32 := 0#32
  ![v1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FourLatRefIdeal.lean ====
abbrev S36864x1024 : Shape := ⟨2, ![36864, 1024]⟩
abbrev S2048x2048 : Shape := ⟨2, ![2048, 2048]⟩
abbrev S32768x1024 : Shape := ⟨2, ![32768, 1024]⟩
abbrev S16x2048x1024 : Shape := ⟨3, ![16, 2048, 1024]⟩
abbrev S16x2048x512 : Shape := ⟨3, ![16, 2048, 512]⟩
abbrev S16x512x2048 : Shape := ⟨3, ![16, 512, 2048]⟩
abbrev S32768x512 : Shape := ⟨2, ![32768, 512]⟩

abbrev nBuf : Space → Nat
  | .hbm => 15
  | .vmem => 0
  | .smem => 0
  | _ => 0

abbrev bufTy : (tb : Table) → Fin (tcTables nBuf tb) → BufTy
  | .hbm, ⟨0, _⟩ => ⟨S36864x1024, .bf16⟩
  | .hbm, ⟨1, _⟩ => ⟨S2048x2048, .f32⟩
  | .hbm, ⟨2, _⟩ => ⟨S2048x2048, .f32⟩
  | .hbm, ⟨3, _⟩ => ⟨S36864x1024, .f32⟩
  | .hbm, ⟨4, _⟩ => ⟨S32768x1024, .f32⟩
  | .hbm, ⟨5, _⟩ => ⟨S16x2048x1024, .f32⟩
  | .hbm, ⟨6, _⟩ => ⟨S16x2048x512, .f32⟩
  | .hbm, ⟨7, _⟩ => ⟨S16x512x2048, .f32⟩
  | .hbm, ⟨8, _⟩ => ⟨S16x2048x512, .f32⟩
  | .hbm, ⟨9, _⟩ => ⟨S16x2048x512, .f32⟩
  | .hbm, ⟨10, _⟩ => ⟨S16x512x2048, .f32⟩
  | .hbm, ⟨11, _⟩ => ⟨S16x2048x512, .f32⟩
  | .hbm, ⟨12, _⟩ => ⟨S16x2048x512, .f32⟩
  | .hbm, ⟨13, _⟩ => ⟨S32768x512, .f32⟩
  | .hbm, ⟨14, _⟩ => ⟨S32768x512, .bf16⟩
  | _, _ => ⟨S36864x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== FourCtx.lean ====
abbrev S36864x1024 : Shape := ⟨2, ![36864, 1024]⟩
abbrev S256x256 : Shape := ⟨2, ![256, 256]⟩
abbrev S4096x512 : Shape := ⟨2, ![4096, 512]⟩
abbrev S256x512 : Shape := ⟨2, ![256, 512]⟩

abbrev nBuf : Space → Nat
  | .hbm => 6
  | .vmem => 8
  | .smem => 0
  | _ => 0

abbrev bufTy : (tb : Table) → Fin (tcTables nBuf tb) → BufTy
  | .hbm, ⟨0, _⟩ => ⟨S36864x1024, .bf16⟩
  | .hbm, ⟨1, _⟩ => ⟨S256x256, .f32⟩
  | .hbm, ⟨2, _⟩ => ⟨S256x256, .f32⟩
  | .hbm, ⟨3, _⟩ => ⟨S256x256, .bf16⟩
  | .hbm, ⟨4, _⟩ => ⟨S256x256, .bf16⟩
  | .hbm, ⟨5, _⟩ => ⟨S4096x512, .bf16⟩
  | .local _ .vmem, ⟨0, _⟩ => ⟨S256x256, .bf16⟩
  | .local _ .vmem, ⟨1, _⟩ => ⟨S256x256, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | _, _ => ⟨S36864x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg1
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg1
  let c1_i32 : BitVec 32 := 1#32
  let c0_i32 : BitVec 32 := 0#32
  ![v0.toNat, c1_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg1 c1_i32
  let v1 : BitVec 32 := Scalar.addi v0 arg0
  let c0_i32 : BitVec 32 := 0#32
  let c0_i32_0 : BitVec 32 := 0#32
  ![v1.toNat, c0_i32.toNat]

abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FourCtxRefIdeal.lean ====
abbrev S36864x1024 : Shape := ⟨2, ![36864, 1024]⟩
abbrev S256x256 : Shape := ⟨2, ![256, 256]⟩
abbrev S4096x1024 : Shape := ⟨2, ![4096, 1024]⟩
abbrev S16x256x1024 : Shape := ⟨3, ![16, 256, 1024]⟩
abbrev S16x256x512 : Shape := ⟨3, ![16, 256, 512]⟩
abbrev S16x512x256 : Shape := ⟨3, ![16, 512, 256]⟩
abbrev S4096x512 : Shape := ⟨2, ![4096, 512]⟩

abbrev nBuf : Space → Nat
  | .hbm => 15
  | .vmem => 0
  | .smem => 0
  | _ => 0

abbrev bufTy : (tb : Table) → Fin (tcTables nBuf tb) → BufTy
  | .hbm, ⟨0, _⟩ => ⟨S36864x1024, .bf16⟩
  | .hbm, ⟨1, _⟩ => ⟨S256x256, .f32⟩
  | .hbm, ⟨2, _⟩ => ⟨S256x256, .f32⟩
  | .hbm, ⟨3, _⟩ => ⟨S36864x1024, .f32⟩
  | .hbm, ⟨4, _⟩ => ⟨S4096x1024, .f32⟩
  | .hbm, ⟨5, _⟩ => ⟨S16x256x1024, .f32⟩
  | .hbm, ⟨6, _⟩ => ⟨S16x256x512, .f32⟩
  | .hbm, ⟨7, _⟩ => ⟨S16x512x256, .f32⟩
  | .hbm, ⟨8, _⟩ => ⟨S16x256x512, .f32⟩
  | .hbm, ⟨9, _⟩ => ⟨S16x256x512, .f32⟩
  | .hbm, ⟨10, _⟩ => ⟨S16x512x256, .f32⟩
  | .hbm, ⟨11, _⟩ => ⟨S16x256x512, .f32⟩
  | .hbm, ⟨12, _⟩ => ⟨S16x256x512, .f32⟩
  | .hbm, ⟨13, _⟩ => ⟨S4096x512, .f32⟩
  | .hbm, ⟨14, _⟩ => ⟨S4096x512, .bf16⟩
  | _, _ => ⟨S36864x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== AdaLn.lean ====
abbrev S16x2048 : Shape := ⟨2, ![16, 2048]⟩
abbrev S2048 : Shape := ⟨1, ![2048]⟩
abbrev S4x2048x12288 : Shape := ⟨3, ![4, 2048, 12288]⟩
abbrev S4x12288 : Shape := ⟨2, ![4, 12288]⟩
abbrev S1x2048 : Shape := ⟨2, ![1, 2048]⟩
abbrev S_ : Shape := ⟨0, ![]⟩
abbrev S15x2048 : Shape := ⟨2, ![15, 2048]⟩
abbrev S32x2048 : Shape := ⟨2, ![32, 2048]⟩
abbrev S4x1x12288 : Shape := ⟨3, ![4, 1, 12288]⟩
abbrev S4x32x12288 : Shape := ⟨3, ![4, 32, 12288]⟩
abbrev S1x2048x1024 : Shape := ⟨3, ![1, 2048, 1024]⟩
abbrev S1x1x1024 : Shape := ⟨3, ![1, 1, 1024]⟩
abbrev S1x32x1024 : Shape := ⟨3, ![1, 32, 1024]⟩
abbrev S2048x1024 : Shape := ⟨2, ![2048, 1024]⟩
abbrev S32x1024 : Shape := ⟨2, ![32, 1024]⟩
abbrev S1x1024 : Shape := ⟨2, ![1, 1024]⟩

abbrev nBuf : Space → Nat
  | .hbm => 10
  | .vmem => 7
  | .smem => 0
  | _ => 0

abbrev bufTy : (tb : Table) → Fin (tcTables nBuf tb) → BufTy
  | .hbm, ⟨0, _⟩ => ⟨S16x2048, .f32⟩
  | .hbm, ⟨1, _⟩ => ⟨S2048, .f32⟩
  | .hbm, ⟨2, _⟩ => ⟨S4x2048x12288, .f32⟩
  | .hbm, ⟨3, _⟩ => ⟨S4x12288, .f32⟩
  | .hbm, ⟨4, _⟩ => ⟨S1x2048, .f32⟩
  | .hbm, ⟨5, _⟩ => ⟨S_, .f32⟩
  | .hbm, ⟨6, _⟩ => ⟨S15x2048, .f32⟩
  | .hbm, ⟨7, _⟩ => ⟨S32x2048, .f32⟩
  | .hbm, ⟨8, _⟩ => ⟨S4x1x12288, .f32⟩
  | .hbm, ⟨9, _⟩ => ⟨S4x32x12288, .f32⟩
  | .local _ .vmem, ⟨0, _⟩ => ⟨S32x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x32x1024, .f32⟩
  | .local _ .vmem, ⟨6, _⟩ => ⟨S1x32x1024, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaLnRefIdeal.lean ====
abbrev S16x2048 : Shape := ⟨2, ![16, 2048]⟩
abbrev S2048 : Shape := ⟨1, ![2048]⟩
abbrev S4x2048x12288 : Shape := ⟨3, ![4, 2048, 12288]⟩
abbrev S4x12288 : Shape := ⟨2, ![4, 12288]⟩
abbrev S1x2048 : Shape := ⟨2, ![1, 2048]⟩
abbrev S_ : Shape := ⟨0, ![]⟩
abbrev S15x2048 : Shape := ⟨2, ![15, 2048]⟩
abbrev S32x2048 : Shape := ⟨2, ![32, 2048]⟩
abbrev S4x12288x32 : Shape := ⟨3, ![4, 12288, 32]⟩
abbrev S4x32x12288 : Shape := ⟨3, ![4, 32, 12288]⟩
abbrev S4x1x12288 : Shape := ⟨3, ![4, 1, 12288]⟩

abbrev nBuf : Space → Nat
  | .hbm => 22
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S2048, .f32⟩
  | .hbm, ⟨2, _⟩ => ⟨S4x2048x12288, .f32⟩
  | .hbm, ⟨3, _⟩ => ⟨S4x12288, .f32⟩
  | .hbm, ⟨4, _⟩ => ⟨S1x2048, .f32⟩
  | .hbm, ⟨5, _⟩ => ⟨S_, .f32⟩
  | .hbm, ⟨6, _⟩ => ⟨S15x2048, .f32⟩
  | .hbm, ⟨7, _⟩ => ⟨S32x2048, .f32⟩
  | .hbm, ⟨8, _⟩ => ⟨S32x2048, .f32⟩
  | .hbm, ⟨9, _⟩ => ⟨S32x2048, .f32⟩
  | .hbm, ⟨10, _⟩ => ⟨S_, .f32⟩
  | .hbm, ⟨11, _⟩ => ⟨S32x2048, .f32⟩
  | .hbm, ⟨12, _⟩ => ⟨S32x2048, .f32⟩
  | .hbm, ⟨13, _⟩ => ⟨S_, .f32⟩
  | .hbm, ⟨14, _⟩ => ⟨S32x2048, .f32⟩
  | .hbm, ⟨15, _⟩ => ⟨S32x2048, .f32⟩
  | .hbm, ⟨16, _⟩ => ⟨S32x2048, .f32⟩
  | .hbm, ⟨17, _⟩ => ⟨S4x12288x32, .f32⟩
  | .hbm, ⟨18, _⟩ => ⟨S4x32x12288, .f32⟩
  | .hbm, ⟨19, _⟩ => ⟨S4x1x12288, .f32⟩
  | .hbm, ⟨20, _⟩ => ⟨S4x32x12288, .f32⟩
  | .hbm, ⟨21, _⟩ => ⟨S4x32x12288, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== AttnPrep.lean ====
abbrev S36864x10752 : Shape := ⟨2, ![36864, 10752]⟩
abbrev S2048x2x32 : Shape := ⟨3, ![2048, 2, 32]⟩
abbrev S128 : Shape := ⟨1, ![128]⟩
abbrev S2048x1x32 : Shape := ⟨3, ![2048, 1, 32]⟩
abbrev S2048x32 : Shape := ⟨2, ![2048, 32]⟩
abbrev S2048x128 : Shape := ⟨2, ![2048, 128]⟩
abbrev S_ : Shape := ⟨0, ![]⟩
abbrev S256x128 : Shape := ⟨2, ![256, 128]⟩
abbrev S2304x128 : Shape := ⟨2, ![2304, 128]⟩
abbrev S1x128 : Shape := ⟨2, ![1, 128]⟩
abbrev S36864x1024 : Shape := ⟨2, ![36864, 1024]⟩
abbrev S36864x256 : Shape := ⟨2, ![36864, 256]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩

abbrev nBuf : Space → Nat
  | .hbm => 35
  | .vmem => 14
  | .smem => 0
  | _ => 0

abbrev bufTy : (tb : Table) → Fin (tcTables nBuf tb) → BufTy
  | .hbm, ⟨0, _⟩ => ⟨S36864x10752, .bf16⟩
  | .hbm, ⟨1, _⟩ => ⟨S2048x2x32, .f32⟩
  | .hbm, ⟨2, _⟩ => ⟨S2048x2x32, .f32⟩
  | .hbm, ⟨3, _⟩ => ⟨S128, .f32⟩
  | .hbm, ⟨4, _⟩ => ⟨S128, .f32⟩
  | .hbm, ⟨5, _⟩ => ⟨S2048x1x32, .f32⟩
  | .hbm, ⟨6, _⟩ => ⟨S2048x32, .f32⟩
  | .hbm, ⟨7, _⟩ => ⟨S2048x1x32, .f32⟩
  | .hbm, ⟨8, _⟩ => ⟨S2048x32, .f32⟩
  | .hbm, ⟨9, _⟩ => ⟨S2048x1x32, .f32⟩
  | .hbm, ⟨10, _⟩ => ⟨S2048x32, .f32⟩
  | .hbm, ⟨11, _⟩ => ⟨S2048x1x32, .f32⟩
  | .hbm, ⟨12, _⟩ => ⟨S2048x32, .f32⟩
  | .hbm, ⟨13, _⟩ => ⟨S2048x128, .f32⟩
  | .hbm, ⟨14, _⟩ => ⟨S2048x1x32, .f32⟩
  | .hbm, ⟨15, _⟩ => ⟨S2048x32, .f32⟩
  | .hbm, ⟨16, _⟩ => ⟨S2048x32, .f32⟩
  | .hbm, ⟨17, _⟩ => ⟨S2048x1x32, .f32⟩
  | .hbm, ⟨18, _⟩ => ⟨S2048x32, .f32⟩
  | .hbm, ⟨19, _⟩ => ⟨S2048x1x32, .f32⟩
  | .hbm, ⟨20, _⟩ => ⟨S2048x32, .f32⟩
  | .hbm, ⟨21, _⟩ => ⟨S2048x32, .f32⟩
  | .hbm, ⟨22, _⟩ => ⟨S2048x1x32, .f32⟩
  | .hbm, ⟨23, _⟩ => ⟨S2048x32, .f32⟩
  | .hbm, ⟨24, _⟩ => ⟨S2048x128, .f32⟩
  | .hbm, ⟨25, _⟩ => ⟨S_, .f32⟩
  | .hbm, ⟨26, _⟩ => ⟨S256x128, .f32⟩
  | .hbm, ⟨27, _⟩ => ⟨S2304x128, .f32⟩
  | .hbm, ⟨28, _⟩ => ⟨S_, .f32⟩
  | .hbm, ⟨29, _⟩ => ⟨S256x128, .f32⟩
  | .hbm, ⟨30, _⟩ => ⟨S2304x128, .f32⟩
  | .hbm, ⟨31, _⟩ => ⟨S1x128, .f32⟩
  | .hbm, ⟨32, _⟩ => ⟨S1x128, .f32⟩
  | .hbm, ⟨33, _⟩ => ⟨S36864x1024, .bf16⟩
  | .hbm, ⟨34, _⟩ => ⟨S36864x256, .bf16⟩
  | .local _ .vmem, ⟨0, _⟩ => ⟨S256x1024, .bf16⟩
  | .local _ .vmem, ⟨1, _⟩ => ⟨S256x1024, .bf16⟩
  | .local _ .vmem, ⟨2, _⟩ => ⟨S256x256, .bf16⟩
  | .local _ .vmem, ⟨3, _⟩ => ⟨S256x256, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S1x128, .f32⟩
  | .local _ .vmem, ⟨9, _⟩ => ⟨S1x128, .f32⟩
  | .local _ .vmem, ⟨10, _⟩ => ⟨S256x1024, .bf16⟩
  | .local _ .vmem, ⟨11, _⟩ => ⟨S256x1024, .bf16⟩
  | .local _ .vmem, ⟨12, _⟩ => ⟨S256x256, .bf16⟩
  | .local _ .vmem, ⟨13, _⟩ => ⟨S256x256, .bf16⟩
  | _, _ => ⟨S36864x10752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26_0 : Ref sig .tc := ⟨.hbm, 33, rfl⟩
abbrev main_v26_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![144], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c38_i32 : BitVec 32 := 38#32
  let c0_i32 : BitVec 32 := 0#32
  ![arg0.toNat, c38_i32.toNat]

def cc0_transform_2 (i : grid0.Coords) : Fin 2 → Nat :=
  let arg0 : BitVec 32 := BitVec.ofNat 32 (i 0).val
  let c128_i32 : BitVec 32 := 128#32
  let v0 : BitVec 1 := Scalar.cmpi .slt arg0 c128_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.select v0 v10 c8_i32_3
  let c0_i32_4 : BitVec 32 := 0#32
  let c0_i32_5 : BitVec 32 := 0#32
  ![v11.toNat, c0_i32_4.toNat]

def cc0_transform_3 (i : grid0.Coords) : Fin 2 → Nat :=
  let arg0 : BitVec 32 := BitVec.ofNat 32 (i 0).val
  let c128_i32 : BitVec 32 := 128#32
  let v0 : BitVec 1 := Scalar.cmpi .slt arg0 c128_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.select v0 v10 c8_i32_3
  let c0_i32_4 : BitVec 32 := 0#32
  let c0_i32_5 : BitVec 32 := 0#32
  ![v11.toNat, c0_i32_4.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AttnPrepRefIdeal.lean ====
abbrev S36864x10752 : Shape := ⟨2, ![36864, 10752]⟩
abbrev S2048x2x32 : Shape := ⟨3, ![2048, 2, 32]⟩
abbrev S128 : Shape := ⟨1, ![128]⟩
abbrev S36864x1024 : Shape := ⟨2, ![36864, 1024]⟩
abbrev S36864x8x128 : Shape := ⟨3, ![36864, 8, 128]⟩
abbrev S_ : Shape := ⟨0, ![]⟩
abbrev S36864x8 : Shape := ⟨2, ![36864, 8]⟩
abbrev S36864x8x1 : Shape := ⟨3, ![36864, 8, 1]⟩
abbrev S1x1x128 : Shape := ⟨3, ![1, 1, 128]⟩
abbrev S32768x8x128 : Shape := ⟨3, ![32768, 8, 128]⟩
abbrev S16x2048x8x2x2x32 : Shape := ⟨6, ![16, 2048, 8, 2, 2, 32]⟩
abbrev S16x2048x8x2x1x32 : Shape := ⟨6, ![16, 2048, 8, 2, 1, 32]⟩
abbrev S16x2048x8x2x32 : Shape := ⟨5, ![16, 2048, 8, 2, 32]⟩
abbrev S2048x1x2x32 : Shape := ⟨4, ![2048, 1, 2, 32]⟩
abbrev S1x2048x1x2x32 : Shape := ⟨5, ![1, 2048, 1, 2, 32]⟩
abbrev S32768x1024 : Shape := ⟨2, ![32768, 1024]⟩
abbrev S4096x8x128 : Shape := ⟨3, ![4096, 8, 128]⟩
abbrev S4096x1024 : Shape := ⟨2, ![4096, 1024]⟩
abbrev S36864x256 : Shape := ⟨2, ![36864, 256]⟩
abbrev S36864x2x128 : Shape := ⟨3, ![36864, 2, 128]⟩
abbrev S36864x2 : Shape := ⟨2, ![36864, 2]⟩
abbrev S36864x2x1 : Shape := ⟨3, ![36864, 2, 1]⟩
abbrev S32768x2x128 : Shape := ⟨3, ![32768, 2, 128]⟩
abbrev S16x2048x2x2x2x32 : Shape := ⟨6, ![16, 2048, 2, 2, 2, 32]⟩
abbrev S16x2048x2x2x1x32 : Shape := ⟨6, ![16, 2048, 2, 2, 1, 32]⟩
abbrev S16x2048x2x2x32 : Shape := ⟨5, ![16, 2048, 2, 2, 32]⟩
abbrev S32768x256 : Shape := ⟨2, ![32768, 256]⟩
abbrev S4096x2x128 : Shape := ⟨3, ![4096, 2, 128]⟩
abbrev S4096x256 : Shape := ⟨2, ![4096, 256]⟩

abbrev nBuf : Space → Nat
  | .hbm => 106
  | .vmem => 0
  | .smem => 0
  | _ => 0

abbrev bufTy : (tb : Table) → Fin (tcTables nBuf tb) → BufTy
  | .hbm, ⟨0, _⟩ => ⟨S36864x10752, .bf16⟩
  | .hbm, ⟨1, _⟩ => ⟨S2048x2x32, .f32⟩
  | .hbm, ⟨2, _⟩ => ⟨S2048x2x32, .f32⟩
  | .hbm, ⟨3, _⟩ => ⟨S128, .f32⟩
  | .hbm, ⟨4, _⟩ => ⟨S128, .f32⟩
  | .hbm, ⟨5, _⟩ => ⟨S36864x1024, .bf16⟩
  | .hbm, ⟨6, _⟩ => ⟨S36864x1024, .f32⟩
  | .hbm, ⟨7, _⟩ => ⟨S36864x8x128, .f32⟩
  | .hbm, ⟨8, _⟩ => ⟨S36864x8x128, .f32⟩
  | .hbm, ⟨9, _⟩ => ⟨S_, .f32⟩
  | .hbm, ⟨10, _⟩ => ⟨S36864x8, .f32⟩
  | .hbm, ⟨11, _⟩ => ⟨S36864x8x1, .f32⟩
  | .hbm, ⟨12, _⟩ => ⟨S_, .f32⟩
  | .hbm, ⟨13, _⟩ => ⟨S36864x8x1, .f32⟩
  | .hbm, ⟨14, _⟩ => ⟨S36864x8x1, .f32⟩
  | .hbm, ⟨15, _⟩ => ⟨S_, .f32⟩
  | .hbm, ⟨16, _⟩ => ⟨S36864x8x1, .f32⟩
  | .hbm, ⟨17, _⟩ => ⟨S36864x8x1, .f32⟩
  | .hbm, ⟨18, _⟩ => ⟨S36864x8x1, .f32⟩
  | .hbm, ⟨19, _⟩ => ⟨S36864x8x128, .f32⟩
  | .hbm, ⟨20, _⟩ => ⟨S36864x8x128, .f32⟩
  | .hbm, ⟨21, _⟩ => ⟨S1x1x128, .f32⟩
  | .hbm, ⟨22, _⟩ => ⟨S36864x8x128, .f32⟩
  | .hbm, ⟨23, _⟩ => ⟨S36864x8x128, .f32⟩
  | .hbm, ⟨24, _⟩ => ⟨S32768x8x128, .f32⟩
  | .hbm, ⟨25, _⟩ => ⟨S16x2048x8x2x2x32, .f32⟩
  | .hbm, ⟨26, _⟩ => ⟨S16x2048x8x2x1x32, .f32⟩
  | .hbm, ⟨27, _⟩ => ⟨S16x2048x8x2x32, .f32⟩
  | .hbm, ⟨28, _⟩ => ⟨S16x2048x8x2x1x32, .f32⟩
  | .hbm, ⟨29, _⟩ => ⟨S16x2048x8x2x32, .f32⟩
  | .hbm, ⟨30, _⟩ => ⟨S2048x1x2x32, .f32⟩
  | .hbm, ⟨31, _⟩ => ⟨S2048x1x2x32, .f32⟩
  | .hbm, ⟨32, _⟩ => ⟨S1x2048x1x2x32, .f32⟩
  | .hbm, ⟨33, _⟩ => ⟨S16x2048x8x2x32, .f32⟩
  | .hbm, ⟨34, _⟩ => ⟨S16x2048x8x2x32, .f32⟩
  | .hbm, ⟨35, _⟩ => ⟨S1x2048x1x2x32, .f32⟩
  | .hbm, ⟨36, _⟩ => ⟨S16x2048x8x2x32, .f32⟩
  | .hbm, ⟨37, _⟩ => ⟨S16x2048x8x2x32, .f32⟩
  | .hbm, ⟨38, _⟩ => ⟨S16x2048x8x2x32, .f32⟩
  | .hbm, ⟨39, _⟩ => ⟨S1x2048x1x2x32, .f32⟩
  | .hbm, ⟨40, _⟩ => ⟨S16x2048x8x2x32, .f32⟩
  | .hbm, ⟨41, _⟩ => ⟨S16x2048x8x2x32, .f32⟩
  | .hbm, ⟨42, _⟩ => ⟨S1x2048x1x2x32, .f32⟩
  | .hbm, ⟨43, _⟩ => ⟨S16x2048x8x2x32, .f32⟩
  | .hbm, ⟨44, _⟩ => ⟨S16x2048x8x2x32, .f32⟩
  | .hbm, ⟨45, _⟩ => ⟨S16x2048x8x2x32, .f32⟩
  | .hbm, ⟨46, _⟩ => ⟨S16x2048x8x2x1x32, .f32⟩
  | .hbm, ⟨47, _⟩ => ⟨S16x2048x8x2x1x32, .f32⟩
  | .hbm, ⟨48, _⟩ => ⟨S16x2048x8x2x2x32, .f32⟩
  | .hbm, ⟨49, _⟩ => ⟨S32768x1024, .f32⟩
  | .hbm, ⟨50, _⟩ => ⟨S4096x8x128, .f32⟩
  | .hbm, ⟨51, _⟩ => ⟨S4096x1024, .f32⟩
  | .hbm, ⟨52, _⟩ => ⟨S36864x1024, .f32⟩
  | .hbm, ⟨53, _⟩ => ⟨S_, .f32⟩
  | .hbm, ⟨54, _⟩ => ⟨S36864x1024, .f32⟩
  | .hbm, ⟨55, _⟩ => ⟨S36864x1024, .f32⟩
  | .hbm, ⟨56, _⟩ => ⟨S36864x256, .bf16⟩
  | .hbm, ⟨57, _⟩ => ⟨S36864x256, .f32⟩
  | .hbm, ⟨58, _⟩ => ⟨S36864x2x128, .f32⟩
  | .hbm, ⟨59, _⟩ => ⟨S36864x2x128, .f32⟩
  | .hbm, ⟨60, _⟩ => ⟨S_, .f32⟩
  | .hbm, ⟨61, _⟩ => ⟨S36864x2, .f32⟩
  | .hbm, ⟨62, _⟩ => ⟨S36864x2x1, .f32⟩
  | .hbm, ⟨63, _⟩ => ⟨S_, .f32⟩
  | .hbm, ⟨64, _⟩ => ⟨S36864x2x1, .f32⟩
  | .hbm, ⟨65, _⟩ => ⟨S36864x2x1, .f32⟩
  | .hbm, ⟨66, _⟩ => ⟨S_, .f32⟩
  | .hbm, ⟨67, _⟩ => ⟨S36864x2x1, .f32⟩
  | .hbm, ⟨68, _⟩ => ⟨S36864x2x1, .f32⟩
  | .hbm, ⟨69, _⟩ => ⟨S36864x2x1, .f32⟩
  | .hbm, ⟨70, _⟩ => ⟨S36864x2x128, .f32⟩
  | .hbm, ⟨71, _⟩ => ⟨S36864x2x128, .f32⟩
  | .hbm, ⟨72, _⟩ => ⟨S1x1x128, .f32⟩
  | .hbm, ⟨73, _⟩ => ⟨S36864x2x128, .f32⟩
  | .hbm, ⟨74, _⟩ => ⟨S36864x2x128, .f32⟩
  | .hbm, ⟨75, _⟩ => ⟨S32768x2x128, .f32⟩
  | .hbm, ⟨76, _⟩ => ⟨S16x2048x2x2x2x32, .f32⟩
  | .hbm, ⟨77, _⟩ => ⟨S16x2048x2x2x1x32, .f32⟩
  | .hbm, ⟨78, _⟩ => ⟨S16x2048x2x2x32, .f32⟩
  | .hbm, ⟨79, _⟩ => ⟨S16x2048x2x2x1x32, .f32⟩
  | .hbm, ⟨80, _⟩ => ⟨S16x2048x2x2x32, .f32⟩
  | .hbm, ⟨81, _⟩ => ⟨S2048x1x2x32, .f32⟩
  | .hbm, ⟨82, _⟩ => ⟨S2048x1x2x32, .f32⟩
  | .hbm, ⟨83, _⟩ => ⟨S1x2048x1x2x32, .f32⟩
  | .hbm, ⟨84, _⟩ => ⟨S16x2048x2x2x32, .f32⟩
  | .hbm, ⟨85, _⟩ => ⟨S16x2048x2x2x32, .f32⟩
  | .hbm, ⟨86, _⟩ => ⟨S1x2048x1x2x32, .f32⟩
  | .hbm, ⟨87, _⟩ => ⟨S16x2048x2x2x32, .f32⟩
  | .hbm, ⟨88, _⟩ => ⟨S16x2048x2x2x32, .f32⟩
  | .hbm, ⟨89, _⟩ => ⟨S16x2048x2x2x32, .f32⟩
  | .hbm, ⟨90, _⟩ => ⟨S1x2048x1x2x32, .f32⟩
  | .hbm, ⟨91, _⟩ => ⟨S16x2048x2x2x32, .f32⟩
  | .hbm, ⟨92, _⟩ => ⟨S16x2048x2x2x32, .f32⟩
  | .hbm, ⟨93, _⟩ => ⟨S1x2048x1x2x32, .f32⟩
  | .hbm, ⟨94, _⟩ => ⟨S16x2048x2x2x32, .f32⟩
  | .hbm, ⟨95, _⟩ => ⟨S16x2048x2x2x32, .f32⟩
  | .hbm, ⟨96, _⟩ => ⟨S16x2048x2x2x32, .f32⟩
  | .hbm, ⟨97, _⟩ => ⟨S16x2048x2x2x1x32, .f32⟩
  | .hbm, ⟨98, _⟩ => ⟨S16x2048x2x2x1x32, .f32⟩
  | .hbm, ⟨99, _⟩ => ⟨S16x2048x2x2x2x32, .f32⟩
  | .hbm, ⟨100, _⟩ => ⟨S32768x256, .f32⟩
  | .hbm, ⟨101, _⟩ => ⟨S4096x2x128, .f32⟩
  | .hbm, ⟨102, _⟩ => ⟨S4096x256, .f32⟩
  | .hbm, ⟨103, _⟩ => ⟨S36864x256, .f32⟩
  | .hbm, ⟨104, _⟩ => ⟨S36864x1024, .bf16⟩
  | .hbm, ⟨105, _⟩ => ⟨S36864x256, .bf16⟩
  | _, _ => ⟨S36864x10752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_2 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_cst_3 : Ref sig .tc := ⟨.hbm, 60, rfl⟩
abbrev main_v51 : Ref sig .tc := ⟨.hbm, 61, rfl⟩
abbrev main_v52 : Ref sig .tc := ⟨.hbm, 62, rfl⟩
abbrev main_cst_4 : Ref sig .tc := ⟨.hbm, 63, rfl⟩
abbrev main_v53 : Ref sig .tc := ⟨.hbm, 64, rfl⟩
abbrev main_v54 : Ref sig .tc := ⟨.hbm, 65, rfl⟩
abbrev main_cst_5 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩

abbrev nD : Nat := 1
abbrev τ : Topo := Topo.v7x

variable {F : FTy → Type} [FloatOps F]
-- ==== Proof.Finite.lean ====
/- What the attention's precondition says: every query and every key is a real number. -/
module

public import proofs.«01_k».proof.Pre_finite_qk
public import Idealize.ShloMosaic.Lib.Pointwise

@[expose] public section

set_option maxRecDepth 16384

noncomputable section

namespace Cert.Pre_finite_qk

open Idealize.ShloMosaic

/-- The side conditions of the precondition's operations hold. -/
theorem sides : Facts where
  bitsLt_bf16_f32 := by decide
  bcast_S_S36864x1024 := by decide
  bcast_S_S36864x256 := by decide

/-- A number whose absolute value is found below infinity is neither infinity. -/
theorem finite_of_abs_lt (a : EReal) (h : BitVec.ofBool (decide (max a (-a) < Ideal.ofBits FTy.f32 2139095040#32)) = 1#1) :
    (⊥ : EReal) < a ∧ a < (⊤ : EReal) := by
  have top : Ideal.ofBits FTy.f32 2139095040#32 = ⊤ := by simp [Ideal.ofBits, Ideal.ieee]
  rw [top] at h
  have lt : max a (-a) < ⊤ := by
    by_contra hn
    rw [decide_eq_false hn] at h
    exact absurd h (by decide)
  refine ⟨bot_lt_iff_ne_bot.mpr ?_, lt_of_le_of_lt (le_max_left _ _) lt⟩
  rintro rfl
  simp at lt

variable [Facts]

/-- The precondition's first component: the queries are finite. -/
theorem queries_finite {q : FVec Ideal S36864x1024 .bf16} {k : FVec Ideal S36864x256 .bf16} {z : FVec Ideal S36864x10752 .bf16}
    (h : (fn (F := Ideal) q k z).1 = (fun _ => 1#1)) : ∀ i, (⊥ : EReal) < q i ∧ q i < (⊤ : EReal) := by
  intro i
  have hi := congrFun h i
  idx_vars i
  pointwise [fn] at hi
  exact finite_of_abs_lt _ hi

/-- The precondition's second component: the keys are finite. -/
theorem keys_finite {q : FVec Ideal S36864x1024 .bf16} {k : FVec Ideal S36864x256 .bf16} {z : FVec Ideal S36864x10752 .bf16}
    (h : (fn (F := Ideal) q k z).2 = (fun _ => 1#1)) : ∀ i, (⊥ : EReal) < k i ∧ k i < (⊤ : EReal) := by
  intro i
  have hi := congrFun h i
  idx_vars i
  pointwise [fn] at hi
  exact finite_of_abs_lt _ hi

end Cert.Pre_finite_qk
-- ==== Proof.Softmax.lean ====
/- The softmax of a row of finite scores, over the extended reals: normalising the weights before the sum against the
   values, or normalising that sum after it, is the same, whether the row is one run of keys or two. -/
module

public import Idealize.ShloMosaic.Lib.Pointwise

@[expose] public section

noncomputable section

namespace Trunk

open Idealize.ShloMosaic

/-- The f32 word of `-∞` denotes the least extended real. -/
theorem negInf_eq : Ideal.ofBits FTy.f32 4286578688#32 = ⊥ := by simp [Ideal.ofBits, Ideal.ieee]

/-- The greatest of a row's scores (the least extended real for an empty row). -/
def top {n : ℕ} (s : Fin n → EReal) : EReal := Finset.univ.fold max ⊥ s

/-- One element of a softmax attention's result, from the row's scores and the column's values: every weight is normalised
    first, then multiplied with its value. -/
def softRow {n : ℕ} (s v : Fin n → EReal) : EReal :=
  ∑ x, v x * Ideal.div (Ideal.exp (s x - top s)) (∑ x, Ideal.exp (s x - top s))

/-- The same with one division, after the sum. -/
def lateRow {n : ℕ} (s v : Fin n → EReal) : EReal :=
  Ideal.div (∑ x, Ideal.exp (s x - top s) * v x) (∑ x, Ideal.exp (s x - top s))

/-- The same over two runs of keys, with one division at the end. -/
def lateRows {p q : ℕ} (a va : Fin p → EReal) (b vb : Fin q → EReal) : EReal :=
  Ideal.div (∑ x, Ideal.exp (a x - max (top a) (top b)) * va x + ∑ x, Ideal.exp (b x - max (top a) (top b)) * vb x)
    (∑ x, Ideal.exp (a x - max (top a) (top b)) + ∑ x, Ideal.exp (b x - max (top a) (top b)))

/-- Every score of a row is at most the row's greatest. -/
theorem le_top {n : ℕ} (s : Fin n → EReal) (x : Fin n) : s x ≤ top s :=
  Finset.le_sup (f := s) (Finset.mem_univ x)

/-- The greatest of a row is below a bound that every score is below. -/
theorem top_lt {n : ℕ} (s : Fin n → EReal) (h : ∀ x, s x < ⊤) : top s < ⊤ :=
  (Finset.sup_lt_iff (f := s) bot_lt_top).2 fun x _ => h x

/-- The greatest of two runs together is the greater of their two. -/
theorem top_append {p q : ℕ} (s : Fin (p + q) → EReal) :
    top s = max (top fun i => s (Fin.castAdd q i)) (top fun j => s (Fin.natAdd p j)) := by
  refine le_antisymm ?_ (max_le ?_ ?_)
  · refine Finset.sup_le fun x _ => ?_
    refine Fin.addCases (fun i => ?_) (fun j => ?_) x
    · exact le_max_of_le_left (le_top (fun i => s (Fin.castAdd q i)) i)
    · exact le_max_of_le_right (le_top (fun j => s (Fin.natAdd p j)) j)
  · exact Finset.sup_le fun i _ => le_top s _
  · exact Finset.sup_le fun j _ => le_top s _

/-- The exponential of a difference of two finite numbers is positive. -/
theorem exp_sub_pos {x y : EReal} (hx : ⊥ < x) (hx' : x < ⊤) (hy : ⊥ < y) (hy' : y < ⊤) : 0 < Ideal.exp (x - y) := by
  lift x to ℝ using ⟨hx'.ne, hx.ne'⟩
  lift y to ℝ using ⟨hy'.ne, hy.ne'⟩
  rw [← EReal.coe_sub, Ideal.exp_coe]
  exact_mod_cast Real.exp_pos _

/-- The sum of a nonempty row's exponentials is positive when its scores are finite. -/
theorem sum_pos {n : ℕ} (s : Fin n → EReal) (hn : 0 < n) (h : ∀ x, ⊥ < s x ∧ s x < ⊤) :
    0 < ∑ x, Ideal.exp (s x - top s) := by
  have ht : ⊥ < top s := (h ⟨0, hn⟩).1.trans_le (le_top s _)
  have hp : ∀ x, 0 < Ideal.exp (s x - top s) := fun x =>
    exp_sub_pos (h x).1 (h x).2 ht (top_lt s fun x => (h x).2)
  exact (hp ⟨0, hn⟩).trans_le (Finset.single_le_sum (f := fun x => Ideal.exp (s x - top s))
    (fun x _ => (hp x).le) (Finset.mem_univ _))

/-- Division by a positive number distributes over a sum. -/
theorem div_sum {n : ℕ} (f : Fin n → EReal) {y : EReal} (hy : 0 < y) :
    Ideal.div (∑ x, f x) y = ∑ x, Ideal.div (f x) y := by
  have hc : 0 ≤ y⁻¹ := EReal.inv_nonneg_of_nonneg hy.le
  have hc' : y⁻¹ ≠ ⊤ := by
    induction y using EReal.rec with
    | bot => simp at hy
    | top => simp
    | coe r => rw [← EReal.coe_inv]; exact EReal.coe_ne_top _
  simp only [Ideal.div, if_neg hy.ne']
  have key : ∀ t : Finset (Fin n), (∑ x ∈ t, f x) * y⁻¹ = ∑ x ∈ t, f x * y⁻¹ := fun t => by
    induction t using Finset.induction_on with
    | empty => simp
    | insert a t ha ih =>
      rw [Finset.sum_insert ha, Finset.sum_insert ha, EReal.right_distrib_of_nonneg_of_ne_top hc hc', ih]
  exact key _

/-- A value times a quotient by a positive number is the quotient of the product. -/
theorem mul_div {x z y : EReal} (hy : 0 < y) : Ideal.div (z * x) y = x * Ideal.div z y := by
  simp only [Ideal.div, if_neg hy.ne']
  rw [mul_comm z x, mul_assoc]

/-- Normalising after the sum is normalising before it, at finite scores. -/
theorem lateRow_eq {n : ℕ} (s v : Fin n → EReal) (hn : 0 < n) (h : ∀ x, ⊥ < s x ∧ s x < ⊤) :
    lateRow s v = softRow s v := by
  rw [lateRow, softRow, div_sum _ (sum_pos s hn h)]
  exact Finset.sum_congr rfl fun x _ => mul_div (sum_pos s hn h)

/-- The two-run form is the one-run form of the two runs laid end to end. -/
theorem lateRows_eq {p q : ℕ} (s v : Fin (p + q) → EReal) (hn : 0 < p + q) (h : ∀ x, ⊥ < s x ∧ s x < ⊤) :
    lateRows (fun i => s (Fin.castAdd q i)) (fun i => v (Fin.castAdd q i))
      (fun j => s (Fin.natAdd p j)) (fun j => v (Fin.natAdd p j)) = softRow s v := by
  rw [← lateRow_eq s v hn h, lateRows, lateRow, ← top_append, Fin.sum_univ_add, Fin.sum_univ_add]

/-- A sum of products of finite numbers is finite. -/
theorem sum_mul_finite {n : ℕ} (f g : Fin n → EReal) (hf : ∀ x, ⊥ < f x ∧ f x < ⊤) (hg : ∀ x, ⊥ < g x ∧ g x < ⊤) :
    ⊥ < ∑ x, f x * g x ∧ ∑ x, f x * g x < ⊤ := by
  refine Finset.sum_induction _ (fun x : EReal => ⊥ < x ∧ x < ⊤) (fun x y hx hy => ⟨?_, EReal.add_lt_top hx.2.ne hy.2.ne⟩)
    ⟨EReal.bot_lt_zero, EReal.zero_lt_top⟩ fun x _ => ?_
  · exact EReal.bot_lt_add_iff.2 ⟨hx.1, hy.1⟩
  · obtain ⟨r, hr⟩ : ∃ r : ℝ, (r : EReal) = f x := ⟨_, EReal.coe_toReal (hf x).2.ne (hf x).1.ne'⟩
    obtain ⟨r', hr'⟩ : ∃ r : ℝ, (r : EReal) = g x := ⟨_, EReal.coe_toReal (hg x).2.ne (hg x).1.ne'⟩
    rw [← hr, ← hr', ← EReal.coe_mul]
    exact ⟨EReal.bot_lt_coe _, EReal.coe_lt_top _⟩

end Trunk
-- ==== Proof.LatHeads.lean ====
/- The latent attention's body: what it stores for each of the four heads of a block, in terms of the loaded blocks. -/
module

public import proofs.«01_k».proof.Proof.Gen.AttnLatIdeal.Value
public import proofs.«01_k».proof.Proof.Softmax
public import Idealize.ShloMosaic.Lib.Pointwise
public import Idealize.ShloMosaic.Lib.Pipeline.ValueKit

@[expose] public section

set_option maxRecDepth 16384

noncomputable section

namespace Cert.AttnLatIdeal.HandValue

open Idealize.ShloMosaic Cert.AttnLatIdeal Cert.AttnLatIdeal.Gen Trunk

/-- One head on one block: the softmax attention of the block's queries, over the context's keys and values and over the
    latent ones, at query row `r` and column `d` of the values. -/
def head (q : Vec Ideal S512x128 .bf16) (kc vc : Vec Ideal S256x128 .bf16) (kl vl : Vec Ideal S2048x128 .bf16)
    (r : Fin 512) (d : Fin 128) : EReal :=
  lateRows (fun x : Fin 256 => ∑ e : Fin 128, q (ix2 r e) * kc (ix2 x e)) (fun x => vc (ix2 x d))
    (fun x : Fin 2048 => ∑ e : Fin 128, q (ix2 r e) * kl (ix2 x e)) (fun x => vl (ix2 x d))

set_option maxHeartbeats 4000000 in
/-- What the body stores for the first head of a block is `head` of the loaded blocks. -/
theorem pay0 (q : Vec Ideal S512x128 .bf16) (kc vc : Vec Ideal S256x128 .bf16) (kl vl : Vec Ideal S2048x128 .bf16) (r : Fin 512) (d : Fin 128) :
    k0_pay2 q kc kl vc vl (ix2 r d) = head q kc vc kl vl r d := by
  pointwise [k0_pay2]
  rw [negInf_eq]
  rfl

set_option maxHeartbeats 4000000 in
/-- What the body stores for the second head of a block is `head` of the loaded blocks. -/
theorem pay1 (q : Vec Ideal S512x128 .bf16) (kc vc : Vec Ideal S256x128 .bf16) (kl vl : Vec Ideal S2048x128 .bf16) (r : Fin 512) (d : Fin 128) :
    k0_pay3 q kc kl vc vl (ix2 r d) = head q kc vc kl vl r d := by
  pointwise [k0_pay3]
  rw [negInf_eq]
  rfl

set_option maxHeartbeats 4000000 in
/-- What the body stores for the third head of a block is `head` of the loaded blocks. -/
theorem pay2 (q : Vec Ideal S512x128 .bf16) (kc vc : Vec Ideal S256x128 .bf16) (kl vl : Vec Ideal S2048x128 .bf16) (r : Fin 512) (d : Fin 128) :
    k0_pay5 q (k0_pay4 q kc) kl vc vl (ix2 r d) = head q kc vc kl vl r d := by
  pointwise [k0_pay5, k0_pay4]
  rw [negInf_eq]
  rfl

set_option maxHeartbeats 4000000 in
/-- What the body stores for the fourth head of a block is `head` of the loaded blocks. -/
theorem pay3 (q : Vec Ideal S512x128 .bf16) (kc vc : Vec Ideal S256x128 .bf16) (kl vl : Vec Ideal S2048x128 .bf16) (r : Fin 512) (d : Fin 128) :
    k0_pay1 (k0_pay6 q kc) (k0_pay7 q kl) (k0_pay8 q kc) (k0_pay9 q kl) vc vl (ix2 r d) = head q kc vc kl vl r d := by
  pointwise [k0_pay1, k0_pay6, k0_pay7, k0_pay8, k0_pay9]
  rw [negInf_eq]
  rfl

end Cert.AttnLatIdeal.HandValue
-- ==== Proof.LatKernel.lean ====
/- The latent attention's result array after the run, read at an index. -/
module

public import proofs.«01_k».proof.Proof.LatHeads

@[expose] public section

set_option maxRecDepth 16384

noncomputable section

namespace Cert.AttnLatIdeal.HandValue

open Idealize.ShloMosaic Cert.AttnLatIdeal Cert.AttnLatIdeal.Gen Trunk

/-- The block of each window at grid point `t`: the batch is `t / 8`, the key-value head `t / 4 % 2`, the block of queries `t % 4`. -/
theorem idx : ∀ t : Fin grid0.N, win0_0.index t = ![t.val / 8 * 4 + t.val % 4, t.val / 4 % 2]
   ∧ win0_1.index t = ![128 + t.val / 8, t.val / 4 % 2]
   ∧ win0_2.index t = ![t.val / 8, t.val / 4 % 2]
   ∧ win0_3.index t = ![128 + t.val / 8, 78 + t.val / 4 % 2]
   ∧ win0_4.index t = ![t.val / 8, 78 + t.val / 4 % 2]
   ∧ win0_5.index t = ![t.val / 8 * 4 + t.val % 4, t.val / 4 % 2] := by decide +kernel

/-- The latent attention at latent row `y 0` and column `y 1`, over the keys and values of the row's batch, the context's
    and the latent ones. -/
def attn (q : S36864x1024.Idx → EReal) (k : S36864x256.Idx → EReal) (z : S36864x10752.Idx → EReal) (y : S32768x1024.Idx) : EReal :=
  lateRows
    (fun x : Fin 256 => ∑ e : Fin 128, q (ix2 ⟨(y 0).val, by idx_bounds y; omega⟩ ⟨(y 1).val / 128 * 128 + e.val, by idx_bounds y; omega⟩)
      * k (ix2 ⟨32768 + (y 0).val / 2048 * 256 + x.val, by idx_bounds y; omega⟩ ⟨(y 1).val / 512 * 128 + e.val, by idx_bounds y; omega⟩))
    (fun x => z (ix2 ⟨32768 + (y 0).val / 2048 * 256 + x.val, by idx_bounds y; omega⟩ ⟨9984 + (y 1).val / 512 * 128 + (y 1).val % 128, by idx_bounds y; omega⟩))
    (fun x : Fin 2048 => ∑ e : Fin 128, q (ix2 ⟨(y 0).val, by idx_bounds y; omega⟩ ⟨(y 1).val / 128 * 128 + e.val, by idx_bounds y; omega⟩)
      * k (ix2 ⟨(y 0).val / 2048 * 2048 + x.val, by idx_bounds y; omega⟩ ⟨(y 1).val / 512 * 128 + e.val, by idx_bounds y; omega⟩))
    (fun x => z (ix2 ⟨(y 0).val / 2048 * 2048 + x.val, by idx_bounds y; omega⟩ ⟨9984 + (y 1).val / 512 * 128 + (y 1).val % 128, by idx_bounds y; omega⟩))

/-- The block's columns from 0 on, read at an index. -/
theorem ld_r0_0 (X : Vec Ideal S512x512 .bf16) (a : Fin 512) (e : Fin 128) :
    View.ld X r0_0 (ix2 a e) = X (ix2 a ⟨0 + e.val, by omega⟩) := by
  refine View.ld_unit_apply_of X _ _ _ _ _ fun i => ?_
  fin_cases i <;> simp

/-- The block's columns from 128 on, read at an index. -/
theorem ld_r0_3 (X : Vec Ideal S512x512 .bf16) (a : Fin 512) (e : Fin 128) :
    View.ld X r0_3 (ix2 a e) = X (ix2 a ⟨128 + e.val, by omega⟩) := by
  refine View.ld_unit_apply_of X _ _ _ _ _ fun i => ?_
  fin_cases i <;> simp

/-- The block's columns from 256 on, read at an index. -/
theorem ld_r0_4 (X : Vec Ideal S512x512 .bf16) (a : Fin 512) (e : Fin 128) :
    View.ld X r0_4 (ix2 a e) = X (ix2 a ⟨256 + e.val, by omega⟩) := by
  refine View.ld_unit_apply_of X _ _ _ _ _ fun i => ?_
  fin_cases i <;> simp

/-- The block's columns from 384 on, read at an index. -/
theorem ld_r0_5 (X : Vec Ideal S512x512 .bf16) (a : Fin 512) (e : Fin 128) :
    View.ld X r0_5 (ix2 a e) = X (ix2 a ⟨384 + e.val, by omega⟩) := by
  refine View.ld_unit_apply_of X _ _ _ _ _ fun i => ?_
  fin_cases i <;> simp

set_option maxHeartbeats 4000000 in
/-- The kernel's result array, as one function of the queries, the keys and the projection that holds the values. -/
theorem array_eq (m : (ℓ : Loc nD τ sig) → Buf (Elt Ideal) ℓ) (c : Dev nD)  :
  (dats m 0 c).arrAt 5 cfg0.N = attn (m ((c.tc : Thread nD τ).loc main_arg0)) (m ((c.tc : Thread nD τ).loc main_arg1)) (m ((c.tc : Thread nD τ).loc main_arg2)) := by
  refine (dats m 0 c).arrAt_eq_of_covers 5 _ (by decide +kernel) fun t hf y => ?_
  blk_simp
  rw [after0_5]
  unfold out0_5
  frame_out
  have ht : t.val < 128 := t.isLt
  canon_tiles
  all_goals
    idx_vars x
    first | rw [pay0] | rw [pay1] | rw [pay2] | rw [pay3]
    unfold head attn
    reads_congr
    all_goals first | rw [ld_r0_0] | rw [ld_r0_3] | rw [ld_r0_4] | rw [ld_r0_5] | skip
    all_goals blk_ext [iblk, V, idx t]
end Cert.AttnLatIdeal.HandValue
-- ==== Proof.LatReference.lean ====
/- The latent attention's reference read at an index: it is the kernel's function of the same three arrays when the queries
   and the keys are finite. -/
module

public import proofs.«01_k».proof.Proof.Gen.AttnLatRefIdeal.Run
public import proofs.«01_k».proof.Proof.LatKernel

@[expose] public section

set_option maxRecDepth 16384

noncomputable section

namespace Cert.AttnLatRefIdeal.RefValue

open Idealize.ShloMosaic Cert.AttnLatRefIdeal Cert.AttnLatRefIdeal.Value Trunk
open Cert.AttnLatRefIdeal.Gen

/-- The latent queries, split into batch, row, key-value head, query head of the group and column. -/
def qsOf (q : FVec Ideal S36864x1024 .bf16) : FVec Ideal S16x2048x2x4x128 .f32 :=
  (shapeCast _ (extractStridedSlice S32768x1024 ![0, 0] (extf .f32 q bitsLt_bf16_f32) slices_S36864x1024_S32768x1024_0_0) shapeCasts_S32768x1024_S16x2048x2x4x128)

/-- The keys of every batch, the context's before the latent ones. -/
def keysOf (k : FVec Ideal S36864x256 .bf16) : FVec Ideal S16x2304x2x128 .f32 :=
  (concatenate S16x2304x2x128 1 [⟨S16x256x2x128, (shapeCast _ (extractStridedSlice S4096x256 ![32768, 0] (extf .f32 k bitsLt_bf16_f32) slices_S36864x256_S4096x256_32768_0) shapeCasts_S4096x256_S16x256x2x128)⟩, ⟨S16x2048x2x128, (shapeCast _ (extractStridedSlice S32768x256 ![0, 0] (extf .f32 k bitsLt_bf16_f32) slices_S36864x256_S32768x256_0_0) shapeCasts_S32768x256_S16x2048x2x128)⟩] concatenates_S16x256x2x128_S16x2048x2x128_S16x2304x2x128_d1)

/-- The values of every batch, the context's before the latent ones. -/
def valsOf (z : FVec Ideal S36864x10752 .bf16) : FVec Ideal S16x2304x2x128 .f32 :=
  (concatenate S16x2304x2x128 1 [⟨S16x256x2x128, (shapeCast _ (extractStridedSlice S4096x256 ![32768, 0] (extractStridedSlice S36864x256 ![0, 9984] (extf .f32 z bitsLt_bf16_f32) slices_S36864x10752_S36864x256_0_9984) slices_S36864x256_S4096x256_32768_0) shapeCasts_S4096x256_S16x256x2x128)⟩, ⟨S16x2048x2x128, (shapeCast _ (extractStridedSlice S32768x256 ![0, 0] (extractStridedSlice S36864x256 ![0, 9984] (extf .f32 z bitsLt_bf16_f32) slices_S36864x10752_S36864x256_0_9984) slices_S36864x256_S32768x256_0_0) shapeCasts_S32768x256_S16x2048x2x128)⟩] concatenates_S16x256x2x128_S16x2048x2x128_S16x2304x2x128_d1)

/-- The scores of every query against every key of its batch and head. -/
def scores (keys : FVec Ideal S16x2304x2x128 .f32) (qs : FVec Ideal S16x2048x2x4x128 .f32) : FVec Ideal S16x2x4x2048x2304 .f32 :=
  (transpose S16x2x4x2048x2304 [0, 1, 4, 3, 2] (Host.dotGeneral dot_S16x2304x2x128_S16x2048x2x4x128_S16x2x2304x2048x4_3_4_1_13_02_02 none keys qs) transposes_S16x2x2304x2048x4_S16x2x4x2048x2304_0_1_4_3_2)

/-- The greatest score of every row. -/
def greatest (s : FVec Ideal S16x2x4x2048x2304 .f32) : FVec Ideal S16x2x4x2048 .f32 :=
  (Host.reduce FloatOps.maximumf s (constant S_ .f32 0xFF800000#32) reducesTo_S16x2x4x2048x2304_S16x2x4x2048_d4 h_S_)

/-- The exponentials of the scores less their row's greatest. -/
def weights (s : FVec Ideal S16x2x4x2048x2304 .f32) (mx : FVec Ideal S16x2x4x2048 .f32) : FVec Ideal S16x2x4x2048x2304 .f32 :=
  (Host.exp (subf s (broadcastInDim S16x2x4x2048x2304 ![0, 1, 2, 3, 4] bcast_S16x2x4x2048x1_S16x2x4x2048x2304_0_1_2_3_4 (broadcastInDim S16x2x4x2048x1 ![0, 1, 2, 3] bcast_S16x2x4x2048_S16x2x4x2048x1_0_1_2_3 (maximumf (broadcastInDim S16x2x4x2048 ![] bcast_S_S16x2x4x2048 (constant S_ .f32 0xFF800000#32)) mx)))))

/-- The reference's scores of the latent queries against their keys, from the two arrays. -/
def scoresOf (q : FVec Ideal S36864x1024 .bf16) (k : FVec Ideal S36864x256 .bf16) : FVec Ideal S16x2x4x2048x2304 .f32 :=
  scores (keysOf k) (qsOf q)

/-- The reference's last steps: the normalised weights against the values, and the result's layout. -/
def attended (vals : FVec Ideal S16x2304x2x128 .f32) (w : FVec Ideal S16x2x4x2048x2304 .f32) : FVec Ideal S32768x1024 .bf16 :=
  truncf .bf16 (shapeCast _ (transpose S16x2048x2x4x128 [0, 4, 1, 3, 2] (Host.dotGeneral dot_S16x2304x2x128_S16x2x4x2048x2304_S16x2x128x4x2048_1_4_3_23_02_01 none vals (Host.divf w (broadcastInDim S16x2x4x2048x2304 ![0, 1, 2, 3, 4] bcast_S16x2x4x2048x1_S16x2x4x2048x2304_0_1_2_3_4 (broadcastInDim S16x2x4x2048x1 ![0, 1, 2, 3] bcast_S16x2x4x2048_S16x2x4x2048x1_0_1_2_3 (Host.reduceAdd w (constant S_ .f32 0x00000000#32) reducesTo_S16x2x4x2048x2304_S16x2x4x2048_d4 h_S_))))) transposes_S16x2x128x4x2048_S16x2048x2x4x128_0_4_1_3_2) shapeCasts_S16x2048x2x4x128_S32768x1024) bitsLt_bf16_f32

/-- The reference's result, cut into those steps. -/
theorem res_eq (m : (ℓ : Loc nD τ sig) → Buf (Elt Ideal) ℓ) (c : Dev nD) :
    res_main_v32 m c = attended (valsOf (m ((c.tc : Thread nD τ).loc main_arg2)))
      (weights (scoresOf (m ((c.tc : Thread nD τ).loc main_arg0)) (m ((c.tc : Thread nD τ).loc main_arg1)))
        (greatest (scoresOf (m ((c.tc : Thread nD τ).loc main_arg0)) (m ((c.tc : Thread nD τ).loc main_arg1))))) := rfl

set_option maxHeartbeats 1000000 in
/-- A score is the sum over the head's columns of key times query. -/
theorem scores_at (keys : FVec Ideal S16x2304x2x128 .f32) (qs : FVec Ideal S16x2048x2x4x128 .f32)
    (b : Fin 16) (h : Fin 2) (g : Fin 4) (i : Fin 2048) (x : Fin 2304) :
    scores keys qs (ix5 b h g i x) = ∑ e : Fin 128, keys (ix4 b x h e) * qs (ix5 b i h g e) := by
  pointwise [scores]

set_option maxHeartbeats 1000000 in
/-- The greatest score of a row, as the fold over the row. -/
theorem greatest_at (s : FVec Ideal S16x2x4x2048x2304 .f32) (b : Fin 16) (h : Fin 2) (g : Fin 4) (i : Fin 2048) :
    greatest s (ix4 b h g i) = top fun x => s (ix5 b h g i x) := by
  pointwise [greatest]
  rw [negInf_eq, top]

set_option maxHeartbeats 1000000 in
/-- A weight is the exponential of its score less the number given for its row. -/
theorem weights_at (s : FVec Ideal S16x2x4x2048x2304 .f32) (mx : FVec Ideal S16x2x4x2048 .f32)
    (b : Fin 16) (h : Fin 2) (g : Fin 4) (i : Fin 2048) (x : Fin 2304) :
    weights s mx (ix5 b h g i x) = Ideal.exp (s (ix5 b h g i x) - mx (ix4 b h g i)) := by
  pointwise [weights]
  rw [negInf_eq, max_eq_right bot_le]

set_option maxHeartbeats 1000000 in
/-- One element of the result: the row's weights, each over their sum, against the values. -/
theorem attended_at (vals : FVec Ideal S16x2304x2x128 .f32) (w : FVec Ideal S16x2x4x2048x2304 .f32) (r : Fin 32768) (l : Fin 1024) :
    attended vals w (ix2 r l)
      = ∑ x, vals (ix4 ⟨r.val / 2048, by omega⟩ x ⟨l.val / 512, by omega⟩ ⟨l.val % 128, by omega⟩)
          * Ideal.div (w (ix5 ⟨r.val / 2048, by omega⟩ ⟨l.val / 512, by omega⟩ ⟨l.val / 128 % 4, by omega⟩ ⟨r.val % 2048, by omega⟩ x))
            (∑ x, w (ix5 ⟨r.val / 2048, by omega⟩ ⟨l.val / 512, by omega⟩ ⟨l.val / 128 % 4, by omega⟩ ⟨r.val % 2048, by omega⟩ x)) := by
  pointwise [attended]

set_option maxHeartbeats 1000000 in
/-- A latent query, read in the array of all queries. -/
theorem qsOf_at (q : FVec Ideal S36864x1024 .bf16) (b : Fin 16) (i : Fin 2048) (h : Fin 2) (g : Fin 4) (e : Fin 128) :
    qsOf q (ix5 b i h g e) = q (ix2 ⟨b.val * 2048 + i.val, by omega⟩ ⟨h.val * 512 + g.val * 128 + e.val, by omega⟩) := by
  pointwise [qsOf]

set_option maxHeartbeats 1000000 in
/-- A context key of a batch, read in the array of all keys. -/
theorem keysOf_ctx (k : FVec Ideal S36864x256 .bf16) (b : Fin 16) (x : Fin 256) (h : Fin 2) (e : Fin 128) :
    keysOf k (ix4 b (Fin.castAdd 2048 x) h e) = k (ix2 ⟨32768 + b.val * 256 + x.val, by omega⟩ ⟨h.val * 128 + e.val, by omega⟩) := by
  pointwise [keysOf]
  simp
  reads_congr
  all_goals blk_ext

set_option maxHeartbeats 1000000 in
/-- A latent key of a batch, read in the array of all keys. -/
theorem keysOf_lat (k : FVec Ideal S36864x256 .bf16) (b : Fin 16) (x : Fin 2048) (h : Fin 2) (e : Fin 128) :
    keysOf k (ix4 b (Fin.natAdd 256 x) h e) = k (ix2 ⟨b.val * 2048 + x.val, by omega⟩ ⟨h.val * 128 + e.val, by omega⟩) := by
  pointwise [keysOf]
  simp

set_option maxHeartbeats 1000000 in
/-- A context value of a batch, read in the projection. -/
theorem valsOf_ctx (z : FVec Ideal S36864x10752 .bf16) (b : Fin 16) (x : Fin 256) (h : Fin 2) (e : Fin 128) :
    valsOf z (ix4 b (Fin.castAdd 2048 x) h e)
      = z (ix2 ⟨32768 + b.val * 256 + x.val, by omega⟩ ⟨9984 + (h.val * 128 + e.val), by omega⟩) := by
  pointwise [valsOf]
  simp
  reads_congr
  all_goals blk_ext

set_option maxHeartbeats 1000000 in
/-- A latent value of a batch, read in the projection. -/
theorem valsOf_lat (z : FVec Ideal S36864x10752 .bf16) (b : Fin 16) (x : Fin 2048) (h : Fin 2) (e : Fin 128) :
    valsOf z (ix4 b (Fin.natAdd 256 x) h e)
      = z (ix2 ⟨b.val * 2048 + x.val, by omega⟩ ⟨9984 + (h.val * 128 + e.val), by omega⟩) := by
  pointwise [valsOf]
  simp

/-- Every score is finite when the queries and the keys are. -/
theorem scoresOf_finite (q : FVec Ideal S36864x1024 .bf16) (k : FVec Ideal S36864x256 .bf16)
    (hq : ∀ i, (⊥ : EReal) < q i ∧ q i < (⊤ : EReal)) (hk : ∀ i, (⊥ : EReal) < k i ∧ k i < (⊤ : EReal))
    (b : Fin 16) (h : Fin 2) (g : Fin 4) (i : Fin 2048) (x : Fin (256 + 2048)) :
    (⊥ : EReal) < scoresOf q k (ix5 b h g i x) ∧ scoresOf q k (ix5 b h g i x) < (⊤ : EReal) := by
  rw [scoresOf, scores_at]
  refine sum_mul_finite _ _ (fun e => ?_) fun e => ?_
  · refine Fin.addCases (fun x => ?_) (fun x => ?_) x
    · rw [keysOf_ctx]; exact hk _
    · rw [keysOf_lat]; exact hk _
  · rw [qsOf_at]; exact hq _

set_option maxHeartbeats 1000000 in
/-- The reference's result, at finite queries and keys, is the kernel's function of the three arrays. -/
theorem attended_eq (q : FVec Ideal S36864x1024 .bf16) (k : FVec Ideal S36864x256 .bf16) (z : FVec Ideal S36864x10752 .bf16)
    (hq : ∀ i, (⊥ : EReal) < q i ∧ q i < (⊤ : EReal)) (hk : ∀ i, (⊥ : EReal) < k i ∧ k i < (⊤ : EReal)) :
    attended (valsOf z) (weights (scoresOf q k) (greatest (scoresOf q k))) = Cert.AttnLatIdeal.HandValue.attn q k z := by
  funext y
  idx_vars y
  rw [attended_at]
  simp only [weights_at, greatest_at]
  refine (lateRows_eq (p := 256) (q := 2048) _ _ (by norm_num) (scoresOf_finite q k hq hk _ _ _ _)).symm.trans ?_
  simp only [scoresOf, scores_at, keysOf_ctx, keysOf_lat, valsOf_ctx, valsOf_lat, qsOf_at]
  unfold Cert.AttnLatIdeal.HandValue.attn
  simp only [mul_comm (k _)]
  reads_congr
  all_goals blk_ext

end Cert.AttnLatRefIdeal.RefValue
-- ==== Proof.CtxKernel.lean ====
/- The context attention: what its body stores for each of the four heads of a block, and the result array after the run,
   read at an index. -/
module

public import proofs.«01_k».proof.Proof.Gen.AttnCtxIdeal.Value
public import proofs.«01_k».proof.Proof.Softmax
public import Idealize.ShloMosaic.Lib.Pointwise
public import Idealize.ShloMosaic.Lib.Pipeline.ValueKit

@[expose] public section

set_option maxRecDepth 16384

noncomputable section

namespace Cert.AttnCtxIdeal.HandValue

open Idealize.ShloMosaic Cert.AttnCtxIdeal Cert.AttnCtxIdeal.Gen Trunk

/-- One head on one block: the softmax attention of the block's queries over the batch's context keys and values, at query
    row `r` and column `d` of the values. -/
def head (q k v : Vec Ideal S256x128 .bf16) (r : Fin 256) (d : Fin 128) : EReal :=
  lateRow (fun x : Fin 256 => ∑ e : Fin 128, q (ix2 r e) * k (ix2 x e)) (fun x => v (ix2 x d))

set_option maxHeartbeats 4000000 in
/-- What the body stores for the first head of a block is `head` of the loaded blocks. -/
theorem pay0 (q k v : Vec Ideal S256x128 .bf16) (r : Fin 256) (d : Fin 128) :
    k0_pay1 q k v (ix2 r d) = head q k v r d := by
  pointwise [k0_pay1]
  rw [negInf_eq]
  rfl

set_option maxHeartbeats 4000000 in
/-- What the body stores for the second head of a block is `head` of the loaded blocks. -/
theorem pay1 (q k v : Vec Ideal S256x128 .bf16) (r : Fin 256) (d : Fin 128) :
    k0_pay2 q k v (ix2 r d) = head q k v r d := by
  pointwise [k0_pay2]
  rw [negInf_eq]
  rfl

set_option maxHeartbeats 4000000 in
/-- What the body stores for the third head of a block is `head` of the loaded blocks. -/
theorem pay2 (q k v : Vec Ideal S256x128 .bf16) (r : Fin 256) (d : Fin 128) :
    k0_pay3 q k v (ix2 r d) = head q k v r d := by
  pointwise [k0_pay3]
  rw [negInf_eq]
  rfl

set_option maxHeartbeats 4000000 in
/-- What the body stores for the fourth head of a block is `head` of the loaded blocks. -/
theorem pay3 (q k v : Vec Ideal S256x128 .bf16) (r : Fin 256) (d : Fin 128) :
    k0_pay4 q k v (ix2 r d) = head q k v r d := by
  pointwise [k0_pay4]
  rw [negInf_eq]
  rfl

/-- The block of each window at grid point `t`: the batch is `t / 2`, the key-value head `t % 2`. -/
theorem idx : ∀ t : Fin grid0.N, win0_0.index t = ![128 + t.val / 2, t.val % 2]
   ∧ win0_1.index t = ![128 + t.val / 2, t.val % 2]
   ∧ win0_2.index t = ![128 + t.val / 2, 78 + t.val % 2]
   ∧ win0_3.index t = ![t.val / 2, t.val % 2] := by decide +kernel

/-- The context attention at context row `y 0` and column `y 1`, over the context keys and values of the row's batch. -/
def attn (q : S36864x1024.Idx → EReal) (k : S36864x256.Idx → EReal) (z : S36864x10752.Idx → EReal) (y : S4096x1024.Idx) : EReal :=
  lateRow
    (fun x : Fin 256 => ∑ e : Fin 128, q (ix2 ⟨32768 + (y 0).val, by idx_bounds y; omega⟩ ⟨(y 1).val / 128 * 128 + e.val, by idx_bounds y; omega⟩)
      * k (ix2 ⟨32768 + (y 0).val / 256 * 256 + x.val, by idx_bounds y; omega⟩ ⟨(y 1).val / 512 * 128 + e.val, by idx_bounds y; omega⟩))
    (fun x => z (ix2 ⟨32768 + (y 0).val / 256 * 256 + x.val, by idx_bounds y; omega⟩ ⟨9984 + (y 1).val / 512 * 128 + (y 1).val % 128, by idx_bounds y; omega⟩))

/-- The block's columns from 0 on, read at an index. -/
theorem ld_r0_0 (X : Vec Ideal S256x512 .bf16) (a : Fin 256) (e : Fin 128) :
    View.ld X r0_0 (ix2 a e) = X (ix2 a ⟨0 + e.val, by omega⟩) := by
  refine View.ld_unit_apply_of X _ _ _ _ _ fun i => ?_
  fin_cases i <;> simp

/-- The block's columns from 128 on, read at an index. -/
theorem ld_r0_2 (X : Vec Ideal S256x512 .bf16) (a : Fin 256) (e : Fin 128) :
    View.ld X r0_2 (ix2 a e) = X (ix2 a ⟨128 + e.val, by omega⟩) := by
  refine View.ld_unit_apply_of X _ _ _ _ _ fun i => ?_
  fin_cases i <;> simp

/-- The block's columns from 256 on, read at an index. -/
theorem ld_r0_3 (X : Vec Ideal S256x512 .bf16) (a : Fin 256) (e : Fin 128) :
    View.ld X r0_3 (ix2 a e) = X (ix2 a ⟨256 + e.val, by omega⟩) := by
  refine View.ld_unit_apply_of X _ _ _ _ _ fun i => ?_
  fin_cases i <;> simp

/-- The block's columns from 384 on, read at an index. -/
theorem ld_r0_4 (X : Vec Ideal S256x512 .bf16) (a : Fin 256) (e : Fin 128) :
    View.ld X r0_4 (ix2 a e) = X (ix2 a ⟨384 + e.val, by omega⟩) := by
  refine View.ld_unit_apply_of X _ _ _ _ _ fun i => ?_
  fin_cases i <;> simp

set_option maxHeartbeats 4000000 in
/-- The kernel's result array, as one function of the queries, the keys and the projection that holds the values. -/
theorem array_eq (m : (ℓ : Loc nD τ sig) → Buf (Elt Ideal) ℓ) (c : Dev nD) :
    (dats m 0 c).arrAt 3 cfg0.N = attn (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  unfold out0_3
  frame_out
  have ht : t.val < 32 := t.isLt
  canon_tiles
  all_goals
    idx_vars x
    first | rw [pay0] | rw [pay1] | rw [pay2] | rw [pay3]
    unfold head attn
    reads_congr
    all_goals first | rw [ld_r0_0] | rw [ld_r0_2] | rw [ld_r0_3] | rw [ld_r0_4] | skip
    all_goals blk_ext [iblk, V, idx t]

end Cert.AttnCtxIdeal.HandValue
-- ==== Proof.CtxReference.lean ====
/- The context attention's reference read at an index: it is the kernel's function of the same three arrays when the queries
   and the keys are finite. -/
module

public import proofs.«01_k».proof.Proof.Gen.AttnCtxRefIdeal.Run
public import proofs.«01_k».proof.Proof.CtxKernel

@[expose] public section

set_option maxRecDepth 16384

noncomputable section

namespace Cert.AttnCtxRefIdeal.RefValue

open Idealize.ShloMosaic Cert.AttnCtxRefIdeal Cert.AttnCtxRefIdeal.Value Trunk
open Cert.AttnCtxRefIdeal.Gen

/-- The context queries, split into batch, row, key-value head, query head of the group and column. -/
def qsOf (q : FVec Ideal S36864x1024 .bf16) : FVec Ideal S16x256x2x4x128 .f32 :=
  (shapeCast _ (extractStridedSlice S4096x1024 ![32768, 0] (extf .f32 q bitsLt_bf16_f32) slices_S36864x1024_S4096x1024_32768_0) shapeCasts_S4096x1024_S16x256x2x4x128)

/-- The context keys of every batch. -/
def keysOf (k : FVec Ideal S36864x256 .bf16) : FVec Ideal S16x256x2x128 .f32 :=
  (shapeCast _ (extractStridedSlice S4096x256 ![32768, 0] (extf .f32 k bitsLt_bf16_f32) slices_S36864x256_S4096x256_32768_0) shapeCasts_S4096x256_S16x256x2x128)

/-- The context values of every batch. -/
def valsOf (z : FVec Ideal S36864x10752 .bf16) : FVec Ideal S16x256x2x128 .f32 :=
  (shapeCast _ (extractStridedSlice S4096x256 ![32768, 9984] (extf .f32 z bitsLt_bf16_f32) slices_S36864x10752_S4096x256_32768_9984) shapeCasts_S4096x256_S16x256x2x128)

/-- The scores of every query against every key of its batch and head. -/
def scores (keys : FVec Ideal S16x256x2x128 .f32) (qs : FVec Ideal S16x256x2x4x128 .f32) : FVec Ideal S16x2x4x256x256 .f32 :=
  (transpose S16x2x4x256x256 [0, 1, 4, 3, 2] (Host.dotGeneral dot_S16x256x2x128_S16x256x2x4x128_S16x2x256x256x4_3_4_1_13_02_02 none keys qs) transposes_S16x2x256x256x4_S16x2x4x256x256_0_1_4_3_2)

/-- The greatest score of every row. -/
def greatest (s : FVec Ideal S16x2x4x256x256 .f32) : FVec Ideal S16x2x4x256 .f32 :=
  (Host.reduce FloatOps.maximumf s (constant S_ .f32 0xFF800000#32) reducesTo_S16x2x4x256x256_S16x2x4x256_d4 h_S_)

/-- The exponentials of the scores less the number given for their row. -/
def weights (s : FVec Ideal S16x2x4x256x256 .f32) (mx : FVec Ideal S16x2x4x256 .f32) : FVec Ideal S16x2x4x256x256 .f32 :=
  (Host.exp (subf s (broadcastInDim S16x2x4x256x256 ![0, 1, 2, 3, 4] bcast_S16x2x4x256x1_S16x2x4x256x256_0_1_2_3_4 (broadcastInDim S16x2x4x256x1 ![0, 1, 2, 3] bcast_S16x2x4x256_S16x2x4x256x1_0_1_2_3 (maximumf (broadcastInDim S16x2x4x256 ![] bcast_S_S16x2x4x256 (constant S_ .f32 0xFF800000#32)) mx)))))

/-- The reference's scores of the context queries against their keys, from the two arrays. -/
def scoresOf (q : FVec Ideal S36864x1024 .bf16) (k : FVec Ideal S36864x256 .bf16) : FVec Ideal S16x2x4x256x256 .f32 :=
  scores (keysOf k) (qsOf q)

/-- The reference's last steps: the normalised weights against the values, and the result's layout. -/
def attended (vals : FVec Ideal S16x256x2x128 .f32) (w : FVec Ideal S16x2x4x256x256 .f32) : FVec Ideal S4096x1024 .bf16 :=
  truncf .bf16 (shapeCast _ (transpose S16x256x2x4x128 [0, 4, 1, 3, 2] (Host.dotGeneral dot_S16x256x2x128_S16x2x4x256x256_S16x2x128x4x256_1_4_3_23_02_01 none vals (Host.divf w (broadcastInDim S16x2x4x256x256 ![0, 1, 2, 3, 4] bcast_S16x2x4x256x1_S16x2x4x256x256_0_1_2_3_4 (broadcastInDim S16x2x4x256x1 ![0, 1, 2, 3] bcast_S16x2x4x256_S16x2x4x256x1_0_1_2_3 (Host.reduceAdd w (constant S_ .f32 0x00000000#32) reducesTo_S16x2x4x256x256_S16x2x4x256_d4 h_S_))))) transposes_S16x2x128x4x256_S16x256x2x4x128_0_4_1_3_2) shapeCasts_S16x256x2x4x128_S4096x1024) bitsLt_bf16_f32

/-- The reference's result, cut into those steps. -/
theorem res_eq (m : (ℓ : Loc nD τ sig) → Buf (Elt Ideal) ℓ) (c : Dev nD) :
    truncf .bf16 (shapeCast _ (transpose S16x256x2x4x128 [0, 4, 1, 3, 2] (Host.dotGeneral dot_S16x256x2x128_S16x2x4x256x256_S16x2x128x4x256_1_4_3_23_02_01 none (shapeCast _ (extractStridedSlice S4096x256 ![32768, 9984] (extf .f32 (m ((c.tc : Thread nD τ).loc main_arg2)) bitsLt_bf16_f32) slices_S36864x10752_S4096x256_32768_9984) shapeCasts_S4096x256_S16x256x2x128) (Host.divf (Host.exp (subf (transpose S16x2x4x256x256 [0, 1, 4, 3, 2] (Host.dotGeneral dot_S16x256x2x128_S16x256x2x4x128_S16x2x256x256x4_3_4_1_13_02_02 none (shapeCast _ (extractStridedSlice S4096x256 ![32768, 0] (extf .f32 (m ((c.tc : Thread nD τ).loc main_arg1)) bitsLt_bf16_f32) slices_S36864x256_S4096x256_32768_0) shapeCasts_S4096x256_S16x256x2x128) (shapeCast _ (extractStridedSlice S4096x1024 ![32768, 0] (extf .f32 (m ((c.tc : Thread nD τ).loc main_arg0)) bitsLt_bf16_f32) slices_S36864x1024_S4096x1024_32768_0) shapeCasts_S4096x1024_S16x256x2x4x128)) transposes_S16x2x256x256x4_S16x2x4x256x256_0_1_4_3_2) (broadcastInDim S16x2x4x256x256 ![0, 1, 2, 3, 4] bcast_S16x2x4x256x1_S16x2x4x256x256_0_1_2_3_4 (broadcastInDim S16x2x4x256x1 ![0, 1, 2, 3] bcast_S16x2x4x256_S16x2x4x256x1_0_1_2_3 (maximumf (broadcastInDim S16x2x4x256 ![] bcast_S_S16x2x4x256 (constant S_ .f32 0xFF800000#32)) (Host.reduce FloatOps.maximumf (transpose S16x2x4x256x256 [0, 1, 4, 3, 2] (Host.dotGeneral dot_S16x256x2x128_S16x256x2x4x128_S16x2x256x256x4_3_4_1_13_02_02 none (shapeCast _ (extractStridedSlice S4096x256 ![32768, 0] (extf .f32 (m ((c.tc : Thread nD τ).loc main_arg1)) bitsLt_bf16_f32) slices_S36864x256_S4096x256_32768_0) shapeCasts_S4096x256_S16x256x2x128) (shapeCast _ (extractStridedSlice S4096x1024 ![32768, 0] (extf .f32 (m ((c.tc : Thread nD τ).loc main_arg0)) bitsLt_bf16_f32) slices_S36864x1024_S4096x1024_32768_0) shapeCasts_S4096x1024_S16x256x2x4x128)) transposes_S16x2x256x256x4_S16x2x4x256x256_0_1_4_3_2) (constant S_ .f32 0xFF800000#32) reducesTo_S16x2x4x256x256_S16x2x4x256_d4 h_S_)))))) (broadcastInDim S16x2x4x256x256 ![0, 1, 2, 3, 4] bcast_S16x2x4x256x1_S16x2x4x256x256_0_1_2_3_4 (broadcastInDim S16x2x4x256x1 ![0, 1, 2, 3] bcast_S16x2x4x256_S16x2x4x256x1_0_1_2_3 (Host.reduceAdd (Host.exp (subf (transpose S16x2x4x256x256 [0, 1, 4, 3, 2] (Host.dotGeneral dot_S16x256x2x128_S16x256x2x4x128_S16x2x256x256x4_3_4_1_13_02_02 none (shapeCast _ (extractStridedSlice S4096x256 ![32768, 0] (extf .f32 (m ((c.tc : Thread nD τ).loc main_arg1)) bitsLt_bf16_f32) slices_S36864x256_S4096x256_32768_0) shapeCasts_S4096x256_S16x256x2x128) (shapeCast _ (extractStridedSlice S4096x1024 ![32768, 0] (extf .f32 (m ((c.tc : Thread nD τ).loc main_arg0)) bitsLt_bf16_f32) slices_S36864x1024_S4096x1024_32768_0) shapeCasts_S4096x1024_S16x256x2x4x128)) transposes_S16x2x256x256x4_S16x2x4x256x256_0_1_4_3_2) (broadcastInDim S16x2x4x256x256 ![0, 1, 2, 3, 4] bcast_S16x2x4x256x1_S16x2x4x256x256_0_1_2_3_4 (broadcastInDim S16x2x4x256x1 ![0, 1, 2, 3] bcast_S16x2x4x256_S16x2x4x256x1_0_1_2_3 (maximumf (broadcastInDim S16x2x4x256 ![] bcast_S_S16x2x4x256 (constant S_ .f32 0xFF800000#32)) (Host.reduce FloatOps.maximumf (transpose S16x2x4x256x256 [0, 1, 4, 3, 2] (Host.dotGeneral dot_S16x256x2x128_S16x256x2x4x128_S16x2x256x256x4_3_4_1_13_02_02 none (shapeCast _ (extractStridedSlice S4096x256 ![32768, 0] (extf .f32 (m ((c.tc : Thread nD τ).loc main_arg1)) bitsLt_bf16_f32) slices_S36864x256_S4096x256_32768_0) shapeCasts_S4096x256_S16x256x2x128) (shapeCast _ (extractStridedSlice S4096x1024 ![32768, 0] (extf .f32 (m ((c.tc : Thread nD τ).loc main_arg0)) bitsLt_bf16_f32) slices_S36864x1024_S4096x1024_32768_0) shapeCasts_S4096x1024_S16x256x2x4x128)) transposes_S16x2x256x256x4_S16x2x4x256x256_0_1_4_3_2) (constant S_ .f32 0xFF800000#32) reducesTo_S16x2x4x256x256_S16x2x4x256_d4 h_S_)))))) (constant S_ .f32 0x00000000#32) reducesTo_S16x2x4x256x256_S16x2x4x256_d4 h_S_))))) transposes_S16x2x128x4x256_S16x256x2x4x128_0_4_1_3_2) shapeCasts_S16x256x2x4x128_S4096x1024) bitsLt_bf16_f32
      = attended (valsOf (m ((c.tc : Thread nD τ).loc main_arg2)))
      (weights (scoresOf (m ((c.tc : Thread nD τ).loc main_arg0)) (m ((c.tc : Thread nD τ).loc main_arg1)))
        (greatest (scoresOf (m ((c.tc : Thread nD τ).loc main_arg0)) (m ((c.tc : Thread nD τ).loc main_arg1))))) := rfl

set_option maxHeartbeats 1000000 in
/-- A score is the sum over the head's columns of key times query. -/
theorem scores_at (keys : FVec Ideal S16x256x2x128 .f32) (qs : FVec Ideal S16x256x2x4x128 .f32)
    (b : Fin 16) (h : Fin 2) (g : Fin 4) (i x : Fin 256) :
    scores keys qs (ix5 b h g i x) = ∑ e : Fin 128, keys (ix4 b x h e) * qs (ix5 b i h g e) := by
  pointwise [scores]

set_option maxHeartbeats 1000000 in
/-- The greatest score of a row, as the fold over the row. -/
theorem greatest_at (s : FVec Ideal S16x2x4x256x256 .f32) (b : Fin 16) (h : Fin 2) (g : Fin 4) (i : Fin 256) :
    greatest s (ix4 b h g i) = top fun x => s (ix5 b h g i x) := by
  pointwise [greatest]
  rw [negInf_eq, top]

set_option maxHeartbeats 1000000 in
/-- A weight is the exponential of its score less the number given for its row. -/
theorem weights_at (s : FVec Ideal S16x2x4x256x256 .f32) (mx : FVec Ideal S16x2x4x256 .f32)
    (b : Fin 16) (h : Fin 2) (g : Fin 4) (i x : Fin 256) :
    weights s mx (ix5 b h g i x) = Ideal.exp (s (ix5 b h g i x) - mx (ix4 b h g i)) := by
  pointwise [weights]
  rw [negInf_eq, max_eq_right bot_le]

set_option maxHeartbeats 1000000 in
/-- One element of the result: the row's weights, each over their sum, against the values. -/
theorem attended_at (vals : FVec Ideal S16x256x2x128 .f32) (w : FVec Ideal S16x2x4x256x256 .f32) (r : Fin 4096) (l : Fin 1024) :
    attended vals w (ix2 r l)
      = ∑ x, vals (ix4 ⟨r.val / 256, by omega⟩ x ⟨l.val / 512, by omega⟩ ⟨l.val % 128, by omega⟩)
          * Ideal.div (w (ix5 ⟨r.val / 256, by omega⟩ ⟨l.val / 512, by omega⟩ ⟨l.val / 128 % 4, by omega⟩ ⟨r.val % 256, by omega⟩ x))
            (∑ x, w (ix5 ⟨r.val / 256, by omega⟩ ⟨l.val / 512, by omega⟩ ⟨l.val / 128 % 4, by omega⟩ ⟨r.val % 256, by omega⟩ x)) := by
  pointwise [attended]

set_option maxHeartbeats 1000000 in
/-- A context query, read in the array of all queries. -/
theorem qsOf_at (q : FVec Ideal S36864x1024 .bf16) (b : Fin 16) (i : Fin 256) (h : Fin 2) (g : Fin 4) (e : Fin 128) :
    qsOf q (ix5 b i h g e) = q (ix2 ⟨32768 + (b.val * 256 + i.val), by omega⟩ ⟨h.val * 512 + g.val * 128 + e.val, by omega⟩) := by
  pointwise [qsOf]

set_option maxHeartbeats 1000000 in
/-- A context key of a batch, read in the array of all keys. -/
theorem keysOf_at (k : FVec Ideal S36864x256 .bf16) (b : Fin 16) (x : Fin 256) (h : Fin 2) (e : Fin 128) :
    keysOf k (ix4 b x h e) = k (ix2 ⟨32768 + (b.val * 256 + x.val), by omega⟩ ⟨h.val * 128 + e.val, by omega⟩) := by
  pointwise [keysOf]

set_option maxHeartbeats 1000000 in
/-- A context value of a batch, read in the projection. -/
theorem valsOf_at (z : FVec Ideal S36864x10752 .bf16) (b : Fin 16) (x : Fin 256) (h : Fin 2) (e : Fin 128) :
    valsOf z (ix4 b x h e)
      = z (ix2 ⟨32768 + (b.val * 256 + x.val), by omega⟩ ⟨9984 + (h.val * 128 + e.val), by omega⟩) := by
  pointwise [valsOf]

/-- Every score is finite when the queries and the keys are. -/
theorem scoresOf_finite (q : FVec Ideal S36864x1024 .bf16) (k : FVec Ideal S36864x256 .bf16)
    (hq : ∀ i, (⊥ : EReal) < q i ∧ q i < (⊤ : EReal)) (hk : ∀ i, (⊥ : EReal) < k i ∧ k i < (⊤ : EReal))
    (b : Fin 16) (h : Fin 2) (g : Fin 4) (i x : Fin 256) :
    (⊥ : EReal) < scoresOf q k (ix5 b h g i x) ∧ scoresOf q k (ix5 b h g i x) < (⊤ : EReal) := by
  rw [scoresOf, scores_at]
  refine sum_mul_finite _ _ (fun e => ?_) fun e => ?_
  · rw [keysOf_at]; exact hk _
  · rw [qsOf_at]; exact hq _

set_option maxHeartbeats 1000000 in
/-- The reference's result, at finite queries and keys, is the kernel's function of the three arrays. -/
theorem attended_eq (q : FVec Ideal S36864x1024 .bf16) (k : FVec Ideal S36864x256 .bf16) (z : FVec Ideal S36864x10752 .bf16)
    (hq : ∀ i, (⊥ : EReal) < q i ∧ q i < (⊤ : EReal)) (hk : ∀ i, (⊥ : EReal) < k i ∧ k i < (⊤ : EReal)) :
    attended (valsOf z) (weights (scoresOf q k) (greatest (scoresOf q k))) = Cert.AttnCtxIdeal.HandValue.attn q k z := by
  funext y
  idx_vars y
  rw [attended_at]
  simp only [weights_at, greatest_at]
  refine (lateRow_eq _ _ (by norm_num) (scoresOf_finite q k hq hk _ _ _ _)).symm.trans ?_
  simp only [scoresOf, scores_at, keysOf_at, valsOf_at, qsOf_at]
  unfold Cert.AttnCtxIdeal.HandValue.attn
  simp only [mul_comm (k _)]
  reads_congr
  all_goals blk_ext

end Cert.AttnCtxRefIdeal.RefValue
-- ==== Proof.Merge.lean ====
/- The merge of the three branches: the kernel's result array and the reference's result are the same function of the
   branches, the gates and the weights, read at an index. -/
module

public import proofs.«01_k».proof.Proof.Gen.MergeIdeal.Value
public import proofs.«01_k».proof.Proof.Gen.MergeRefIdeal.Run
public import Idealize.ShloMosaic.Lib.Pointwise
public import Idealize.ShloMosaic.Lib.Pipeline.ValueKit

@[expose] public section

set_option maxRecDepth 16384

noncomputable section

namespace Trunk

open Idealize.ShloMosaic

/-- The gate of a logit: `1 / (1 + exp (-x))`. -/
def gate (x : EReal) : EReal := Ideal.div 1 (1 + Ideal.exp (-x))

end Trunk

namespace Cert.MergeIdeal.HandValue

open Idealize.ShloMosaic Cert.MergeIdeal Cert.MergeIdeal.Gen Trunk

/-- The merged branches at row `y 0` and column `y 1`: each branch's product with its weights, times the gate of its logit. -/
def merged (rw0 fo : S36864x512.Idx → EReal) (at0 : S36864x1024.Idx → EReal) (z : S36864x10752.Idx → EReal)
    (w0 w1 : S512x2048.Idx → EReal) (w2 : S1024x2048.Idx → EReal) (y : S36864x2048.Idx) : EReal :=
  gate (z (ix2 ⟨(y 0).val, by idx_bounds y; omega⟩ ⟨(y 1).val, by idx_bounds y; omega⟩))
        * ∑ x : Fin 512, rw0 (ix2 ⟨(y 0).val, by idx_bounds y; omega⟩ x) * w0 (ix2 x ⟨(y 1).val, by idx_bounds y; omega⟩)
    + gate (z (ix2 ⟨(y 0).val, by idx_bounds y; omega⟩ ⟨2048 + (y 1).val, by idx_bounds y; omega⟩))
        * ∑ x : Fin 512, fo (ix2 ⟨(y 0).val, by idx_bounds y; omega⟩ x) * w1 (ix2 x ⟨(y 1).val, by idx_bounds y; omega⟩)
    + gate (z (ix2 ⟨(y 0).val, by idx_bounds y; omega⟩ ⟨4096 + (y 1).val, by idx_bounds y; omega⟩))
        * ∑ x : Fin 1024, at0 (ix2 ⟨(y 0).val, by idx_bounds y; omega⟩ x) * w2 (ix2 x ⟨(y 1).val, by idx_bounds y; omega⟩)

set_option maxHeartbeats 4000000 in
/-- What the body stores, read at an index of the block. -/
theorem pay_at (z0 z1 z2 : Vec Ideal S1024x1024 .bf16) (rw0 fo : Vec Ideal S1024x512 .bf16) (at0 : Vec Ideal S1024x1024 .bf16)
    (w0 w1 : Vec Ideal S512x1024 .bf16) (w2 : Vec Ideal S1024x1024 .bf16) (r d : Fin 1024) :
    k0_pay1 (k0_pay2 z0 rw0 w0 z1 fo w1) (k0_pay3 z2) (Scalar.ofBits .f32 0x3F800000#32) at0 w2 (ix2 r d)
      = gate (z0 (ix2 r d)) * ∑ x : Fin 512, rw0 (ix2 r x) * w0 (ix2 x d)
        + gate (z1 (ix2 r d)) * ∑ x : Fin 512, fo (ix2 r x) * w1 (ix2 x d)
        + gate (z2 (ix2 r d)) * ∑ x : Fin 1024, at0 (ix2 r x) * w2 (ix2 x d) := by
  pointwise [k0_pay1, k0_pay2, k0_pay3]
  simp only [zero_sub]
  rfl

/-- The block of each window at grid point `t`: the rows' block is `t % 36`, the columns' `t / 36`. -/
theorem idx : ∀ t : Fin grid0.N, win0_0.index t = ![t.val % 36, 0]
   ∧ win0_1.index t = ![t.val % 36, 0]
   ∧ win0_2.index t = ![t.val % 36, 0]
   ∧ win0_3.index t = ![t.val % 36, t.val / 36]
   ∧ win0_4.index t = ![t.val % 36, 2 + t.val / 36]
   ∧ win0_5.index t = ![t.val % 36, 4 + t.val / 36]
   ∧ win0_6.index t = ![0, t.val / 36]
   ∧ win0_7.index t = ![0, t.val / 36]
   ∧ win0_8.index t = ![0, t.val / 36]
   ∧ win0_9.index t = ![t.val % 36, t.val / 36] := by decide +kernel

/-- What the staging buffer of the first branch's gate logits holds at grid point `t`, read in the projection. -/
theorem gates3_at (m : (ℓ : Loc nD τ sig) → Buf (Elt Ideal) ℓ) (c : Dev nD) (t : Fin cfg0.N) (ht : t.val < 72) (r d : Fin 1024) :
    X0_3 m c t (ix2 r d)
      = m ((c.tc : Thread nD τ).loc main_arg3) (ix2 ⟨t.val % 36 * 1024 + r.val, by omega⟩ ⟨t.val / 36 * 1024 + d.val, by omega⟩) := by
  unfold X0_3 Pipeline.Window.fill
  rw [dif_pos (moved0_3 t (ix2 r d))]
  blk_ext [iblk, V, idx t]

/-- What the staging buffer of the second branch's gate logits holds at grid point `t`, read in the projection. -/
theorem gates4_at (m : (ℓ : Loc nD τ sig) → Buf (Elt Ideal) ℓ) (c : Dev nD) (t : Fin cfg0.N) (ht : t.val < 72) (r d : Fin 1024) :
    X0_4 m c t (ix2 r d)
      = m ((c.tc : Thread nD τ).loc main_arg3) (ix2 ⟨t.val % 36 * 1024 + r.val, by omega⟩ ⟨2048 + (t.val / 36 * 1024 + d.val), by omega⟩) := by
  unfold X0_4 Pipeline.Window.fill
  rw [dif_pos (moved0_4 t (ix2 r d))]
  blk_ext [iblk, V, idx t]

/-- What the staging buffer of the third branch's gate logits holds at grid point `t`, read in the projection. -/
theorem gates5_at (m : (ℓ : Loc nD τ sig) → Buf (Elt Ideal) ℓ) (c : Dev nD) (t : Fin cfg0.N) (ht : t.val < 72) (r d : Fin 1024) :
    X0_5 m c t (ix2 r d)
      = m ((c.tc : Thread nD τ).loc main_arg3) (ix2 ⟨t.val % 36 * 1024 + r.val, by omega⟩ ⟨4096 + (t.val / 36 * 1024 + d.val), by omega⟩) := by
  unfold X0_5 Pipeline.Window.fill
  rw [dif_pos (moved0_5 t (ix2 r d))]
  blk_ext [iblk, V, idx t]

set_option maxHeartbeats 4000000 in
/-- The kernel's result array, as one function of the branches, the gate logits and the weights. -/
theorem array_eq (m : (ℓ : Loc nD τ sig) → Buf (Elt Ideal) ℓ) (c : Dev nD) :
    (dats m 0 c).arrAt 9 cfg0.N
      = merged (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) := by
  refine (dats m 0 c).arrAt_eq_of_covers 9 _ (by decide +kernel) fun t hf y => ?_
  blk_simp
  rw [after0_9]
  unfold outsAt0 out0_A_9
  frame_out
  have ht : t.val < 72 := t.isLt
  idx_vars y
  rw [pay_at]
  simp only [gates3_at m c t ht, gates4_at m c t ht, gates5_at m c t ht]
  unfold merged
  reads_congr
  all_goals blk_ext! [iblk, V, idx t]

end Cert.MergeIdeal.HandValue

namespace Cert.MergeRefIdeal.RefValue

open Idealize.ShloMosaic Cert.MergeRefIdeal Cert.MergeRefIdeal.Value Trunk
open Cert.MergeRefIdeal.Gen

/-- The reference's result as a function of its arguments. -/
def result (rw0 fo : FVec Ideal S36864x512 .bf16) (at0 : FVec Ideal S36864x1024 .bf16) (z : FVec Ideal S36864x10752 .bf16)
    (w0 w1 : FVec Ideal S512x2048 .f32) (w2 : FVec Ideal S1024x2048 .f32) : FVec Ideal S36864x2048 .bf16 :=
  truncf .bf16 (addf (addf (mulf (extractStridedSlice S36864x2048 ![0, 0] (Host.divf (broadcastInDim S36864x6144 ![] bcast_S_S36864x6144 (constant S_ .f32 0x3F800000#32)) (addf (broadcastInDim S36864x6144 ![] bcast_S_S36864x6144 (constant S_ .f32 0x3F800000#32)) (Host.exp (Host.negf (extractStridedSlice S36864x6144 ![0, 0] (extf .f32 z bitsLt_bf16_f32) slices_S36864x10752_S36864x6144_0_0))))) slices_S36864x6144_S36864x2048_0_0) (Host.dotGeneral dot_S36864x512_S512x2048_S36864x2048_1_0_0_1_n_n none (extf .f32 rw0 bitsLt_bf16_f32) w0)) (mulf (extractStridedSlice S36864x2048 ![0, 2048] (Host.divf (broadcastInDim S36864x6144 ![] bcast_S_S36864x6144 (constant S_ .f32 0x3F800000#32)) (addf (broadcastInDim S36864x6144 ![] bcast_S_S36864x6144 (constant S_ .f32 0x3F800000#32)) (Host.exp (Host.negf (extractStridedSlice S36864x6144 ![0, 0] (extf .f32 z bitsLt_bf16_f32) slices_S36864x10752_S36864x6144_0_0))))) slices_S36864x6144_S36864x2048_0_2048) (Host.dotGeneral dot_S36864x512_S512x2048_S36864x2048_1_0_0_1_n_n none (extf .f32 fo bitsLt_bf16_f32) w1))) (mulf (extractStridedSlice S36864x2048 ![0, 4096] (Host.divf (broadcastInDim S36864x6144 ![] bcast_S_S36864x6144 (constant S_ .f32 0x3F800000#32)) (addf (broadcastInDim S36864x6144 ![] bcast_S_S36864x6144 (constant S_ .f32 0x3F800000#32)) (Host.exp (Host.negf (extractStridedSlice S36864x6144 ![0, 0] (extf .f32 z bitsLt_bf16_f32) slices_S36864x10752_S36864x6144_0_0))))) slices_S36864x6144_S36864x2048_0_4096) (Host.dotGeneral dot_S36864x1024_S1024x2048_S36864x2048_1_0_0_1_n_n none (extf .f32 at0 bitsLt_bf16_f32) w2))) bitsLt_bf16_f32

set_option maxHeartbeats 4000000 in
/-- The reference's result is the merged branches. -/
theorem result_eq (rw0 fo : FVec Ideal S36864x512 .bf16) (at0 : FVec Ideal S36864x1024 .bf16) (z : FVec Ideal S36864x10752 .bf16)
    (w0 w1 : FVec Ideal S512x2048 .f32) (w2 : FVec Ideal S1024x2048 .f32) :
    result rw0 fo at0 z w0 w1 w2 = Cert.MergeIdeal.HandValue.merged rw0 fo at0 z w0 w1 w2 := by
  funext y
  idx_vars y
  pointwise [result]
  rfl

end Cert.MergeRefIdeal.RefValue
-- ==== Proof.OutProj.lean ====
/- The output projection and the gated residual: the kernel's result array and the reference's result are the same function
   of the tokens, the merged branches, the modulation and the weights, read at an index. -/
module

public import proofs.«01_k».proof.Proof.Gen.OutProjIdeal.Value
public import proofs.«01_k».proof.Proof.Gen.OutProjRefIdeal.Run
public import Idealize.ShloMosaic.Lib.Pointwise
public import Idealize.ShloMosaic.Lib.Pipeline.ValueKit

@[expose] public section

set_option maxRecDepth 16384

noncomputable section

namespace Cert.OutProjIdeal.HandValue

open Idealize.ShloMosaic Cert.OutProjIdeal Cert.OutProjIdeal.Gen

set_option maxHeartbeats 4000000 in
/-- What the body stores, read at an index of the block. -/
theorem pay_at (x : Vec Ideal S1024x1024 .f32) (g : Vec Ideal S1x1x1x1024 .f32) (y : Vec Ideal S1024x2048 .bf16) (w : Vec Ideal S2048x1024 .bf16) (r d : Fin 1024) :
    k0_pay1 x g y w (ix2 r d) = x (ix2 r d) + g (ix4 0 0 0 d) * ∑ e : Fin 2048, y (ix2 r e) * w (ix2 e d) := by
  pointwise [k0_pay1]

/-- The result at row `y 0` and column `y 1`: the token plus its gate times the projection, the latent tokens before the
    context's; a batch's latent tokens share one gate, all context tokens another. -/
def resid (a : S36864x2048.Idx → EReal) (x : S16x2048x2048.Idx → EReal) (ctx : S16x256x2048.Idx → EReal)
    (mod : S16x12288.Idx → EReal) (modc : S12288.Idx → EReal) (w : S2048x2048.Idx → EReal) (y : S36864x2048.Idx) : EReal :=
  if h : (y 0).val < 32768 then
    x (ix3 ⟨(y 0).val / 2048, by omega⟩ ⟨(y 0).val % 2048, by omega⟩ ⟨(y 1).val, by idx_bounds y; omega⟩)
      + mod (ix2 ⟨(y 0).val / 2048, by omega⟩ ⟨4096 + (y 1).val, by idx_bounds y; omega⟩)
        * ∑ e : Fin 2048, a (ix2 ⟨(y 0).val, by omega⟩ e) * w (ix2 e ⟨(y 1).val, by idx_bounds y; omega⟩)
  else
    ctx (ix3 ⟨((y 0).val - 32768) / 256, by idx_bounds y; omega⟩ ⟨((y 0).val - 32768) % 256, by omega⟩ ⟨(y 1).val, by idx_bounds y; omega⟩)
      + modc (ix1 ⟨4096 + (y 1).val, by idx_bounds y; omega⟩)
        * ∑ e : Fin 2048, a (ix2 ⟨(y 0).val, by idx_bounds y; omega⟩ e) * w (ix2 e ⟨(y 1).val, by idx_bounds y; omega⟩)

set_option maxHeartbeats 1000000 in
/-- The latent tokens and the context's in one array of rows, read at an index. -/
theorem tokens_at (x : Vec Ideal S16x2048x2048 .f32) (k : Vec Ideal S16x256x2048 .f32) (r : Fin 36864) (d : Fin 2048) :
    concatenate S36864x2048 0 [⟨S32768x2048, shapeCast S32768x2048 x shapeCasts_S16x2048x2048_S32768x2048⟩,
        ⟨S4096x2048, shapeCast S4096x2048 k shapeCasts_S16x256x2048_S4096x2048⟩] concatenates_S32768x2048_S4096x2048_S36864x2048_d0 (ix2 r d)
      = if h : r.val < 32768 then x (ix3 ⟨r.val / 2048, by omega⟩ ⟨r.val % 2048, by omega⟩ d)
        else k (ix3 ⟨(r.val - 32768) / 256, by omega⟩ ⟨(r.val - 32768) % 256, by omega⟩ d) := by
  pointwise

/-- All modulations: the batches', the context's, and zeros, six rows each. -/
def mods (a : Vec Ideal S16x12288 .f32) (k : Vec Ideal S12288 .f32) : Vec Ideal S32x6x1x2048 .f32 :=
  shapeCast S32x6x1x2048 (concatenate S32x12288 0 [⟨S16x12288, a⟩, ⟨S1x12288, broadcastInDim S1x12288 ![1] bcast_S12288_S1x12288_1 k⟩,
    ⟨S15x12288, broadcastInDim S15x12288 ![] bcast_S_S15x12288 (constant (F := Ideal) S_ .f32 0x00000000#32)⟩]
    concatenates_S16x12288_S1x12288_S15x12288_S32x12288_d0) shapeCasts_S32x12288_S32x6x1x2048

set_option maxHeartbeats 1000000 in
/-- All modulations, read at an index of a batch's. -/
theorem mods_lat (a : Vec Ideal S16x12288 .f32) (k : Vec Ideal S12288 .f32) (b : Fin 32) (j : Fin 6) (d : Fin 2048) (h : b.val < 16) :
    mods a k (ix4 b j 0 d) = a (ix2 ⟨b.val, h⟩ ⟨j.val * 2048 + d.val, by omega⟩) := by
  pointwise [mods]
  rw [dif_pos h]

set_option maxHeartbeats 1000000 in
/-- All modulations, read at an index of the context's. -/
theorem mods_ctx (a : Vec Ideal S16x12288 .f32) (k : Vec Ideal S12288 .f32) (b : Fin 32) (j : Fin 6) (d : Fin 2048) (h : b.val = 16) :
    mods a k (ix4 b j 0 d) = k (ix1 ⟨j.val * 2048 + d.val, by omega⟩) := by
  pointwise [mods]
  rw [dif_neg (by omega), dif_pos (by omega)]

/-- The block of each window at grid point `t`, but the gate's: the rows' block is `t % 36`, the columns' `t / 36`. -/
theorem idx : ∀ t : Fin grid0.N, win0_0.index t = ![t.val % 36, 0]
   ∧ win0_1.index t = ![0, t.val / 36]
   ∧ win0_2.index t = ![t.val % 36, t.val / 36]
   ∧ win0_4.index t = ![t.val % 36, t.val / 36] := by decide +kernel

/-- The gate's block at a grid point of latent tokens is that of their batch. -/
theorem idx_lat : ∀ t : Fin grid0.N, t.val % 36 < 32 → win0_3.index t = ![t.val % 36 / 2, 2, 0, t.val / 36] := by decide +kernel

/-- The gate's block at a grid point of context tokens is the one after the batches'. -/
theorem idx_ctx : ∀ t : Fin grid0.N, ¬t.val % 36 < 32 → win0_3.index t = ![16, 2, 0, t.val / 36] := by decide +kernel

variable (m : (ℓ : Loc nD τ sig) → Buf (Elt Ideal) ℓ) (c : Dev nD)

set_option maxHeartbeats 1000000 in
/-- A latent token, in the array of all tokens that the call is given. -/
theorem tokens_lat (r : Fin 36864) (d : Fin 2048) (h : r.val < 32768) :
    (V m c main_v6 : S36864x2048.Idx → EReal) (ix2 r d) = m ((c.tc : Thread nD τ).loc main_arg1) (ix3 ⟨r.val / 2048, by omega⟩ ⟨r.val % 2048, by omega⟩ d) := by
  entry_read
  exact (tokens_at _ _ r d).trans (dif_pos h)

set_option maxHeartbeats 1000000 in
/-- A context token, in the array of all tokens that the call is given. -/
theorem tokens_ctx (r : Fin 36864) (d : Fin 2048) (h : ¬r.val < 32768) :
    (V m c main_v6 : S36864x2048.Idx → EReal) (ix2 r d) = m ((c.tc : Thread nD τ).loc main_arg2) (ix3 ⟨(r.val - 32768) / 256, by omega⟩ ⟨(r.val - 32768) % 256, by omega⟩ d) := by
  entry_read
  exact (tokens_at _ _ r d).trans (dif_neg h)

set_option maxHeartbeats 1000000 in
/-- The array of all modulations that the call is given. -/
theorem V_mods : (V m c main_v3 : Vec Ideal S32x6x1x2048 .f32) = mods (m ((c.tc : Thread nD τ).loc main_arg3)) (m ((c.tc : Thread nD τ).loc main_arg4)) := by
  unfold V
  after_results
  rfl

set_option maxHeartbeats 4000000 in
/-- The kernel's result array, as one function of its arguments. -/
theorem array_eq :
    (dats m 0 c).arrAt 4 cfg0.N
      = resid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 4 _ (by decide +kernel) fun t hf y => ?_
  blk_simp
  rw [after0_4]
  unfold out0_4
  frame_out
  have ht : t.val < 72 := t.isLt
  idx_vars y
  rw [pay_at]
  unfold resid
  by_cases h : t.val % 36 < 32
  · rw [dif_pos (by blk_simp [idx t]; omega)]
    have hg : win0_3.index t = ![t.val % 36 / 2, 2, 0, t.val / 36] := idx_lat t h
    have e2 : iblk m c 2 t (ix2 y0 y1) = (V m c main_v6 : S36864x2048.Idx → EReal) (ix2 ⟨t.val % 36 * 1024 + y0.val, by omega⟩ ⟨t.val / 36 * 1024 + y1.val, by omega⟩) := by
      reads_congr
      all_goals blk_ext [iblk, idx t]
    have e3 : iblk m c 3 t (ix4 0 0 0 y1) = (V m c main_v3 : S32x6x1x2048.Idx → EReal) (ix4 ⟨t.val % 36 / 2, by omega⟩ 2 0 ⟨t.val / 36 * 1024 + y1.val, by omega⟩) := by
      reads_congr
      all_goals blk_ext [iblk, hg]
    rw [e2, e3, tokens_lat m c _ _ (show t.val % 36 * 1024 + y0.val < 32768 by omega), V_mods, mods_lat _ _ _ _ _ (show t.val % 36 / 2 < 16 by omega)]
    reads_congr
    all_goals blk_ext! [iblk, V, idx t]
  · rw [dif_neg (by blk_simp [idx t]; omega)]
    have hg : win0_3.index t = ![16, 2, 0, t.val / 36] := idx_ctx t h
    have e2 : iblk m c 2 t (ix2 y0 y1) = (V m c main_v6 : S36864x2048.Idx → EReal) (ix2 ⟨t.val % 36 * 1024 + y0.val, by omega⟩ ⟨t.val / 36 * 1024 + y1.val, by omega⟩) := by
      reads_congr
      all_goals blk_ext [iblk, idx t]
    have e3 : iblk m c 3 t (ix4 0 0 0 y1) = (V m c main_v3 : S32x6x1x2048.Idx → EReal) (ix4 16 2 0 ⟨t.val / 36 * 1024 + y1.val, by omega⟩) := by
      reads_congr
      all_goals blk_ext [iblk, hg]
    rw [e2, e3, tokens_ctx m c _ _ (show ¬t.val % 36 * 1024 + y0.val < 32768 by omega), V_mods, mods_ctx _ _ _ _ _ rfl]
    have emb : ((View.whole main_v8).slice (win0_4.rect t)).emb (ix2 y0 y1)
        = (ix2 ⟨t.val % 36 * 1024 + y0.val, by omega⟩ ⟨t.val / 36 * 1024 + y1.val, by omega⟩ : S36864x2048.Idx) := by
      blk_ext [idx t]
    reads_congr
    · simp only [emb]
      rfl
    · simp only [emb]
      rfl
    all_goals blk_ext! [iblk, V, idx t]

end Cert.OutProjIdeal.HandValue

namespace Cert.OutProjRefIdeal.RefValue

open Idealize.ShloMosaic Cert.OutProjRefIdeal Cert.OutProjRefIdeal.Value
open Cert.OutProjRefIdeal.Gen

/-- The reference's result as a function of its arguments. -/
def result (a : FVec Ideal S36864x2048 .bf16) (x : FVec Ideal S16x2048x2048 .f32) (ctx : FVec Ideal S16x256x2048 .f32)
    (mod : FVec Ideal S16x12288 .f32) (modc : FVec Ideal S12288 .f32) (w : FVec Ideal S2048x2048 .f32) : FVec Ideal S36864x2048 .f32 :=
  concatenate S36864x2048 0 [⟨S32768x2048, (shapeCast _ (addf x (mulf (broadcastInDim S16x2048x2048 ![0, 1, 2] bcast_S16x1x2048_S16x2048x2048_0_1_2 (broadcastInDim S16x1x2048 ![0, 2] bcast_S16x2048_S16x1x2048_0_2 (extractStridedSlice S16x2048 ![0, 4096] mod slices_S16x12288_S16x2048_0_4096))) (shapeCast _ (extractStridedSlice S32768x2048 ![0, 0] (Host.dotGeneral dot_S36864x2048_S2048x2048_S36864x2048_1_0_0_1_n_n none (extf .f32 a bitsLt_bf16_f32) w) slices_S36864x2048_S32768x2048_0_0) shapeCasts_S32768x2048_S16x2048x2048))) shapeCasts_S16x2048x2048_S32768x2048)⟩, ⟨S4096x2048, (shapeCast _ (addf ctx (mulf (broadcastInDim S16x256x2048 ![0, 1, 2] bcast_S1x1x2048_S16x256x2048_0_1_2 (broadcastInDim S1x1x2048 ![2] bcast_S2048_S1x1x2048_2 (extractStridedSlice S2048 ![4096] modc slices_S12288_S2048_4096))) (shapeCast _ (extractStridedSlice S4096x2048 ![32768, 0] (Host.dotGeneral dot_S36864x2048_S2048x2048_S36864x2048_1_0_0_1_n_n none (extf .f32 a bitsLt_bf16_f32) w) slices_S36864x2048_S4096x2048_32768_0) shapeCasts_S4096x2048_S16x256x2048))) shapeCasts_S16x256x2048_S4096x2048)⟩] concatenates_S32768x2048_S4096x2048_S36864x2048_d0

set_option maxHeartbeats 4000000 in
/-- The reference's result is the gated residual. -/
theorem result_eq (a : FVec Ideal S36864x2048 .bf16) (x : FVec Ideal S16x2048x2048 .f32) (ctx : FVec Ideal S16x256x2048 .f32)
    (mod : FVec Ideal S16x12288 .f32) (modc : FVec Ideal S12288 .f32) (w : FVec Ideal S2048x2048 .f32) :
    result a x ctx mod modc w = Cert.OutProjIdeal.HandValue.resid a x ctx mod modc w := by
  funext y
  idx_vars y
  pointwise [result]
  unfold Cert.OutProjIdeal.HandValue.resid
  by_cases h : y0.val < 32768
  · rw [dif_pos h, dif_pos (show ((ix2 y0 y1 : S36864x2048.Idx) 0).val < 32768 from h)]
    reads_congr
    all_goals blk_ext
  · rw [dif_neg h, dif_neg (show ¬((ix2 y0 y1 : S36864x2048.Idx) 0).val < 32768 from h)]
    reads_congr
    all_goals blk_ext

end Cert.OutProjRefIdeal.RefValue
-- ==== Proof.InSpec.lean ====
/- The modulated norm and the laid-out input projection, as functions of the tokens, the modulations, the gain and the weights. -/
module

public import proofs.«01_k».proof.Proof.Gen.InProjIdeal.Value
public import Idealize.ShloMosaic.Lib.Pointwise
public import Idealize.ShloMosaic.Lib.Pipeline.ValueKit

@[expose] public section

set_option maxRecDepth 16384

noncomputable section

namespace Trunk

open Idealize.ShloMosaic Cert.InProjIdeal

/-- Which column of the weights a column of the laid-out projection is; past the last one where it is none. -/
def pick (n : ℕ) : ℕ :=
  if n < 6144 then n + 4224 else
  if n < 6656 then n - 6144 else
  if n < 7168 then n - 6144 else
  if n < 7264 then n - 6144 else
  if n < 7296 then 10368 else
  if n < 7392 then n - 6176 else
  if n < 7424 then 10368 else
  if n < 7520 then n - 6208 else
  if n < 7552 then 10368 else
  if n < 7648 then n - 6240 else
  if n < 7680 then 10368 else
  if n < 8192 then n - 5760 else
  if n < 9216 then n - 5504 else
  if n < 9728 then n - 5504 else
  if n < 9984 then n - 8320 else
  if n < 10240 then n - 8320 else
  if n < 10496 then n - 7808 else
  10368

/-- A token, the latent ones before the context's. -/
def tok (x : Vec Ideal S16x2048x2048 .f32) (ctx : Vec Ideal S16x256x2048 .f32) (r : Fin 36864) (d : Fin 2048) : EReal :=
  if h : r.val < 32768 then x (ix3 ⟨r.val / 2048, by omega⟩ ⟨r.val % 2048, by omega⟩ d)
  else ctx (ix3 ⟨(r.val - 32768) / 256, by omega⟩ ⟨(r.val - 32768) % 256, by omega⟩ d)

/-- The modulation of a token: a latent token's is its batch's, the context's tokens share one. -/
def modOf (mod : Vec Ideal S16x12288 .f32) (modc : Vec Ideal S12288 .f32) (r : Fin 36864) (j : Fin 12288) : EReal :=
  if h : r.val < 32768 then mod (ix2 ⟨r.val / 2048, by omega⟩ j) else modc (ix1 j)

/-- The modulated norm of a token: the token over its root mean square, times the gain, scaled and shifted. -/
def hid (x : Vec Ideal S16x2048x2048 .f32) (ctx : Vec Ideal S16x256x2048 .f32) (mod : Vec Ideal S16x12288 .f32)
    (modc : Vec Ideal S12288 .f32) (g : Vec Ideal S2048 .f32) (r : Fin 36864) (d : Fin 2048) : EReal :=
  tok x ctx r d * Ideal.rsqrt (Ideal.div (∑ e : Fin 2048, tok x ctx r e * tok x ctx r e) (Ideal.ofBits .f32 1157627904#32)
      + Ideal.ofBits .f32 897988541#32) * g (ix1 d) * (1 + modOf mod modc r ⟨2048 + d.val, by omega⟩) + modOf mod modc r ⟨d.val, by omega⟩

/-- A laid-out column, of the columns `f`. -/
def column (f : Fin 10368 → EReal) (n : ℕ) : EReal :=
  if h : pick n < 10368 then f ⟨pick n, h⟩ else 0

/-- A laid-out column that is a column. -/
theorem column_some (f : Fin 10368 → EReal) (n k : ℕ) (hk : k < 10368) (h : pick n = k) : column f n = f ⟨k, hk⟩ := by
  subst h
  exact dif_pos hk

/-- A laid-out column between the groups is zero. -/
theorem column_none (f : Fin 10368 → EReal) (n : ℕ) (h : pick n = 10368) : column f n = 0 :=
  dif_neg (by omega)

/-- The weights with their columns laid out as the projection is, and zero columns between. -/
def laidOut (w : Vec Ideal S2048x10368 .f32) (e : Fin 2048) (n : Fin 10752) : EReal :=
  column (fun k => w (ix2 e k)) n.val

/-- Columns of the group the gates. -/
theorem pick_0 (n : ℕ) (h : 0 ≤ n) (h' : n < 6144) : pick n = n - 0 + 4224 := by
  unfold pick
  rw [if_pos (show n < 6144 by omega)]
  omega

/-- Columns of the group k. -/
theorem pick_1 (n : ℕ) (h : 6144 ≤ n) (h' : n < 6656) : pick n = n - 6144 + 0 := by
  unfold pick
  rw [if_neg (show ¬n < 6144 by omega), if_pos (show n < 6656 by omega)]
  omega

/-- Columns of the group v. -/
theorem pick_2 (n : ℕ) (h : 6656 ≤ n) (h' : n < 7168) : pick n = n - 6656 + 512 := by
  unfold pick
  rw [if_neg (show ¬n < 6144 by omega), if_neg (show ¬n < 6656 by omega), if_pos (show n < 7168 by omega)]
  omega

/-- Columns of the group wf. -/
theorem pick_3 (n : ℕ) (h : 7168 ≤ n) (h' : n < 7264) : pick n = n - 7168 + 1024 := by
  unfold pick
  rw [if_neg (show ¬n < 6144 by omega), if_neg (show ¬n < 6656 by omega), if_neg (show ¬n < 7168 by omega), if_pos (show n < 7264 by omega)]
  omega

/-- Columns of the zeros after the group wf. -/
theorem pick_4 (n : ℕ) (h : 7264 ≤ n) (h' : n < 7296) : pick n = 10368 := by
  unfold pick
  rw [if_neg (show ¬n < 6144 by omega), if_neg (show ¬n < 6656 by omega), if_neg (show ¬n < 7168 by omega), if_neg (show ¬n < 7264 by omega), if_pos (show n < 7296 by omega)]

/-- Columns of the group wb. -/
theorem pick_5 (n : ℕ) (h : 7296 ≤ n) (h' : n < 7392) : pick n = n - 7296 + 1120 := by
  unfold pick
  rw [if_neg (show ¬n < 6144 by omega), if_neg (show ¬n < 6656 by omega), if_neg (show ¬n < 7168 by omega), if_neg (show ¬n < 7264 by omega), if_neg (show ¬n < 7296 by omega), if_pos (show n < 7392 by omega)]
  omega

/-- Columns of the zeros after the group wb. -/
theorem pick_6 (n : ℕ) (h : 7392 ≤ n) (h' : n < 7424) : pick n = 10368 := by
  unfold pick
  rw [if_neg (show ¬n < 6144 by omega), if_neg (show ¬n < 6656 by omega), if_neg (show ¬n < 7168 by omega), if_neg (show ¬n < 7264 by omega), if_neg (show ¬n < 7296 by omega), if_neg (show ¬n < 7392 by omega), if_pos (show n < 7424 by omega)]

/-- Columns of the group af. -/
theorem pick_7 (n : ℕ) (h : 7424 ≤ n) (h' : n < 7520) : pick n = n - 7424 + 1216 := by
  unfold pick
  rw [if_neg (show ¬n < 6144 by omega), if_neg (show ¬n < 6656 by omega), if_neg (show ¬n < 7168 by omega), if_neg (show ¬n < 7264 by omega), if_neg (show ¬n < 7296 by omega), if_neg (show ¬n < 7392 by omega), if_neg (show ¬n < 7424 by omega), if_pos (show n < 7520 by omega)]
  omega

/-- Columns of the zeros after the group af. -/
theorem pick_8 (n : ℕ) (h : 7520 ≤ n) (h' : n < 7552) : pick n = 10368 := by
  unfold pick
  rw [if_neg (show ¬n < 6144 by omega), if_neg (show ¬n < 6656 by omega), if_neg (show ¬n < 7168 by omega), if_neg (show ¬n < 7264 by omega), if_neg (show ¬n < 7296 by omega), if_neg (show ¬n < 7392 by omega), if_neg (show ¬n < 7424 by omega), if_neg (show ¬n < 7520 by omega), if_pos (show n < 7552 by omega)]

/-- Columns of the group ab. -/
theorem pick_9 (n : ℕ) (h : 7552 ≤ n) (h' : n < 7648) : pick n = n - 7552 + 1312 := by
  unfold pick
  rw [if_neg (show ¬n < 6144 by omega), if_neg (show ¬n < 6656 by omega), if_neg (show ¬n < 7168 by omega), if_neg (show ¬n < 7264 by omega), if_neg (show ¬n < 7296 by omega), if_neg (show ¬n < 7392 by omega), if_neg (show ¬n < 7424 by omega), if_neg (show ¬n < 7520 by omega), if_neg (show ¬n < 7552 by omega), if_pos (show n < 7648 by omega)]
  omega

/-- Columns of the zeros after the group ab. -/
theorem pick_10 (n : ℕ) (h : 7648 ≤ n) (h' : n < 7680) : pick n = 10368 := by
  unfold pick
  rw [if_neg (show ¬n < 6144 by omega), if_neg (show ¬n < 6656 by omega), if_neg (show ¬n < 7168 by omega), if_neg (show ¬n < 7264 by omega), if_neg (show ¬n < 7296 by omega), if_neg (show ¬n < 7392 by omega), if_neg (show ¬n < 7424 by omega), if_neg (show ¬n < 7520 by omega), if_neg (show ¬n < 7552 by omega), if_neg (show ¬n < 7648 by omega), if_pos (show n < 7680 by omega)]

/-- Columns of the group r. -/
theorem pick_11 (n : ℕ) (h : 7680 ≤ n) (h' : n < 8192) : pick n = n - 7680 + 1920 := by
  unfold pick
  rw [if_neg (show ¬n < 6144 by omega), if_neg (show ¬n < 6656 by omega), if_neg (show ¬n < 7168 by omega), if_neg (show ¬n < 7264 by omega), if_neg (show ¬n < 7296 by omega), if_neg (show ¬n < 7392 by omega), if_neg (show ¬n < 7424 by omega), if_neg (show ¬n < 7520 by omega), if_neg (show ¬n < 7552 by omega), if_neg (show ¬n < 7648 by omega), if_neg (show ¬n < 7680 by omega), if_pos (show n < 8192 by omega)]
  omega

/-- Columns of the group q. -/
theorem pick_12 (n : ℕ) (h : 8192 ≤ n) (h' : n < 9216) : pick n = n - 8192 + 2688 := by
  unfold pick
  rw [if_neg (show ¬n < 6144 by omega), if_neg (show ¬n < 6656 by omega), if_neg (show ¬n < 7168 by omega), if_neg (show ¬n < 7264 by omega), if_neg (show ¬n < 7296 by omega), if_neg (show ¬n < 7392 by omega), if_neg (show ¬n < 7424 by omega), if_neg (show ¬n < 7520 by omega), if_neg (show ¬n < 7552 by omega), if_neg (show ¬n < 7648 by omega), if_neg (show ¬n < 7680 by omega), if_neg (show ¬n < 8192 by omega), if_pos (show n < 9216 by omega)]
  omega

/-- Columns of the group four. -/
theorem pick_13 (n : ℕ) (h : 9216 ≤ n) (h' : n < 9728) : pick n = n - 9216 + 3712 := by
  unfold pick
  rw [if_neg (show ¬n < 6144 by omega), if_neg (show ¬n < 6656 by omega), if_neg (show ¬n < 7168 by omega), if_neg (show ¬n < 7264 by omega), if_neg (show ¬n < 7296 by omega), if_neg (show ¬n < 7392 by omega), if_neg (show ¬n < 7424 by omega), if_neg (show ¬n < 7520 by omega), if_neg (show ¬n < 7552 by omega), if_neg (show ¬n < 7648 by omega), if_neg (show ¬n < 7680 by omega), if_neg (show ¬n < 8192 by omega), if_neg (show ¬n < 9216 by omega), if_pos (show n < 9728 by omega)]
  omega

/-- Columns of the group ka. -/
theorem pick_14 (n : ℕ) (h : 9728 ≤ n) (h' : n < 9984) : pick n = n - 9728 + 1408 := by
  unfold pick
  rw [if_neg (show ¬n < 6144 by omega), if_neg (show ¬n < 6656 by omega), if_neg (show ¬n < 7168 by omega), if_neg (show ¬n < 7264 by omega), if_neg (show ¬n < 7296 by omega), if_neg (show ¬n < 7392 by omega), if_neg (show ¬n < 7424 by omega), if_neg (show ¬n < 7520 by omega), if_neg (show ¬n < 7552 by omega), if_neg (show ¬n < 7648 by omega), if_neg (show ¬n < 7680 by omega), if_neg (show ¬n < 8192 by omega), if_neg (show ¬n < 9216 by omega), if_neg (show ¬n < 9728 by omega), if_pos (show n < 9984 by omega)]
  omega

/-- Columns of the group va. -/
theorem pick_15 (n : ℕ) (h : 9984 ≤ n) (h' : n < 10240) : pick n = n - 9984 + 1664 := by
  unfold pick
  rw [if_neg (show ¬n < 6144 by omega), if_neg (show ¬n < 6656 by omega), if_neg (show ¬n < 7168 by omega), if_neg (show ¬n < 7264 by omega), if_neg (show ¬n < 7296 by omega), if_neg (show ¬n < 7392 by omega), if_neg (show ¬n < 7424 by omega), if_neg (show ¬n < 7520 by omega), if_neg (show ¬n < 7552 by omega), if_neg (show ¬n < 7648 by omega), if_neg (show ¬n < 7680 by omega), if_neg (show ¬n < 8192 by omega), if_neg (show ¬n < 9216 by omega), if_neg (show ¬n < 9728 by omega), if_neg (show ¬n < 9984 by omega), if_pos (show n < 10240 by omega)]
  omega

/-- Columns of the group gd. -/
theorem pick_16 (n : ℕ) (h : 10240 ≤ n) (h' : n < 10496) : pick n = n - 10240 + 2432 := by
  unfold pick
  rw [if_neg (show ¬n < 6144 by omega), if_neg (show ¬n < 6656 by omega), if_neg (show ¬n < 7168 by omega), if_neg (show ¬n < 7264 by omega), if_neg (show ¬n < 7296 by omega), if_neg (show ¬n < 7392 by omega), if_neg (show ¬n < 7424 by omega), if_neg (show ¬n < 7520 by omega), if_neg (show ¬n < 7552 by omega), if_neg (show ¬n < 7648 by omega), if_neg (show ¬n < 7680 by omega), if_neg (show ¬n < 8192 by omega), if_neg (show ¬n < 9216 by omega), if_neg (show ¬n < 9728 by omega), if_neg (show ¬n < 9984 by omega), if_neg (show ¬n < 10240 by omega), if_pos (show n < 10496 by omega)]
  omega

/-- Columns of the zeros after the group gd. -/
theorem pick_17 (n : ℕ) (h : 10496 ≤ n) (h' : n < 10752) : pick n = 10368 := by
  unfold pick
  rw [if_neg (show ¬n < 6144 by omega), if_neg (show ¬n < 6656 by omega), if_neg (show ¬n < 7168 by omega), if_neg (show ¬n < 7264 by omega), if_neg (show ¬n < 7296 by omega), if_neg (show ¬n < 7392 by omega), if_neg (show ¬n < 7424 by omega), if_neg (show ¬n < 7520 by omega), if_neg (show ¬n < 7552 by omega), if_neg (show ¬n < 7648 by omega), if_neg (show ¬n < 7680 by omega), if_neg (show ¬n < 8192 by omega), if_neg (show ¬n < 9216 by omega), if_neg (show ¬n < 9728 by omega), if_neg (show ¬n < 9984 by omega), if_neg (show ¬n < 10240 by omega), if_neg (show ¬n < 10496 by omega)]

/-- The result at row `y 0` and column `y 1`: the modulated norm of the token against the column of the laid-out weights. -/
def projected (x : S16x2048x2048.Idx → EReal) (ctx : S16x256x2048.Idx → EReal) (mod : S16x12288.Idx → EReal)
    (modc : S12288.Idx → EReal) (g : S2048.Idx → EReal) (w : S2048x10368.Idx → EReal) (y : S36864x10752.Idx) : EReal :=
  ∑ e : Fin 2048, hid x ctx mod modc g (y 0) e * laidOut w e (y 1)

end Trunk
-- ==== Proof.InWeights.lean ====
/- The input projection's kernel: what its body computes and the operands it is given, read at an index. -/
module

public import proofs.«01_k».proof.Proof.InSpec
public import Idealize.ShloMosaic.Lib.Pointwise
public import Idealize.ShloMosaic.Lib.Pipeline.ValueKit

@[expose] public section

set_option maxRecDepth 16384

noncomputable section

namespace Cert.InProjIdeal.HandValue

open Idealize.ShloMosaic Cert.InProjIdeal Cert.InProjIdeal.Gen Trunk

set_option maxHeartbeats 4000000 in
/-- The normed and modulated block that the body carries, read at an index. -/
theorem pay1_at (x : Vec Ideal S1024x2048 .f32) (g : Vec Ideal S1x2048 .f32) (s h : Vec Ideal S1x1x1x2048 .f32) (r : Fin 1024) (d : Fin 2048) :
    k0_pay1 x g s h (ix2 r d) = x (ix2 r d) * Ideal.rsqrt (Ideal.div (∑ e : Fin 2048, x (ix2 r e) * x (ix2 r e)) (Ideal.ofBits .f32 1157627904#32)
      + Ideal.ofBits .f32 897988541#32) * g (ix2 0 d) * (1 + s (ix4 0 0 0 d)) + h (ix4 0 0 0 d) := by
  pointwise [k0_pay1]

set_option maxHeartbeats 4000000 in
/-- The block that the body stores, read at an index. -/
theorem pay2_at (x : Vec Ideal S1024x2048 .bf16) (w : Vec Ideal S2048x1536 .bf16) (r : Fin 1024) (d : Fin 1536) :
    k0_pay2 x w (ix2 r d) = ∑ e : Fin 2048, x (ix2 r e) * w (ix2 e d) := by
  pointwise [k0_pay2]

/-- The block of each window at grid point `t`, but the modulations': the rows' block is `t / 7`, the columns' `t % 7`. -/
theorem idx : ∀ t : Fin grid0.N, win0_0.index t = ![t.val / 7, 0]
   ∧ win0_1.index t = ![0, 0]
   ∧ win0_4.index t = ![0, t.val % 7]
   ∧ win0_5.index t = ![t.val / 7, t.val % 7] := by decide +kernel

/-- The modulations' blocks at a grid point of latent tokens are those of their batch. -/
theorem idx_lat : ∀ t : Fin grid0.N, t.val / 7 < 32 → win0_2.index t = ![t.val / 7 / 2, 1, 0, 0] ∧ win0_3.index t = ![t.val / 7 / 2, 0, 0, 0] := by decide +kernel

/-- The modulations' blocks at a grid point of context tokens are those after the batches'. -/
theorem idx_ctx : ∀ t : Fin grid0.N, ¬t.val / 7 < 32 → win0_2.index t = ![16, 1, 0, 0] ∧ win0_3.index t = ![16, 0, 0, 0] := by decide +kernel

/-- The weights' column groups in the call's order, the narrow ones padded. -/
def joined (u : Vec Ideal S1x2048x10368 .bf16) (zero : Vec Ideal S_ .bf16) : Vec Ideal S1x2048x10496 .bf16 :=
  concatenate S1x2048x10496 2 [⟨S1x2048x6144, extractStridedSlice S1x2048x6144 ![0, 0, 4224] u slices_S1x2048x10368_S1x2048x6144_0_0_4224⟩,
      ⟨S1x2048x512, extractStridedSlice S1x2048x512 ![0, 0, 0] u slices_S1x2048x10368_S1x2048x512_0_0_0⟩,
      ⟨S1x2048x512, extractStridedSlice S1x2048x512 ![0, 0, 512] u slices_S1x2048x10368_S1x2048x512_0_0_512⟩,
      ⟨S1x2048x128, pad S1x2048x128 ![0, 0, 0] ![0, 0, 32] ![0, 0, 0] (extractStridedSlice S1x2048x96 ![0, 0, 1024] u slices_S1x2048x10368_S1x2048x96_0_0_1024) zero pads_S1x2048x96_S1x2048x128_000_000_0320 h_S_⟩,
      ⟨S1x2048x128, pad S1x2048x128 ![0, 0, 0] ![0, 0, 32] ![0, 0, 0] (extractStridedSlice S1x2048x96 ![0, 0, 1120] u slices_S1x2048x10368_S1x2048x96_0_0_1120) zero pads_S1x2048x96_S1x2048x128_000_000_0320 h_S_⟩,
      ⟨S1x2048x128, pad S1x2048x128 ![0, 0, 0] ![0, 0, 32] ![0, 0, 0] (extractStridedSlice S1x2048x96 ![0, 0, 1216] u slices_S1x2048x10368_S1x2048x96_0_0_1216) zero pads_S1x2048x96_S1x2048x128_000_000_0320 h_S_⟩,
      ⟨S1x2048x128, pad S1x2048x128 ![0, 0, 0] ![0, 0, 32] ![0, 0, 0] (extractStridedSlice S1x2048x96 ![0, 0, 1312] u slices_S1x2048x10368_S1x2048x96_0_0_1312) zero pads_S1x2048x96_S1x2048x128_000_000_0320 h_S_⟩,
      ⟨S1x2048x512, extractStridedSlice S1x2048x512 ![0, 0, 1920] u slices_S1x2048x10368_S1x2048x512_0_0_1920⟩,
      ⟨S1x2048x1024, extractStridedSlice S1x2048x1024 ![0, 0, 2688] u slices_S1x2048x10368_S1x2048x1024_0_0_2688⟩,
      ⟨S1x2048x512, extractStridedSlice S1x2048x512 ![0, 0, 3712] u slices_S1x2048x10368_S1x2048x512_0_0_3712⟩,
      ⟨S1x2048x256, extractStridedSlice S1x2048x256 ![0, 0, 1408] u slices_S1x2048x10368_S1x2048x256_0_0_1408⟩,
      ⟨S1x2048x256, extractStridedSlice S1x2048x256 ![0, 0, 1664] u slices_S1x2048x10368_S1x2048x256_0_0_1664⟩,
      ⟨S1x2048x256, extractStridedSlice S1x2048x256 ![0, 0, 2432] u slices_S1x2048x10368_S1x2048x256_0_0_2432⟩]
    concatenates_S1x2048x6144_S1x2048x512_S1x2048x512_S1x2048x128_S1x2048x128_S1x2048x128_S1x2048x128_S1x2048x512_S1x2048x1024_S1x2048x512_S1x2048x256_S1x2048x256_S1x2048x256_S1x2048x10496_d2

/-- The groups with 256 more columns after them, as one matrix. -/
def widened (u : Vec Ideal S1x2048x10496 .bf16) (zero : Vec Ideal S_ .bf16) : Vec Ideal S2048x10752 .bf16 :=
  shapeCast S2048x10752 (pad S1x2048x10752 ![0, 0, 0] ![0, 0, 256] ![0, 0, 0] u zero pads_S1x2048x10496_S1x2048x10752_000_000_02560 h_S_) shapeCasts_S1x2048x10752_S2048x10752

/-- The weights with one more axis. -/
def lifted (w : Vec Ideal S2048x10368 .f32) : Vec Ideal S1x2048x10368 .bf16 :=
  truncf .bf16 (broadcastInDim S1x2048x10368 ![1, 2] bcast_S2048x10368_S1x2048x10368_1_2 w : FVec Ideal S1x2048x10368 .f32) bitsLt_bf16_f32

/-- The padding of the weights. -/
def zeroOf : Vec Ideal S_ .bf16 := sitofp (F := Ideal) .bf16 (constantI S_ 32 0#32)

/-- The padding is zero. -/
theorem zeroOf_at (i : S_.Idx) : zeroOf i = 0 := by
  pointwise [zeroOf]
  show (((0#32 : BitVec 32).toInt : ℝ) : EReal) = 0
  simp
  skip

set_option maxHeartbeats 1000000 in
/-- The weights with one more axis, read at an index. -/
theorem lifted_at (w : Vec Ideal S2048x10368 .f32) (e : Fin 2048) (n : Fin 10368) : lifted w (ix3 0 e n) = w (ix2 e n) := by
  pointwise [lifted]

set_option maxHeartbeats 1000000 in
/-- The widened groups read at an index. -/
theorem widened_at (u : Vec Ideal S1x2048x10496 .bf16) (e : Fin 2048) (n : Fin 10752) :
    widened u zeroOf (ix2 e n) = if h : n.val < 10496 then u (ix3 0 e ⟨n.val, h⟩) else 0 := by
  pointwise [widened]
  simp only [zeroOf_at]

set_option maxHeartbeats 1000000 in
/-- The columns of the group the gates in the call's weights. -/
theorem joined_0 (u : Vec Ideal S1x2048x10368 .bf16) (e : Fin 2048) (n : Fin 10496) (h : 0 ≤ n.val) (h' : n.val < 6144) :
    joined u zeroOf (ix3 0 e n) = u (ix3 0 e ⟨n.val - 0 + 4224, by omega⟩) := by
  unfold joined
  refine (concatenate_apply_piece 2 _ _ (ix3 0 e n : S1x2048x10496.Idx) 0 (by show 0 < 13; decide) S1x2048x6144 (extractStridedSlice S1x2048x6144 ![0, 0, 4224] u slices_S1x2048x10368_S1x2048x6144_0_0_4224) rfl rfl 0 rfl
    (ix3 0 e ⟨n.val - 0, by omega⟩ : S1x2048x6144.Idx) ?_ ?_).trans ?_
  · intro b hb
    fin_cases b
    · rfl
    · rfl
    · exact absurd rfl hb
  · show 0 + (n.val - 0) = n.val
    omega
  · pointwise
    all_goals (reads_congr; all_goals blk_ext)

set_option maxHeartbeats 1000000 in
/-- The columns of the group k in the call's weights. -/
theorem joined_1 (u : Vec Ideal S1x2048x10368 .bf16) (e : Fin 2048) (n : Fin 10496) (h : 6144 ≤ n.val) (h' : n.val < 6656) :
    joined u zeroOf (ix3 0 e n) = u (ix3 0 e ⟨n.val - 6144 + 0, by omega⟩) := by
  unfold joined
  refine (concatenate_apply_piece 2 _ _ (ix3 0 e n : S1x2048x10496.Idx) 1 (by show 1 < 13; decide) S1x2048x512 (extractStridedSlice S1x2048x512 ![0, 0, 0] u slices_S1x2048x10368_S1x2048x512_0_0_0) rfl rfl 6144 rfl
    (ix3 0 e ⟨n.val - 6144, by omega⟩ : S1x2048x512.Idx) ?_ ?_).trans ?_
  · intro b hb
    fin_cases b
    · rfl
    · rfl
    · exact absurd rfl hb
  · show 6144 + (n.val - 6144) = n.val
    omega
  · pointwise
    all_goals (reads_congr; all_goals blk_ext)

set_option maxHeartbeats 1000000 in
/-- The columns of the group v in the call's weights. -/
theorem joined_2 (u : Vec Ideal S1x2048x10368 .bf16) (e : Fin 2048) (n : Fin 10496) (h : 6656 ≤ n.val) (h' : n.val < 7168) :
    joined u zeroOf (ix3 0 e n) = u (ix3 0 e ⟨n.val - 6656 + 512, by omega⟩) := by
  unfold joined
  refine (concatenate_apply_piece 2 _ _ (ix3 0 e n : S1x2048x10496.Idx) 2 (by show 2 < 13; decide) S1x2048x512 (extractStridedSlice S1x2048x512 ![0, 0, 512] u slices_S1x2048x10368_S1x2048x512_0_0_512) rfl rfl 6656 rfl
    (ix3 0 e ⟨n.val - 6656, by omega⟩ : S1x2048x512.Idx) ?_ ?_).trans ?_
  · intro b hb
    fin_cases b
    · rfl
    · rfl
    · exact absurd rfl hb
  · show 6656 + (n.val - 6656) = n.val
    omega
  · pointwise
    all_goals (reads_congr; all_goals blk_ext)

set_option maxHeartbeats 1000000 in
/-- The columns of the group wf in the call's weights. -/
theorem joined_3 (u : Vec Ideal S1x2048x10368 .bf16) (e : Fin 2048) (n : Fin 10496) (h : 7168 ≤ n.val) (h' : n.val < 7296) :
    joined u zeroOf (ix3 0 e n) = if h : n.val - 7168 < 96 then u (ix3 0 e ⟨n.val - 7168 + 1024, by omega⟩) else 0 := by
  unfold joined
  refine (concatenate_apply_piece 2 _ _ (ix3 0 e n : S1x2048x10496.Idx) 3 (by show 3 < 13; decide) S1x2048x128 (pad S1x2048x128 ![0, 0, 0] ![0, 0, 32] ![0, 0, 0] (extractStridedSlice S1x2048x96 ![0, 0, 1024] u slices_S1x2048x10368_S1x2048x96_0_0_1024) zeroOf pads_S1x2048x96_S1x2048x128_000_000_0320 h_S_) rfl rfl 7168 rfl
    (ix3 0 e ⟨n.val - 7168, by omega⟩ : S1x2048x128.Idx) ?_ ?_).trans ?_
  · intro b hb
    fin_cases b
    · rfl
    · rfl
    · exact absurd rfl hb
  · show 7168 + (n.val - 7168) = n.val
    omega
  · pointwise
    simp only [zeroOf_at]
    refine dite_congr rfl (fun hz => ?_) (fun hz => rfl)
    exact congrArg (fun k => u (ix3 0 e k)) (Fin.ext (show 1024 + (n.val - 7168) = n.val - 7168 + 1024 by omega))

set_option maxHeartbeats 1000000 in
/-- The columns of the group wb in the call's weights. -/
theorem joined_4 (u : Vec Ideal S1x2048x10368 .bf16) (e : Fin 2048) (n : Fin 10496) (h : 7296 ≤ n.val) (h' : n.val < 7424) :
    joined u zeroOf (ix3 0 e n) = if h : n.val - 7296 < 96 then u (ix3 0 e ⟨n.val - 7296 + 1120, by omega⟩) else 0 := by
  unfold joined
  refine (concatenate_apply_piece 2 _ _ (ix3 0 e n : S1x2048x10496.Idx) 4 (by show 4 < 13; decide) S1x2048x128 (pad S1x2048x128 ![0, 0, 0] ![0, 0, 32] ![0, 0, 0] (extractStridedSlice S1x2048x96 ![0, 0, 1120] u slices_S1x2048x10368_S1x2048x96_0_0_1120) zeroOf pads_S1x2048x96_S1x2048x128_000_000_0320 h_S_) rfl rfl 7296 rfl
    (ix3 0 e ⟨n.val - 7296, by omega⟩ : S1x2048x128.Idx) ?_ ?_).trans ?_
  · intro b hb
    fin_cases b
    · rfl
    · rfl
    · exact absurd rfl hb
  · show 7296 + (n.val - 7296) = n.val
    omega
  · pointwise
    simp only [zeroOf_at]
    refine dite_congr rfl (fun hz => ?_) (fun hz => rfl)
    exact congrArg (fun k => u (ix3 0 e k)) (Fin.ext (show 1120 + (n.val - 7296) = n.val - 7296 + 1120 by omega))

set_option maxHeartbeats 1000000 in
/-- The columns of the group af in the call's weights. -/
theorem joined_5 (u : Vec Ideal S1x2048x10368 .bf16) (e : Fin 2048) (n : Fin 10496) (h : 7424 ≤ n.val) (h' : n.val < 7552) :
    joined u zeroOf (ix3 0 e n) = if h : n.val - 7424 < 96 then u (ix3 0 e ⟨n.val - 7424 + 1216, by omega⟩) else 0 := by
  unfold joined
  refine (concatenate_apply_piece 2 _ _ (ix3 0 e n : S1x2048x10496.Idx) 5 (by show 5 < 13; decide) S1x2048x128 (pad S1x2048x128 ![0, 0, 0] ![0, 0, 32] ![0, 0, 0] (extractStridedSlice S1x2048x96 ![0, 0, 1216] u slices_S1x2048x10368_S1x2048x96_0_0_1216) zeroOf pads_S1x2048x96_S1x2048x128_000_000_0320 h_S_) rfl rfl 7424 rfl
    (ix3 0 e ⟨n.val - 7424, by omega⟩ : S1x2048x128.Idx) ?_ ?_).trans ?_
  · intro b hb
    fin_cases b
    · rfl
    · rfl
    · exact absurd rfl hb
  · show 7424 + (n.val - 7424) = n.val
    omega
  · pointwise
    simp only [zeroOf_at]
    refine dite_congr rfl (fun hz => ?_) (fun hz => rfl)
    exact congrArg (fun k => u (ix3 0 e k)) (Fin.ext (show 1216 + (n.val - 7424) = n.val - 7424 + 1216 by omega))

set_option maxHeartbeats 1000000 in
/-- The columns of the group ab in the call's weights. -/
theorem joined_6 (u : Vec Ideal S1x2048x10368 .bf16) (e : Fin 2048) (n : Fin 10496) (h : 7552 ≤ n.val) (h' : n.val < 7680) :
    joined u zeroOf (ix3 0 e n) = if h : n.val - 7552 < 96 then u (ix3 0 e ⟨n.val - 7552 + 1312, by omega⟩) else 0 := by
  unfold joined
  refine (concatenate_apply_piece 2 _ _ (ix3 0 e n : S1x2048x10496.Idx) 6 (by show 6 < 13; decide) S1x2048x128 (pad S1x2048x128 ![0, 0, 0] ![0, 0, 32] ![0, 0, 0] (extractStridedSlice S1x2048x96 ![0, 0, 1312] u slices_S1x2048x10368_S1x2048x96_0_0_1312) zeroOf pads_S1x2048x96_S1x2048x128_000_000_0320 h_S_) rfl rfl 7552 rfl
    (ix3 0 e ⟨n.val - 7552, by omega⟩ : S1x2048x128.Idx) ?_ ?_).trans ?_
  · intro b hb
    fin_cases b
    · rfl
    · rfl
    · exact absurd rfl hb
  · show 7552 + (n.val - 7552) = n.val
    omega
  · pointwise
    simp only [zeroOf_at]
    refine dite_congr rfl (fun hz => ?_) (fun hz => rfl)
    exact congrArg (fun k => u (ix3 0 e k)) (Fin.ext (show 1312 + (n.val - 7552) = n.val - 7552 + 1312 by omega))

set_option maxHeartbeats 1000000 in
/-- The columns of the group r in the call's weights. -/
theorem joined_7 (u : Vec Ideal S1x2048x10368 .bf16) (e : Fin 2048) (n : Fin 10496) (h : 7680 ≤ n.val) (h' : n.val < 8192) :
    joined u zeroOf (ix3 0 e n) = u (ix3 0 e ⟨n.val - 7680 + 1920, by omega⟩) := by
  unfold joined
  refine (concatenate_apply_piece 2 _ _ (ix3 0 e n : S1x2048x10496.Idx) 7 (by show 7 < 13; decide) S1x2048x512 (extractStridedSlice S1x2048x512 ![0, 0, 1920] u slices_S1x2048x10368_S1x2048x512_0_0_1920) rfl rfl 7680 rfl
    (ix3 0 e ⟨n.val - 7680, by omega⟩ : S1x2048x512.Idx) ?_ ?_).trans ?_
  · intro b hb
    fin_cases b
    · rfl
    · rfl
    · exact absurd rfl hb
  · show 7680 + (n.val - 7680) = n.val
    omega
  · pointwise
    all_goals (reads_congr; all_goals blk_ext)

set_option maxHeartbeats 1000000 in
/-- The columns of the group q in the call's weights. -/
theorem joined_8 (u : Vec Ideal S1x2048x10368 .bf16) (e : Fin 2048) (n : Fin 10496) (h : 8192 ≤ n.val) (h' : n.val < 9216) :
    joined u zeroOf (ix3 0 e n) = u (ix3 0 e ⟨n.val - 8192 + 2688, by omega⟩) := by
  unfold joined
  refine (concatenate_apply_piece 2 _ _ (ix3 0 e n : S1x2048x10496.Idx) 8 (by show 8 < 13; decide) S1x2048x1024 (extractStridedSlice S1x2048x1024 ![0, 0, 2688] u slices_S1x2048x10368_S1x2048x1024_0_0_2688) rfl rfl 8192 rfl
    (ix3 0 e ⟨n.val - 8192, by omega⟩ : S1x2048x1024.Idx) ?_ ?_).trans ?_
  · intro b hb
    fin_cases b
    · rfl
    · rfl
    · exact absurd rfl hb
  · show 8192 + (n.val - 8192) = n.val
    omega
  · pointwise
    all_goals (reads_congr; all_goals blk_ext)

set_option maxHeartbeats 1000000 in
/-- The columns of the group four in the call's weights. -/
theorem joined_9 (u : Vec Ideal S1x2048x10368 .bf16) (e : Fin 2048) (n : Fin 10496) (h : 9216 ≤ n.val) (h' : n.val < 9728) :
    joined u zeroOf (ix3 0 e n) = u (ix3 0 e ⟨n.val - 9216 + 3712, by omega⟩) := by
  unfold joined
  refine (concatenate_apply_piece 2 _ _ (ix3 0 e n : S1x2048x10496.Idx) 9 (by show 9 < 13; decide) S1x2048x512 (extractStridedSlice S1x2048x512 ![0, 0, 3712] u slices_S1x2048x10368_S1x2048x512_0_0_3712) rfl rfl 9216 rfl
    (ix3 0 e ⟨n.val - 9216, by omega⟩ : S1x2048x512.Idx) ?_ ?_).trans ?_
  · intro b hb
    fin_cases b
    · rfl
    · rfl
    · exact absurd rfl hb
  · show 9216 + (n.val - 9216) = n.val
    omega
  · pointwise
    all_goals (reads_congr; all_goals blk_ext)

set_option maxHeartbeats 1000000 in
/-- The columns of the group ka in the call's weights. -/
theorem joined_10 (u : Vec Ideal S1x2048x10368 .bf16) (e : Fin 2048) (n : Fin 10496) (h : 9728 ≤ n.val) (h' : n.val < 9984) :
    joined u zeroOf (ix3 0 e n) = u (ix3 0 e ⟨n.val - 9728 + 1408, by omega⟩) := by
  unfold joined
  refine (concatenate_apply_piece 2 _ _ (ix3 0 e n : S1x2048x10496.Idx) 10 (by show 10 < 13; decide) S1x2048x256 (extractStridedSlice S1x2048x256 ![0, 0, 1408] u slices_S1x2048x10368_S1x2048x256_0_0_1408) rfl rfl 9728 rfl
    (ix3 0 e ⟨n.val - 9728, by omega⟩ : S1x2048x256.Idx) ?_ ?_).trans ?_
  · intro b hb
    fin_cases b
    · rfl
    · rfl
    · exact absurd rfl hb
  · show 9728 + (n.val - 9728) = n.val
    omega
  · pointwise
    all_goals (reads_congr; all_goals blk_ext)

set_option maxHeartbeats 1000000 in
/-- The columns of the group va in the call's weights. -/
theorem joined_11 (u : Vec Ideal S1x2048x10368 .bf16) (e : Fin 2048) (n : Fin 10496) (h : 9984 ≤ n.val) (h' : n.val < 10240) :
    joined u zeroOf (ix3 0 e n) = u (ix3 0 e ⟨n.val - 9984 + 1664, by omega⟩) := by
  unfold joined
  refine (concatenate_apply_piece 2 _ _ (ix3 0 e n : S1x2048x10496.Idx) 11 (by show 11 < 13; decide) S1x2048x256 (extractStridedSlice S1x2048x256 ![0, 0, 1664] u slices_S1x2048x10368_S1x2048x256_0_0_1664) rfl rfl 9984 rfl
    (ix3 0 e ⟨n.val - 9984, by omega⟩ : S1x2048x256.Idx) ?_ ?_).trans ?_
  · intro b hb
    fin_cases b
    · rfl
    · rfl
    · exact absurd rfl hb
  · show 9984 + (n.val - 9984) = n.val
    omega
  · pointwise
    all_goals (reads_congr; all_goals blk_ext)

set_option maxHeartbeats 1000000 in
/-- The columns of the group gd in the call's weights. -/
theorem joined_12 (u : Vec Ideal S1x2048x10368 .bf16) (e : Fin 2048) (n : Fin 10496) (h : 10240 ≤ n.val) (h' : n.val < 10496) :
    joined u zeroOf (ix3 0 e n) = u (ix3 0 e ⟨n.val - 10240 + 2432, by omega⟩) := by
  unfold joined
  refine (concatenate_apply_piece 2 _ _ (ix3 0 e n : S1x2048x10496.Idx) 12 (by show 12 < 13; decide) S1x2048x256 (extractStridedSlice S1x2048x256 ![0, 0, 2432] u slices_S1x2048x10368_S1x2048x256_0_0_2432) rfl rfl 10240 rfl
    (ix3 0 e ⟨n.val - 10240, by omega⟩ : S1x2048x256.Idx) ?_ ?_).trans ?_
  · intro b hb
    fin_cases b
    · rfl
    · rfl
    · exact absurd rfl hb
  · show 10240 + (n.val - 10240) = n.val
    omega
  · pointwise
    all_goals (reads_congr; all_goals blk_ext)

set_option maxHeartbeats 4000000 in
/-- The call's weights read at an index: the laid-out weights. -/
theorem weights_at (w : Vec Ideal S2048x10368 .f32) (e : Fin 2048) (n : Fin 10752) :
    widened (joined (lifted w) zeroOf) zeroOf (ix2 e n) = laidOut w e n := by
  rw [widened_at]
  unfold laidOut
  by_cases hn : n.val < 10496
  · rw [dif_pos hn]
    by_cases h0 : n.val < 6144
    · exact ((joined_0 _ e ⟨n.val, hn⟩ (show 0 ≤ n.val by omega) (show n.val < 6144 by omega)).trans (lifted_at w e _)).trans (column_some (fun k => w (ix2 e k)) n.val _ (by omega) (pick_0 _ (show 0 ≤ n.val by omega) (by omega))).symm
    by_cases h1 : n.val < 6656
    · exact ((joined_1 _ e ⟨n.val, hn⟩ (show 6144 ≤ n.val by omega) (show n.val < 6656 by omega)).trans (lifted_at w e _)).trans (column_some (fun k => w (ix2 e k)) n.val _ (by omega) (pick_1 _ (show 6144 ≤ n.val by omega) (by omega))).symm
    by_cases h2 : n.val < 7168
    · exact ((joined_2 _ e ⟨n.val, hn⟩ (show 6656 ≤ n.val by omega) (show n.val < 7168 by omega)).trans (lifted_at w e _)).trans (column_some (fun k => w (ix2 e k)) n.val _ (by omega) (pick_2 _ (show 6656 ≤ n.val by omega) (by omega))).symm
    by_cases h3 : n.val < 7296
    · refine (joined_3 _ e ⟨n.val, hn⟩ (show 7168 ≤ n.val by omega) (show n.val < 7296 by omega)).trans ?_
      by_cases hz : n.val - 7168 < 96
      · exact ((dif_pos hz).trans (lifted_at w e _)).trans (column_some (fun k => w (ix2 e k)) n.val _ (by omega) (pick_3 _ (show 7168 ≤ n.val by omega) (by omega))).symm
      · exact (dif_neg hz).trans (column_none (fun k => w (ix2 e k)) n.val (pick_4 _ (show 7264 ≤ n.val by omega) (by omega))).symm
    by_cases h4 : n.val < 7424
    · refine (joined_4 _ e ⟨n.val, hn⟩ (show 7296 ≤ n.val by omega) (show n.val < 7424 by omega)).trans ?_
      by_cases hz : n.val - 7296 < 96
      · exact ((dif_pos hz).trans (lifted_at w e _)).trans (column_some (fun k => w (ix2 e k)) n.val _ (by omega) (pick_5 _ (show 7296 ≤ n.val by omega) (by omega))).symm
      · exact (dif_neg hz).trans (column_none (fun k => w (ix2 e k)) n.val (pick_6 _ (show 7392 ≤ n.val by omega) (by omega))).symm
    by_cases h5 : n.val < 7552
    · refine (joined_5 _ e ⟨n.val, hn⟩ (show 7424 ≤ n.val by omega) (show n.val < 7552 by omega)).trans ?_
      by_cases hz : n.val - 7424 < 96
      · exact ((dif_pos hz).trans (lifted_at w e _)).trans (column_some (fun k => w (ix2 e k)) n.val _ (by omega) (pick_7 _ (show 7424 ≤ n.val by omega) (by omega))).symm
      · exact (dif_neg hz).trans (column_none (fun k => w (ix2 e k)) n.val (pick_8 _ (show 7520 ≤ n.val by omega) (by omega))).symm
    by_cases h6 : n.val < 7680
    · refine (joined_6 _ e ⟨n.val, hn⟩ (show 7552 ≤ n.val by omega) (show n.val < 7680 by omega)).trans ?_
      by_cases hz : n.val - 7552 < 96
      · exact ((dif_pos hz).trans (lifted_at w e _)).trans (column_some (fun k => w (ix2 e k)) n.val _ (by omega) (pick_9 _ (show 7552 ≤ n.val by omega) (by omega))).symm
      · exact (dif_neg hz).trans (column_none (fun k => w (ix2 e k)) n.val (pick_10 _ (show 7648 ≤ n.val by omega) (by omega))).symm
    by_cases h7 : n.val < 8192
    · exact ((joined_7 _ e ⟨n.val, hn⟩ (show 7680 ≤ n.val by omega) (show n.val < 8192 by omega)).trans (lifted_at w e _)).trans (column_some (fun k => w (ix2 e k)) n.val _ (by omega) (pick_11 _ (show 7680 ≤ n.val by omega) (by omega))).symm
    by_cases h8 : n.val < 9216
    · exact ((joined_8 _ e ⟨n.val, hn⟩ (show 8192 ≤ n.val by omega) (show n.val < 9216 by omega)).trans (lifted_at w e _)).trans (column_some (fun k => w (ix2 e k)) n.val _ (by omega) (pick_12 _ (show 8192 ≤ n.val by omega) (by omega))).symm
    by_cases h9 : n.val < 9728
    · exact ((joined_9 _ e ⟨n.val, hn⟩ (show 9216 ≤ n.val by omega) (show n.val < 9728 by omega)).trans (lifted_at w e _)).trans (column_some (fun k => w (ix2 e k)) n.val _ (by omega) (pick_13 _ (show 9216 ≤ n.val by omega) (by omega))).symm
    by_cases h10 : n.val < 9984
    · exact ((joined_10 _ e ⟨n.val, hn⟩ (show 9728 ≤ n.val by omega) (show n.val < 9984 by omega)).trans (lifted_at w e _)).trans (column_some (fun k => w (ix2 e k)) n.val _ (by omega) (pick_14 _ (show 9728 ≤ n.val by omega) (by omega))).symm
    by_cases h11 : n.val < 10240
    · exact ((joined_11 _ e ⟨n.val, hn⟩ (show 9984 ≤ n.val by omega) (show n.val < 10240 by omega)).trans (lifted_at w e _)).trans (column_some (fun k => w (ix2 e k)) n.val _ (by omega) (pick_15 _ (show 9984 ≤ n.val by omega) (by omega))).symm
    exact ((joined_12 _ e ⟨n.val, hn⟩ (show 10240 ≤ n.val by omega) (show n.val < 10496 by omega)).trans (lifted_at w e _)).trans (column_some (fun k => w (ix2 e k)) n.val _ (by omega) (pick_16 _ (show 10240 ≤ n.val by omega) (by omega))).symm
  · rw [dif_neg hn, column_none _ _ (pick_17 _ (show 10496 ≤ n.val by omega) (by omega))]

set_option maxHeartbeats 1000000 in
/-- The latent tokens and the context's in one array of rows, read at an index. -/
theorem tokens_at (x : Vec Ideal S16x2048x2048 .f32) (k : Vec Ideal S16x256x2048 .f32) (r : Fin 36864) (d : Fin 2048) :
    concatenate S36864x2048 0 [⟨S32768x2048, shapeCast S32768x2048 x shapeCasts_S16x2048x2048_S32768x2048⟩,
        ⟨S4096x2048, shapeCast S4096x2048 k shapeCasts_S16x256x2048_S4096x2048⟩] concatenates_S32768x2048_S4096x2048_S36864x2048_d0 (ix2 r d)
      = if h : r.val < 32768 then x (ix3 ⟨r.val / 2048, by omega⟩ ⟨r.val % 2048, by omega⟩ d)
        else k (ix3 ⟨(r.val - 32768) / 256, by omega⟩ ⟨(r.val - 32768) % 256, by omega⟩ d) := by
  pointwise

/-- All modulations: the batches', the context's, and zeros, six rows each. -/
def mods (a : Vec Ideal S16x12288 .f32) (k : Vec Ideal S12288 .f32) : Vec Ideal S32x6x1x2048 .f32 :=
  shapeCast S32x6x1x2048 (concatenate S32x12288 0 [⟨S16x12288, a⟩, ⟨S1x12288, broadcastInDim S1x12288 ![1] bcast_S12288_S1x12288_1 k⟩,
    ⟨S15x12288, broadcastInDim S15x12288 ![] bcast_S_S15x12288 (constant (F := Ideal) S_ .f32 0x00000000#32)⟩]
    concatenates_S16x12288_S1x12288_S15x12288_S32x12288_d0) shapeCasts_S32x12288_S32x6x1x2048

set_option maxHeartbeats 1000000 in
/-- All modulations, read at an index of a batch's. -/
theorem mods_lat (a : Vec Ideal S16x12288 .f32) (k : Vec Ideal S12288 .f32) (b : Fin 32) (j : Fin 6) (d : Fin 2048) (h : b.val < 16) :
    mods a k (ix4 b j 0 d) = a (ix2 ⟨b.val, h⟩ ⟨j.val * 2048 + d.val, by omega⟩) := by
  pointwise [mods]
  rw [dif_pos h]

set_option maxHeartbeats 1000000 in
/-- All modulations, read at an index of the context's. -/
theorem mods_ctx (a : Vec Ideal S16x12288 .f32) (k : Vec Ideal S12288 .f32) (b : Fin 32) (j : Fin 6) (d : Fin 2048) (h : b.val = 16) :
    mods a k (ix4 b j 0 d) = k (ix1 ⟨j.val * 2048 + d.val, by omega⟩) := by
  pointwise [mods]
  rw [dif_neg (by omega), dif_pos (by omega)]

variable (m : (ℓ : Loc nD τ sig) → Buf (Elt Ideal) ℓ) (c : Dev nD)

set_option maxHeartbeats 1000000 in
/-- A latent token, in the array of all tokens that the call is given. -/
theorem tokens_lat (r : Fin 36864) (d : Fin 2048) (h : r.val < 32768) :
    (V m c main_v6 : S36864x2048.Idx → EReal) (ix2 r d) = m ((c.tc : Thread nD τ).loc main_arg0) (ix3 ⟨r.val / 2048, by omega⟩ ⟨r.val % 2048, by omega⟩ d) := by
  entry_read
  exact (tokens_at _ _ r d).trans (dif_pos h)

set_option maxHeartbeats 1000000 in
/-- A context token, in the array of all tokens that the call is given. -/
theorem tokens_ctx (r : Fin 36864) (d : Fin 2048) (h : ¬r.val < 32768) :
    (V m c main_v6 : S36864x2048.Idx → EReal) (ix2 r d) = m ((c.tc : Thread nD τ).loc main_arg1) (ix3 ⟨(r.val - 32768) / 256, by omega⟩ ⟨(r.val - 32768) % 256, by omega⟩ d) := by
  entry_read
  exact (tokens_at _ _ r d).trans (dif_neg h)

/-- The array of all modulations that the call is given. -/
theorem V_mods : (V m c main_v3 : Vec Ideal S32x6x1x2048 .f32) = mods (m ((c.tc : Thread nD τ).loc main_arg2)) (m ((c.tc : Thread nD τ).loc main_arg3)) := by
  rfl

/-- The weights that the call is given. -/
theorem V_weights : (V m c main_v28 : Vec Ideal S2048x10752 .bf16) = widened (joined (lifted (m ((c.tc : Thread nD τ).loc main_arg5))) zeroOf) zeroOf := by
  rfl

/-- The gain that the call is given. -/
theorem V_gain : (V m c main_v29 : Vec Ideal S1x2048 .f32) = shapeCast S1x2048 (m ((c.tc : Thread nD τ).loc main_arg4) : Vec Ideal S2048 .f32) shapeCasts_S2048_S1x2048 := by
  rfl

/-- The gain that the call is given, read at an index. -/
theorem gain_at (g : Vec Ideal S2048 .f32) (d : Fin 2048) : shapeCast S1x2048 g shapeCasts_S2048_S1x2048 (ix2 0 d) = g (ix1 d) := by
  pointwise

/-- The token rows that the call is given. -/
theorem V_tok (r : Fin 36864) (d : Fin 2048) :
    (V m c main_v6 : S36864x2048.Idx → EReal) (ix2 r d) = tok (m ((c.tc : Thread nD τ).loc main_arg0)) (m ((c.tc : Thread nD τ).loc main_arg1)) r d := by
  unfold tok
  by_cases h : r.val < 32768
  · rw [dif_pos h, tokens_lat m c r d h]
  · rw [dif_neg h, tokens_ctx m c r d h]

end Cert.InProjIdeal.HandValue
-- ==== Proof.InProj.lean ====
/- The input projection's kernel: the array it leaves is the laid-out projection of the modulated norm, read at an index. -/
module

public import proofs.«01_k».proof.Proof.InWeights
public import Idealize.ShloMosaic.Lib.Pointwise
public import Idealize.ShloMosaic.Lib.Pipeline.ValueKit

@[expose] public section

set_option maxRecDepth 16384

noncomputable section

namespace Cert.InProjIdeal.HandValue

open Idealize.ShloMosaic Cert.InProjIdeal Cert.InProjIdeal.Gen Trunk

variable (m : (ℓ : Loc nD τ sig) → Buf (Elt Ideal) ℓ) (c : Dev nD)

set_option maxHeartbeats 4000000 in
/-- What a grid point that starts a row block carries on: that block's modulated norm. -/
theorem started (t : Fin cfg0.N) (h0 : t.val % 7 = 0) (r : Fin 1024) (d : Fin 2048) (ht : t.val < 252) :
    (outsAt0 m c t.val t.isLt).2 (ix2 r d) = hid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) ⟨t.val / 7 * 1024 + r.val, by omega⟩ d := by
  rw [outsAt0_A m c t h0]
  dsimp only
  unfold sout0_A_0
  frame_out
  rw [pay1_at]
  have e0 : ∀ e : Fin 2048, iblk m c 0 t (ix2 r e) = tok (m ((c.tc : Thread nD τ).loc main_arg0)) (m ((c.tc : Thread nD τ).loc main_arg1)) ⟨t.val / 7 * 1024 + r.val, by omega⟩ e := by
    intro e
    refine Eq.trans ?_ (V_tok m c ⟨t.val / 7 * 1024 + r.val, by omega⟩ e)
    reads_congr
    all_goals blk_ext [iblk, idx t]
  have e1 : iblk m c 1 t (ix2 0 d) = (V m c main_v29 : S1x2048.Idx → EReal) (ix2 0 d) := by
    reads_congr
    all_goals blk_ext [iblk, idx t]
  unfold hid
  by_cases h : t.val / 7 < 32
  · have e2 : iblk m c 2 t (ix4 0 0 0 d) = (V m c main_v3 : S32x6x1x2048.Idx → EReal) (ix4 ⟨t.val / 7 / 2, by omega⟩ 1 0 d) := by
      reads_congr
      all_goals blk_ext [iblk, (idx_lat t h).1]
    have e3 : iblk m c 3 t (ix4 0 0 0 d) = (V m c main_v3 : S32x6x1x2048.Idx → EReal) (ix4 ⟨t.val / 7 / 2, by omega⟩ 0 0 d) := by
      reads_congr
      all_goals blk_ext [iblk, (idx_lat t h).2]
    simp only [e0]
    rw [e1, e2, e3, V_gain, V_mods, gain_at, mods_lat _ _ _ _ _ (show t.val / 7 / 2 < 16 by omega), mods_lat _ _ _ _ _ (show t.val / 7 / 2 < 16 by omega)]
    unfold modOf
    rw [dif_pos (show t.val / 7 * 1024 + r.val < 32768 by omega), dif_pos (show t.val / 7 * 1024 + r.val < 32768 by omega)]
    reads_congr
    all_goals blk_ext
  · have e2 : iblk m c 2 t (ix4 0 0 0 d) = (V m c main_v3 : S32x6x1x2048.Idx → EReal) (ix4 16 1 0 d) := by
      reads_congr
      all_goals blk_ext [iblk, (idx_ctx t h).1]
    have e3 : iblk m c 3 t (ix4 0 0 0 d) = (V m c main_v3 : S32x6x1x2048.Idx → EReal) (ix4 16 0 0 d) := by
      reads_congr
      all_goals blk_ext [iblk, (idx_ctx t h).2]
    simp only [e0]
    rw [e1, e2, e3, V_gain, V_mods, gain_at, mods_ctx _ _ _ _ _ rfl, mods_ctx _ _ _ _ _ rfl]
    unfold modOf
    rw [dif_neg (show ¬t.val / 7 * 1024 + r.val < 32768 by omega), dif_neg (show ¬t.val / 7 * 1024 + r.val < 32768 by omega)]
    reads_congr
    all_goals blk_ext

/-- A grid point that does not start a row block carries on what the one before it carried. -/
theorem kept (t : Fin cfg0.N) (h0 : ¬t.val % 7 = 0) (hp : t.val - 1 < cfg0.N) :
    (outsAt0 m c t.val t.isLt).2 = (outsAt0 m c (t.val - 1) hp).2 := by
  rw [outsAt0_B m c t h0]
  dsimp only
  unfold sout0_B_0
  frame_out

/-- What a grid point carries on: its row block's modulated norm. -/
theorem carried (n : ℕ) (hn : n < cfg0.N) (h' : n < 252) (r : Fin 1024) (d : Fin 2048) :
    (outsAt0 m c n hn).2 (ix2 r d) = hid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) ⟨n / 7 * 1024 + r.val, by omega⟩ d := by
  induction n with
  | zero => exact started m c ⟨0, hn⟩ rfl r d h'
  | succ n ih =>
    by_cases h0 : (n + 1) % 7 = 0
    · exact started m c ⟨n + 1, hn⟩ h0 r d h'
    · rw [kept m c ⟨n + 1, hn⟩ h0 (show n + 1 - 1 < cfg0.N from Nat.lt_of_succ_lt hn)]
      refine (ih (Nat.lt_of_succ_lt hn) (by omega)).trans ?_
      have e : n / 7 = (n + 1) / 7 := by omega
      simp only [e]

set_option maxHeartbeats 4000000 in
/-- What a grid point stores: the carried block against its columns of the laid-out weights. -/
theorem stored (t : Fin cfg0.N) (ht : t.val < 252) (r : Fin 1024) (d : Fin 1536) :
    (outsAt0 m c t.val t.isLt).1 (ix2 r d) = ∑ e : Fin 2048, (outsAt0 m c t.val t.isLt).2 (ix2 r e) * iblk m c 4 t (ix2 e d) := by
  by_cases h0 : t.val % 7 = 0
  · rw [outsAt0_A m c t h0]
    dsimp only
    unfold out0_A_5 sout0_A_0
    frame_out
    exact pay2_at _ _ r d
  · rw [outsAt0_B m c t h0]
    dsimp only
    unfold out0_B_5 sout0_B_0
    frame_out
    refine (pay2_at _ _ r d).trans ?_
    have hr := Memref.IsWhole.read_unread (Memref.isWhole_whole cc0_scratch0) (outsAt0 m c (t.val - 1) (by omega)).2
    exact Finset.sum_congr rfl fun e _ => congrArg (· * iblk m c 4 t (ix2 e d)) (congrFun hr (ix2 r e))

set_option maxHeartbeats 4000000 in
/-- The kernel's result array, as one function of its arguments. -/
theorem array_eq :
    (dats m 0 c).arrAt 5 cfg0.N
      = projected (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 5 _ (by decide +kernel) fun t hf y => ?_
  blk_simp
  rw [after0_5]
  have ht : t.val < 252 := t.isLt
  idx_vars y
  have e4 : ∀ e : Fin 2048, iblk m c 4 t (ix2 e y1) = laidOut (m ((c.tc : Thread nD τ).loc main_arg5)) e ⟨t.val % 7 * 1536 + y1.val, by omega⟩ := by
    intro e
    rw [← weights_at, ← V_weights m c]
    reads_congr
    all_goals blk_ext [iblk, idx t]
  have emb : ((View.whole main_v30).slice (win0_5.rect t)).emb (ix2 y0 y1)
      = (ix2 ⟨t.val / 7 * 1024 + y0.val, by omega⟩ ⟨t.val % 7 * 1536 + y1.val, by omega⟩ : S36864x10752.Idx) := by
    blk_ext [idx t]
  refine (stored m c t ht y0 y1).trans ?_
  simp only [carried m c t.val t.isLt ht, e4]
  unfold projected
  simp only [emb]
  rfl

end Cert.InProjIdeal.HandValue
-- ==== Proof.InReference.lean ====
/- The reference's input projection: its result is the laid-out projection of the modulated norm, read at an index. -/
module

public import proofs.«01_k».proof.Proof.InSpec
public import proofs.«01_k».proof.Proof.Gen.InProjRefIdeal.Run
public import Idealize.ShloMosaic.Lib.Pointwise
public import Idealize.ShloMosaic.Lib.Pipeline.ValueKit

@[expose] public section

set_option maxRecDepth 16384

noncomputable section

namespace Cert.InProjRefIdeal.RefValue

open Idealize.ShloMosaic Cert.InProjRefIdeal Cert.InProjRefIdeal.Gen Cert.InProjRefIdeal.Value Trunk

/-- The reference's normed and modulated latent tokens. -/
def hiddenLat (x : FVec Ideal S16x2048x2048 .f32) (mod : FVec Ideal S16x12288 .f32) (g : FVec Ideal S2048 .f32) : FVec Ideal S16x2048x2048 .f32 :=
  addf (mulf (mulf (mulf x (broadcastInDim S16x2048x2048 ![0, 1, 2] bcast_S16x2048x1_S16x2048x2048_0_1_2 (Host.rsqrt (addf (Host.divf (broadcastInDim S16x2048x1 ![0, 1] bcast_S16x2048_S16x2048x1_0_1 (Host.reduceAdd (mulf x x) (constant S_ .f32 0x00000000#32) reducesTo_S16x2048x2048_S16x2048_d2 h_S_)) (broadcastInDim S16x2048x1 ![] bcast_S_S16x2048x1 (constant S_ .f32 0x45000000#32))) (broadcastInDim S16x2048x1 ![] bcast_S_S16x2048x1 (constant S_ .f32 0x358637BD#32)))))) (broadcastInDim S16x2048x2048 ![0, 1, 2] bcast_S1x1x2048_S16x2048x2048_0_1_2 (broadcastInDim S1x1x2048 ![2] bcast_S2048_S1x1x2048_2 g))) (broadcastInDim S16x2048x2048 ![0, 1, 2] bcast_S16x1x2048_S16x2048x2048_0_1_2 (addf (broadcastInDim S16x1x2048 ![] bcast_S_S16x1x2048 (constant S_ .f32 0x3F800000#32)) (broadcastInDim S16x1x2048 ![0, 2] bcast_S16x2048_S16x1x2048_0_2 (extractStridedSlice S16x2048 ![0, 2048] mod slices_S16x12288_S16x2048_0_2048))))) (broadcastInDim S16x2048x2048 ![0, 1, 2] bcast_S16x1x2048_S16x2048x2048_0_1_2 (broadcastInDim S16x1x2048 ![0, 2] bcast_S16x2048_S16x1x2048_0_2 (extractStridedSlice S16x2048 ![0, 0] mod slices_S16x12288_S16x2048_0_0)))

/-- The reference's normed and modulated context tokens. -/
def hiddenCtx (ctx : FVec Ideal S16x256x2048 .f32) (modc : FVec Ideal S12288 .f32) (g : FVec Ideal S2048 .f32) : FVec Ideal S16x256x2048 .f32 :=
  addf (mulf (mulf (mulf ctx (broadcastInDim S16x256x2048 ![0, 1, 2] bcast_S16x256x1_S16x256x2048_0_1_2 (Host.rsqrt (addf (Host.divf (broadcastInDim S16x256x1 ![0, 1] bcast_S16x256_S16x256x1_0_1 (Host.reduceAdd (mulf ctx ctx) (constant S_ .f32 0x00000000#32) reducesTo_S16x256x2048_S16x256_d2 h_S_)) (broadcastInDim S16x256x1 ![] bcast_S_S16x256x1 (constant S_ .f32 0x45000000#32))) (broadcastInDim S16x256x1 ![] bcast_S_S16x256x1 (constant S_ .f32 0x358637BD#32)))))) (broadcastInDim S16x256x2048 ![0, 1, 2] bcast_S1x1x2048_S16x256x2048_0_1_2 (broadcastInDim S1x1x2048 ![2] bcast_S2048_S1x1x2048_2 g))) (broadcastInDim S16x256x2048 ![0, 1, 2] bcast_S1x1x2048_S16x256x2048_0_1_2 (broadcastInDim S1x1x2048 ![2] bcast_S2048_S1x1x2048_2 (addf (broadcastInDim S2048 ![] bcast_S_S2048 (constant S_ .f32 0x3F800000#32)) (extractStridedSlice S2048 ![2048] modc slices_S12288_S2048_2048))))) (broadcastInDim S16x256x2048 ![0, 1, 2] bcast_S1x1x2048_S16x256x2048_0_1_2 (broadcastInDim S1x1x2048 ![2] bcast_S2048_S1x1x2048_2 (extractStridedSlice S2048 ![0] modc slices_S12288_S2048_0)))

/-- Latent and context tokens in one array of rows. -/
def rows (a : FVec Ideal S16x2048x2048 .f32) (b : FVec Ideal S16x256x2048 .f32) : FVec Ideal S36864x2048 .f32 :=
  concatenate S36864x2048 0 [⟨S32768x2048, (shapeCast _ a shapeCasts_S16x2048x2048_S32768x2048)⟩, ⟨S4096x2048, (shapeCast _ b shapeCasts_S16x256x2048_S4096x2048)⟩] concatenates_S32768x2048_S4096x2048_S36864x2048_d0

/-- The projection's columns as the result has them, but the last two groups. -/
def layMain (z : FVec Ideal S36864x10368 .f32) : FVec Ideal S36864x10240 .f32 :=
  concatenate S36864x10240 1 [⟨S36864x6144, extractStridedSlice S36864x6144 ![0, 4224] z slices_S36864x10368_S36864x6144_0_4224⟩,
      ⟨S36864x512, extractStridedSlice S36864x512 ![0, 0] z slices_S36864x10368_S36864x512_0_0⟩,
      ⟨S36864x512, extractStridedSlice S36864x512 ![0, 512] z slices_S36864x10368_S36864x512_0_512⟩,
      ⟨S36864x96, extractStridedSlice S36864x96 ![0, 1024] z slices_S36864x10368_S36864x96_0_1024⟩,
      ⟨S36864x32, broadcastInDim S36864x32 ![] bcast_S_S36864x32 (constant (F := Ideal) S_ .f32 0x00000000#32)⟩,
      ⟨S36864x96, extractStridedSlice S36864x96 ![0, 1120] z slices_S36864x10368_S36864x96_0_1120⟩,
      ⟨S36864x32, broadcastInDim S36864x32 ![] bcast_S_S36864x32 (constant (F := Ideal) S_ .f32 0x00000000#32)⟩,
      ⟨S36864x96, extractStridedSlice S36864x96 ![0, 1216] z slices_S36864x10368_S36864x96_0_1216⟩,
      ⟨S36864x32, broadcastInDim S36864x32 ![] bcast_S_S36864x32 (constant (F := Ideal) S_ .f32 0x00000000#32)⟩,
      ⟨S36864x96, extractStridedSlice S36864x96 ![0, 1312] z slices_S36864x10368_S36864x96_0_1312⟩,
      ⟨S36864x32, broadcastInDim S36864x32 ![] bcast_S_S36864x32 (constant (F := Ideal) S_ .f32 0x00000000#32)⟩,
      ⟨S36864x512, extractStridedSlice S36864x512 ![0, 1920] z slices_S36864x10368_S36864x512_0_1920⟩,
      ⟨S36864x1024, extractStridedSlice S36864x1024 ![0, 2688] z slices_S36864x10368_S36864x1024_0_2688⟩,
      ⟨S36864x512, extractStridedSlice S36864x512 ![0, 3712] z slices_S36864x10368_S36864x512_0_3712⟩,
      ⟨S36864x256, extractStridedSlice S36864x256 ![0, 1408] z slices_S36864x10368_S36864x256_0_1408⟩,
      ⟨S36864x256, extractStridedSlice S36864x256 ![0, 1664] z slices_S36864x10368_S36864x256_0_1664⟩]
    concatenates_S36864x6144_S36864x512_S36864x512_S36864x96_S36864x32_S36864x96_S36864x32_S36864x96_S36864x32_S36864x96_S36864x32_S36864x512_S36864x1024_S36864x512_S36864x256_S36864x256_S36864x10240_d1

/-- The last two groups of the result's columns. -/
def layTail (z : FVec Ideal S36864x10368 .f32) : FVec Ideal S36864x512 .f32 :=
  concatenate S36864x512 1 [⟨S36864x256, extractStridedSlice S36864x256 ![0, 2432] z slices_S36864x10368_S36864x256_0_2432⟩,
      ⟨S36864x256, broadcastInDim S36864x256 ![] bcast_S_S36864x256 (constant (F := Ideal) S_ .f32 0x00000000#32)⟩] concatenates_S36864x256_S36864x256_S36864x512_d1

/-- The two in one array. -/
def layBoth (a : FVec Ideal S36864x10240 .f32) (b : FVec Ideal S36864x512 .f32) : FVec Ideal S36864x10752 .bf16 :=
  truncf .bf16 (concatenate S36864x10752 1 [⟨S36864x10240, a⟩, ⟨S36864x512, b⟩] concatenates_S36864x10240_S36864x512_S36864x10752_d1) bitsLt_bf16_f32

/-- The reference's projection. -/
def proj (h : FVec Ideal S36864x2048 .f32) (w : FVec Ideal S2048x10368 .f32) : FVec Ideal S36864x10368 .f32 :=
  Host.dotGeneral dot_S36864x2048_S2048x10368_S36864x10368_1_0_0_1_n_n none h w

/-- The reference's result is its columns in the call's order, of the projection of the modulated tokens. -/
theorem res_eq (m : (ℓ : Loc nD τ sig) → Buf (Elt Ideal) ℓ) (c : Dev nD) :
    res_main_v68 m c = layBoth (layMain (proj (rows (hiddenLat (m ((c.tc : Thread nD τ).loc main_arg0)) (m ((c.tc : Thread nD τ).loc main_arg2)) (m ((c.tc : Thread nD τ).loc main_arg4))) (hiddenCtx (m ((c.tc : Thread nD τ).loc main_arg1)) (m ((c.tc : Thread nD τ).loc main_arg3)) (m ((c.tc : Thread nD τ).loc main_arg4)))) (m ((c.tc : Thread nD τ).loc main_arg5)))) (layTail (proj (rows (hiddenLat (m ((c.tc : Thread nD τ).loc main_arg0)) (m ((c.tc : Thread nD τ).loc main_arg2)) (m ((c.tc : Thread nD τ).loc main_arg4))) (hiddenCtx (m ((c.tc : Thread nD τ).loc main_arg1)) (m ((c.tc : Thread nD τ).loc main_arg3)) (m ((c.tc : Thread nD τ).loc main_arg4)))) (m ((c.tc : Thread nD τ).loc main_arg5)))) := rfl

set_option maxHeartbeats 4000000 in
/-- A latent token's row. -/
theorem hiddenLat_at (x : FVec Ideal S16x2048x2048 .f32) (mod : FVec Ideal S16x12288 .f32) (g : FVec Ideal S2048 .f32) (b : Fin 16) (p d : Fin 2048) :
    hiddenLat x mod g (ix3 b p d) = x (ix3 b p d) * Ideal.rsqrt (Ideal.div (∑ e : Fin 2048, x (ix3 b p e) * x (ix3 b p e)) (Ideal.ofBits .f32 1157627904#32)
      + Ideal.ofBits .f32 897988541#32) * g (ix1 d) * (1 + mod (ix2 b ⟨2048 + d.val, by omega⟩)) + mod (ix2 b ⟨d.val, by omega⟩) := by
  pointwise [hiddenLat]

set_option maxHeartbeats 4000000 in
/-- A context token's row. -/
theorem hiddenCtx_at (ctx : FVec Ideal S16x256x2048 .f32) (modc : FVec Ideal S12288 .f32) (g : FVec Ideal S2048 .f32) (b : Fin 16) (p : Fin 256) (d : Fin 2048) :
    hiddenCtx ctx modc g (ix3 b p d) = ctx (ix3 b p d) * Ideal.rsqrt (Ideal.div (∑ e : Fin 2048, ctx (ix3 b p e) * ctx (ix3 b p e)) (Ideal.ofBits .f32 1157627904#32)
      + Ideal.ofBits .f32 897988541#32) * g (ix1 d) * (1 + modc (ix1 ⟨2048 + d.val, by omega⟩)) + modc (ix1 ⟨d.val, by omega⟩) := by
  pointwise [hiddenCtx]

set_option maxHeartbeats 4000000 in
/-- The rows read at an index. -/
theorem rows_at (a : FVec Ideal S16x2048x2048 .f32) (b : FVec Ideal S16x256x2048 .f32) (r : Fin 36864) (d : Fin 2048) :
    rows a b (ix2 r d) = if h : r.val < 32768 then a (ix3 ⟨r.val / 2048, by omega⟩ ⟨r.val % 2048, by omega⟩ d)
        else b (ix3 ⟨(r.val - 32768) / 256, by omega⟩ ⟨(r.val - 32768) % 256, by omega⟩ d) := by
  pointwise [rows]

set_option maxHeartbeats 4000000 in
/-- The rows of the normed and modulated tokens are the modulated norm. -/
theorem hidden_at (x : FVec Ideal S16x2048x2048 .f32) (ctx : FVec Ideal S16x256x2048 .f32) (mod : FVec Ideal S16x12288 .f32) (modc : FVec Ideal S12288 .f32)
    (g : FVec Ideal S2048 .f32) (r : Fin 36864) (d : Fin 2048) :
    rows (hiddenLat x mod g) (hiddenCtx ctx modc g) (ix2 r d) = hid x ctx mod modc g r d := by
  rw [rows_at]
  by_cases h : r.val < 32768
  · rw [dif_pos h, hiddenLat_at]
    simp only [hid, tok, modOf, dif_pos h]
  · rw [dif_neg h, hiddenCtx_at]
    simp only [hid, tok, modOf, dif_neg h]

set_option maxHeartbeats 4000000 in
/-- The projection read at an index. -/
theorem proj_at (h : FVec Ideal S36864x2048 .f32) (w : FVec Ideal S2048x10368 .f32) (r : Fin 36864) (n : Fin 10368) :
    proj h w (ix2 r n) = ∑ e : Fin 2048, h (ix2 r e) * w (ix2 e n) := by
  pointwise [proj]

set_option maxHeartbeats 16000000 in
/-- The result's columns of the group the gates. -/
theorem layMain_0 (z : FVec Ideal S36864x10368 .f32) (r : Fin 36864) (n : Fin 10240) (h : 0 ≤ n.val) (h' : n.val < 6144) :
    layMain z (ix2 r n) = z (ix2 r ⟨n.val - 0 + 4224, by omega⟩) := by
  unfold layMain
  refine (concatenate_apply_piece 1 _ _ (ix2 r n : S36864x10240.Idx) 0 (by show 0 < 16; decide) S36864x6144 (extractStridedSlice S36864x6144 ![0, 4224] z slices_S36864x10368_S36864x6144_0_4224) rfl rfl 0 rfl
    (ix2 r ⟨n.val - 0, by omega⟩ : S36864x6144.Idx) ?_ ?_).trans ?_
  · intro b hb
    fin_cases b
    · rfl
    · exact absurd rfl hb
  · show 0 + (n.val - 0) = n.val
    omega
  · pointwise
    all_goals (reads_congr; all_goals blk_ext)

set_option maxHeartbeats 16000000 in
/-- The result's columns of the group k. -/
theorem layMain_1 (z : FVec Ideal S36864x10368 .f32) (r : Fin 36864) (n : Fin 10240) (h : 6144 ≤ n.val) (h' : n.val < 6656) :
    layMain z (ix2 r n) = z (ix2 r ⟨n.val - 6144 + 0, by omega⟩) := by
  unfold layMain
  refine (concatenate_apply_piece 1 _ _ (ix2 r n : S36864x10240.Idx) 1 (by show 1 < 16; decide) S36864x512 (extractStridedSlice S36864x512 ![0, 0] z slices_S36864x10368_S36864x512_0_0) rfl rfl 6144 rfl
    (ix2 r ⟨n.val - 6144, by omega⟩ : S36864x512.Idx) ?_ ?_).trans ?_
  · intro b hb
    fin_cases b
    · rfl
    · exact absurd rfl hb
  · show 6144 + (n.val - 6144) = n.val
    omega
  · pointwise
    all_goals (reads_congr; all_goals blk_ext)

set_option maxHeartbeats 16000000 in
/-- The result's columns of the group v. -/
theorem layMain_2 (z : FVec Ideal S36864x10368 .f32) (r : Fin 36864) (n : Fin 10240) (h : 6656 ≤ n.val) (h' : n.val < 7168) :
    layMain z (ix2 r n) = z (ix2 r ⟨n.val - 6656 + 512, by omega⟩) := by
  unfold layMain
  refine (concatenate_apply_piece 1 _ _ (ix2 r n : S36864x10240.Idx) 2 (by show 2 < 16; decide) S36864x512 (extractStridedSlice S36864x512 ![0, 512] z slices_S36864x10368_S36864x512_0_512) rfl rfl 6656 rfl
    (ix2 r ⟨n.val - 6656, by omega⟩ : S36864x512.Idx) ?_ ?_).trans ?_
  · intro b hb
    fin_cases b
    · rfl
    · exact absurd rfl hb
  · show 6656 + (n.val - 6656) = n.val
    omega
  · pointwise
    all_goals (reads_congr; all_goals blk_ext)

set_option maxHeartbeats 16000000 in
/-- The result's columns of the group wf. -/
theorem layMain_3 (z : FVec Ideal S36864x10368 .f32) (r : Fin 36864) (n : Fin 10240) (h : 7168 ≤ n.val) (h' : n.val < 7264) :
    layMain z (ix2 r n) = z (ix2 r ⟨n.val - 7168 + 1024, by omega⟩) := by
  unfold layMain
  refine (concatenate_apply_piece 1 _ _ (ix2 r n : S36864x10240.Idx) 3 (by show 3 < 16; decide) S36864x96 (extractStridedSlice S36864x96 ![0, 1024] z slices_S36864x10368_S36864x96_0_1024) rfl rfl 7168 rfl
    (ix2 r ⟨n.val - 7168, by omega⟩ : S36864x96.Idx) ?_ ?_).trans ?_
  · intro b hb
    fin_cases b
    · rfl
    · exact absurd rfl hb
  · show 7168 + (n.val - 7168) = n.val
    omega
  · pointwise
    all_goals (reads_congr; all_goals blk_ext)

set_option maxHeartbeats 16000000 in
/-- The result's columns of the zeros after the group wf. -/
theorem layMain_4 (z : FVec Ideal S36864x10368 .f32) (r : Fin 36864) (n : Fin 10240) (h : 7264 ≤ n.val) (h' : n.val < 7296) :
    layMain z (ix2 r n) = 0 := by
  unfold layMain
  refine (concatenate_apply_piece 1 _ _ (ix2 r n : S36864x10240.Idx) 4 (by show 4 < 16; decide) S36864x32 (broadcastInDim S36864x32 ![] bcast_S_S36864x32 (constant (F := Ideal) S_ .f32 0x00000000#32)) rfl rfl 7264 rfl
    (ix2 r ⟨n.val - 7264, by omega⟩ : S36864x32.Idx) ?_ ?_).trans ?_
  · intro b hb
    fin_cases b
    · rfl
    · exact absurd rfl hb
  · show 7264 + (n.val - 7264) = n.val
    omega
  · pointwise
    all_goals (reads_congr; all_goals blk_ext)

set_option maxHeartbeats 16000000 in
/-- The result's columns of the group wb. -/
theorem layMain_5 (z : FVec Ideal S36864x10368 .f32) (r : Fin 36864) (n : Fin 10240) (h : 7296 ≤ n.val) (h' : n.val < 7392) :
    layMain z (ix2 r n) = z (ix2 r ⟨n.val - 7296 + 1120, by omega⟩) := by
  unfold layMain
  refine (concatenate_apply_piece 1 _ _ (ix2 r n : S36864x10240.Idx) 5 (by show 5 < 16; decide) S36864x96 (extractStridedSlice S36864x96 ![0, 1120] z slices_S36864x10368_S36864x96_0_1120) rfl rfl 7296 rfl
    (ix2 r ⟨n.val - 7296, by omega⟩ : S36864x96.Idx) ?_ ?_).trans ?_
  · intro b hb
    fin_cases b
    · rfl
    · exact absurd rfl hb
  · show 7296 + (n.val - 7296) = n.val
    omega
  · pointwise
    all_goals (reads_congr; all_goals blk_ext)

set_option maxHeartbeats 16000000 in
/-- The result's columns of the zeros after the group wb. -/
theorem layMain_6 (z : FVec Ideal S36864x10368 .f32) (r : Fin 36864) (n : Fin 10240) (h : 7392 ≤ n.val) (h' : n.val < 7424) :
    layMain z (ix2 r n) = 0 := by
  unfold layMain
  refine (concatenate_apply_piece 1 _ _ (ix2 r n : S36864x10240.Idx) 6 (by show 6 < 16; decide) S36864x32 (broadcastInDim S36864x32 ![] bcast_S_S36864x32 (constant (F := Ideal) S_ .f32 0x00000000#32)) rfl rfl 7392 rfl
    (ix2 r ⟨n.val - 7392, by omega⟩ : S36864x32.Idx) ?_ ?_).trans ?_
  · intro b hb
    fin_cases b
    · rfl
    · exact absurd rfl hb
  · show 7392 + (n.val - 7392) = n.val
    omega
  · pointwise
    all_goals (reads_congr; all_goals blk_ext)

set_option maxHeartbeats 16000000 in
/-- The result's columns of the group af. -/
theorem layMain_7 (z : FVec Ideal S36864x10368 .f32) (r : Fin 36864) (n : Fin 10240) (h : 7424 ≤ n.val) (h' : n.val < 7520) :
    layMain z (ix2 r n) = z (ix2 r ⟨n.val - 7424 + 1216, by omega⟩) := by
  unfold layMain
  refine (concatenate_apply_piece 1 _ _ (ix2 r n : S36864x10240.Idx) 7 (by show 7 < 16; decide) S36864x96 (extractStridedSlice S36864x96 ![0, 1216] z slices_S36864x10368_S36864x96_0_1216) rfl rfl 7424 rfl
    (ix2 r ⟨n.val - 7424, by omega⟩ : S36864x96.Idx) ?_ ?_).trans ?_
  · intro b hb
    fin_cases b
    · rfl
    · exact absurd rfl hb
  · show 7424 + (n.val - 7424) = n.val
    omega
  · pointwise
    all_goals (reads_congr; all_goals blk_ext)

set_option maxHeartbeats 16000000 in
/-- The result's columns of the zeros after the group af. -/
theorem layMain_8 (z : FVec Ideal S36864x10368 .f32) (r : Fin 36864) (n : Fin 10240) (h : 7520 ≤ n.val) (h' : n.val < 7552) :
    layMain z (ix2 r n) = 0 := by
  unfold layMain
  refine (concatenate_apply_piece 1 _ _ (ix2 r n : S36864x10240.Idx) 8 (by show 8 < 16; decide) S36864x32 (broadcastInDim S36864x32 ![] bcast_S_S36864x32 (constant (F := Ideal) S_ .f32 0x00000000#32)) rfl rfl 7520 rfl
    (ix2 r ⟨n.val - 7520, by omega⟩ : S36864x32.Idx) ?_ ?_).trans ?_
  · intro b hb
    fin_cases b
    · rfl
    · exact absurd rfl hb
  · show 7520 + (n.val - 7520) = n.val
    omega
  · pointwise
    all_goals (reads_congr; all_goals blk_ext)

set_option maxHeartbeats 16000000 in
/-- The result's columns of the group ab. -/
theorem layMain_9 (z : FVec Ideal S36864x10368 .f32) (r : Fin 36864) (n : Fin 10240) (h : 7552 ≤ n.val) (h' : n.val < 7648) :
    layMain z (ix2 r n) = z (ix2 r ⟨n.val - 7552 + 1312, by omega⟩) := by
  unfold layMain
  refine (concatenate_apply_piece 1 _ _ (ix2 r n : S36864x10240.Idx) 9 (by show 9 < 16; decide) S36864x96 (extractStridedSlice S36864x96 ![0, 1312] z slices_S36864x10368_S36864x96_0_1312) rfl rfl 7552 rfl
    (ix2 r ⟨n.val - 7552, by omega⟩ : S36864x96.Idx) ?_ ?_).trans ?_
  · intro b hb
    fin_cases b
    · rfl
    · exact absurd rfl hb
  · show 7552 + (n.val - 7552) = n.val
    omega
  · pointwise
    all_goals (reads_congr; all_goals blk_ext)

set_option maxHeartbeats 16000000 in
/-- The result's columns of the zeros after the group ab. -/
theorem layMain_10 (z : FVec Ideal S36864x10368 .f32) (r : Fin 36864) (n : Fin 10240) (h : 7648 ≤ n.val) (h' : n.val < 7680) :
    layMain z (ix2 r n) = 0 := by
  unfold layMain
  refine (concatenate_apply_piece 1 _ _ (ix2 r n : S36864x10240.Idx) 10 (by show 10 < 16; decide) S36864x32 (broadcastInDim S36864x32 ![] bcast_S_S36864x32 (constant (F := Ideal) S_ .f32 0x00000000#32)) rfl rfl 7648 rfl
    (ix2 r ⟨n.val - 7648, by omega⟩ : S36864x32.Idx) ?_ ?_).trans ?_
  · intro b hb
    fin_cases b
    · rfl
    · exact absurd rfl hb
  · show 7648 + (n.val - 7648) = n.val
    omega
  · pointwise
    all_goals (reads_congr; all_goals blk_ext)

set_option maxHeartbeats 16000000 in
/-- The result's columns of the group r. -/
theorem layMain_11 (z : FVec Ideal S36864x10368 .f32) (r : Fin 36864) (n : Fin 10240) (h : 7680 ≤ n.val) (h' : n.val < 8192) :
    layMain z (ix2 r n) = z (ix2 r ⟨n.val - 7680 + 1920, by omega⟩) := by
  unfold layMain
  refine (concatenate_apply_piece 1 _ _ (ix2 r n : S36864x10240.Idx) 11 (by show 11 < 16; decide) S36864x512 (extractStridedSlice S36864x512 ![0, 1920] z slices_S36864x10368_S36864x512_0_1920) rfl rfl 7680 rfl
    (ix2 r ⟨n.val - 7680, by omega⟩ : S36864x512.Idx) ?_ ?_).trans ?_
  · intro b hb
    fin_cases b
    · rfl
    · exact absurd rfl hb
  · show 7680 + (n.val - 7680) = n.val
    omega
  · pointwise
    all_goals (reads_congr; all_goals blk_ext)

set_option maxHeartbeats 16000000 in
/-- The result's columns of the group q. -/
theorem layMain_12 (z : FVec Ideal S36864x10368 .f32) (r : Fin 36864) (n : Fin 10240) (h : 8192 ≤ n.val) (h' : n.val < 9216) :
    layMain z (ix2 r n) = z (ix2 r ⟨n.val - 8192 + 2688, by omega⟩) := by
  unfold layMain
  refine (concatenate_apply_piece 1 _ _ (ix2 r n : S36864x10240.Idx) 12 (by show 12 < 16; decide) S36864x1024 (extractStridedSlice S36864x1024 ![0, 2688] z slices_S36864x10368_S36864x1024_0_2688) rfl rfl 8192 rfl
    (ix2 r ⟨n.val - 8192, by omega⟩ : S36864x1024.Idx) ?_ ?_).trans ?_
  · intro b hb
    fin_cases b
    · rfl
    · exact absurd rfl hb
  · show 8192 + (n.val - 8192) = n.val
    omega
  · pointwise
    all_goals (reads_congr; all_goals blk_ext)

set_option maxHeartbeats 16000000 in
/-- The result's columns of the group four. -/
theorem layMain_13 (z : FVec Ideal S36864x10368 .f32) (r : Fin 36864) (n : Fin 10240) (h : 9216 ≤ n.val) (h' : n.val < 9728) :
    layMain z (ix2 r n) = z (ix2 r ⟨n.val - 9216 + 3712, by omega⟩) := by
  unfold layMain
  refine (concatenate_apply_piece 1 _ _ (ix2 r n : S36864x10240.Idx) 13 (by show 13 < 16; decide) S36864x512 (extractStridedSlice S36864x512 ![0, 3712] z slices_S36864x10368_S36864x512_0_3712) rfl rfl 9216 rfl
    (ix2 r ⟨n.val - 9216, by omega⟩ : S36864x512.Idx) ?_ ?_).trans ?_
  · intro b hb
    fin_cases b
    · rfl
    · exact absurd rfl hb
  · show 9216 + (n.val - 9216) = n.val
    omega
  · pointwise
    all_goals (reads_congr; all_goals blk_ext)

set_option maxHeartbeats 16000000 in
/-- The result's columns of the group ka. -/
theorem layMain_14 (z : FVec Ideal S36864x10368 .f32) (r : Fin 36864) (n : Fin 10240) (h : 9728 ≤ n.val) (h' : n.val < 9984) :
    layMain z (ix2 r n) = z (ix2 r ⟨n.val - 9728 + 1408, by omega⟩) := by
  unfold layMain
  refine (concatenate_apply_piece 1 _ _ (ix2 r n : S36864x10240.Idx) 14 (by show 14 < 16; decide) S36864x256 (extractStridedSlice S36864x256 ![0, 1408] z slices_S36864x10368_S36864x256_0_1408) rfl rfl 9728 rfl
    (ix2 r ⟨n.val - 9728, by omega⟩ : S36864x256.Idx) ?_ ?_).trans ?_
  · intro b hb
    fin_cases b
    · rfl
    · exact absurd rfl hb
  · show 9728 + (n.val - 9728) = n.val
    omega
  · pointwise
    all_goals (reads_congr; all_goals blk_ext)

set_option maxHeartbeats 16000000 in
/-- The result's columns of the group va. -/
theorem layMain_15 (z : FVec Ideal S36864x10368 .f32) (r : Fin 36864) (n : Fin 10240) (h : 9984 ≤ n.val) (h' : n.val < 10240) :
    layMain z (ix2 r n) = z (ix2 r ⟨n.val - 9984 + 1664, by omega⟩) := by
  unfold layMain
  refine (concatenate_apply_piece 1 _ _ (ix2 r n : S36864x10240.Idx) 15 (by show 15 < 16; decide) S36864x256 (extractStridedSlice S36864x256 ![0, 1664] z slices_S36864x10368_S36864x256_0_1664) rfl rfl 9984 rfl
    (ix2 r ⟨n.val - 9984, by omega⟩ : S36864x256.Idx) ?_ ?_).trans ?_
  · intro b hb
    fin_cases b
    · rfl
    · exact absurd rfl hb
  · show 9984 + (n.val - 9984) = n.val
    omega
  · pointwise
    all_goals (reads_congr; all_goals blk_ext)

set_option maxHeartbeats 1000000 in
/-- The last two groups read at an index. -/
theorem layTail_at (z : FVec Ideal S36864x10368 .f32) (r : Fin 36864) (n : Fin 512) :
    layTail z (ix2 r n) = if h : n.val < 256 then z (ix2 r ⟨2432 + n.val, by omega⟩) else 0 := by
  pointwise [layTail]

set_option maxHeartbeats 1000000 in
/-- The two read at an index. -/
theorem layBoth_at (a : FVec Ideal S36864x10240 .f32) (b : FVec Ideal S36864x512 .f32) (r : Fin 36864) (n : Fin 10752) :
    layBoth a b (ix2 r n) = if h : n.val < 10240 then a (ix2 r ⟨n.val, h⟩) else b (ix2 r ⟨n.val - 10240, by omega⟩) := by
  pointwise [layBoth]

set_option maxHeartbeats 4000000 in
/-- The laid-out projection read at an index: each column is the projection's it is laid out from, or zero. -/
theorem lay_at (z : FVec Ideal S36864x10368 .f32) (r : Fin 36864) (n : Fin 10752) :
    layBoth (layMain z) (layTail z) (ix2 r n) = column (fun k => z (ix2 r k)) n.val := by
  rw [layBoth_at]
  by_cases hn : n.val < 10240
  · rw [dif_pos hn]
    by_cases h0 : n.val < 6144
    · exact (layMain_0 z r ⟨n.val, hn⟩ (show 0 ≤ n.val by omega) (show n.val < 6144 by omega)).trans (column_some (fun k => z (ix2 r k)) n.val _ (by omega) (pick_0 _ (show 0 ≤ n.val by omega) (by omega))).symm
    by_cases h1 : n.val < 6656
    · exact (layMain_1 z r ⟨n.val, hn⟩ (show 6144 ≤ n.val by omega) (show n.val < 6656 by omega)).trans (column_some (fun k => z (ix2 r k)) n.val _ (by omega) (pick_1 _ (show 6144 ≤ n.val by omega) (by omega))).symm
    by_cases h2 : n.val < 7168
    · exact (layMain_2 z r ⟨n.val, hn⟩ (show 6656 ≤ n.val by omega) (show n.val < 7168 by omega)).trans (column_some (fun k => z (ix2 r k)) n.val _ (by omega) (pick_2 _ (show 6656 ≤ n.val by omega) (by omega))).symm
    by_cases h3 : n.val < 7264
    · exact (layMain_3 z r ⟨n.val, hn⟩ (show 7168 ≤ n.val by omega) (show n.val < 7264 by omega)).trans (column_some (fun k => z (ix2 r k)) n.val _ (by omega) (pick_3 _ (show 7168 ≤ n.val by omega) (by omega))).symm
    by_cases h4 : n.val < 7296
    · exact (layMain_4 z r ⟨n.val, hn⟩ (show 7264 ≤ n.val by omega) (show n.val < 7296 by omega)).trans (column_none (fun k => z (ix2 r k)) n.val (pick_4 _ (show 7264 ≤ n.val by omega) (by omega))).symm
    by_cases h5 : n.val < 7392
    · exact (layMain_5 z r ⟨n.val, hn⟩ (show 7296 ≤ n.val by omega) (show n.val < 7392 by omega)).trans (column_some (fun k => z (ix2 r k)) n.val _ (by omega) (pick_5 _ (show 7296 ≤ n.val by omega) (by omega))).symm
    by_cases h6 : n.val < 7424
    · exact (layMain_6 z r ⟨n.val, hn⟩ (show 7392 ≤ n.val by omega) (show n.val < 7424 by omega)).trans (column_none (fun k => z (ix2 r k)) n.val (pick_6 _ (show 7392 ≤ n.val by omega) (by omega))).symm
    by_cases h7 : n.val < 7520
    · exact (layMain_7 z r ⟨n.val, hn⟩ (show 7424 ≤ n.val by omega) (show n.val < 7520 by omega)).trans (column_some (fun k => z (ix2 r k)) n.val _ (by omega) (pick_7 _ (show 7424 ≤ n.val by omega) (by omega))).symm
    by_cases h8 : n.val < 7552
    · exact (layMain_8 z r ⟨n.val, hn⟩ (show 7520 ≤ n.val by omega) (show n.val < 7552 by omega)).trans (column_none (fun k => z (ix2 r k)) n.val (pick_8 _ (show 7520 ≤ n.val by omega) (by omega))).symm
    by_cases h9 : n.val < 7648
    · exact (layMain_9 z r ⟨n.val, hn⟩ (show 7552 ≤ n.val by omega) (show n.val < 7648 by omega)).trans (column_some (fun k => z (ix2 r k)) n.val _ (by omega) (pick_9 _ (show 7552 ≤ n.val by omega) (by omega))).symm
    by_cases h10 : n.val < 7680
    · exact (layMain_10 z r ⟨n.val, hn⟩ (show 7648 ≤ n.val by omega) (show n.val < 7680 by omega)).trans (column_none (fun k => z (ix2 r k)) n.val (pick_10 _ (show 7648 ≤ n.val by omega) (by omega))).symm
    by_cases h11 : n.val < 8192
    · exact (layMain_11 z r ⟨n.val, hn⟩ (show 7680 ≤ n.val by omega) (show n.val < 8192 by omega)).trans (column_some (fun k => z (ix2 r k)) n.val _ (by omega) (pick_11 _ (show 7680 ≤ n.val by omega) (by omega))).symm
    by_cases h12 : n.val < 9216
    · exact (layMain_12 z r ⟨n.val, hn⟩ (show 8192 ≤ n.val by omega) (show n.val < 9216 by omega)).trans (column_some (fun k => z (ix2 r k)) n.val _ (by omega) (pick_12 _ (show 8192 ≤ n.val by omega) (by omega))).symm
    by_cases h13 : n.val < 9728
    · exact (layMain_13 z r ⟨n.val, hn⟩ (show 9216 ≤ n.val by omega) (show n.val < 9728 by omega)).trans (column_some (fun k => z (ix2 r k)) n.val _ (by omega) (pick_13 _ (show 9216 ≤ n.val by omega) (by omega))).symm
    by_cases h14 : n.val < 9984
    · exact (layMain_14 z r ⟨n.val, hn⟩ (show 9728 ≤ n.val by omega) (show n.val < 9984 by omega)).trans (column_some (fun k => z (ix2 r k)) n.val _ (by omega) (pick_14 _ (show 9728 ≤ n.val by omega) (by omega))).symm
    exact (layMain_15 z r ⟨n.val, hn⟩ (show 9984 ≤ n.val by omega) (show n.val < 10240 by omega)).trans (column_some (fun k => z (ix2 r k)) n.val _ (by omega) (pick_15 _ (show 9984 ≤ n.val by omega) (by omega))).symm
  · rw [dif_neg hn, layTail_at]
    by_cases h : n.val - 10240 < 256
    · rw [dif_pos h, column_some _ _ _ (by omega) (pick_16 _ (show 10240 ≤ n.val by omega) (by omega))]
      reads_congr
      all_goals blk_ext
    · rw [dif_neg h, column_none _ _ (pick_17 _ (show 10496 ≤ n.val by omega) (by omega))]

/-- A laid-out sum is the sum over laid-out weights. -/
theorem column_sum (h : Fin 2048 → EReal) (w : FVec Ideal S2048x10368 .f32) (n : Fin 10752) :
    column (fun k => ∑ e : Fin 2048, h e * w (ix2 e k)) n.val = ∑ e : Fin 2048, h e * laidOut w e n := by
  unfold laidOut column
  by_cases hp : pick n.val < 10368
  · simp only [dif_pos hp]
  · simp only [dif_neg hp, mul_zero, Finset.sum_const_zero]

/-- The reference's result is the laid-out projection of the modulated norm. -/
theorem result_eq (x : FVec Ideal S16x2048x2048 .f32) (ctx : FVec Ideal S16x256x2048 .f32) (mod : FVec Ideal S16x12288 .f32) (modc : FVec Ideal S12288 .f32)
    (g : FVec Ideal S2048 .f32) (w : FVec Ideal S2048x10368 .f32) :
    layBoth (layMain (proj (rows (hiddenLat x mod g) (hiddenCtx ctx modc g)) w)) (layTail (proj (rows (hiddenLat x mod g) (hiddenCtx ctx modc g)) w))
      = projected x ctx mod modc g w := by
  funext y
  idx_vars y
  rw [lay_at]
  simp only [proj_at, hidden_at]
  exact column_sum _ w y1

end Cert.InProjRefIdeal.RefValue
-- ==== Proof.Moe.lean ====
/- The experts under given gates and the gated residual: the kernel's result array is, at a row and a column, the token plus
   its gate times the sum over the experts of the expert's gate times its output. -/
module

public import proofs.«01_k».proof.Proof.Gen.MoeIdeal.Value
public import proofs.«01_k».proof.Proof.Merge
public import Idealize.ShloMosaic.Lib.Pointwise
public import Idealize.ShloMosaic.Lib.Pipeline.ValueKit

@[expose] public section

set_option maxRecDepth 16384

noncomputable section

namespace Trunk

open Idealize.ShloMosaic

/-- The clamped activation of an expert: of its gate's and its value's pre-activations. -/
def swiglu (g u : EReal) : EReal :=
  (min (Ideal.ofBits FTy.f32 1088421888#32) (max (Ideal.ofBits FTy.f32 3235905536#32) u) + 1)
    * min g (Ideal.ofBits FTy.f32 1088421888#32)
    * gate (Ideal.ofBits FTy.f32 1071242019#32 * min g (Ideal.ofBits FTy.f32 1088421888#32))

/-- A pre-activation of an expert: the token against a column of the first weights, and the bias. -/
def preact (h : Fin 2048 → EReal) (w : Fin 2048 → Fin 1024 → EReal) (b : Fin 1024 → EReal) (f : Fin 1024) : EReal :=
  (∑ d : Fin 2048, h d * w d f) + b f

/-- An expert's output at column `d`. -/
def expert (h : Fin 2048 → EReal) (w : Fin 2048 → Fin 1024 → EReal) (b : Fin 1024 → EReal)
    (v : Fin 512 → Fin 2048 → EReal) (k : Fin 2048 → EReal) (d : Fin 2048) : EReal :=
  (∑ f : Fin 512, swiglu (preact h w b ⟨f.val, by omega⟩) (preact h w b ⟨512 + f.val, by omega⟩) * v f d) + k d

end Trunk

namespace Cert.MoeIdeal.HandValue

open Idealize.ShloMosaic Cert.MoeIdeal Cert.MoeIdeal.Gen Trunk

/-- Expert `e`'s share of the mixture at row `n` and column `d`: its gate times its output. -/
def share (h : S36864x2048.Idx → EReal) (g : S36864x128.Idx → EReal) (w : S32x2048x1024.Idx → EReal) (b : S32x1024.Idx → EReal)
    (v : S32x512x2048.Idx → EReal) (k : S32x2048.Idx → EReal) (n : Fin 36864) (d : Fin 2048) (e : Fin 32) : EReal :=
  g (ix2 n ⟨e.val, by omega⟩)
    * expert (fun j => h (ix2 n j)) (fun j f => w (ix3 e j f)) (fun f => b (ix2 e f)) (fun f j => v (ix3 e f j)) (fun j => k (ix2 e j)) d

/-- The result at row `y 0` and column `y 1`: the token plus its gate times the mixture, the latent tokens before the
    context's; a batch's latent tokens share one gate, all context tokens another. -/
def mixed (h : S36864x2048.Idx → EReal) (g : S36864x128.Idx → EReal) (x : S16x2048x2048.Idx → EReal) (ctx : S16x256x2048.Idx → EReal)
    (mod : S16x12288.Idx → EReal) (modc : S12288.Idx → EReal) (w : S32x2048x1024.Idx → EReal) (b : S32x1024.Idx → EReal)
    (v : S32x512x2048.Idx → EReal) (k : S32x2048.Idx → EReal) (y : S36864x2048.Idx) : EReal :=
  if hy : (y 0).val < 32768 then
    x (ix3 ⟨(y 0).val / 2048, by omega⟩ ⟨(y 0).val % 2048, by omega⟩ ⟨(y 1).val, by idx_bounds y; omega⟩)
      + mod (ix2 ⟨(y 0).val / 2048, by omega⟩ ⟨10240 + (y 1).val, by idx_bounds y; omega⟩)
        * ∑ e : Fin 32, share h g w b v k ⟨(y 0).val, by omega⟩ ⟨(y 1).val, by idx_bounds y; omega⟩ e
  else
    ctx (ix3 ⟨((y 0).val - 32768) / 256, by idx_bounds y; omega⟩ ⟨((y 0).val - 32768) % 256, by omega⟩ ⟨(y 1).val, by idx_bounds y; omega⟩)
      + modc (ix1 ⟨10240 + (y 1).val, by idx_bounds y; omega⟩)
        * ∑ e : Fin 32, share h g w b v k ⟨(y 0).val, by idx_bounds y; omega⟩ ⟨(y 1).val, by idx_bounds y; omega⟩ e

set_option maxHeartbeats 4000000 in
/-- The product of the up and gate parts, read at an index. -/
theorem pay8_at (h : Vec Ideal S512x2048 .bf16) (w : Vec Ideal S1x2048x1024 .bf16) (b : Vec Ideal S1x1x1024 .f32) (r f : Fin 512) :
    k0_pay8 h w b (ix2 r f)
      = (min (Ideal.ofBits FTy.f32 1088421888#32) (max (Ideal.ofBits FTy.f32 3235905536#32)
          (preact (fun d => h (ix2 r d)) (fun d f => w (ix3 0 d f)) (fun f => b (ix3 0 0 f)) ⟨512 + f.val, by omega⟩)) + 1)
        * min (preact (fun d => h (ix2 r d)) (fun d f => w (ix3 0 d f)) (fun f => b (ix3 0 0 f)) ⟨f.val, by omega⟩) (Ideal.ofBits FTy.f32 1088421888#32) := by
  pointwise [k0_pay8, k0_pay7, k0_pay6]
  rfl

set_option maxHeartbeats 4000000 in
/-- The divisor of the activation, read at an index. -/
theorem pay9_at (h : Vec Ideal S512x2048 .bf16) (w : Vec Ideal S1x2048x1024 .bf16) (b : Vec Ideal S1x1x1024 .f32) (r f : Fin 512) :
    k0_pay9 h w b (ix2 r f)
      = 1 + Ideal.exp (-(Ideal.ofBits FTy.f32 1071242019#32
        * min (preact (fun d => h (ix2 r d)) (fun d f => w (ix3 0 d f)) (fun f => b (ix3 0 0 f)) ⟨f.val, by omega⟩) (Ideal.ofBits FTy.f32 1088421888#32))) := by
  pointwise [k0_pay9, k0_pay7, k0_pay6]
  rw [zero_sub]
  rfl

/-- The sum over a row of gates of those whose position is `e` is the `e`-th gate. -/
theorem picked (g : Fin 128 → EReal) (e : Fin 128) :
    ∑ x : Fin 128, Scalar.select (IntOp.cmpi CmpIPredicate.eq (BitVec.ofNat 32 x.val) (BitVec.ofNat 32 e.val)) (g x) 0 = g e := by
  rw [Finset.sum_eq_single e]
  · simp [Scalar.select, IntOp.cmpi]
  · intro x _ hx
    have : ¬(BitVec.ofNat 32 x.val = BitVec.ofNat 32 e.val) := by
      intro h
      apply hx
      have h2 := congrArg BitVec.toNat h
      simp only [BitVec.toNat_ofNat] at h2
      exact Fin.ext (by omega)
    have hb : (BitVec.ofNat 32 x.val == BitVec.ofNat 32 e.val) = false := beq_false_of_ne this
    simp [Scalar.select, IntOp.cmpi, hb]
  · intro h
    exact absurd (Finset.mem_univ e) h

set_option maxHeartbeats 4000000 in
/-- What the body adds to the carried sum at expert `e`, read at an index of the block. -/
theorem pay1_at (e : Fin 128) (h : Vec Ideal S512x2048 .bf16) (w : Vec Ideal S1x2048x1024 .bf16) (b : Vec Ideal S1x1x1024 .f32)
    (v : Vec Ideal S1x512x2048 .bf16) (k : Vec Ideal S1x1x2048 .f32) (g : Vec Ideal S512x128 .f32) (a : Vec Ideal S512x2048 .f32) (r : Fin 512) (d : Fin 2048) :
    k0_pay1 (BitVec.ofNat 32 e.val) (k0_pay4 v) (k0_pay5 k) (k0_pay8 h w b) (k0_pay9 h w b) g a (ix2 r d)
      = a (ix2 r d) + g (ix2 r e) * expert (fun j => h (ix2 r j)) (fun j f => w (ix3 0 j f)) (fun f => b (ix3 0 0 f)) (fun f j => v (ix3 0 f j)) (fun j => k (ix3 0 0 j)) d := by
  pointwise [k0_pay1, k0_pay4, k0_pay5]
  rw [picked (fun x => g (ix2 r x)) e]
  simp only [pay8_at, pay9_at]
  rfl

set_option maxHeartbeats 4000000 in
/-- What the body stores at the last expert, read at an index of the block. -/
theorem pay2_at (x : Vec Ideal S512x2048 .f32) (g : Vec Ideal S1x1x1x2048 .f32) (a : Vec Ideal S512x2048 .f32) (r : Fin 512) (d : Fin 2048) :
    k0_pay2 x g a (ix2 r d) = x (ix2 r d) + g (ix4 0 0 0 d) * a (ix2 r d) := by
  pointwise [k0_pay2]

/-- The sum that the first expert starts from. -/
theorem pay3_at (r : Fin 512) (d : Fin 2048) : (k0_pay3 : FVec Ideal S512x2048 .f32) (ix2 r d) = 0 := by
  pointwise [k0_pay3]

set_option maxHeartbeats 1000000 in
/-- The latent tokens and the context's in one array of rows, read at an index. -/
theorem tokens_at (x : Vec Ideal S16x2048x2048 .f32) (k : Vec Ideal S16x256x2048 .f32) (r : Fin 36864) (d : Fin 2048) :
    concatenate S36864x2048 0 [⟨S32768x2048, shapeCast S32768x2048 x shapeCasts_S16x2048x2048_S32768x2048⟩,
        ⟨S4096x2048, shapeCast S4096x2048 k shapeCasts_S16x256x2048_S4096x2048⟩] concatenates_S32768x2048_S4096x2048_S36864x2048_d0 (ix2 r d)
      = if h : r.val < 32768 then x (ix3 ⟨r.val / 2048, by omega⟩ ⟨r.val % 2048, by omega⟩ d)
        else k (ix3 ⟨(r.val - 32768) / 256, by omega⟩ ⟨(r.val - 32768) % 256, by omega⟩ d) := by
  pointwise

/-- All modulations: the batches', the context's, and zeros, six rows each. -/
def mods (a : Vec Ideal S16x12288 .f32) (k : Vec Ideal S12288 .f32) : Vec Ideal S32x6x1x2048 .f32 :=
  shapeCast S32x6x1x2048 (concatenate S32x12288 0 [⟨S16x12288, a⟩, ⟨S1x12288, broadcastInDim S1x12288 ![1] bcast_S12288_S1x12288_1 k⟩,
    ⟨S15x12288, broadcastInDim S15x12288 ![] bcast_S_S15x12288 (constant (F := Ideal) S_ .f32 0x00000000#32)⟩]
    concatenates_S16x12288_S1x12288_S15x12288_S32x12288_d0) shapeCasts_S32x12288_S32x6x1x2048

set_option maxHeartbeats 1000000 in
/-- All modulations, read at an index of a batch's. -/
theorem mods_lat (a : Vec Ideal S16x12288 .f32) (k : Vec Ideal S12288 .f32) (b : Fin 32) (j : Fin 6) (d : Fin 2048) (h : b.val < 16) :
    mods a k (ix4 b j 0 d) = a (ix2 ⟨b.val, h⟩ ⟨j.val * 2048 + d.val, by omega⟩) := by
  pointwise [mods]
  rw [dif_pos h]

set_option maxHeartbeats 1000000 in
/-- All modulations, read at an index of the context's. -/
theorem mods_ctx (a : Vec Ideal S16x12288 .f32) (k : Vec Ideal S12288 .f32) (b : Fin 32) (j : Fin 6) (d : Fin 2048) (h : b.val = 16) :
    mods a k (ix4 b j 0 d) = k (ix1 ⟨j.val * 2048 + d.val, by omega⟩) := by
  pointwise [mods]
  rw [dif_neg (by omega), dif_pos (by omega)]

/-- The block of each window at grid point `t`, but the gate's: the rows' block is `t / 32`, the expert `t % 32`. -/
theorem idx : ∀ t : Fin grid0.N, win0_0.index t = ![t.val / 32, 0]
   ∧ win0_1.index t = ![t.val / 32, 0]
   ∧ win0_2.index t = ![t.val % 32, 0, 0]
   ∧ win0_3.index t = ![t.val % 32, 0, 0]
   ∧ win0_4.index t = ![t.val % 32, 0, 0]
   ∧ win0_5.index t = ![t.val % 32, 0, 0]
   ∧ win0_6.index t = ![t.val / 32, 0]
   ∧ win0_8.index t = ![t.val / 32, 0] := by decide +kernel

/-- The gate's block at a grid point of latent tokens is that of their batch. -/
theorem idx_lat : ∀ t : Fin grid0.N, t.val / 32 < 64 → win0_7.index t = ![t.val / 32 / 4, 5, 0, 0] := by decide +kernel

/-- The gate's block at a grid point of context tokens is the one after the batches'. -/
theorem idx_ctx : ∀ t : Fin grid0.N, ¬t.val / 32 < 64 → win0_7.index t = ![16, 5, 0, 0] := by decide +kernel

/-- The second coordinate of grid point `t` is the expert. -/
theorem coord : ∀ t : Fin grid0.N, (grid0.coords t 1).val = t.val % 32 := by decide +kernel

variable (m : (ℓ : Loc nD τ sig) → Buf (Elt Ideal) ℓ) (c : Dev nD)

set_option maxHeartbeats 1000000 in
/-- A latent token, in the array of all tokens that the call is given. -/
theorem tokens_lat (r : Fin 36864) (d : Fin 2048) (h : r.val < 32768) :
    (V m c main_v6 : S36864x2048.Idx → EReal) (ix2 r d) = (m ((c.tc : Thread nD τ).loc main_arg2)) (ix3 ⟨r.val / 2048, by omega⟩ ⟨r.val % 2048, by omega⟩ d) := by
  entry_read
  exact (tokens_at _ _ r d).trans (dif_pos h)

set_option maxHeartbeats 1000000 in
/-- A context token, in the array of all tokens that the call is given. -/
theorem tokens_ctx (r : Fin 36864) (d : Fin 2048) (h : ¬r.val < 32768) :
    (V m c main_v6 : S36864x2048.Idx → EReal) (ix2 r d) = (m ((c.tc : Thread nD τ).loc main_arg3)) (ix3 ⟨(r.val - 32768) / 256, by omega⟩ ⟨(r.val - 32768) % 256, by omega⟩ d) := by
  entry_read
  exact (tokens_at _ _ r d).trans (dif_neg h)

set_option maxHeartbeats 1000000 in
/-- The array of all modulations that the call is given. -/
theorem V_mods : (V m c main_v3 : Vec Ideal S32x6x1x2048 .f32) = mods (m ((c.tc : Thread nD τ).loc main_arg4)) (m ((c.tc : Thread nD τ).loc main_arg5)) := by
  unfold V
  after_results
  rfl

/-- The first weights that the call is given. -/
theorem V_gu (e : Fin 32) (d : Fin 2048) (f : Fin 1024) : (V m c main_v7 : S32x2048x1024.Idx → EReal) (ix3 e d f) = (m ((c.tc : Thread nD τ).loc main_arg6)) (ix3 e d f) := by
  entry_read
  rfl

/-- The first biases that the call is given. -/
theorem V_bgu (e : Fin 32) (f : Fin 1024) : (V m c main_v8 : S32x1x1024.Idx → EReal) (ix3 e 0 f) = (m ((c.tc : Thread nD τ).loc main_arg7)) (ix2 e f) := by
  entry_read
  pointwise

/-- The second weights that the call is given. -/
theorem V_down (e : Fin 32) (f : Fin 512) (d : Fin 2048) : (V m c main_v9 : S32x512x2048.Idx → EReal) (ix3 e f d) = (m ((c.tc : Thread nD τ).loc main_arg8)) (ix3 e f d) := by
  entry_read
  rfl

/-- The second biases that the call is given. -/
theorem V_bdown (e : Fin 32) (d : Fin 2048) : (V m c main_v10 : S32x1x2048.Idx → EReal) (ix3 e 0 d) = (m ((c.tc : Thread nD τ).loc main_arg9)) (ix2 e d) := by
  entry_read
  pointwise

/-- Expert `e`'s share at row `n` and column `d`, of the call's arguments. -/
def part (n : Fin 36864) (d : Fin 2048) (e : Fin 32) : EReal := share (m ((c.tc : Thread nD τ).loc main_arg0)) (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg9)) n d e

set_option maxHeartbeats 4000000 in
/-- What a grid point adds to a carried sum: its expert's share. -/
theorem added (t : Fin cfg0.N) (ht : t.val < 2304) (a : Vec Ideal S512x2048 .f32) (r : Fin 512) (d : Fin 2048) :
    k0_pay1 (BitVec.ofNat 32 (grid0.coords t 1).val) (k0_pay4 (iblk m c 4 t)) (k0_pay5 (iblk m c 5 t)) (k0_pay8 (iblk m c 0 t) (iblk m c 2 t) (iblk m c 3 t))
        (k0_pay9 (iblk m c 0 t) (iblk m c 2 t) (iblk m c 3 t)) (iblk m c 1 t) a (ix2 r d)
      = a (ix2 r d) + part m c ⟨t.val / 32 * 512 + r.val, by omega⟩ d ⟨t.val % 32, by omega⟩ := by
  rw [coord t]
  refine (pay1_at ⟨t.val % 32, by omega⟩ _ _ _ _ _ _ _ r d).trans ?_
  have e0 : ∀ j : Fin 2048, iblk m c 0 t (ix2 r j) = (m ((c.tc : Thread nD τ).loc main_arg0)) (ix2 ⟨t.val / 32 * 512 + r.val, by omega⟩ j) := by
    intro j
    blk_ext [iblk, V, idx t]
  have e1 : iblk m c 1 t (ix2 r ⟨t.val % 32, by omega⟩) = (m ((c.tc : Thread nD τ).loc main_arg1)) (ix2 ⟨t.val / 32 * 512 + r.val, by omega⟩ ⟨t.val % 32, by omega⟩) := by
    blk_ext [iblk, V, idx t]
  have e2 : ∀ (j : Fin 2048) (f : Fin 1024), iblk m c 2 t (ix3 0 j f) = (m ((c.tc : Thread nD τ).loc main_arg6)) (ix3 ⟨t.val % 32, by omega⟩ j f) := by
    intro j f
    refine Eq.trans ?_ (V_gu m c ⟨t.val % 32, by omega⟩ j f)
    reads_congr
    all_goals blk_ext [iblk, idx t]
  have e3 : ∀ f : Fin 1024, iblk m c 3 t (ix3 0 0 f) = (m ((c.tc : Thread nD τ).loc main_arg7)) (ix2 ⟨t.val % 32, by omega⟩ f) := by
    intro f
    refine Eq.trans ?_ (V_bgu m c ⟨t.val % 32, by omega⟩ f)
    reads_congr
    all_goals blk_ext [iblk, idx t]
  have e4 : ∀ (f : Fin 512) (j : Fin 2048), iblk m c 4 t (ix3 0 f j) = (m ((c.tc : Thread nD τ).loc main_arg8)) (ix3 ⟨t.val % 32, by omega⟩ f j) := by
    intro f j
    refine Eq.trans ?_ (V_down m c ⟨t.val % 32, by omega⟩ f j)
    reads_congr
    all_goals blk_ext [iblk, idx t]
  have e5 : ∀ j : Fin 2048, iblk m c 5 t (ix3 0 0 j) = (m ((c.tc : Thread nD τ).loc main_arg9)) (ix2 ⟨t.val % 32, by omega⟩ j) := by
    intro j
    refine Eq.trans ?_ (V_bdown m c ⟨t.val % 32, by omega⟩ j)
    reads_congr
    all_goals blk_ext [iblk, idx t]
  simp only [e0, e1, e2, e3, e4, e5]
  rfl

set_option maxHeartbeats 4000000 in
/-- The carried sum after a first expert. -/
theorem started (t : Fin cfg0.N) (h0 : t.val % 32 = 0) (r : Fin 512) (d : Fin 2048) (ht : t.val < 2304) :
    (outsAt0 m c t.val t.isLt).2 (ix2 r d) = 0 + part m c ⟨t.val / 32 * 512 + r.val, by omega⟩ d ⟨t.val % 32, by omega⟩ := by
  rw [outsAt0_A m c t h0 (by omega)]
  dsimp only
  unfold sout0_A_0
  frame_out
  refine (added m c t ht _ r d).trans ?_
  rw [pay3_at]

set_option maxHeartbeats 4000000 in
/-- The carried sum after another expert. -/
theorem summed (t : Fin cfg0.N) (h0 : ¬t.val % 32 = 0) (hp : t.val - 1 < cfg0.N) (r : Fin 512) (d : Fin 2048) (ht : t.val < 2304) :
    (outsAt0 m c t.val t.isLt).2 (ix2 r d) = (outsAt0 m c (t.val - 1) hp).2 (ix2 r d) + part m c ⟨t.val / 32 * 512 + r.val, by omega⟩ d ⟨t.val % 32, by omega⟩ := by
  by_cases h1 : t.val % 32 = 31
  · rw [outsAt0_C m c t h0 h1]
    dsimp only
    unfold sout0_C_0
    frame_out
    have hr := Memref.IsWhole.read_unread (Memref.isWhole_whole cc0_scratch0) (outsAt0 m c (t.val - 1) hp).2
    refine (added m c t ht _ r d).trans ?_
    exact congrArg (· + _) (congrFun hr (ix2 r d))
  · rw [outsAt0_B m c t h0 h1]
    dsimp only
    unfold sout0_B_0
    frame_out
    have hr := Memref.IsWhole.read_unread (Memref.isWhole_whole cc0_scratch0) (outsAt0 m c (t.val - 1) hp).2
    refine (added m c t ht _ r d).trans ?_
    exact congrArg (· + _) (congrFun hr (ix2 r d))

/-- The carried sum after a grid point: the shares of the experts so far. -/
theorem carried (n : ℕ) (hn : n < cfg0.N) (h' : n < 2304) (r : Fin 512) (d : Fin 2048) :
    (outsAt0 m c n hn).2 (ix2 r d) = ∑ e ∈ Finset.range (n % 32 + 1), part m c ⟨n / 32 * 512 + r.val, by omega⟩ d ⟨e % 32, by omega⟩ := by
  induction n with
  | zero =>
    refine (started m c ⟨0, hn⟩ rfl r d h').trans ?_
    simp only [Nat.zero_mod, zero_add, Finset.sum_range_one]
  | succ n ih =>
    by_cases h0 : (n + 1) % 32 = 0
    · refine (started m c ⟨n + 1, hn⟩ h0 r d h').trans ?_
      simp only [h0, zero_add, Finset.sum_range_one]
    · refine (summed m c ⟨n + 1, hn⟩ h0 (Nat.lt_of_succ_lt hn) r d h').trans ?_
      have e1 : (n + 1) % 32 = n % 32 + 1 := by omega
      have e2 : (n + 1) / 32 = n / 32 := by omega
      have e3 : (n % 32 + 1) % 32 = n % 32 + 1 := by omega
      have p := ih (Nat.lt_of_succ_lt hn) (by omega)
      refine (congrArg (· + _) p).trans ?_
      rw [Finset.sum_range_succ _ ((n + 1) % 32)]
      simp only [e1, e2, e3]

/-- A token plus its gate times the mixture. -/
def gated (x g a : EReal) : EReal := x + g * a

set_option maxHeartbeats 4000000 in
/-- What the last expert's grid point stores: the token plus its gate times the carried sum. -/
theorem stored (t : Fin cfg0.N) (h1 : t.val % 32 = 31) (r : Fin 512) (d : Fin 2048) (ht : t.val < 2304) :
    (outsAt0 m c t.val t.isLt).1 (ix2 r d) = gated (iblk m c 6 t (ix2 r d)) (iblk m c 7 t (ix4 0 0 0 d)) ((outsAt0 m c t.val t.isLt).2 (ix2 r d)) := by
  rw [outsAt0_C m c t (by omega) h1]
  dsimp only
  unfold out0_C_8 sout0_C_0
  frame_out
  exact pay2_at _ _ _ r d

set_option maxHeartbeats 4000000 in
/-- The kernel's result array, as one function of its arguments. -/
theorem array_eq :
    (dats m 0 c).arrAt 8 cfg0.N = mixed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (dats m 0 c).arrAt_eq_of_covers 8 _ (by decide +kernel) fun t hf y => ?_
  blk_simp
  rw [after0_8]
  have h31 : t.val % 32 = 31 := (flush0_8 t).mp hf
  have ht : t.val < 2304 := t.isLt
  idx_vars y
  have emb : ((View.whole main_v11).slice (win0_8.rect t)).emb (ix2 y0 y1)
      = (ix2 ⟨t.val / 32 * 512 + y0.val, by omega⟩ ⟨y1.val, by omega⟩ : S36864x2048.Idx) := by
    blk_ext [idx t]
  have tot : (outsAt0 m c t.val t.isLt).2 (ix2 y0 y1) = ∑ e : Fin 32, part m c ⟨t.val / 32 * 512 + y0.val, by omega⟩ y1 e := by
    rw [carried m c t.val t.isLt ht, h31, Finset.sum_range]
    exact Finset.sum_congr rfl fun e _ => congrArg _ (Fin.ext (Nat.mod_eq_of_lt e.isLt))
  refine (stored m c t h31 y0 y1 ht).trans ?_
  rw [tot]
  unfold gated
  have e6 : iblk m c 6 t (ix2 y0 y1) = (V m c main_v6 : S36864x2048.Idx → EReal) (ix2 ⟨t.val / 32 * 512 + y0.val, by omega⟩ y1) := by
    reads_congr
    all_goals blk_ext [iblk, idx t]
  unfold mixed
  simp only [emb]
  by_cases h : t.val / 32 < 64
  · have hg : win0_7.index t = ![t.val / 32 / 4, 5, 0, 0] := idx_lat t h
    have e7 : iblk m c 7 t (ix4 0 0 0 y1) = (V m c main_v3 : S32x6x1x2048.Idx → EReal) (ix4 ⟨t.val / 32 / 4, by omega⟩ 5 0 y1) := by
      reads_congr
      all_goals blk_ext [iblk, hg]
    rw [e6, e7, tokens_lat m c _ _ (show t.val / 32 * 512 + y0.val < 32768 by omega), V_mods, mods_lat _ _ _ _ _ (show t.val / 32 / 4 < 16 by omega)]
    refine Eq.trans ?_ (dif_pos (show t.val / 32 * 512 + y0.val < 32768 by omega)).symm
    reads_congr
    all_goals first | rfl | blk_ext
  · have hg : win0_7.index t = ![16, 5, 0, 0] := idx_ctx t h
    have e7 : iblk m c 7 t (ix4 0 0 0 y1) = (V m c main_v3 : S32x6x1x2048.Idx → EReal) (ix4 16 5 0 y1) := by
      reads_congr
      all_goals blk_ext [iblk, hg]
    rw [e6, e7, tokens_ctx m c _ _ (show ¬t.val / 32 * 512 + y0.val < 32768 by omega), V_mods, mods_ctx _ _ _ _ _ rfl]
    refine Eq.trans ?_ (dif_neg (show ¬t.val / 32 * 512 + y0.val < 32768 by omega)).symm
    reads_congr
    all_goals first | rfl | blk_ext

end Cert.MoeIdeal.HandValue
-- ==== Proof.MoeReference.lean ====
/- The experts under given gates and the gated residual: the reference's result, read at an index. -/
module

public import proofs.«01_k».proof.Proof.Moe
public import proofs.«01_k».proof.Proof.Gen.MoeRefIdeal.Run
public import Idealize.ShloMosaic.Lib.Pointwise
public import Idealize.ShloMosaic.Lib.Pipeline.ValueKit

@[expose] public section

set_option maxRecDepth 16384

noncomputable section

namespace Cert.MoeRefIdeal.RefValue

open Idealize.ShloMosaic Cert.MoeRefIdeal Cert.MoeRefIdeal.Value Trunk
open Cert.MoeRefIdeal.Gen

/-- Every expert's pre-activations of every token. -/
def preacts (h : FVec Ideal S36864x2048 .bf16) (w : FVec Ideal S32x2048x1024 .f32) (b : FVec Ideal S32x1024 .f32) : FVec Ideal S32x36864x1024 .f32 :=
  addf (transpose S32x36864x1024 [0, 2, 1] (Host.dotGeneral dot_S32x2048x1024_S36864x2048_S32x1024x36864_1_1_02_0_n_n none w (extf .f32 h bitsLt_bf16_f32)) transposes_S32x1024x36864_S32x36864x1024_0_2_1) (broadcastInDim S32x36864x1024 ![0, 1, 2] bcast_S32x1x1024_S32x36864x1024_0_1_2 (broadcastInDim S32x1x1024 ![0, 2] bcast_S32x1024_S32x1x1024_0_2 b))

/-- Every expert's activations of every token. -/
def acts (h : FVec Ideal S36864x2048 .bf16) (w : FVec Ideal S32x2048x1024 .f32) (b : FVec Ideal S32x1024 .f32) : FVec Ideal S32x36864x512 .f32 :=
  mulf (mulf (addf (minimumf (broadcastInDim S32x36864x512 ![] bcast_S_S32x36864x512 (id (constant (F := Ideal) S_ .f32 0x40E00000#32))) (maximumf (broadcastInDim S32x36864x512 ![] bcast_S_S32x36864x512 (id (constant (F := Ideal) S_ .f32 0xC0E00000#32))) (extractStridedSlice S32x36864x512 ![0, 0, 512] (preacts h w b) slices_S32x36864x1024_S32x36864x512_0_0_512))) (broadcastInDim S32x36864x512 ![] bcast_S_S32x36864x512 (constant (F := Ideal) S_ .f32 0x3F800000#32))) (minimumf (extractStridedSlice S32x36864x512 ![0, 0, 0] (preacts h w b) slices_S32x36864x1024_S32x36864x512_0_0_0) (broadcastInDim S32x36864x512 ![] bcast_S_S32x36864x512 (constant (F := Ideal) S_ .f32 0x40E00000#32)))) (Host.divf (broadcastInDim S32x36864x512 ![] bcast_S_S32x36864x512 (constant (F := Ideal) S_ .f32 0x3F800000#32)) (addf (broadcastInDim S32x36864x512 ![] bcast_S_S32x36864x512 (constant (F := Ideal) S_ .f32 0x3F800000#32)) (Host.exp (Host.negf (mulf (broadcastInDim S32x36864x512 ![] bcast_S_S32x36864x512 (constant (F := Ideal) S_ .f32 0x3FD9DB23#32)) (minimumf (extractStridedSlice S32x36864x512 ![0, 0, 0] (preacts h w b) slices_S32x36864x1024_S32x36864x512_0_0_0) (broadcastInDim S32x36864x512 ![] bcast_S_S32x36864x512 (constant (F := Ideal) S_ .f32 0x40E00000#32))))))))

/-- Every expert's output at every token. -/
def experts (h : FVec Ideal S36864x2048 .bf16) (w : FVec Ideal S32x2048x1024 .f32) (b : FVec Ideal S32x1024 .f32) (v : FVec Ideal S32x512x2048 .f32) (k : FVec Ideal S32x2048 .f32) : FVec Ideal S32x36864x2048 .f32 :=
  addf (Host.dotGeneral dot_S32x36864x512_S32x512x2048_S32x36864x2048_2_1_1_2_0_0 none (acts h w b) v) (broadcastInDim S32x36864x2048 ![0, 1, 2] bcast_S32x1x2048_S32x36864x2048_0_1_2 (broadcastInDim S32x1x2048 ![0, 2] bcast_S32x2048_S32x1x2048_0_2 k))

/-- The experts' outputs under their gates, summed. -/
def mixture (h : FVec Ideal S36864x2048 .bf16) (g : FVec Ideal S36864x128 .f32) (w : FVec Ideal S32x2048x1024 .f32) (b : FVec Ideal S32x1024 .f32) (v : FVec Ideal S32x512x2048 .f32) (k : FVec Ideal S32x2048 .f32) : FVec Ideal S36864x2048 .f32 :=
  Host.reduceAdd (mulf (broadcastInDim S32x36864x2048 ![0, 1, 2] bcast_S32x36864x1_S32x36864x2048_0_1_2 (broadcastInDim S32x36864x1 ![0, 1] bcast_S32x36864_S32x36864x1_0_1 (transpose S32x36864 [1, 0] (extractStridedSlice S36864x32 ![0, 0] g slices_S36864x128_S36864x32_0_0) transposes_S36864x32_S32x36864_1_0))) (experts h w b v k)) (constant (F := Ideal) S_ .f32 0x00000000#32) reducesTo_S32x36864x2048_S36864x2048_d0 h_S_

/-- The reference's result as a function of its arguments. -/
def result (h : FVec Ideal S36864x2048 .bf16) (g : FVec Ideal S36864x128 .f32) (x : FVec Ideal S16x2048x2048 .f32) (ctx : FVec Ideal S16x256x2048 .f32) (mod : FVec Ideal S16x12288 .f32) (modc : FVec Ideal S12288 .f32) (w : FVec Ideal S32x2048x1024 .f32) (b : FVec Ideal S32x1024 .f32) (v : FVec Ideal S32x512x2048 .f32) (k : FVec Ideal S32x2048 .f32) : FVec Ideal S36864x2048 .f32 :=
  concatenate S36864x2048 0 [⟨S32768x2048, (shapeCast _ (addf x (mulf (broadcastInDim S16x2048x2048 ![0, 1, 2] bcast_S16x1x2048_S16x2048x2048_0_1_2 (broadcastInDim S16x1x2048 ![0, 2] bcast_S16x2048_S16x1x2048_0_2 (extractStridedSlice S16x2048 ![0, 10240] mod slices_S16x12288_S16x2048_0_10240))) (shapeCast _ (extractStridedSlice S32768x2048 ![0, 0] (mixture h g w b v k) slices_S36864x2048_S32768x2048_0_0) shapeCasts_S32768x2048_S16x2048x2048))) shapeCasts_S16x2048x2048_S32768x2048)⟩, ⟨S4096x2048, (shapeCast _ (addf ctx (mulf (broadcastInDim S16x256x2048 ![0, 1, 2] bcast_S1x1x2048_S16x256x2048_0_1_2 (broadcastInDim S1x1x2048 ![2] bcast_S2048_S1x1x2048_2 (extractStridedSlice S2048 ![10240] modc slices_S12288_S2048_10240))) (shapeCast _ (extractStridedSlice S4096x2048 ![32768, 0] (mixture h g w b v k) slices_S36864x2048_S4096x2048_32768_0) shapeCasts_S4096x2048_S16x256x2048))) shapeCasts_S16x256x2048_S4096x2048)⟩] concatenates_S32768x2048_S4096x2048_S36864x2048_d0

set_option maxHeartbeats 4000000 in
/-- The pre-activations, read at an index. -/
theorem preacts_at (h : FVec Ideal S36864x2048 .bf16) (w : FVec Ideal S32x2048x1024 .f32) (b : FVec Ideal S32x1024 .f32) (e : Fin 32) (n : Fin 36864) (f : Fin 1024) :
    preacts h w b (ix3 e n f) = preact (fun d => h (ix2 n d)) (fun d f => w (ix3 e d f)) (fun f => b (ix2 e f)) f := by
  pointwise [preacts]
  unfold preact
  refine congrArg (· + _) (Finset.sum_congr rfl fun d _ => ?_)
  exact mul_comm _ _

set_option maxHeartbeats 4000000 in
/-- The activations, read at an index. -/
theorem acts_at (h : FVec Ideal S36864x2048 .bf16) (w : FVec Ideal S32x2048x1024 .f32) (b : FVec Ideal S32x1024 .f32) (e : Fin 32) (n : Fin 36864) (f : Fin 512) :
    acts h w b (ix3 e n f) = swiglu (preacts h w b (ix3 e n ⟨f.val, by omega⟩)) (preacts h w b (ix3 e n ⟨512 + f.val, by omega⟩)) := by
  pointwise [acts]
  rfl

set_option maxHeartbeats 4000000 in
/-- The outputs, read at an index. -/
theorem experts_at (h : FVec Ideal S36864x2048 .bf16) (w : FVec Ideal S32x2048x1024 .f32) (b : FVec Ideal S32x1024 .f32) (v : FVec Ideal S32x512x2048 .f32) (k : FVec Ideal S32x2048 .f32) (e : Fin 32) (n : Fin 36864) (d : Fin 2048) :
    experts h w b v k (ix3 e n d)
      = expert (fun d => h (ix2 n d)) (fun d f => w (ix3 e d f)) (fun f => b (ix2 e f)) (fun f d => v (ix3 e f d)) (fun d => k (ix2 e d)) d := by
  pointwise [experts]
  simp only [acts_at, preacts_at]
  rfl

set_option maxHeartbeats 4000000 in
/-- The mixture, read at an index. -/
theorem mixture_at (h : FVec Ideal S36864x2048 .bf16) (g : FVec Ideal S36864x128 .f32) (w : FVec Ideal S32x2048x1024 .f32) (b : FVec Ideal S32x1024 .f32) (v : FVec Ideal S32x512x2048 .f32) (k : FVec Ideal S32x2048 .f32) (n : Fin 36864) (d : Fin 2048) :
    mixture h g w b v k (ix2 n d) = ∑ e : Fin 32, Cert.MoeIdeal.HandValue.share h g w b v k n d e := by
  pointwise [mixture]
  simp only [experts_at]
  rfl

set_option maxHeartbeats 4000000 in
/-- The reference's result is the gated residual of the mixture. -/
theorem result_eq (h : FVec Ideal S36864x2048 .bf16) (g : FVec Ideal S36864x128 .f32) (x : FVec Ideal S16x2048x2048 .f32) (ctx : FVec Ideal S16x256x2048 .f32) (mod : FVec Ideal S16x12288 .f32) (modc : FVec Ideal S12288 .f32) (w : FVec Ideal S32x2048x1024 .f32) (b : FVec Ideal S32x1024 .f32) (v : FVec Ideal S32x512x2048 .f32) (k : FVec Ideal S32x2048 .f32) :
    result h g x ctx mod modc w b v k = Cert.MoeIdeal.HandValue.mixed h g x ctx mod modc w b v k := by
  funext y
  idx_vars y
  pointwise [result]
  simp only [mixture_at]
  unfold Cert.MoeIdeal.HandValue.mixed
  by_cases hy : y0.val < 32768
  · rw [dif_pos hy, dif_pos (show ((ix2 y0 y1 : S36864x2048.Idx) 0).val < 32768 from hy)]
    refine congrArg₂ (· + ·) ?_ (congrArg₂ (· * ·) ?_ (Finset.sum_congr rfl fun e _ =>
      congrArg (fun n => Cert.MoeIdeal.HandValue.share h g w b v k n y1 e) (Fin.ext ?_)))
    · blk_ext
    · blk_ext
    · change _ = y0.val
      dsimp only
      omega
  · rw [dif_neg hy, dif_neg (show ¬((ix2 y0 y1 : S36864x2048.Idx) 0).val < 32768 from hy)]
    refine congrArg₂ (· + ·) ?_ (congrArg₂ (· * ·) ?_ (Finset.sum_congr rfl fun e _ =>
      congrArg (fun n => Cert.MoeIdeal.HandValue.share h g w b v k n y1 e) (Fin.ext ?_)))
    · blk_ext
    · blk_ext
    · change _ = y0.val
      dsimp only
      omega

/-- The result that the reference's run names. -/
theorem res_eq (m : (ℓ : Loc nD τ sig) → Buf (Elt Ideal) ℓ) (c : Dev nD) :
    res_main_v49 m c = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := rfl

end Cert.MoeRefIdeal.RefValue
-- ==== Proof.FourCh.lean ====
/- The channels' part of the Fourier mixing: the kernel's result array and the reference's result are the same function of
   the projection's columns and the two tables, read at an index. -/
module

public import proofs.«01_k».proof.Proof.Gen.FourChIdeal.Value
public import proofs.«01_k».proof.Proof.Gen.FourChRefIdeal.Run
public import Idealize.ShloMosaic.Lib.Pointwise
public import Idealize.ShloMosaic.Lib.Pipeline.ValueKit

@[expose] public section

set_option maxRecDepth 16384

noncomputable section

namespace Cert.FourChIdeal.HandValue

open Idealize.ShloMosaic Cert.FourChIdeal Cert.FourChIdeal.Gen

/-- Row `n` of the branch's columns, group `g`, times column `e` of a table. -/
def group (z : S36864x10752.Idx → EReal) (t : S128x128.Idx → EReal) (n : Fin 36864) (g : Fin 4) (e : Fin 128) : EReal :=
  ∑ d : Fin 128, z (ix2 n ⟨9216 + (g.val * 128 + d.val), by omega⟩) * t (ix2 d e)

/-- The transformed channels at row `y 0` and column `y 1`: the first table's products in the first 512 columns, the second
    table's in the others, group by group. -/
def channels (z : S36864x10752.Idx → EReal) (cc sc : S128x128.Idx → EReal) (y : S36864x1024.Idx) : EReal :=
  if h : (y 1).val < 512 then group z cc ⟨(y 0).val, by idx_bounds y; omega⟩ ⟨(y 1).val / 128, by omega⟩ ⟨(y 1).val % 128, by omega⟩
  else group z sc ⟨(y 0).val, by idx_bounds y; omega⟩ ⟨((y 1).val - 512) / 128, by idx_bounds y; omega⟩ ⟨((y 1).val - 512) % 128, by omega⟩

/-- An entry of the table with a copy of `t` for each group on its diagonal, zeros beside them. -/
def diagonal (t : S128x128.Idx → EReal) (k j : Fin 512) : EReal :=
  (if k.val / 128 = j.val / 128 then 1 else 0) * t (ix2 ⟨k.val % 128, by omega⟩ ⟨j.val % 128, by omega⟩)

/-- A sum against a column of the diagonal table is the sum over that column's group. -/
theorem sum_diagonal (f : Fin 512 → EReal) (t : S128x128.Idx → EReal) (j : Fin 512) :
    ∑ k : Fin 512, f k * diagonal t k j
      = ∑ d : Fin 128, f ⟨j.val / 128 * 128 + d.val, by omega⟩ * t (ix2 d ⟨j.val % 128, by omega⟩) := by
  rw [← (finProdFinEquiv (m := 4) (n := 128)).sum_comp, Fintype.sum_prod_type]
  have val : ∀ (a : Fin 4) (b : Fin 128), (finProdFinEquiv (a, b) : Fin (4 * 128)).val = b.val + 128 * a.val := fun _ _ => rfl
  rw [Finset.sum_eq_single (⟨j.val / 128, by omega⟩ : Fin 4)]
  · refine Finset.sum_congr rfl fun d _ => ?_
    unfold diagonal
    rw [if_pos (by rw [val]; dsimp only; omega), one_mul]
    refine congrArg₂ (· * ·) (congrArg f (Fin.ext ?_)) (congrArg t ?_)
    · rw [val]
      dsimp only
      omega
    · refine congrArg₂ ix2 (Fin.ext ?_) rfl
      dsimp only
      rw [val]
      omega
  · intro a _ ha
    refine Finset.sum_eq_zero fun d _ => ?_
    unfold diagonal
    rw [if_neg, zero_mul, mul_zero]
    rw [val]
    intro h
    exact ha (Fin.ext (by dsimp only; omega))
  · intro h
    exact absurd (Finset.mem_univ _) h

set_option maxHeartbeats 4000000 in
/-- What the body stores, read at an index of the block. -/
theorem pay_at (z : Vec Ideal S256x512 .bf16) (w : Vec Ideal S512x1024 .bf16) (r : Fin 256) (d : Fin 1024) :
    k0_pay1 z w (ix2 r d) = ∑ e : Fin 512, z (ix2 r e) * w (ix2 e d) := by
  pointwise [k0_pay1]

/-- The block of each window at grid point `t`. -/
theorem idx : ∀ t : Fin grid0.N, win0_0.index t = ![t.val, 18]
   ∧ win0_1.index t = ![0, 0]
   ∧ win0_2.index t = ![t.val, 0] := by decide +kernel

/-- The unit table of the groups. -/
def eye : FVec Ideal S4x4 .f32 :=
  uitofp (F := Ideal) .f32 (cmpi .eq (addi (iotaInDim S4x4 32 0) (broadcastInDim S4x4 ![] bcast_S_S4x4 (constantI S_ 32 0#32))) (iotaInDim S4x4 32 1))

/-- The same of any column that agrees with the diagonal table's. -/
theorem sum_column (f g : Fin 512 → EReal) (t : S128x128.Idx → EReal) (j : Fin 512) (hg : ∀ k, g k = diagonal t k j) :
    ∑ k : Fin 512, f k * g k
      = ∑ d : Fin 128, f ⟨j.val / 128 * 128 + d.val, by omega⟩ * t (ix2 d ⟨j.val % 128, by omega⟩) :=
  (Finset.sum_congr rfl fun k _ => congrArg (fun b => f k * b) (hg k)).trans (sum_diagonal f t j)

/-- The unit table, read at an index. -/
theorem eye_at (a b : Fin 4) : eye (ix2 a b) = if a = b then (1 : EReal) else 0 := by
  have same : ∀ a b : Fin 4, IntOp.cmpi .eq (IntOp.addi (BitVec.ofNat 32 a.val) 0#32) (BitVec.ofNat 32 b.val)
      = if a = b then 1#1 else 0#1 := by decide
  pointwise [eye]
  rw [same]
  by_cases h : a = b
  · rw [if_pos h, if_pos h]
    show (((1#1 : BitVec 1).toNat : ℝ) : EReal) = 1
    norm_num
  · rw [if_neg h, if_neg h]
    show (((0#1 : BitVec 1).toNat : ℝ) : EReal) = 0
    norm_num

/-- The table with a copy of `t` for each group on its diagonal. -/
def spread (t : FVec Ideal S128x128 .f32) : FVec Ideal S512x512 .f32 :=
  shapeCast S512x512 (mulf (broadcastInDim S4x128x4x128 ![0, 1, 2, 3] bcast_S4x1x4x1_S4x128x4x128_0_1_2_3
      (broadcastInDim S4x1x4x1 ![0, 2] bcast_S4x4_S4x1x4x1_0_2 eye))
    (broadcastInDim S4x128x4x128 ![0, 1, 2, 3] bcast_S1x128x1x128_S4x128x4x128_0_1_2_3
      (broadcastInDim S1x128x1x128 ![1, 3] bcast_S128x128_S1x128x1x128_1_3 t))) shapeCasts_S4x128x4x128_S512x512

set_option maxHeartbeats 1000000 in
/-- The table with the copies, read at an index. -/
theorem spread_at (t : FVec Ideal S128x128 .f32) (k j : Fin 512) : spread t (ix2 k j) = diagonal t k j := by
  pointwise [spread]
  rw [eye_at]
  unfold diagonal
  refine congrArg₂ (fun a b : EReal => a * b) (if_congr Fin.ext_iff rfl rfl) ?_
  rfl

/-- Both tables beside one another. -/
def table (cc sc : FVec Ideal S128x128 .f32) : FVec Ideal S512x1024 .bf16 :=
  truncf .bf16 (concatenate S512x1024 1 [⟨S512x512, spread cc⟩, ⟨S512x512, spread sc⟩] concatenates_S512x512_S512x512_S512x1024_d1) bitsLt_bf16_f32

set_option maxHeartbeats 1000000 in
/-- Both tables, read at an index. -/
theorem table_at (cc sc : FVec Ideal S128x128 .f32) (k : Fin 512) (j : Fin 1024) :
    table cc sc (ix2 k j) = if h : j.val < 512 then diagonal cc k ⟨j.val, h⟩ else diagonal sc k ⟨j.val - 512, by omega⟩ := by
  pointwise [table]
  simp only [spread_at]

variable (m : (ℓ : Loc nD τ sig) → Buf (Elt Ideal) ℓ) (c : Dev nD)

set_option maxHeartbeats 1000000 in
/-- The table that the call is given. -/
theorem V_table : (V m c main_v19 : Vec Ideal S512x1024 .bf16) = table (m ((c.tc : Thread nD τ).loc main_arg1)) (m ((c.tc : Thread nD τ).loc main_arg2)) := by
  unfold V
  after_results
  rfl

set_option maxHeartbeats 4000000 in
/-- The kernel's result array, as one function of its arguments. -/
theorem array_eq :
    (dats m 0 c).arrAt 2 cfg0.N = channels (m ((c.tc : Thread nD τ).loc main_arg0)) (m ((c.tc : Thread nD τ).loc main_arg1)) (m ((c.tc : Thread nD τ).loc main_arg2)) := by
  refine (dats m 0 c).arrAt_eq_of_covers 2 _ (by decide +kernel) fun t hf y => ?_
  blk_simp
  rw [after0_2]
  unfold out0_2
  frame_out
  have ht : t.val < 144 := t.isLt
  idx_vars y
  rw [pay_at]
  have e1 : ∀ e, iblk m c 1 t (ix2 e y1) = (V m c main_v19 : S512x1024.Idx → EReal) (ix2 e y1) := by
    intro e
    reads_congr
    all_goals blk_ext [iblk, idx t]
  have e2 : ∀ e, iblk m c 1 t (ix2 e y1) = if h : y1.val < 512 then diagonal (m ((c.tc : Thread nD τ).loc main_arg1)) e ⟨y1.val, h⟩
      else diagonal (m ((c.tc : Thread nD τ).loc main_arg2)) e ⟨y1.val - 512, by omega⟩ := fun e =>
    (e1 e).trans ((congrFun (V_table m c) (ix2 e y1)).trans (table_at _ _ e y1))
  have emb : ((View.whole main_v20).slice (win0_2.rect t)).emb (ix2 y0 y1)
      = (ix2 ⟨t.val * 256 + y0.val, by omega⟩ y1 : S36864x1024.Idx) := by
    blk_ext [idx t]
  rw [emb]
  unfold channels group
  by_cases h : y1.val < 512
  · refine (sum_column (fun e => iblk m c 0 t (ix2 y0 e)) (fun e => iblk m c 1 t (ix2 e y1)) _ _ fun e => (e2 e).trans (dif_pos h)).trans ?_
    refine Eq.trans ?_ (dif_pos (show ((ix2 ⟨t.val * 256 + y0.val, by omega⟩ y1 : S36864x1024.Idx) 1).val < 512 from h)).symm
    reads_congr
    all_goals blk_ext! [iblk, V, idx t]
  · refine (sum_column (fun e => iblk m c 0 t (ix2 y0 e)) (fun e => iblk m c 1 t (ix2 e y1)) _ _ fun e => (e2 e).trans (dif_neg h)).trans ?_
    refine Eq.trans ?_ (dif_neg (show ¬((ix2 ⟨t.val * 256 + y0.val, by omega⟩ y1 : S36864x1024.Idx) 1).val < 512 from h)).symm
    reads_congr
    all_goals blk_ext! [iblk, V, idx t]

end Cert.FourChIdeal.HandValue

namespace Cert.FourChRefIdeal.RefValue

open Idealize.ShloMosaic Cert.FourChRefIdeal Cert.FourChRefIdeal.Value
open Cert.FourChRefIdeal.Gen

/-- The reference's result as a function of its arguments. -/
def result (z : FVec Ideal S36864x10752 .bf16) (cc sc : FVec Ideal S128x128 .f32) : FVec Ideal S36864x1024 .bf16 :=
  truncf .bf16 (concatenate S36864x1024 1 [⟨S36864x512, (shapeCast _ (Host.dotGeneral dot_S36864x4x128_S128x128_S36864x4x128_2_0_01_1_n_n none (shapeCast _ (extractStridedSlice S36864x512 ![0, 9216] (extf .f32 z bitsLt_bf16_f32) slices_S36864x10752_S36864x512_0_9216) shapeCasts_S36864x512_S36864x4x128) cc) shapeCasts_S36864x4x128_S36864x512)⟩, ⟨S36864x512, (shapeCast _ (Host.dotGeneral dot_S36864x4x128_S128x128_S36864x4x128_2_0_01_1_n_n none (shapeCast _ (extractStridedSlice S36864x512 ![0, 9216] (extf .f32 z bitsLt_bf16_f32) slices_S36864x10752_S36864x512_0_9216) shapeCasts_S36864x512_S36864x4x128) sc) shapeCasts_S36864x4x128_S36864x512)⟩] concatenates_S36864x512_S36864x512_S36864x1024_d1) bitsLt_bf16_f32

set_option maxHeartbeats 4000000 in
/-- The reference's result is the transformed channels. -/
theorem result_eq (z : FVec Ideal S36864x10752 .bf16) (cc sc : FVec Ideal S128x128 .f32) :
    result z cc sc = Cert.FourChIdeal.HandValue.channels z cc sc := by
  funext y
  idx_vars y
  pointwise [result]
  unfold Cert.FourChIdeal.HandValue.channels Cert.FourChIdeal.HandValue.group
  by_cases h : y1.val < 512
  · rw [dif_pos h, dif_pos (show ((ix2 y0 y1 : S36864x1024.Idx) 1).val < 512 from h)]
    reads_congr
    all_goals blk_ext
  · rw [dif_neg h, dif_neg (show ¬((ix2 y0 y1 : S36864x1024.Idx) 1).val < 512 from h)]
    reads_congr
    all_goals blk_ext

end Cert.FourChRefIdeal.RefValue
-- ==== Proof.FourLat.lean ====
/- The positions' part of the Fourier mixing, of the latent tokens: the kernel's result array and the reference's result are
   the same function of the transformed channels and the two tables, read at an index. -/
module

public import proofs.«01_k».proof.Proof.Gen.FourLatIdeal.Value
public import proofs.«01_k».proof.Proof.Gen.FourLatRefIdeal.Run
public import Idealize.ShloMosaic.Lib.Pointwise
public import Idealize.ShloMosaic.Lib.Pipeline.ValueKit

@[expose] public section

set_option maxRecDepth 16384

noncomputable section

namespace Cert.FourLatIdeal.HandValue

open Idealize.ShloMosaic Cert.FourLatIdeal Cert.FourLatIdeal.Gen

/-- The mixed positions at row `y 0` and column `y 1`: the cosines' product with the real parts of the row's batch, minus the
    sines' with the imaginary parts. -/
def positions (x : S36864x1024.Idx → EReal) (cl sl : S2048x2048.Idx → EReal) (y : S32768x512.Idx) : EReal :=
  (∑ e : Fin 2048, cl (ix2 ⟨(y 0).val % 2048, by omega⟩ e) * x (ix2 ⟨((y 0).val / 2048 * 2048 + e.val), by idx_bounds y; omega⟩ ⟨(y 1).val, by idx_bounds y; omega⟩))
    - ∑ e : Fin 2048, sl (ix2 ⟨(y 0).val % 2048, by omega⟩ e) * x (ix2 ⟨((y 0).val / 2048 * 2048 + e.val), by idx_bounds y; omega⟩ ⟨512 + (y 1).val, by idx_bounds y; omega⟩)

set_option maxHeartbeats 4000000 in
/-- What the body stores, read at an index of the block. -/
theorem pay_at (cl : Vec Ideal S1024x2048 .bf16) (xc : Vec Ideal S2048x512 .bf16) (sl : Vec Ideal S1024x2048 .bf16)
    (xs : Vec Ideal S2048x512 .bf16) (r : Fin 1024) (d : Fin 512) :
    k0_pay1 cl xc sl xs (ix2 r d) = (∑ e : Fin 2048, cl (ix2 r e) * xc (ix2 e d)) - ∑ e : Fin 2048, sl (ix2 r e) * xs (ix2 e d) := by
  pointwise [k0_pay1]

/-- The block of each window at grid point `t`. -/
theorem idx : ∀ t : Fin grid0.N, win0_0.index t = ![t.val / 16, 0]
   ∧ win0_1.index t = ![t.val / 16, 0]
   ∧ win0_2.index t = ![t.val % 16, 0]
   ∧ win0_3.index t = ![t.val % 16, 1]
   ∧ win0_4.index t = ![t.val % 16 * 2 + t.val / 16, 0] := by decide +kernel

set_option maxHeartbeats 4000000 in
/-- The kernel's result array, as one function of its arguments. -/
theorem array_eq (m : (ℓ : Loc nD τ sig) → Buf (Elt Ideal) ℓ) (c : Dev nD) :
    (dats m 0 c).arrAt 4 cfg0.N = positions (m ((c.tc : Thread nD τ).loc main_arg0)) (m ((c.tc : Thread nD τ).loc main_arg1)) (m ((c.tc : Thread nD τ).loc main_arg2)) := by
  refine (dats m 0 c).arrAt_eq_of_covers 4 _ (by decide +kernel) fun t hf y => ?_
  blk_simp
  rw [after0_4]
  unfold out0_4
  frame_out
  have ht : t.val < 32 := t.isLt
  idx_vars y
  rw [pay_at]
  unfold positions
  reads_congr
  all_goals blk_ext! [iblk, V, idx t]

end Cert.FourLatIdeal.HandValue

namespace Cert.FourLatRefIdeal.RefValue

open Idealize.ShloMosaic Cert.FourLatRefIdeal Cert.FourLatRefIdeal.Value
open Cert.FourLatRefIdeal.Gen

/-- The reference's result as a function of its arguments. -/
def result (x : FVec Ideal S36864x1024 .bf16) (cl sl : FVec Ideal S2048x2048 .f32) : FVec Ideal S32768x512 .bf16 :=
  truncf .bf16 (shapeCast _ (subf (transpose S16x2048x512 [0, 2, 1] (Host.dotGeneral dot_S16x2048x512_S2048x2048_S16x512x2048_1_1_02_0_n_n none (extractStridedSlice S16x2048x512 ![0, 0, 0] (shapeCast _ (extractStridedSlice S32768x1024 ![0, 0] (extf .f32 x bitsLt_bf16_f32) slices_S36864x1024_S32768x1024_0_0) shapeCasts_S32768x1024_S16x2048x1024) slices_S16x2048x1024_S16x2048x512_0_0_0) cl) transposes_S16x512x2048_S16x2048x512_0_2_1) (transpose S16x2048x512 [0, 2, 1] (Host.dotGeneral dot_S16x2048x512_S2048x2048_S16x512x2048_1_1_02_0_n_n none (extractStridedSlice S16x2048x512 ![0, 0, 512] (shapeCast _ (extractStridedSlice S32768x1024 ![0, 0] (extf .f32 x bitsLt_bf16_f32) slices_S36864x1024_S32768x1024_0_0) shapeCasts_S32768x1024_S16x2048x1024) slices_S16x2048x1024_S16x2048x512_0_0_512) sl) transposes_S16x512x2048_S16x2048x512_0_2_1)) shapeCasts_S16x2048x512_S32768x512) bitsLt_bf16_f32

set_option maxHeartbeats 4000000 in
/-- The reference's result is the mixed positions. -/
theorem result_eq (x : FVec Ideal S36864x1024 .bf16) (cl sl : FVec Ideal S2048x2048 .f32) :
    result x cl sl = Cert.FourLatIdeal.HandValue.positions x cl sl := by
  funext y
  idx_vars y
  pointwise [result]
  unfold Cert.FourLatIdeal.HandValue.positions
  refine congrArg₂ (· - ·) (Finset.sum_congr rfl fun e _ => (mul_comm _ _).trans ?_) (Finset.sum_congr rfl fun e _ => (mul_comm _ _).trans ?_)
  all_goals
    reads_congr
    all_goals blk_ext

end Cert.FourLatRefIdeal.RefValue
-- ==== Proof.FourCtx.lean ====
/- The positions' part of the Fourier mixing, of the context tokens: the kernel's result array and the reference's result are
   the same function of the transformed channels and the two tables, read at an index. -/
module

public import proofs.«01_k».proof.Proof.Gen.FourCtxIdeal.Value
public import proofs.«01_k».proof.Proof.Gen.FourCtxRefIdeal.Run
public import Idealize.ShloMosaic.Lib.Pointwise
public import Idealize.ShloMosaic.Lib.Pipeline.ValueKit

@[expose] public section

set_option maxRecDepth 16384

noncomputable section

namespace Cert.FourCtxIdeal.HandValue

open Idealize.ShloMosaic Cert.FourCtxIdeal Cert.FourCtxIdeal.Gen

/-- The mixed positions at row `y 0` and column `y 1`: the cosines' product with the real parts of the row's batch, minus the
    sines' with the imaginary parts. -/
def positions (x : S36864x1024.Idx → EReal) (cl sl : S256x256.Idx → EReal) (y : S4096x512.Idx) : EReal :=
  (∑ e : Fin 256, cl (ix2 ⟨(y 0).val % 256, by omega⟩ e) * x (ix2 ⟨32768 + ((y 0).val / 256 * 256 + e.val), by idx_bounds y; omega⟩ ⟨(y 1).val, by idx_bounds y; omega⟩))
    - ∑ e : Fin 256, sl (ix2 ⟨(y 0).val % 256, by omega⟩ e) * x (ix2 ⟨32768 + ((y 0).val / 256 * 256 + e.val), by idx_bounds y; omega⟩ ⟨512 + (y 1).val, by idx_bounds y; omega⟩)

set_option maxHeartbeats 4000000 in
/-- What the body stores, read at an index of the block. -/
theorem pay_at (cl : Vec Ideal S256x256 .bf16) (xc : Vec Ideal S256x512 .bf16) (sl : Vec Ideal S256x256 .bf16)
    (xs : Vec Ideal S256x512 .bf16) (r : Fin 256) (d : Fin 512) :
    k0_pay1 cl xc sl xs (ix2 r d) = (∑ e : Fin 256, cl (ix2 r e) * xc (ix2 e d)) - ∑ e : Fin 256, sl (ix2 r e) * xs (ix2 e d) := by
  pointwise [k0_pay1]

/-- The block of each window at grid point `t`. -/
theorem idx : ∀ t : Fin grid0.N, win0_0.index t = ![0, 0]
   ∧ win0_1.index t = ![0, 0]
   ∧ win0_2.index t = ![128 + t.val, 0]
   ∧ win0_3.index t = ![128 + t.val, 1]
   ∧ win0_4.index t = ![t.val, 0] := by decide +kernel

set_option maxHeartbeats 4000000 in
/-- The kernel's result array, as one function of its arguments. -/
theorem array_eq (m : (ℓ : Loc nD τ sig) → Buf (Elt Ideal) ℓ) (c : Dev nD) :
    (dats m 0 c).arrAt 4 cfg0.N = positions (m ((c.tc : Thread nD τ).loc main_arg0)) (m ((c.tc : Thread nD τ).loc main_arg1)) (m ((c.tc : Thread nD τ).loc main_arg2)) := by
  refine (dats m 0 c).arrAt_eq_of_covers 4 _ (by decide +kernel) fun t hf y => ?_
  blk_simp
  rw [after0_4]
  unfold out0_4
  frame_out
  have ht : t.val < 16 := t.isLt
  idx_vars y
  rw [pay_at]
  unfold positions
  reads_congr
  all_goals blk_ext! [iblk, V, idx t]

end Cert.FourCtxIdeal.HandValue

namespace Cert.FourCtxRefIdeal.RefValue

open Idealize.ShloMosaic Cert.FourCtxRefIdeal Cert.FourCtxRefIdeal.Value
open Cert.FourCtxRefIdeal.Gen

/-- The reference's result as a function of its arguments. -/
def result (x : FVec Ideal S36864x1024 .bf16) (cl sl : FVec Ideal S256x256 .f32) : FVec Ideal S4096x512 .bf16 :=
  truncf .bf16 (shapeCast _ (subf (transpose S16x256x512 [0, 2, 1] (Host.dotGeneral dot_S16x256x512_S256x256_S16x512x256_1_1_02_0_n_n none (extractStridedSlice S16x256x512 ![0, 0, 0] (shapeCast _ (extractStridedSlice S4096x1024 ![32768, 0] (extf .f32 x bitsLt_bf16_f32) slices_S36864x1024_S4096x1024_32768_0) shapeCasts_S4096x1024_S16x256x1024) slices_S16x256x1024_S16x256x512_0_0_0) cl) transposes_S16x512x256_S16x256x512_0_2_1) (transpose S16x256x512 [0, 2, 1] (Host.dotGeneral dot_S16x256x512_S256x256_S16x512x256_1_1_02_0_n_n none (extractStridedSlice S16x256x512 ![0, 0, 512] (shapeCast _ (extractStridedSlice S4096x1024 ![32768, 0] (extf .f32 x bitsLt_bf16_f32) slices_S36864x1024_S4096x1024_32768_0) shapeCasts_S4096x1024_S16x256x1024) slices_S16x256x1024_S16x256x512_0_0_512) sl) transposes_S16x512x256_S16x256x512_0_2_1)) shapeCasts_S16x256x512_S4096x512) bitsLt_bf16_f32

set_option maxHeartbeats 4000000 in
/-- The reference's result is the mixed positions. -/
theorem result_eq (x : FVec Ideal S36864x1024 .bf16) (cl sl : FVec Ideal S256x256 .f32) :
    result x cl sl = Cert.FourCtxIdeal.HandValue.positions x cl sl := by
  funext y
  idx_vars y
  pointwise [result]
  unfold Cert.FourCtxIdeal.HandValue.positions
  refine congrArg₂ (· - ·) (Finset.sum_congr rfl fun e _ => (mul_comm _ _).trans ?_) (Finset.sum_congr rfl fun e _ => (mul_comm _ _).trans ?_)
  all_goals
    reads_congr
    all_goals blk_ext

end Cert.FourCtxRefIdeal.RefValue
-- ==== Proof.AdaLn.lean ====
/- The adaLN modulation: the kernel's result array and the reference's result are the same function of the conditioning
   vectors, the weights and the bias, read at an index. -/
module

public import proofs.«01_k».proof.Proof.Gen.AdaLnIdeal.Value
public import proofs.«01_k».proof.Proof.Gen.AdaLnRefIdeal.Run
public import Idealize.ShloMosaic.Lib.Pointwise
public import Idealize.ShloMosaic.Lib.Pipeline.ValueKit
public import proofs.«01_k».proof.Proof.Merge

@[expose] public section

set_option maxRecDepth 16384

noncomputable section

namespace Trunk

open Idealize.ShloMosaic Cert.AdaLnIdeal

/-- The activation of a conditioning entry: the entry times its gate. -/
def silu (x : EReal) : EReal := x * gate x

/-- The conditioning's rows: the batches', the context's, and rows of zeros. -/
def conditioning (c : S16x2048.Idx → EReal) (k : S2048.Idx → EReal) (r : Fin 32) (e : Fin 2048) : EReal :=
  if h : r.val < 16 then c (ix2 ⟨r.val, h⟩ e) else if r.val < 17 then k (ix1 e) else 0

/-- The modulation of layer `y 0`, row `y 1` and column `y 2`. -/
def modulation (c : S16x2048.Idx → EReal) (k : S2048.Idx → EReal) (w : S4x2048x12288.Idx → EReal) (b : S4x12288.Idx → EReal)
    (y : S4x32x12288.Idx) : EReal :=
  (∑ e : Fin 2048, silu (conditioning c k ⟨(y 1).val, by idx_bounds y; omega⟩ e)
      * w (ix3 ⟨(y 0).val, by idx_bounds y; omega⟩ e ⟨(y 2).val, by idx_bounds y; omega⟩))
    + b (ix2 ⟨(y 0).val, by idx_bounds y; omega⟩ ⟨(y 2).val, by idx_bounds y; omega⟩)

end Trunk

namespace Cert.AdaLnIdeal.HandValue

open Idealize.ShloMosaic Cert.AdaLnIdeal Cert.AdaLnIdeal.Gen Trunk

set_option maxHeartbeats 4000000 in
/-- What the body stores, read at an index of the block. -/
theorem pay_at (c : Vec Ideal S32x2048 .f32) (w : Vec Ideal S1x2048x1024 .f32) (b : Vec Ideal S1x1x1024 .f32) (r : Fin 32) (d : Fin 1024) :
    k0_pay1 c w b (ix3 0 r d) = (∑ e : Fin 2048, silu (c (ix2 r e)) * w (ix3 0 e d)) + b (ix3 0 0 d) := by
  pointwise [k0_pay1]
  simp only [zero_sub]
  rfl

/-- The block of each window at grid point `t`: the layer is `t / 12`, the columns' block `t % 12`. -/
theorem idx : ∀ t : Fin grid0.N, win0_0.index t = ![0, 0]
   ∧ win0_1.index t = ![t.val / 12, 0, t.val % 12]
   ∧ win0_2.index t = ![t.val / 12, 0, t.val % 12]
   ∧ win0_3.index t = ![t.val / 12, 0, t.val % 12] := by decide +kernel

/-- The conditioning's rows in one array. -/
def rows (c : Vec Ideal S16x2048 .f32) (k : Vec Ideal S2048 .f32) : Vec Ideal S32x2048 .f32 :=
  concatenate S32x2048 0 [⟨S16x2048, c⟩, ⟨S1x2048, broadcastInDim S1x2048 ![1] bcast_S2048_S1x2048_1 k⟩,
    ⟨S15x2048, broadcastInDim S15x2048 ![] bcast_S_S15x2048 (constant (F := Ideal) S_ .f32 0x00000000#32)⟩]
    concatenates_S16x2048_S1x2048_S15x2048_S32x2048_d0

set_option maxHeartbeats 1000000 in
/-- The conditioning's rows in one array, read at an index. -/
theorem rows_at (c : Vec Ideal S16x2048 .f32) (k : Vec Ideal S2048 .f32) (r : Fin 32) (e : Fin 2048) :
    rows c k (ix2 r e) = conditioning c k r e := by
  pointwise [rows]
  unfold conditioning
  by_cases h : r.val < 16
  · rw [dif_pos h, dif_pos h]
  · rw [dif_neg h, dif_neg h]
    by_cases h' : r.val < 17
    · rw [dif_pos (by omega), if_pos h']
    · rw [dif_neg (by omega), if_neg h']

variable (m : (ℓ : Loc nD τ sig) → Buf (Elt Ideal) ℓ) (c : Dev nD)

set_option maxHeartbeats 1000000 in
/-- The array of all rows that the call is given, read at an index. -/
theorem V_rows (r : Fin 32) (e : Fin 2048) :
    (V m c main_v2 : S32x2048.Idx → EReal) (ix2 r e) = conditioning (m ((c.tc : Thread nD τ).loc main_arg0)) (m ((c.tc : Thread nD τ).loc main_arg1)) r e := by
  rw [show (V m c main_v2 : Vec Ideal S32x2048 .f32) = rows (m ((c.tc : Thread nD τ).loc main_arg0)) (m ((c.tc : Thread nD τ).loc main_arg1)) by unfold V; after_results; rfl]
  exact rows_at _ _ r e

set_option maxHeartbeats 4000000 in
/-- The kernel's result array, as one function of its arguments. -/
theorem array_eq :
    (dats m 0 c).arrAt 3 cfg0.N = modulation (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 3 _ (by decide +kernel) fun t hf y => ?_
  blk_simp
  rw [after0_3]
  unfold out0_3
  frame_out
  have ht : t.val < 48 := t.isLt
  idx_vars y
  obtain rfl : y0 = 0 := Subsingleton.elim _ _
  rw [pay_at]
  unfold modulation
  have e0 : ∀ e, iblk m c 0 t (ix2 y1 e) = conditioning (m ((c.tc : Thread nD τ).loc main_arg0)) (m ((c.tc : Thread nD τ).loc main_arg1)) y1 e := by
    intro e
    rw [← V_rows m c y1 e]
    reads_congr
    all_goals blk_ext [iblk, idx t]
  simp only [e0]
  refine congrArg₂ (· + ·) (Finset.sum_congr rfl fun e _ => congrArg₂ (· * ·) (congrArg silu (congrArg (fun r => conditioning _ _ r e) (Fin.ext ?_))) ?_) ?_
  · blk_simp [idx t]
  · reads_congr
    all_goals blk_ext! [iblk, V, idx t]
  · reads_congr
    all_goals blk_ext! [iblk, V, idx t]

end Cert.AdaLnIdeal.HandValue

namespace Cert.AdaLnRefIdeal.RefValue

open Idealize.ShloMosaic Cert.AdaLnRefIdeal Cert.AdaLnRefIdeal.Value Trunk
open Cert.AdaLnRefIdeal.Gen

/-- The reference's result as a function of its arguments. -/
def result (c : FVec Ideal S16x2048 .f32) (k : FVec Ideal S2048 .f32) (w : FVec Ideal S4x2048x12288 .f32) (b : FVec Ideal S4x12288 .f32) :
    FVec Ideal S4x32x12288 .f32 :=
  addf (transpose S4x32x12288 [0, 2, 1] (Host.dotGeneral dot_S4x2048x12288_S32x2048_S4x12288x32_1_1_02_0_n_n none w (mulf ((concatenate S32x2048 0 [⟨S16x2048, (c : (⟨S16x2048, .f32⟩ : BufTy).Contents (Elt Ideal))⟩, ⟨S1x2048, ((broadcastInDim S1x2048 ![1] bcast_S2048_S1x2048_1 k) : (⟨S1x2048, .f32⟩ : BufTy).Contents (Elt Ideal))⟩, ⟨S15x2048, ((broadcastInDim S15x2048 ![] bcast_S_S15x2048 (constant (F := Ideal) S_ .f32 0x00000000#32)) : (⟨S15x2048, .f32⟩ : BufTy).Contents (Elt Ideal))⟩] concatenates_S16x2048_S1x2048_S15x2048_S32x2048_d0 : (⟨S32x2048, .f32⟩ : BufTy).Contents (Elt Ideal))) (Host.divf (broadcastInDim S32x2048 ![] bcast_S_S32x2048 (constant (F := Ideal) S_ .f32 0x3F800000#32)) (addf (broadcastInDim S32x2048 ![] bcast_S_S32x2048 (constant (F := Ideal) S_ .f32 0x3F800000#32)) (Host.exp (Host.negf ((concatenate S32x2048 0 [⟨S16x2048, (c : (⟨S16x2048, .f32⟩ : BufTy).Contents (Elt Ideal))⟩, ⟨S1x2048, ((broadcastInDim S1x2048 ![1] bcast_S2048_S1x2048_1 k) : (⟨S1x2048, .f32⟩ : BufTy).Contents (Elt Ideal))⟩, ⟨S15x2048, ((broadcastInDim S15x2048 ![] bcast_S_S15x2048 (constant (F := Ideal) S_ .f32 0x00000000#32)) : (⟨S15x2048, .f32⟩ : BufTy).Contents (Elt Ideal))⟩] concatenates_S16x2048_S1x2048_S15x2048_S32x2048_d0 : (⟨S32x2048, .f32⟩ : BufTy).Contents (Elt Ideal))))))))) transposes_S4x12288x32_S4x32x12288_0_2_1) (broadcastInDim S4x32x12288 ![0, 1, 2] bcast_S4x1x12288_S4x32x12288_0_1_2 (broadcastInDim S4x1x12288 ![0, 2] bcast_S4x12288_S4x1x12288_0_2 b))

set_option maxHeartbeats 4000000 in
/-- The reference's result is the modulation. -/
theorem result_eq (c : FVec Ideal S16x2048 .f32) (k : FVec Ideal S2048 .f32) (w : FVec Ideal S4x2048x12288 .f32) (b : FVec Ideal S4x12288 .f32) :
    result c k w b = Trunk.modulation c k w b := by
  funext y
  idx_vars y
  pointwise [result]
  unfold Trunk.modulation
  refine congrArg₂ (fun a b : EReal => a + b) (Finset.sum_congr rfl fun e _ => (mul_comm _ _).trans ?_) ?_
  · show _ = silu (conditioning c k y1 e) * w (ix3 y0 e y2)
    unfold silu gate conditioning
    by_cases h : y1.val < 16
    · simp only [dif_pos h]
    · simp only [dif_neg h]
      by_cases h' : y1.val < 17
      · simp only [dif_pos (show y1.val - 16 < 1 by omega), if_pos h']
      · simp only [dif_neg (show ¬y1.val - 16 < 1 by omega), if_neg h']
  · rfl

end Cert.AdaLnRefIdeal.RefValue
-- ==== Proof.AttnPrep.lean ====
/- The queries' and keys' norm and rotation: the kernel's two result arrays and the reference's two results are the same
   functions of the projection, the cosines, the sines and the gains, read at an index. -/
module

public import proofs.«01_k».proof.Proof.Gen.AttnPrepIdeal.Value
public import proofs.«01_k».proof.Proof.Gen.AttnPrepRefIdeal.Run
public import Idealize.ShloMosaic.Lib.Pointwise
public import Idealize.ShloMosaic.Lib.Pipeline.ValueKit

@[expose] public section

set_option maxRecDepth 16384

noncomputable section

namespace Trunk

open Idealize.ShloMosaic

/-- The norm of a head's row `f` under the gain `g`. -/
def normedHead (f g : Fin 128 → EReal) (d : Fin 128) : EReal :=
  f d * Ideal.rsqrt (Ideal.div (∑ e : Fin 128, f e * f e) (Ideal.ofBits .f32 1124073472#32) + Ideal.ofBits .f32 897988541#32) * g d

/-- The rotation of a head's row `n`: within each half, the first quarter and the second are turned by the half's angles. -/
def rotated (n : Fin 128 → EReal) (cs sn : Fin 2 → Fin 32 → EReal) (d : Fin 128) : EReal :=
  if d.val % 64 < 32 then
    n d * cs ⟨d.val / 64, by omega⟩ ⟨d.val % 32, by omega⟩ - n ⟨(d.val + 32) % 128, by omega⟩ * sn ⟨d.val / 64, by omega⟩ ⟨d.val % 32, by omega⟩
  else
    n ⟨(d.val + 96) % 128, by omega⟩ * sn ⟨d.val / 64, by omega⟩ ⟨d.val % 32, by omega⟩ + n d * cs ⟨d.val / 64, by omega⟩ ⟨d.val % 32, by omega⟩

/-- The rotation as the kernel computes it: the row times the cosines and its partner times the signed sines. -/
def turned (n cs sn : Fin 128 → EReal) (d : Fin 128) : EReal :=
  n d * cs d + (if d.val % 64 < 32 then n ⟨(d.val + 32) % 128, by omega⟩ else n ⟨(d.val + 96) % 128, by omega⟩) * sn d

/-- With the cosines and the signed sines in place, the two are the same. -/
theorem turned_eq (n cs sn : Fin 128 → EReal) (cos sin : Fin 2 → Fin 32 → EReal) (d : Fin 128)
    (hc : cs d = cos ⟨d.val / 64, by omega⟩ ⟨d.val % 32, by omega⟩)
    (hs : sn d = if d.val % 64 < 32 then -sin ⟨d.val / 64, by omega⟩ ⟨d.val % 32, by omega⟩ else sin ⟨d.val / 64, by omega⟩ ⟨d.val % 32, by omega⟩) :
    turned n cs sn d = rotated n cos sin d := by
  unfold turned rotated
  rw [hc, hs]
  by_cases h : d.val % 64 < 32
  · rw [if_pos h, if_pos h, if_pos h, mul_neg, sub_eq_add_neg]
  · rw [if_neg h, if_neg h, if_neg h, add_comm]

/-- With cosines one and sines zero the row stays as it is. -/
theorem turned_still (n cs sn : Fin 128 → EReal) (d : Fin 128) (hc : cs d = 1) (hs : sn d = 0) : turned n cs sn d = n d := by
  unfold turned
  rw [hc, hs, mul_one, mul_zero, add_zero]

/-- The rotation written by halves and quarters. -/
theorem rotated_split (n : Fin 128 → EReal) (cs sn : Fin 2 → Fin 32 → EReal) (d : Fin 128) :
    rotated n cs sn d = if d.val / 32 % 2 < 1 then
        n ⟨d.val / 64 * 64 + d.val % 32, by omega⟩ * cs ⟨d.val / 64, by omega⟩ ⟨d.val % 32, by omega⟩
          - n ⟨d.val / 64 * 64 + 32 + d.val % 32, by omega⟩ * sn ⟨d.val / 64, by omega⟩ ⟨d.val % 32, by omega⟩
      else
        n ⟨d.val / 64 * 64 + d.val % 32, by omega⟩ * sn ⟨d.val / 64, by omega⟩ ⟨d.val % 32, by omega⟩
          + n ⟨d.val / 64 * 64 + 32 + d.val % 32, by omega⟩ * cs ⟨d.val / 64, by omega⟩ ⟨d.val % 32, by omega⟩ := by
  unfold rotated
  by_cases h : d.val % 64 < 32
  · have e0 : (⟨d.val / 64 * 64 + d.val % 32, by omega⟩ : Fin 128) = d := Fin.ext (by dsimp only; omega)
    have e1 : (⟨d.val / 64 * 64 + 32 + d.val % 32, by omega⟩ : Fin 128) = ⟨(d.val + 32) % 128, by omega⟩ := Fin.ext (by dsimp only; omega)
    rw [if_pos h, if_pos (by omega), e0, e1]
  · have e0 : (⟨d.val / 64 * 64 + d.val % 32, by omega⟩ : Fin 128) = ⟨(d.val + 96) % 128, by omega⟩ := Fin.ext (by dsimp only; omega)
    have e1 : (⟨d.val / 64 * 64 + 32 + d.val % 32, by omega⟩ : Fin 128) = d := Fin.ext (by dsimp only; omega)
    rw [if_neg h, if_neg (by omega), e0, e1]

end Trunk

namespace Cert.AttnPrepIdeal.HandValue

open Idealize.ShloMosaic Cert.AttnPrepIdeal Cert.AttnPrepIdeal.Gen Trunk

/-- The prepared row of one head: normed, and rotated if it is a latent token's. -/
def prepared (z : S36864x10752.Idx → EReal) (cos sin : S2048x2x32.Idx → EReal) (g : S128.Idx → EReal) (r : Fin 36864) (col : Fin 10624)
    (d : Fin 128) : EReal :=
  if r.val < 32768 then
    rotated (normedHead (fun e => z (ix2 r ⟨col.val + e.val, by omega⟩)) fun e => g (ix1 e)) (fun a f => cos (ix3 ⟨r.val % 2048, by omega⟩ a f))
      (fun a f => sin (ix3 ⟨r.val % 2048, by omega⟩ a f)) d
  else normedHead (fun e => z (ix2 r ⟨col.val + e.val, by omega⟩)) (fun e => g (ix1 e)) d

/-- The queries: eight heads, scaled. -/
def queries (z : S36864x10752.Idx → EReal) (cos sin : S2048x2x32.Idx → EReal) (g : S128.Idx → EReal) (y : S36864x1024.Idx) : EReal :=
  prepared z cos sin g ⟨(y 0).val, by idx_bounds y; omega⟩ ⟨8192 + (y 1).val / 128 * 128, by idx_bounds y; omega⟩ ⟨(y 1).val % 128, by omega⟩
    * Ideal.ofBits .f32 1035273459#32

/-- The keys: two heads. -/
def keys (z : S36864x10752.Idx → EReal) (cos sin : S2048x2x32.Idx → EReal) (g : S128.Idx → EReal) (y : S36864x256.Idx) : EReal :=
  prepared z cos sin g ⟨(y 0).val, by idx_bounds y; omega⟩ ⟨9728 + (y 1).val / 128 * 128, by idx_bounds y; omega⟩ ⟨(y 1).val % 128, by omega⟩

set_option maxHeartbeats 1000000 in
/-- The kernel's comparison of lanes: whether a lane lies in the first half of its 64. -/
theorem lane : ∀ d : Fin 128, IntOp.cmpi .slt
    (Scalar.select
      (IntOp.andi
        (IntOp.xori (IntOp.cmpi .slt (IntOp.remsi .vector (BitVec.ofNat 32 d.val) (Scalar.select (Scalar.cmpi .eq 64#32 0#32) 1#32 64#32)) 0#32)
          (Scalar.cmpi .slt (Scalar.select (Scalar.cmpi .eq 64#32 0#32) 1#32 64#32) 0#32))
        (IntOp.cmpi .ne (IntOp.remsi .vector (BitVec.ofNat 32 d.val) (Scalar.select (Scalar.cmpi .eq 64#32 0#32) 1#32 64#32)) 0#32))
      (IntOp.addi (IntOp.remsi .vector (BitVec.ofNat 32 d.val) (Scalar.select (Scalar.cmpi .eq 64#32 0#32) 1#32 64#32))
        (Scalar.select (Scalar.cmpi .eq 64#32 0#32) 1#32 64#32))
      (IntOp.remsi .vector (BitVec.ofNat 32 d.val) (Scalar.select (Scalar.cmpi .eq 64#32 0#32) 1#32 64#32))) 32#32
    = if d.val % 64 < 32 then 1#1 else 0#1 := by decide +kernel

/-- A choice by that comparison. -/
theorem select_lane (d : Fin 128) (a b : EReal) :
    Scalar.select (if d.val % 64 < 32 then 1#1 else 0#1) a b = if d.val % 64 < 32 then a else b := by
  by_cases h : d.val % 64 < 32
  · rw [if_pos h, if_pos h]; rfl
  · rw [if_neg h, if_neg h]; rfl

set_option maxHeartbeats 4000000 in
/-- What the body stores of the first query head, read at an index of the block. -/
theorem head0 (cs sn : Vec Ideal S256x128 .f32) (x : Vec Ideal S256x128 .bf16) (g : Vec Ideal S1x128 .f32) (r : Fin 256) (d : Fin 128) :
    k0_pay7 (k0_pay2 cs) (k0_pay3 sn) k0_pay4 (k0_pay5 x g) (k0_pay6 x g) (ix2 r d)
      = turned (normedHead (fun e => x (ix2 r e)) fun e => g (ix2 0 e)) (fun e => cs (ix2 r e)) (fun e => sn (ix2 r e)) d
        * Ideal.ofBits .f32 1035273459#32 := by
  pointwise [k0_pay7, k0_pay5, k0_pay6, k0_pay2, k0_pay3, k0_pay4]
  rw [lane, select_lane]
  rfl

set_option maxHeartbeats 4000000 in
/-- What the body stores of the second query head, read at an index of the block. -/
theorem head1 (cs sn : Vec Ideal S256x128 .f32) (x : Vec Ideal S256x128 .bf16) (g : Vec Ideal S1x128 .f32) (r : Fin 256) (d : Fin 128) :
    k0_pay8 (k0_pay2 cs) (k0_pay3 sn) k0_pay4 x g (ix2 r d)
      = turned (normedHead (fun e => x (ix2 r e)) fun e => g (ix2 0 e)) (fun e => cs (ix2 r e)) (fun e => sn (ix2 r e)) d
        * Ideal.ofBits .f32 1035273459#32 := by
  pointwise [k0_pay8, k0_pay2, k0_pay3, k0_pay4]
  rw [lane, select_lane]
  rfl

set_option maxHeartbeats 4000000 in
/-- What the body stores of the third query head, read at an index of the block. -/
theorem head2 (cs sn : Vec Ideal S256x128 .f32) (x : Vec Ideal S256x128 .bf16) (g : Vec Ideal S1x128 .f32) (r : Fin 256) (d : Fin 128) :
    k0_pay10 (k0_pay2 cs) (k0_pay3 sn) k0_pay4 x (k0_pay9 g) (ix2 r d)
      = turned (normedHead (fun e => x (ix2 r e)) fun e => g (ix2 0 e)) (fun e => cs (ix2 r e)) (fun e => sn (ix2 r e)) d
        * Ideal.ofBits .f32 1035273459#32 := by
  pointwise [k0_pay10, k0_pay9, k0_pay2, k0_pay3, k0_pay4]
  rw [lane, select_lane]
  rfl

set_option maxHeartbeats 4000000 in
/-- What the body stores of the fourth query head, read at an index of the block. -/
theorem head3 (cs sn : Vec Ideal S256x128 .f32) (x : Vec Ideal S256x128 .bf16) (g : Vec Ideal S1x128 .f32) (r : Fin 256) (d : Fin 128) :
    k0_pay13 (k0_pay2 cs) (k0_pay3 sn) (k0_pay11 x g) (k0_pay12 k0_pay4 x g) (ix2 r d)
      = turned (normedHead (fun e => x (ix2 r e)) fun e => g (ix2 0 e)) (fun e => cs (ix2 r e)) (fun e => sn (ix2 r e)) d
        * Ideal.ofBits .f32 1035273459#32 := by
  pointwise [k0_pay13, k0_pay11, k0_pay12, k0_pay2, k0_pay3, k0_pay4]
  rw [lane, select_lane]
  rfl

set_option maxHeartbeats 4000000 in
/-- What the body stores of the fifth query head, read at an index of the block. -/
theorem head4 (cs sn : Vec Ideal S256x128 .f32) (x : Vec Ideal S256x128 .bf16) (g : Vec Ideal S1x128 .f32) (r : Fin 256) (d : Fin 128) :
    k0_pay14 (k0_pay2 cs) (k0_pay3 sn) k0_pay4 x g (ix2 r d)
      = turned (normedHead (fun e => x (ix2 r e)) fun e => g (ix2 0 e)) (fun e => cs (ix2 r e)) (fun e => sn (ix2 r e)) d
        * Ideal.ofBits .f32 1035273459#32 := by
  pointwise [k0_pay14, k0_pay2, k0_pay3, k0_pay4]
  rw [lane, select_lane]
  rfl

set_option maxHeartbeats 4000000 in
/-- What the body stores of the sixth query head, read at an index of the block. -/
theorem head5 (cs sn : Vec Ideal S256x128 .f32) (x : Vec Ideal S256x128 .bf16) (g : Vec Ideal S1x128 .f32) (r : Fin 256) (d : Fin 128) :
    k0_pay18 (k0_pay2 cs) (k0_pay3 sn) k0_pay4 (k0_pay15 g) (k0_pay16 x) (k0_pay17 x) (ix2 r d)
      = turned (normedHead (fun e => x (ix2 r e)) fun e => g (ix2 0 e)) (fun e => cs (ix2 r e)) (fun e => sn (ix2 r e)) d
        * Ideal.ofBits .f32 1035273459#32 := by
  pointwise [k0_pay18, k0_pay15, k0_pay16, k0_pay17, k0_pay2, k0_pay3, k0_pay4]
  rw [lane, select_lane]
  rfl

set_option maxHeartbeats 4000000 in
/-- What the body stores of the seventh query head, read at an index of the block. -/
theorem head6 (cs sn : Vec Ideal S256x128 .f32) (x : Vec Ideal S256x128 .bf16) (g : Vec Ideal S1x128 .f32) (r : Fin 256) (d : Fin 128) :
    k0_pay20 (k0_pay19 (k0_pay2 cs) (k0_pay3 sn) k0_pay4 x g) (ix2 r d)
      = turned (normedHead (fun e => x (ix2 r e)) fun e => g (ix2 0 e)) (fun e => cs (ix2 r e)) (fun e => sn (ix2 r e)) d
        * Ideal.ofBits .f32 1035273459#32 := by
  pointwise [k0_pay20, k0_pay19, k0_pay2, k0_pay3, k0_pay4]
  rw [lane, select_lane]
  rfl

set_option maxHeartbeats 4000000 in
/-- What the body stores of the eighth query head, read at an index of the block. -/
theorem head7 (cs sn : Vec Ideal S256x128 .f32) (x : Vec Ideal S256x128 .bf16) (g : Vec Ideal S1x128 .f32) (r : Fin 256) (d : Fin 128) :
    k0_pay21 (k0_pay2 cs) (k0_pay3 sn) k0_pay4 x g (ix2 r d)
      = turned (normedHead (fun e => x (ix2 r e)) fun e => g (ix2 0 e)) (fun e => cs (ix2 r e)) (fun e => sn (ix2 r e)) d
        * Ideal.ofBits .f32 1035273459#32 := by
  pointwise [k0_pay21, k0_pay2, k0_pay3, k0_pay4]
  rw [lane, select_lane]
  rfl

set_option maxHeartbeats 4000000 in
/-- What the body stores of the first key head, read at an index of the block. -/
theorem key0 (cs sn : Vec Ideal S256x128 .f32) (x : Vec Ideal S256x128 .bf16) (g : Vec Ideal S1x128 .f32) (r : Fin 256) (d : Fin 128) :
    k0_pay25 (k0_pay2 cs) (k0_pay3 sn) k0_pay4 (k0_pay22 g) (k0_pay23 x) (k0_pay24 x) (FloatOps.ofBits FTy.f32 1124073472#32) (ix2 r d)
      = turned (normedHead (fun e => x (ix2 r e)) fun e => g (ix2 0 e)) (fun e => cs (ix2 r e)) (fun e => sn (ix2 r e)) d := by
  pointwise [k0_pay25, k0_pay22, k0_pay23, k0_pay24, k0_pay2, k0_pay3, k0_pay4]
  rw [lane, select_lane]
  first | (rw [mul_one]; rfl) | rfl

set_option maxHeartbeats 4000000 in
/-- What the body stores of the second key head, read at an index of the block. -/
theorem key1 (cs sn : Vec Ideal S256x128 .f32) (x : Vec Ideal S256x128 .bf16) (g : Vec Ideal S1x128 .f32) (r : Fin 256) (d : Fin 128) :
    k0_pay1 (k0_pay26 (k0_pay2 cs) (k0_pay3 sn) k0_pay4 x g) (ix2 r d)
      = turned (normedHead (fun e => x (ix2 r e)) fun e => g (ix2 0 e)) (fun e => cs (ix2 r e)) (fun e => sn (ix2 r e)) d := by
  pointwise [k0_pay1, k0_pay26, k0_pay2, k0_pay3, k0_pay4]
  rw [lane, select_lane]
  first | (rw [mul_one]; rfl) | rfl

/-- The table of the cosines, with ones for the context. -/
def cosines (cos : FVec Ideal S2048x2x32 .f32) : FVec Ideal S2304x128 .f32 :=
  concatenate S2304x128 0 [⟨S2048x128, concatenate S2048x128 1
      [⟨S2048x32, shapeCast S2048x32 (extractStridedSlice S2048x1x32 ![0, 0, 0] cos slices_S2048x2x32_S2048x1x32_0_0_0) shapeCasts_S2048x1x32_S2048x32⟩,
       ⟨S2048x32, shapeCast S2048x32 (extractStridedSlice S2048x1x32 ![0, 0, 0] cos slices_S2048x2x32_S2048x1x32_0_0_0) shapeCasts_S2048x1x32_S2048x32⟩,
       ⟨S2048x32, shapeCast S2048x32 (extractStridedSlice S2048x1x32 ![0, 1, 0] cos slices_S2048x2x32_S2048x1x32_0_1_0) shapeCasts_S2048x1x32_S2048x32⟩,
       ⟨S2048x32, shapeCast S2048x32 (extractStridedSlice S2048x1x32 ![0, 1, 0] cos slices_S2048x2x32_S2048x1x32_0_1_0) shapeCasts_S2048x1x32_S2048x32⟩]
      concatenates_S2048x32_S2048x32_S2048x32_S2048x32_S2048x128_d1⟩,
    ⟨S256x128, broadcastInDim S256x128 ![] bcast_S_S256x128 (constant (F := Ideal) S_ .f32 0x3F800000#32)⟩]
    concatenates_S2048x128_S256x128_S2304x128_d0

/-- The table of the signed sines, with zeros for the context. -/
def sines (sin : FVec Ideal S2048x2x32 .f32) : FVec Ideal S2304x128 .f32 :=
  concatenate S2304x128 0 [⟨S2048x128, concatenate S2048x128 1
      [⟨S2048x32, Host.negf (shapeCast S2048x32 (extractStridedSlice S2048x1x32 ![0, 0, 0] sin slices_S2048x2x32_S2048x1x32_0_0_0) shapeCasts_S2048x1x32_S2048x32)⟩,
       ⟨S2048x32, shapeCast S2048x32 (extractStridedSlice S2048x1x32 ![0, 0, 0] sin slices_S2048x2x32_S2048x1x32_0_0_0) shapeCasts_S2048x1x32_S2048x32⟩,
       ⟨S2048x32, Host.negf (shapeCast S2048x32 (extractStridedSlice S2048x1x32 ![0, 1, 0] sin slices_S2048x2x32_S2048x1x32_0_1_0) shapeCasts_S2048x1x32_S2048x32)⟩,
       ⟨S2048x32, shapeCast S2048x32 (extractStridedSlice S2048x1x32 ![0, 1, 0] sin slices_S2048x2x32_S2048x1x32_0_1_0) shapeCasts_S2048x1x32_S2048x32⟩]
      concatenates_S2048x32_S2048x32_S2048x32_S2048x32_S2048x128_d1⟩,
    ⟨S256x128, broadcastInDim S256x128 ![] bcast_S_S256x128 (constant (F := Ideal) S_ .f32 0x00000000#32)⟩]
    concatenates_S2048x128_S256x128_S2304x128_d0

set_option maxHeartbeats 1000000 in
/-- The cosines' table, read at an index. -/
theorem cosines_at (cos : FVec Ideal S2048x2x32 .f32) (r : Fin 2304) (d : Fin 128) :
    cosines cos (ix2 r d) = if h : r.val < 2048 then cos (ix3 ⟨r.val, h⟩ ⟨d.val / 64, by omega⟩ ⟨d.val % 32, by omega⟩) else (1 : EReal) := by
  pointwise [cosines]
  by_cases h : r.val < 2048
  · rw [dif_pos h, dif_pos h]
    split_ifs
    all_goals
      reads_congr
      all_goals blk_ext
  · rw [dif_neg h, dif_neg h]

set_option maxHeartbeats 1000000 in
/-- The signed sines' table, read at an index. -/
theorem sines_at (sin : FVec Ideal S2048x2x32 .f32) (r : Fin 2304) (d : Fin 128) :
    sines sin (ix2 r d) = if h : r.val < 2048 then (if d.val % 64 < 32 then -(sin (ix3 ⟨r.val, h⟩ ⟨d.val / 64, by omega⟩ ⟨d.val % 32, by omega⟩) : EReal)
      else sin (ix3 ⟨r.val, h⟩ ⟨d.val / 64, by omega⟩ ⟨d.val % 32, by omega⟩)) else (0 : EReal) := by
  pointwise [sines]
  by_cases h : r.val < 2048
  · rw [dif_pos h, dif_pos h]
    by_cases q : d.val % 64 < 32
    · rw [if_pos q]
      split_ifs
      all_goals first
        | (exfalso; omega)
        | (reads_congr
           all_goals blk_ext)
    · rw [if_neg q]
      split_ifs
      all_goals first
        | (exfalso; omega)
        | (reads_congr
           all_goals blk_ext)
  · rw [dif_neg h, dif_neg h]

variable (m : (ℓ : Loc nD τ sig) → Buf (Elt Ideal) ℓ) (c : Dev nD)

set_option maxHeartbeats 1000000 in
/-- The cosines' table that the call is given. -/
theorem V_cos : (V m c main_v21 : Vec Ideal S2304x128 .f32) = cosines (m ((c.tc : Thread nD τ).loc main_arg1)) := by
  unfold V
  after_results
  rfl

set_option maxHeartbeats 1000000 in
/-- The signed sines' table that the call is given. -/
theorem V_sin : (V m c main_v23 : Vec Ideal S2304x128 .f32) = sines (m ((c.tc : Thread nD τ).loc main_arg2)) := by
  unfold V
  after_results
  rfl

/-- The block of each window at grid point `t`. -/
theorem idx : ∀ t : Fin grid0.N, win0_0.index t = ![t.val, 8]
   ∧ win0_1.index t = ![t.val, 38]
   ∧ win0_2.index t = ![if t.val < 128 then t.val % 8 else 8, 0]
   ∧ win0_3.index t = ![if t.val < 128 then t.val % 8 else 8, 0]
   ∧ win0_4.index t = ![0, 0]
   ∧ win0_5.index t = ![0, 0]
   ∧ win0_6.index t = ![t.val, 0]
   ∧ win0_7.index t = ![t.val, 0] := by decide +kernel

/-- The queries' columns from 0 on, read at an index. -/
theorem ld_0 (X : Vec Ideal S256x1024 .bf16) (a : Fin 256) (e : Fin 128) :
    View.ld X (Rect.unit ![0, 0] ![256, 128] inb_S256x1024_S256x128_0_0) (ix2 a e) = X (ix2 a ⟨0 + e.val, by omega⟩) := by
  refine View.ld_unit_apply_of X _ _ _ _ _ fun i => ?_
  fin_cases i <;> simp

/-- The queries' columns from 128 on, read at an index. -/
theorem ld_1 (X : Vec Ideal S256x1024 .bf16) (a : Fin 256) (e : Fin 128) :
    View.ld X (Rect.unit ![0, 128] ![256, 128] inb_S256x1024_S256x128_0_128) (ix2 a e) = X (ix2 a ⟨128 + e.val, by omega⟩) := by
  refine View.ld_unit_apply_of X _ _ _ _ _ fun i => ?_
  fin_cases i <;> simp

/-- The queries' columns from 256 on, read at an index. -/
theorem ld_2 (X : Vec Ideal S256x1024 .bf16) (a : Fin 256) (e : Fin 128) :
    View.ld X (Rect.unit ![0, 256] ![256, 128] inb_S256x1024_S256x128_0_256) (ix2 a e) = X (ix2 a ⟨256 + e.val, by omega⟩) := by
  refine View.ld_unit_apply_of X _ _ _ _ _ fun i => ?_
  fin_cases i <;> simp

/-- The queries' columns from 384 on, read at an index. -/
theorem ld_3 (X : Vec Ideal S256x1024 .bf16) (a : Fin 256) (e : Fin 128) :
    View.ld X (Rect.unit ![0, 384] ![256, 128] inb_S256x1024_S256x128_0_384) (ix2 a e) = X (ix2 a ⟨384 + e.val, by omega⟩) := by
  refine View.ld_unit_apply_of X _ _ _ _ _ fun i => ?_
  fin_cases i <;> simp

/-- The queries' columns from 512 on, read at an index. -/
theorem ld_4 (X : Vec Ideal S256x1024 .bf16) (a : Fin 256) (e : Fin 128) :
    View.ld X (Rect.unit ![0, 512] ![256, 128] inb_S256x1024_S256x128_0_512) (ix2 a e) = X (ix2 a ⟨512 + e.val, by omega⟩) := by
  refine View.ld_unit_apply_of X _ _ _ _ _ fun i => ?_
  fin_cases i <;> simp

/-- The queries' columns from 640 on, read at an index. -/
theorem ld_5 (X : Vec Ideal S256x1024 .bf16) (a : Fin 256) (e : Fin 128) :
    View.ld X (Rect.unit ![0, 640] ![256, 128] inb_S256x1024_S256x128_0_640) (ix2 a e) = X (ix2 a ⟨640 + e.val, by omega⟩) := by
  refine View.ld_unit_apply_of X _ _ _ _ _ fun i => ?_
  fin_cases i <;> simp

/-- The queries' columns from 768 on, read at an index. -/
theorem ld_6 (X : Vec Ideal S256x1024 .bf16) (a : Fin 256) (e : Fin 128) :
    View.ld X (Rect.unit ![0, 768] ![256, 128] inb_S256x1024_S256x128_0_768) (ix2 a e) = X (ix2 a ⟨768 + e.val, by omega⟩) := by
  refine View.ld_unit_apply_of X _ _ _ _ _ fun i => ?_
  fin_cases i <;> simp

/-- The queries' columns from 896 on, read at an index. -/
theorem ld_7 (X : Vec Ideal S256x1024 .bf16) (a : Fin 256) (e : Fin 128) :
    View.ld X (Rect.unit ![0, 896] ![256, 128] inb_S256x1024_S256x128_0_896) (ix2 a e) = X (ix2 a ⟨896 + e.val, by omega⟩) := by
  refine View.ld_unit_apply_of X _ _ _ _ _ fun i => ?_
  fin_cases i <;> simp

/-- The keys' columns from 0 on, read at an index. -/
theorem ldk_0 (X : Vec Ideal S256x256 .bf16) (a : Fin 256) (e : Fin 128) :
    View.ld X (Rect.unit ![0, 0] ![256, 128] inb_S256x256_S256x128_0_0) (ix2 a e) = X (ix2 a ⟨0 + e.val, by omega⟩) := by
  refine View.ld_unit_apply_of X _ _ _ _ _ fun i => ?_
  fin_cases i <;> simp

/-- The keys' columns from 128 on, read at an index. -/
theorem ldk_1 (X : Vec Ideal S256x256 .bf16) (a : Fin 256) (e : Fin 128) :
    View.ld X (Rect.unit ![0, 128] ![256, 128] inb_S256x256_S256x128_0_128) (ix2 a e) = X (ix2 a ⟨128 + e.val, by omega⟩) := by
  refine View.ld_unit_apply_of X _ _ _ _ _ fun i => ?_
  fin_cases i <;> simp

/-- The prepared row depends on its column and lane by value. -/
theorem prepared_same (z : S36864x10752.Idx → EReal) (cos sin : S2048x2x32.Idx → EReal) (g : S128.Idx → EReal) (r : Fin 36864)
    (a b : Fin 10624) (d e : Fin 128) (h : a.val = b.val) (k : d.val = e.val) : prepared z cos sin g r a d = prepared z cos sin g r b e := by
  obtain rfl := Fin.ext h
  obtain rfl := Fin.ext k
  rfl

/-- What the staging buffer of the queries holds at grid point `t`, read in the projection. -/
theorem block0_at (t : Fin cfg0.N) (ht : t.val < 144) (r : Fin 256) (e : Fin 1024) :
    X0_0 m c t (ix2 r e) = (m ((c.tc : Thread nD τ).loc main_arg0)) (ix2 ⟨t.val * 256 + r.val, by omega⟩ ⟨8192 + e.val, by omega⟩) := by
  unfold X0_0 Pipeline.Window.fill
  rw [dif_pos (moved0_0 t (ix2 r e))]
  blk_ext [iblk, V, idx t]

/-- What the staging buffer of the keys holds at grid point `t`, read in the projection. -/
theorem block1_at (t : Fin cfg0.N) (ht : t.val < 144) (r e : Fin 256) :
    (iblk m c 1 t : S256x256.Idx → EReal) (ix2 r e) = (m ((c.tc : Thread nD τ).loc main_arg0)) (ix2 ⟨t.val * 256 + r.val, by omega⟩ ⟨9728 + e.val, by omega⟩) := by
  blk_ext [iblk, V, idx t]

/-- A gain as a row, read at an index. -/
theorem row_at (g : FVec Ideal S128 .f32) (e : Fin 128) : broadcastInDim S1x128 ![1] bcast_S128_S1x128_1 g (ix2 0 e) = g (ix1 e) := by
  pointwise []

/-- The queries' gain at grid point `t`. -/
theorem gain4_at (t : Fin cfg0.N) (e : Fin 128) : (iblk m c 4 t : S1x128.Idx → EReal) (ix2 0 e) = (m ((c.tc : Thread nD τ).loc main_arg3)) (ix1 e) := by
  have h : (iblk m c 4 t : S1x128.Idx → EReal) (ix2 0 e) = (V m c main_v24 : S1x128.Idx → EReal) (ix2 0 e) := by
    blk_ext [iblk, idx t]
  rw [h]
  entry_read
  exact row_at _ e

/-- The keys' gain at grid point `t`. -/
theorem gain5_at (t : Fin cfg0.N) (e : Fin 128) : (iblk m c 5 t : S1x128.Idx → EReal) (ix2 0 e) = (m ((c.tc : Thread nD τ).loc main_arg4)) (ix1 e) := by
  have h : (iblk m c 5 t : S1x128.Idx → EReal) (ix2 0 e) = (V m c main_v25 : S1x128.Idx → EReal) (ix2 0 e) := by
    blk_ext [iblk, idx t]
  rw [h]
  entry_read
  exact row_at _ e

/-- The row of the tables that row `r` of grid point `t` takes. -/
def place (t : Fin cfg0.N) (r : Fin 256) : Fin 2304 := ⟨(if t.val < 128 then t.val % 8 else 8) * 256 + r.val, by split <;> omega⟩

/-- The cosines at grid point `t`. -/
theorem cos_at (t : Fin cfg0.N) (r : Fin 256) (e : Fin 128) :
    (iblk m c 2 t : S256x128.Idx → EReal) (ix2 r e) = cosines (m ((c.tc : Thread nD τ).loc main_arg1)) (ix2 (place t r) e) := by
  have h : (iblk m c 2 t : S256x128.Idx → EReal) (ix2 r e) = (V m c main_v21 : S2304x128.Idx → EReal) (ix2 (place t r) e) := by
    unfold place
    blk_ext [iblk, idx t]
  exact h.trans (congrFun (V_cos m c) _)

/-- The signed sines at grid point `t`. -/
theorem sin_at (t : Fin cfg0.N) (r : Fin 256) (e : Fin 128) :
    (iblk m c 3 t : S256x128.Idx → EReal) (ix2 r e) = sines (m ((c.tc : Thread nD τ).loc main_arg2)) (ix2 (place t r) e) := by
  have h : (iblk m c 3 t : S256x128.Idx → EReal) (ix2 r e) = (V m c main_v23 : S2304x128.Idx → EReal) (ix2 (place t r) e) := by
    unfold place
    blk_ext [iblk, idx t]
  exact h.trans (congrFun (V_sin m c) _)

/-- A head's row at grid point `t`, normed and turned as the kernel does, is the prepared row. -/
theorem row_eq (t : Fin cfg0.N) (ht : t.val < 144) (r : Fin 256) (d : Fin 128) (col : Fin 10624) (f g : Fin 128 → EReal) (gain : S128.Idx → EReal)
    (hf : ∀ e, f e = (m ((c.tc : Thread nD τ).loc main_arg0)) (ix2 ⟨t.val * 256 + r.val, by omega⟩ ⟨col.val + e.val, by omega⟩)) (hg : ∀ e, g e = gain (ix1 e)) :
    turned (normedHead f g) (fun e => iblk m c 2 t (ix2 r e)) (fun e => iblk m c 3 t (ix2 r e)) d
      = prepared (m ((c.tc : Thread nD τ).loc main_arg0)) (m ((c.tc : Thread nD τ).loc main_arg1)) (m ((c.tc : Thread nD τ).loc main_arg2)) gain ⟨t.val * 256 + r.val, by omega⟩ col d := by
  obtain rfl := funext hf
  obtain rfl := funext hg
  unfold prepared
  by_cases h : t.val < 128
  · have hp : (place t r).val = t.val % 8 * 256 + r.val := by unfold place; dsimp only; rw [if_pos h]
    have hp' : (⟨(place t r).val, by omega⟩ : Fin 2048) = ⟨(t.val * 256 + r.val) % 2048, by omega⟩ := Fin.ext (by dsimp only; omega)
    rw [if_pos (by dsimp only; omega)]
    refine turned_eq _ _ _ _ _ d ?_ ?_
    · refine (cos_at m c t r d).trans ((cosines_at _ _ _).trans ?_)
      rw [dif_pos (by omega), hp']
    · refine (sin_at m c t r d).trans ((sines_at _ _ _).trans ?_)
      rw [dif_pos (by omega), hp']
  · have hp : (place t r).val = 2048 + r.val := by unfold place; dsimp only; rw [if_neg h]
    rw [if_neg (by dsimp only; omega)]
    refine turned_still _ _ _ d ?_ ?_
    · refine (cos_at m c t r d).trans ((cosines_at _ _ _).trans ?_)
      rw [dif_neg (by omega)]
    · refine (sin_at m c t r d).trans ((sines_at _ _ _).trans ?_)
      rw [dif_neg (by omega)]

set_option maxHeartbeats 4000000 in
/-- The kernel's queries, as one function of its arguments. -/
theorem queries_eq :
    (dats m 0 c).arrAt 6 cfg0.N = queries (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 6 _ (by decide +kernel) fun t hf y => ?_
  blk_simp
  rw [after0_6]
  unfold outsAt0
  dsimp only
  unfold out0_A_6
  frame_out
  have ht : t.val < 144 := t.isLt
  canon_tiles
  · idx_vars x
    refine (head7 _ _ _ _ x0 x1).trans ((congrArg (fun a : EReal => a * Ideal.ofBits .f32 1035273459#32) (row_eq m c t ht x0 x1 ⟨8192 + 896, by omega⟩ _ _ _ (fun e => ?_) (fun e => gain4_at m c t e))).trans ?_)
    · rw [ld_7, block0_at m c t ht]
      reads_congr
      all_goals blk_ext
    · have emb : ((View.whole main_v26_0).slice (win0_6.rect t)).emb y = (ix2 ⟨t.val * 256 + x0.val, by omega⟩ ⟨896 + x1.val, by omega⟩ : S36864x1024.Idx) := by
        blk_ext [idx t]
      rw [emb]
      exact congrArg (fun a : EReal => a * Ideal.ofBits .f32 1035273459#32) (prepared_same _ _ _ _ _ _ _ _ _ (by change 8192 + 896 = 8192 + (896 + x1.val) / 128 * 128; omega) (by change x1.val = (896 + x1.val) % 128; omega))
  · idx_vars x
    refine (head6 _ _ _ _ x0 x1).trans ((congrArg (fun a : EReal => a * Ideal.ofBits .f32 1035273459#32) (row_eq m c t ht x0 x1 ⟨8192 + 768, by omega⟩ _ _ _ (fun e => ?_) (fun e => gain4_at m c t e))).trans ?_)
    · rw [ld_6, block0_at m c t ht]
      reads_congr
      all_goals blk_ext
    · have emb : ((View.whole main_v26_0).slice (win0_6.rect t)).emb y = (ix2 ⟨t.val * 256 + x0.val, by omega⟩ ⟨768 + x1.val, by omega⟩ : S36864x1024.Idx) := by
        blk_ext [idx t]
      rw [emb]
      exact congrArg (fun a : EReal => a * Ideal.ofBits .f32 1035273459#32) (prepared_same _ _ _ _ _ _ _ _ _ (by change 8192 + 768 = 8192 + (768 + x1.val) / 128 * 128; omega) (by change x1.val = (768 + x1.val) % 128; omega))
  · idx_vars x
    refine (head5 _ _ _ _ x0 x1).trans ((congrArg (fun a : EReal => a * Ideal.ofBits .f32 1035273459#32) (row_eq m c t ht x0 x1 ⟨8192 + 640, by omega⟩ _ _ _ (fun e => ?_) (fun e => gain4_at m c t e))).trans ?_)
    · rw [ld_5, block0_at m c t ht]
      reads_congr
      all_goals blk_ext
    · have emb : ((View.whole main_v26_0).slice (win0_6.rect t)).emb y = (ix2 ⟨t.val * 256 + x0.val, by omega⟩ ⟨640 + x1.val, by omega⟩ : S36864x1024.Idx) := by
        blk_ext [idx t]
      rw [emb]
      exact congrArg (fun a : EReal => a * Ideal.ofBits .f32 1035273459#32) (prepared_same _ _ _ _ _ _ _ _ _ (by change 8192 + 640 = 8192 + (640 + x1.val) / 128 * 128; omega) (by change x1.val = (640 + x1.val) % 128; omega))
  · idx_vars x
    refine (head4 _ _ _ _ x0 x1).trans ((congrArg (fun a : EReal => a * Ideal.ofBits .f32 1035273459#32) (row_eq m c t ht x0 x1 ⟨8192 + 512, by omega⟩ _ _ _ (fun e => ?_) (fun e => gain4_at m c t e))).trans ?_)
    · rw [ld_4, block0_at m c t ht]
      reads_congr
      all_goals blk_ext
    · have emb : ((View.whole main_v26_0).slice (win0_6.rect t)).emb y = (ix2 ⟨t.val * 256 + x0.val, by omega⟩ ⟨512 + x1.val, by omega⟩ : S36864x1024.Idx) := by
        blk_ext [idx t]
      rw [emb]
      exact congrArg (fun a : EReal => a * Ideal.ofBits .f32 1035273459#32) (prepared_same _ _ _ _ _ _ _ _ _ (by change 8192 + 512 = 8192 + (512 + x1.val) / 128 * 128; omega) (by change x1.val = (512 + x1.val) % 128; omega))
  · idx_vars x
    refine (head3 _ _ _ _ x0 x1).trans ((congrArg (fun a : EReal => a * Ideal.ofBits .f32 1035273459#32) (row_eq m c t ht x0 x1 ⟨8192 + 384, by omega⟩ _ _ _ (fun e => ?_) (fun e => gain4_at m c t e))).trans ?_)
    · rw [ld_3, block0_at m c t ht]
      reads_congr
      all_goals blk_ext
    · have emb : ((View.whole main_v26_0).slice (win0_6.rect t)).emb y = (ix2 ⟨t.val * 256 + x0.val, by omega⟩ ⟨384 + x1.val, by omega⟩ : S36864x1024.Idx) := by
        blk_ext [idx t]
      rw [emb]
      exact congrArg (fun a : EReal => a * Ideal.ofBits .f32 1035273459#32) (prepared_same _ _ _ _ _ _ _ _ _ (by change 8192 + 384 = 8192 + (384 + x1.val) / 128 * 128; omega) (by change x1.val = (384 + x1.val) % 128; omega))
  · idx_vars x
    refine (head2 _ _ _ _ x0 x1).trans ((congrArg (fun a : EReal => a * Ideal.ofBits .f32 1035273459#32) (row_eq m c t ht x0 x1 ⟨8192 + 256, by omega⟩ _ _ _ (fun e => ?_) (fun e => gain4_at m c t e))).trans ?_)
    · rw [ld_2, block0_at m c t ht]
      reads_congr
      all_goals blk_ext
    · have emb : ((View.whole main_v26_0).slice (win0_6.rect t)).emb y = (ix2 ⟨t.val * 256 + x0.val, by omega⟩ ⟨256 + x1.val, by omega⟩ : S36864x1024.Idx) := by
        blk_ext [idx t]
      rw [emb]
      exact congrArg (fun a : EReal => a * Ideal.ofBits .f32 1035273459#32) (prepared_same _ _ _ _ _ _ _ _ _ (by change 8192 + 256 = 8192 + (256 + x1.val) / 128 * 128; omega) (by change x1.val = (256 + x1.val) % 128; omega))
  · idx_vars x
    refine (head1 _ _ _ _ x0 x1).trans ((congrArg (fun a : EReal => a * Ideal.ofBits .f32 1035273459#32) (row_eq m c t ht x0 x1 ⟨8192 + 128, by omega⟩ _ _ _ (fun e => ?_) (fun e => gain4_at m c t e))).trans ?_)
    · rw [ld_1, block0_at m c t ht]
      reads_congr
      all_goals blk_ext
    · have emb : ((View.whole main_v26_0).slice (win0_6.rect t)).emb y = (ix2 ⟨t.val * 256 + x0.val, by omega⟩ ⟨128 + x1.val, by omega⟩ : S36864x1024.Idx) := by
        blk_ext [idx t]
      rw [emb]
      exact congrArg (fun a : EReal => a * Ideal.ofBits .f32 1035273459#32) (prepared_same _ _ _ _ _ _ _ _ _ (by change 8192 + 128 = 8192 + (128 + x1.val) / 128 * 128; omega) (by change x1.val = (128 + x1.val) % 128; omega))
  · idx_vars x
    refine (head0 _ _ _ _ x0 x1).trans ((congrArg (fun a : EReal => a * Ideal.ofBits .f32 1035273459#32) (row_eq m c t ht x0 x1 ⟨8192 + 0, by omega⟩ _ _ _ (fun e => ?_) (fun e => gain4_at m c t e))).trans ?_)
    · rw [ld_0, block0_at m c t ht]
      reads_congr
      all_goals blk_ext
    · have emb : ((View.whole main_v26_0).slice (win0_6.rect t)).emb y = (ix2 ⟨t.val * 256 + x0.val, by omega⟩ ⟨0 + x1.val, by omega⟩ : S36864x1024.Idx) := by
        blk_ext [idx t]
      rw [emb]
      exact congrArg (fun a : EReal => a * Ideal.ofBits .f32 1035273459#32) (prepared_same _ _ _ _ _ _ _ _ _ (by change 8192 + 0 = 8192 + (0 + x1.val) / 128 * 128; omega) (by change x1.val = (0 + x1.val) % 128; omega))

set_option maxHeartbeats 4000000 in
/-- The kernel's keys, as one function of its arguments. -/
theorem keys_eq :
    (dats m 0 c).arrAt 7 cfg0.N = keys (m ((c.tc : Thread nD τ).loc main_arg0)) (m ((c.tc : Thread nD τ).loc main_arg1)) (m ((c.tc : Thread nD τ).loc main_arg2)) (m ((c.tc : Thread nD τ).loc main_arg4)) := by
  refine (dats m 0 c).arrAt_eq_of_covers 7 _ (by decide +kernel) fun t hf y => ?_
  blk_simp
  rw [after0_7]
  unfold outsAt0
  dsimp only
  unfold out0_A_7
  frame_out
  have ht : t.val < 144 := t.isLt
  canon_tiles
  · idx_vars x
    refine (key1 _ _ _ _ x0 x1).trans ((row_eq m c t ht x0 x1 ⟨9728 + 128, by omega⟩ _ _ _ (fun e => ?_) (fun e => gain5_at m c t e)).trans ?_)
    · rw [ldk_1, block1_at m c t ht]
      reads_congr
      all_goals blk_ext
    · have emb : ((View.whole main_v26_1).slice (win0_7.rect t)).emb y = (ix2 ⟨t.val * 256 + x0.val, by omega⟩ ⟨128 + x1.val, by omega⟩ : S36864x256.Idx) := by
        blk_ext [idx t]
      rw [emb]
      exact (prepared_same _ _ _ _ _ _ _ _ _ (by change 9728 + 128 = 9728 + (128 + x1.val) / 128 * 128; omega) (by change x1.val = (128 + x1.val) % 128; omega))
  · idx_vars x
    refine (key0 _ _ _ _ x0 x1).trans ((row_eq m c t ht x0 x1 ⟨9728 + 0, by omega⟩ _ _ _ (fun e => ?_) (fun e => gain5_at m c t e)).trans ?_)
    · rw [ldk_0, block1_at m c t ht]
      reads_congr
      all_goals blk_ext
    · have emb : ((View.whole main_v26_1).slice (win0_7.rect t)).emb y = (ix2 ⟨t.val * 256 + x0.val, by omega⟩ ⟨0 + x1.val, by omega⟩ : S36864x256.Idx) := by
        blk_ext [idx t]
      rw [emb]
      exact (prepared_same _ _ _ _ _ _ _ _ _ (by change 9728 + 0 = 9728 + (0 + x1.val) / 128 * 128; omega) (by change x1.val = (0 + x1.val) % 128; omega))

end Cert.AttnPrepIdeal.HandValue

namespace Cert.AttnPrepRefIdeal.RefValue

open Idealize.ShloMosaic Cert.AttnPrepRefIdeal Cert.AttnPrepRefIdeal.Value Trunk
open Cert.AttnPrepRefIdeal.Gen

/-- The reference's normed queries. -/
def normQueries (z : FVec Ideal S36864x10752 .bf16) (g : FVec Ideal S128 .f32) : FVec Ideal S36864x8x128 .f32 :=
  mulf (mulf (shapeCast S36864x8x128 (extf .f32 (extractStridedSlice S36864x1024 ![0, 8192] z slices_S36864x10752_S36864x1024_0_8192) bitsLt_bf16_f32) shapeCasts_S36864x1024_S36864x8x128) (broadcastInDim S36864x8x128 ![0, 1, 2] bcast_S36864x8x1_S36864x8x128_0_1_2 (Host.rsqrt (addf (Host.divf (broadcastInDim S36864x8x1 ![0, 1] bcast_S36864x8_S36864x8x1_0_1 (Host.reduceAdd (mulf (shapeCast S36864x8x128 (extf .f32 (extractStridedSlice S36864x1024 ![0, 8192] z slices_S36864x10752_S36864x1024_0_8192) bitsLt_bf16_f32) shapeCasts_S36864x1024_S36864x8x128) (shapeCast S36864x8x128 (extf .f32 (extractStridedSlice S36864x1024 ![0, 8192] z slices_S36864x10752_S36864x1024_0_8192) bitsLt_bf16_f32) shapeCasts_S36864x1024_S36864x8x128)) (constant (F := Ideal) S_ .f32 0x00000000#32) reducesTo_S36864x8x128_S36864x8_d2 h_S_)) (broadcastInDim S36864x8x1 ![] bcast_S_S36864x8x1 (constant (F := Ideal) S_ .f32 0x43000000#32))) (broadcastInDim S36864x8x1 ![] bcast_S_S36864x8x1 (constant (F := Ideal) S_ .f32 0x358637BD#32)))))) (broadcastInDim S36864x8x128 ![0, 1, 2] bcast_S1x1x128_S36864x8x128_0_1_2 (broadcastInDim S1x1x128 ![2] bcast_S128_S1x1x128_2 g))

set_option maxHeartbeats 1000000 in
/-- The reference's normed queries, read at an index. -/
theorem normQueries_at (z : FVec Ideal S36864x10752 .bf16) (g : FVec Ideal S128 .f32) (r : Fin 36864) (h : Fin 8) (d : Fin 128) :
    normQueries z g (ix3 r h d) = normedHead (fun e => z (ix2 r ⟨8192 + (h.val * 128 + e.val), by omega⟩)) (fun e => g (ix1 e)) d := by
  pointwise [normQueries]
  rfl

/-- The reference's rotation of the latent queries. -/
def rotQueries (n : FVec Ideal S16x2048x8x2x2x32 .f32) (cos sin : FVec Ideal S2048x2x32 .f32) : FVec Ideal S16x2048x8x2x2x32 .f32 :=
  concatenate S16x2048x8x2x2x32 4 [⟨S16x2048x8x2x1x32, broadcastInDim S16x2048x8x2x1x32 ![0, 1, 2, 3, 5] bcast_S16x2048x8x2x32_S16x2048x8x2x1x32_0_1_2_3_5 (subf (mulf (shapeCast S16x2048x8x2x32 (extractStridedSlice S16x2048x8x2x1x32 ![0, 0, 0, 0, 0, 0] n slices_S16x2048x8x2x2x32_S16x2048x8x2x1x32_0_0_0_0_0_0) shapeCasts_S16x2048x8x2x1x32_S16x2048x8x2x32) (broadcastInDim S16x2048x8x2x32 ![0, 1, 2, 3, 4] bcast_S1x2048x1x2x32_S16x2048x8x2x32_0_1_2_3_4 (broadcastInDim S1x2048x1x2x32 ![1, 2, 3, 4] bcast_S2048x1x2x32_S1x2048x1x2x32_1_2_3_4 (broadcastInDim S2048x1x2x32 ![0, 2, 3] bcast_S2048x2x32_S2048x1x2x32_0_2_3 cos)))) (mulf (shapeCast S16x2048x8x2x32 (extractStridedSlice S16x2048x8x2x1x32 ![0, 0, 0, 0, 1, 0] n slices_S16x2048x8x2x2x32_S16x2048x8x2x1x32_0_0_0_0_1_0) shapeCasts_S16x2048x8x2x1x32_S16x2048x8x2x32) (broadcastInDim S16x2048x8x2x32 ![0, 1, 2, 3, 4] bcast_S1x2048x1x2x32_S16x2048x8x2x32_0_1_2_3_4 (broadcastInDim S1x2048x1x2x32 ![1, 2, 3, 4] bcast_S2048x1x2x32_S1x2048x1x2x32_1_2_3_4 (broadcastInDim S2048x1x2x32 ![0, 2, 3] bcast_S2048x2x32_S2048x1x2x32_0_2_3 sin)))))⟩, ⟨S16x2048x8x2x1x32, broadcastInDim S16x2048x8x2x1x32 ![0, 1, 2, 3, 5] bcast_S16x2048x8x2x32_S16x2048x8x2x1x32_0_1_2_3_5 (addf (mulf (shapeCast S16x2048x8x2x32 (extractStridedSlice S16x2048x8x2x1x32 ![0, 0, 0, 0, 0, 0] n slices_S16x2048x8x2x2x32_S16x2048x8x2x1x32_0_0_0_0_0_0) shapeCasts_S16x2048x8x2x1x32_S16x2048x8x2x32) (broadcastInDim S16x2048x8x2x32 ![0, 1, 2, 3, 4] bcast_S1x2048x1x2x32_S16x2048x8x2x32_0_1_2_3_4 (broadcastInDim S1x2048x1x2x32 ![1, 2, 3, 4] bcast_S2048x1x2x32_S1x2048x1x2x32_1_2_3_4 (broadcastInDim S2048x1x2x32 ![0, 2, 3] bcast_S2048x2x32_S2048x1x2x32_0_2_3 sin)))) (mulf (shapeCast S16x2048x8x2x32 (extractStridedSlice S16x2048x8x2x1x32 ![0, 0, 0, 0, 1, 0] n slices_S16x2048x8x2x2x32_S16x2048x8x2x1x32_0_0_0_0_1_0) shapeCasts_S16x2048x8x2x1x32_S16x2048x8x2x32) (broadcastInDim S16x2048x8x2x32 ![0, 1, 2, 3, 4] bcast_S1x2048x1x2x32_S16x2048x8x2x32_0_1_2_3_4 (broadcastInDim S1x2048x1x2x32 ![1, 2, 3, 4] bcast_S2048x1x2x32_S1x2048x1x2x32_1_2_3_4 (broadcastInDim S2048x1x2x32 ![0, 2, 3] bcast_S2048x2x32_S2048x1x2x32_0_2_3 cos)))))⟩] concatenates_S16x2048x8x2x1x32_S16x2048x8x2x1x32_S16x2048x8x2x2x32_d4

set_option maxHeartbeats 1000000 in
/-- The reference's rotation, read at an index. -/
theorem rotQueries_at (n : FVec Ideal S16x2048x8x2x2x32 .f32) (cos sin : FVec Ideal S2048x2x32 .f32) (b : Fin 16) (p : Fin 2048) (h : Fin 8) (a k : Fin 2) (f : Fin 32) :
    rotQueries n cos sin (ix6 b p h a k f)
      = if k.val < 1 then (n (ix6 b p h a 0 f) * cos (ix3 p a f) - n (ix6 b p h a 1 f) * sin (ix3 p a f) : EReal)
        else n (ix6 b p h a 0 f) * sin (ix3 p a f) + n (ix6 b p h a 1 f) * cos (ix3 p a f) := by
  pointwise [rotQueries]
  split_ifs
  all_goals
    reads_congr
    all_goals blk_ext

/-- The latent queries by halves and quarters, read at an index. -/
theorem shapedQueries_at (n : FVec Ideal S36864x8x128 .f32) (b : Fin 16) (p : Fin 2048) (h : Fin 8) (a k : Fin 2) (f : Fin 32) :
    shapeCast S16x2048x8x2x2x32 (extractStridedSlice S32768x8x128 ![0, 0, 0] n slices_S36864x8x128_S32768x8x128_0_0_0) shapeCasts_S32768x8x128_S16x2048x8x2x2x32 (ix6 b p h a k f)
      = n (ix3 ⟨b.val * 2048 + p.val, by omega⟩ h ⟨a.val * 64 + k.val * 32 + f.val, by omega⟩) := by
  pointwise []

/-- The reference's rotation of the latent queries turns each head's row. -/
theorem turnedQueries_at (n : FVec Ideal S36864x8x128 .f32) (cos sin : FVec Ideal S2048x2x32 .f32) (r : Fin 36864) (hr : r.val < 32768) (h : Fin 8) (d : Fin 128) :
    rotQueries (shapeCast S16x2048x8x2x2x32 (extractStridedSlice S32768x8x128 ![0, 0, 0] n slices_S36864x8x128_S32768x8x128_0_0_0) shapeCasts_S32768x8x128_S16x2048x8x2x2x32) cos sin
        (ix6 ⟨r.val / 2048, by omega⟩ ⟨r.val % 2048, by omega⟩ h ⟨d.val / 64, by omega⟩ ⟨d.val / 32 % 2, by omega⟩ ⟨d.val % 32, by omega⟩)
      = rotated (fun e => n (ix3 r h e)) (fun a f => cos (ix3 ⟨r.val % 2048, by omega⟩ a f)) (fun a f => sin (ix3 ⟨r.val % 2048, by omega⟩ a f)) d := by
  rw [rotQueries_at, shapedQueries_at, shapedQueries_at, rotated_split]
  have e : (⟨r.val / 2048 * 2048 + r.val % 2048, by omega⟩ : Fin 36864) = r := Fin.ext (by dsimp only; omega)
  have e0 : (⟨d.val / 64 * 64 + (0 : Fin 2).val * 32 + d.val % 32, by simp; omega⟩ : Fin 128) = ⟨d.val / 64 * 64 + d.val % 32, by omega⟩ := Fin.ext (by simp)
  have e1 : (⟨d.val / 64 * 64 + (1 : Fin 2).val * 32 + d.val % 32, by simp; omega⟩ : Fin 128) = ⟨d.val / 64 * 64 + 32 + d.val % 32, by omega⟩ := Fin.ext (by simp)
  dsimp only
  rw [e, e0, e1]

/-- The reference's queries as a function of its arguments. -/
def queries (z : FVec Ideal S36864x10752 .bf16) (cos sin : FVec Ideal S2048x2x32 .f32) (g : FVec Ideal S128 .f32) : FVec Ideal S36864x1024 .bf16 :=
  truncf .bf16 (mulf (concatenate S36864x1024 0 [⟨S32768x1024, shapeCast S32768x1024 (rotQueries (shapeCast S16x2048x8x2x2x32 (extractStridedSlice S32768x8x128 ![0, 0, 0] (normQueries z g) slices_S36864x8x128_S32768x8x128_0_0_0) shapeCasts_S32768x8x128_S16x2048x8x2x2x32) cos sin) shapeCasts_S16x2048x8x2x2x32_S32768x1024⟩, ⟨S4096x1024, shapeCast S4096x1024 (extractStridedSlice S4096x8x128 ![32768, 0, 0] (normQueries z g) slices_S36864x8x128_S4096x8x128_32768_0_0) shapeCasts_S4096x8x128_S4096x1024⟩] concatenates_S32768x1024_S4096x1024_S36864x1024_d0) (broadcastInDim S36864x1024 ![] bcast_S_S36864x1024 (constant (F := Ideal) S_ .f32 0x3DB504F3#32))) bitsLt_bf16_f32

/-- The reference's term for the queries is that function. -/
theorem queries_res (m : (ℓ : Loc nD τ sig) → Buf (Elt Ideal) ℓ) (c : Dev nD) :
    res_main_v92 (F := Ideal) m c = queries (m ((c.tc : Thread nD τ).loc main_arg0)) (m ((c.tc : Thread nD τ).loc main_arg1)) (m ((c.tc : Thread nD τ).loc main_arg2)) (m ((c.tc : Thread nD τ).loc main_arg3)) := rfl

set_option maxHeartbeats 4000000 in
/-- The reference's queries are the kernel's. -/
theorem queries_eq (z : FVec Ideal S36864x10752 .bf16) (cos sin : FVec Ideal S2048x2x32 .f32) (g : FVec Ideal S128 .f32) :
    queries z cos sin g = Cert.AttnPrepIdeal.HandValue.queries z cos sin g := by
  funext y
  idx_vars y
  have ea : (⟨y1.val / 64 % 2, by omega⟩ : Fin 2) = ⟨y1.val % 128 / 64, by omega⟩ := Fin.ext (by dsimp only; omega)
  have ek : (⟨y1.val / 32 % 2, by omega⟩ : Fin 2) = ⟨y1.val % 128 / 32 % 2, by omega⟩ := Fin.ext (by dsimp only; omega)
  have ef : (⟨y1.val % 32, by omega⟩ : Fin 32) = ⟨y1.val % 128 % 32, by omega⟩ := Fin.ext (by dsimp only; omega)
  have en : (fun d => normQueries z g (ix3 y0 ⟨y1.val / 128, by omega⟩ d))
      = normedHead (fun e => z (ix2 y0 ⟨(8192 + y1.val / 128 * 128) + e.val, by omega⟩)) (fun e => g (ix1 e)) := by
    funext d
    rw [normQueries_at]
    have hz : ∀ e : Fin 128, z (ix2 y0 ⟨8192 + (y1.val / 128 * 128 + e.val), by omega⟩) = z (ix2 y0 ⟨(8192 + y1.val / 128 * 128) + e.val, by omega⟩) := fun e =>
      congrArg (fun k => z (ix2 y0 k)) (Fin.ext (Nat.add_assoc _ _ _).symm)
    exact congrArg (fun f => normedHead f (fun e => g (ix1 e)) d) (funext hz)
  pointwise [queries]
  refine congrArg (fun a : EReal => a * Ideal.ofBits .f32 1035273459#32) ?_
  by_cases h : y0.val < 32768
  · rw [dif_pos h, ea, ek, ef]
    refine (turnedQueries_at (normQueries z g) cos sin y0 h ⟨y1.val / 128, by omega⟩ ⟨y1.val % 128, by omega⟩).trans ?_
    rw [en]
    exact (if_pos h).symm
  · have er : (⟨32768 + (y0.val - 32768), by omega⟩ : Fin 36864) = y0 := Fin.ext (by dsimp only; omega)
    rw [dif_neg h, er]
    exact (congrFun en ⟨y1.val % 128, by omega⟩).trans (if_neg h).symm

/-- The reference's normed keys. -/
def normKeys (z : FVec Ideal S36864x10752 .bf16) (g : FVec Ideal S128 .f32) : FVec Ideal S36864x2x128 .f32 :=
  mulf (mulf (shapeCast S36864x2x128 (extf .f32 (extractStridedSlice S36864x256 ![0, 9728] z slices_S36864x10752_S36864x256_0_9728) bitsLt_bf16_f32) shapeCasts_S36864x256_S36864x2x128) (broadcastInDim S36864x2x128 ![0, 1, 2] bcast_S36864x2x1_S36864x2x128_0_1_2 (Host.rsqrt (addf (Host.divf (broadcastInDim S36864x2x1 ![0, 1] bcast_S36864x2_S36864x2x1_0_1 (Host.reduceAdd (mulf (shapeCast S36864x2x128 (extf .f32 (extractStridedSlice S36864x256 ![0, 9728] z slices_S36864x10752_S36864x256_0_9728) bitsLt_bf16_f32) shapeCasts_S36864x256_S36864x2x128) (shapeCast S36864x2x128 (extf .f32 (extractStridedSlice S36864x256 ![0, 9728] z slices_S36864x10752_S36864x256_0_9728) bitsLt_bf16_f32) shapeCasts_S36864x256_S36864x2x128)) (constant (F := Ideal) S_ .f32 0x00000000#32) reducesTo_S36864x2x128_S36864x2_d2 h_S_)) (broadcastInDim S36864x2x1 ![] bcast_S_S36864x2x1 (constant (F := Ideal) S_ .f32 0x43000000#32))) (broadcastInDim S36864x2x1 ![] bcast_S_S36864x2x1 (constant (F := Ideal) S_ .f32 0x358637BD#32)))))) (broadcastInDim S36864x2x128 ![0, 1, 2] bcast_S1x1x128_S36864x2x128_0_1_2 (broadcastInDim S1x1x128 ![2] bcast_S128_S1x1x128_2 g))

set_option maxHeartbeats 1000000 in
/-- The reference's normed keys, read at an index. -/
theorem normKeys_at (z : FVec Ideal S36864x10752 .bf16) (g : FVec Ideal S128 .f32) (r : Fin 36864) (h : Fin 2) (d : Fin 128) :
    normKeys z g (ix3 r h d) = normedHead (fun e => z (ix2 r ⟨9728 + (h.val * 128 + e.val), by omega⟩)) (fun e => g (ix1 e)) d := by
  pointwise [normKeys]
  rfl

/-- The reference's rotation of the latent keys. -/
def rotKeys (n : FVec Ideal S16x2048x2x2x2x32 .f32) (cos sin : FVec Ideal S2048x2x32 .f32) : FVec Ideal S16x2048x2x2x2x32 .f32 :=
  concatenate S16x2048x2x2x2x32 4 [⟨S16x2048x2x2x1x32, broadcastInDim S16x2048x2x2x1x32 ![0, 1, 2, 3, 5] bcast_S16x2048x2x2x32_S16x2048x2x2x1x32_0_1_2_3_5 (subf (mulf (shapeCast S16x2048x2x2x32 (extractStridedSlice S16x2048x2x2x1x32 ![0, 0, 0, 0, 0, 0] n slices_S16x2048x2x2x2x32_S16x2048x2x2x1x32_0_0_0_0_0_0) shapeCasts_S16x2048x2x2x1x32_S16x2048x2x2x32) (broadcastInDim S16x2048x2x2x32 ![0, 1, 2, 3, 4] bcast_S1x2048x1x2x32_S16x2048x2x2x32_0_1_2_3_4 (broadcastInDim S1x2048x1x2x32 ![1, 2, 3, 4] bcast_S2048x1x2x32_S1x2048x1x2x32_1_2_3_4 (broadcastInDim S2048x1x2x32 ![0, 2, 3] bcast_S2048x2x32_S2048x1x2x32_0_2_3 cos)))) (mulf (shapeCast S16x2048x2x2x32 (extractStridedSlice S16x2048x2x2x1x32 ![0, 0, 0, 0, 1, 0] n slices_S16x2048x2x2x2x32_S16x2048x2x2x1x32_0_0_0_0_1_0) shapeCasts_S16x2048x2x2x1x32_S16x2048x2x2x32) (broadcastInDim S16x2048x2x2x32 ![0, 1, 2, 3, 4] bcast_S1x2048x1x2x32_S16x2048x2x2x32_0_1_2_3_4 (broadcastInDim S1x2048x1x2x32 ![1, 2, 3, 4] bcast_S2048x1x2x32_S1x2048x1x2x32_1_2_3_4 (broadcastInDim S2048x1x2x32 ![0, 2, 3] bcast_S2048x2x32_S2048x1x2x32_0_2_3 sin)))))⟩, ⟨S16x2048x2x2x1x32, broadcastInDim S16x2048x2x2x1x32 ![0, 1, 2, 3, 5] bcast_S16x2048x2x2x32_S16x2048x2x2x1x32_0_1_2_3_5 (addf (mulf (shapeCast S16x2048x2x2x32 (extractStridedSlice S16x2048x2x2x1x32 ![0, 0, 0, 0, 0, 0] n slices_S16x2048x2x2x2x32_S16x2048x2x2x1x32_0_0_0_0_0_0) shapeCasts_S16x2048x2x2x1x32_S16x2048x2x2x32) (broadcastInDim S16x2048x2x2x32 ![0, 1, 2, 3, 4] bcast_S1x2048x1x2x32_S16x2048x2x2x32_0_1_2_3_4 (broadcastInDim S1x2048x1x2x32 ![1, 2, 3, 4] bcast_S2048x1x2x32_S1x2048x1x2x32_1_2_3_4 (broadcastInDim S2048x1x2x32 ![0, 2, 3] bcast_S2048x2x32_S2048x1x2x32_0_2_3 sin)))) (mulf (shapeCast S16x2048x2x2x32 (extractStridedSlice S16x2048x2x2x1x32 ![0, 0, 0, 0, 1, 0] n slices_S16x2048x2x2x2x32_S16x2048x2x2x1x32_0_0_0_0_1_0) shapeCasts_S16x2048x2x2x1x32_S16x2048x2x2x32) (broadcastInDim S16x2048x2x2x32 ![0, 1, 2, 3, 4] bcast_S1x2048x1x2x32_S16x2048x2x2x32_0_1_2_3_4 (broadcastInDim S1x2048x1x2x32 ![1, 2, 3, 4] bcast_S2048x1x2x32_S1x2048x1x2x32_1_2_3_4 (broadcastInDim S2048x1x2x32 ![0, 2, 3] bcast_S2048x2x32_S2048x1x2x32_0_2_3 cos)))))⟩] concatenates_S16x2048x2x2x1x32_S16x2048x2x2x1x32_S16x2048x2x2x2x32_d4

set_option maxHeartbeats 1000000 in
/-- The reference's rotation, read at an index. -/
theorem rotKeys_at (n : FVec Ideal S16x2048x2x2x2x32 .f32) (cos sin : FVec Ideal S2048x2x32 .f32) (b : Fin 16) (p : Fin 2048) (h : Fin 2) (a k : Fin 2) (f : Fin 32) :
    rotKeys n cos sin (ix6 b p h a k f)
      = if k.val < 1 then (n (ix6 b p h a 0 f) * cos (ix3 p a f) - n (ix6 b p h a 1 f) * sin (ix3 p a f) : EReal)
        else n (ix6 b p h a 0 f) * sin (ix3 p a f) + n (ix6 b p h a 1 f) * cos (ix3 p a f) := by
  pointwise [rotKeys]
  split_ifs
  all_goals
    reads_congr
    all_goals blk_ext

/-- The latent keys by halves and quarters, read at an index. -/
theorem shapedKeys_at (n : FVec Ideal S36864x2x128 .f32) (b : Fin 16) (p : Fin 2048) (h : Fin 2) (a k : Fin 2) (f : Fin 32) :
    shapeCast S16x2048x2x2x2x32 (extractStridedSlice S32768x2x128 ![0, 0, 0] n slices_S36864x2x128_S32768x2x128_0_0_0) shapeCasts_S32768x2x128_S16x2048x2x2x2x32 (ix6 b p h a k f)
      = n (ix3 ⟨b.val * 2048 + p.val, by omega⟩ h ⟨a.val * 64 + k.val * 32 + f.val, by omega⟩) := by
  pointwise []

/-- The reference's rotation of the latent keys turns each head's row. -/
theorem turnedKeys_at (n : FVec Ideal S36864x2x128 .f32) (cos sin : FVec Ideal S2048x2x32 .f32) (r : Fin 36864) (hr : r.val < 32768) (h : Fin 2) (d : Fin 128) :
    rotKeys (shapeCast S16x2048x2x2x2x32 (extractStridedSlice S32768x2x128 ![0, 0, 0] n slices_S36864x2x128_S32768x2x128_0_0_0) shapeCasts_S32768x2x128_S16x2048x2x2x2x32) cos sin
        (ix6 ⟨r.val / 2048, by omega⟩ ⟨r.val % 2048, by omega⟩ h ⟨d.val / 64, by omega⟩ ⟨d.val / 32 % 2, by omega⟩ ⟨d.val % 32, by omega⟩)
      = rotated (fun e => n (ix3 r h e)) (fun a f => cos (ix3 ⟨r.val % 2048, by omega⟩ a f)) (fun a f => sin (ix3 ⟨r.val % 2048, by omega⟩ a f)) d := by
  rw [rotKeys_at, shapedKeys_at, shapedKeys_at, rotated_split]
  have e : (⟨r.val / 2048 * 2048 + r.val % 2048, by omega⟩ : Fin 36864) = r := Fin.ext (by dsimp only; omega)
  have e0 : (⟨d.val / 64 * 64 + (0 : Fin 2).val * 32 + d.val % 32, by simp; omega⟩ : Fin 128) = ⟨d.val / 64 * 64 + d.val % 32, by omega⟩ := Fin.ext (by simp)
  have e1 : (⟨d.val / 64 * 64 + (1 : Fin 2).val * 32 + d.val % 32, by simp; omega⟩ : Fin 128) = ⟨d.val / 64 * 64 + 32 + d.val % 32, by omega⟩ := Fin.ext (by simp)
  dsimp only
  rw [e, e0, e1]

/-- The reference's keys as a function of its arguments. -/
def keys (z : FVec Ideal S36864x10752 .bf16) (cos sin : FVec Ideal S2048x2x32 .f32) (g : FVec Ideal S128 .f32) : FVec Ideal S36864x256 .bf16 :=
  truncf .bf16 (concatenate S36864x256 0 [⟨S32768x256, shapeCast S32768x256 (rotKeys (shapeCast S16x2048x2x2x2x32 (extractStridedSlice S32768x2x128 ![0, 0, 0] (normKeys z g) slices_S36864x2x128_S32768x2x128_0_0_0) shapeCasts_S32768x2x128_S16x2048x2x2x2x32) cos sin) shapeCasts_S16x2048x2x2x2x32_S32768x256⟩, ⟨S4096x256, shapeCast S4096x256 (extractStridedSlice S4096x2x128 ![32768, 0, 0] (normKeys z g) slices_S36864x2x128_S4096x2x128_32768_0_0) shapeCasts_S4096x2x128_S4096x256⟩] concatenates_S32768x256_S4096x256_S36864x256_d0) bitsLt_bf16_f32

/-- The reference's term for the keys is that function. -/
theorem keys_res (m : (ℓ : Loc nD τ sig) → Buf (Elt Ideal) ℓ) (c : Dev nD) :
    res_main_v93 (F := Ideal) m c = keys (m ((c.tc : Thread nD τ).loc main_arg0)) (m ((c.tc : Thread nD τ).loc main_arg1)) (m ((c.tc : Thread nD τ).loc main_arg2)) (m ((c.tc : Thread nD τ).loc main_arg4)) := rfl

set_option maxHeartbeats 4000000 in
/-- The reference's keys are the kernel's. -/
theorem keys_eq (z : FVec Ideal S36864x10752 .bf16) (cos sin : FVec Ideal S2048x2x32 .f32) (g : FVec Ideal S128 .f32) :
    keys z cos sin g = Cert.AttnPrepIdeal.HandValue.keys z cos sin g := by
  funext y
  idx_vars y
  have ea : (⟨y1.val / 64 % 2, by omega⟩ : Fin 2) = ⟨y1.val % 128 / 64, by omega⟩ := Fin.ext (by dsimp only; omega)
  have ek : (⟨y1.val / 32 % 2, by omega⟩ : Fin 2) = ⟨y1.val % 128 / 32 % 2, by omega⟩ := Fin.ext (by dsimp only; omega)
  have ef : (⟨y1.val % 32, by omega⟩ : Fin 32) = ⟨y1.val % 128 % 32, by omega⟩ := Fin.ext (by dsimp only; omega)
  have en : (fun d => normKeys z g (ix3 y0 ⟨y1.val / 128, by omega⟩ d))
      = normedHead (fun e => z (ix2 y0 ⟨(9728 + y1.val / 128 * 128) + e.val, by omega⟩)) (fun e => g (ix1 e)) := by
    funext d
    rw [normKeys_at]
    have hz : ∀ e : Fin 128, z (ix2 y0 ⟨9728 + (y1.val / 128 * 128 + e.val), by omega⟩) = z (ix2 y0 ⟨(9728 + y1.val / 128 * 128) + e.val, by omega⟩) := fun e =>
      congrArg (fun k => z (ix2 y0 k)) (Fin.ext (Nat.add_assoc _ _ _).symm)
    exact congrArg (fun f => normedHead f (fun e => g (ix1 e)) d) (funext hz)
  pointwise [keys]
  change (_ : EReal) = AttnPrepIdeal.HandValue.prepared z cos sin g y0 _ _
  by_cases h : y0.val < 32768
  · rw [dif_pos h, ea, ek, ef]
    refine (turnedKeys_at (normKeys z g) cos sin y0 h ⟨y1.val / 128, by omega⟩ ⟨y1.val % 128, by omega⟩).trans ?_
    rw [en]
    exact (if_pos h).symm
  · have er : (⟨32768 + (y0.val - 32768), by omega⟩ : Fin 36864) = y0 := Fin.ext (by dsimp only; omega)
    rw [dif_neg h, er]
    exact (congrFun en ⟨y1.val % 128, by omega⟩).trans (if_neg h).symm

end Cert.AttnPrepRefIdeal.RefValue
-- ==== Proof.lean ====
/- The proof of the claims about the eleven calls: the kernels' frames, the references' frames read off their runs, and the
   equality of the two results, each call's shown equal to one function of its arguments. -/
module

public import proofs.«01_k».proof.Defs
public import proofs.«01_k».proof.Proof.Gen.AttnLat.Frame
public import proofs.«01_k».proof.Proof.Gen.AttnLatIdeal.Value
public import proofs.«01_k».proof.Proof.Gen.AttnLatRefIdeal.Run
public import proofs.«01_k».proof.Proof.Gen.AttnCtx.Frame
public import proofs.«01_k».proof.Proof.Gen.AttnCtxIdeal.Value
public import proofs.«01_k».proof.Proof.Gen.AttnCtxRefIdeal.Run
public import proofs.«01_k».proof.Proof.Gen.InProj.Frame
public import proofs.«01_k».proof.Proof.Gen.InProjIdeal.Value
public import proofs.«01_k».proof.Proof.Gen.InProjRefIdeal.Run
public import proofs.«01_k».proof.Proof.Gen.Merge.Frame
public import proofs.«01_k».proof.Proof.Gen.MergeIdeal.Value
public import proofs.«01_k».proof.Proof.Gen.MergeRefIdeal.Run
public import proofs.«01_k».proof.Proof.Gen.OutProj.Frame
public import proofs.«01_k».proof.Proof.Gen.OutProjIdeal.Value
public import proofs.«01_k».proof.Proof.Gen.OutProjRefIdeal.Run
public import proofs.«01_k».proof.Proof.Gen.Moe.Frame
public import proofs.«01_k».proof.Proof.Gen.MoeIdeal.Value
public import proofs.«01_k».proof.Proof.Gen.MoeRefIdeal.Run
public import proofs.«01_k».proof.Proof.Gen.FourCh.Frame
public import proofs.«01_k».proof.Proof.Gen.FourChIdeal.Value
public import proofs.«01_k».proof.Proof.Gen.FourChRefIdeal.Run
public import proofs.«01_k».proof.Proof.Gen.FourLat.Frame
public import proofs.«01_k».proof.Proof.Gen.FourLatIdeal.Value
public import proofs.«01_k».proof.Proof.Gen.FourLatRefIdeal.Run
public import proofs.«01_k».proof.Proof.Gen.FourCtx.Frame
public import proofs.«01_k».proof.Proof.Gen.FourCtxIdeal.Value
public import proofs.«01_k».proof.Proof.Gen.FourCtxRefIdeal.Run
public import proofs.«01_k».proof.Proof.Gen.AdaLn.Frame
public import proofs.«01_k».proof.Proof.Gen.AdaLnIdeal.Value
public import proofs.«01_k».proof.Proof.Gen.AdaLnRefIdeal.Run
public import proofs.«01_k».proof.Proof.Gen.AttnPrep.Frame
public import proofs.«01_k».proof.Proof.Gen.AttnPrepIdeal.Value
public import proofs.«01_k».proof.Proof.Gen.AttnPrepRefIdeal.Run
public import proofs.«01_k».proof.Proof.Finite
public import proofs.«01_k».proof.Proof.LatKernel
public import proofs.«01_k».proof.Proof.LatReference
public import proofs.«01_k».proof.Proof.CtxKernel
public import proofs.«01_k».proof.Proof.CtxReference
public import proofs.«01_k».proof.Proof.Merge
public import proofs.«01_k».proof.Proof.OutProj
public import proofs.«01_k».proof.Proof.InProj
public import proofs.«01_k».proof.Proof.InReference
public import proofs.«01_k».proof.Proof.Moe
public import proofs.«01_k».proof.Proof.MoeReference
public import proofs.«01_k».proof.Proof.FourCh
public import proofs.«01_k».proof.Proof.FourLat
public import proofs.«01_k».proof.Proof.FourCtx
public import proofs.«01_k».proof.Proof.AdaLn
public import proofs.«01_k».proof.Proof.AttnPrep
public import Idealize.ShloMosaic.Adequacy
public import Idealize.ShloMosaic.Init

@[expose] public section

set_option maxRecDepth 16384

noncomputable section

namespace Cert.Proof

open Idealize.ShloMosaic Idealize.SL.Sem

attribute [local instance] Cert.Pre_finite_qk.sides

/-- The reference of AttnLat runs to an end, leaves its arguments and has no semaphore. -/
theorem ref_AttnLat (m : (ℓ : Loc Cert.AttnLatRefIdeal.nD Cert.AttnLatRefIdeal.τ Cert.AttnLatRefIdeal.sig) → Buf (Elt Ideal) ℓ)
    (g : Dev Cert.AttnLatRefIdeal.nD → PrngReg) :
    θ_run (Cert.AttnLatRefIdeal.defs (F := Ideal)) (onTc (τ := Cert.AttnLatRefIdeal.τ) (Cert.AttnLatRefIdeal.main (F := Ideal))) ⟨m, fun _ => 0, g⟩
      (fun r => (∀ c : Dev Cert.AttnLatRefIdeal.nD, r.2.mem ((c.tc : Thread Cert.AttnLatRefIdeal.nD Cert.AttnLatRefIdeal.τ).loc Cert.AttnLatRefIdeal.main_arg0) = m ((c.tc : Thread Cert.AttnLatRefIdeal.nD Cert.AttnLatRefIdeal.τ).loc Cert.AttnLatRefIdeal.main_arg0) ∧ r.2.mem ((c.tc : Thread Cert.AttnLatRefIdeal.nD Cert.AttnLatRefIdeal.τ).loc Cert.AttnLatRefIdeal.main_arg1) = m ((c.tc : Thread Cert.AttnLatRefIdeal.nD Cert.AttnLatRefIdeal.τ).loc Cert.AttnLatRefIdeal.main_arg1) ∧ r.2.mem ((c.tc : Thread Cert.AttnLatRefIdeal.nD Cert.AttnLatRefIdeal.τ).loc Cert.AttnLatRefIdeal.main_arg2) = m ((c.tc : Thread Cert.AttnLatRefIdeal.nD Cert.AttnLatRefIdeal.τ).loc Cert.AttnLatRefIdeal.main_arg2))
      ∧ r.2.sem = fun _ => 0) :=
  (θ_run Cert.AttnLatRefIdeal.defs _ _).mono (fun r h => ⟨fun c => (h c).2,
    Idealize.ShloMosaic.sem_eq_zero_of_no_sems (by decide) r.2⟩) (Cert.AttnLatRefIdeal.Value.run (F := Ideal) m g)

/-- The reference of AttnCtx runs to an end, leaves its arguments and has no semaphore. -/
theorem ref_AttnCtx (m : (ℓ : Loc Cert.AttnCtxRefIdeal.nD Cert.AttnCtxRefIdeal.τ Cert.AttnCtxRefIdeal.sig) → Buf (Elt Ideal) ℓ)
    (g : Dev Cert.AttnCtxRefIdeal.nD → PrngReg) :
    θ_run (Cert.AttnCtxRefIdeal.defs (F := Ideal)) (onTc (τ := Cert.AttnCtxRefIdeal.τ) (Cert.AttnCtxRefIdeal.main (F := Ideal))) ⟨m, fun _ => 0, g⟩
      (fun r => (∀ c : Dev Cert.AttnCtxRefIdeal.nD, r.2.mem ((c.tc : Thread Cert.AttnCtxRefIdeal.nD Cert.AttnCtxRefIdeal.τ).loc Cert.AttnCtxRefIdeal.main_arg0) = m ((c.tc : Thread Cert.AttnCtxRefIdeal.nD Cert.AttnCtxRefIdeal.τ).loc Cert.AttnCtxRefIdeal.main_arg0) ∧ r.2.mem ((c.tc : Thread Cert.AttnCtxRefIdeal.nD Cert.AttnCtxRefIdeal.τ).loc Cert.AttnCtxRefIdeal.main_arg1) = m ((c.tc : Thread Cert.AttnCtxRefIdeal.nD Cert.AttnCtxRefIdeal.τ).loc Cert.AttnCtxRefIdeal.main_arg1) ∧ r.2.mem ((c.tc : Thread Cert.AttnCtxRefIdeal.nD Cert.AttnCtxRefIdeal.τ).loc Cert.AttnCtxRefIdeal.main_arg2) = m ((c.tc : Thread Cert.AttnCtxRefIdeal.nD Cert.AttnCtxRefIdeal.τ).loc Cert.AttnCtxRefIdeal.main_arg2))
      ∧ r.2.sem = fun _ => 0) :=
  (θ_run Cert.AttnCtxRefIdeal.defs _ _).mono (fun r h => ⟨fun c => (h c).2,
    Idealize.ShloMosaic.sem_eq_zero_of_no_sems (by decide) r.2⟩) (Cert.AttnCtxRefIdeal.Value.run (F := Ideal) m g)

/-- The reference of InProj runs to an end, leaves its arguments and has no semaphore. -/
theorem ref_InProj (m : (ℓ : Loc Cert.InProjRefIdeal.nD Cert.InProjRefIdeal.τ Cert.InProjRefIdeal.sig) → Buf (Elt Ideal) ℓ)
    (g : Dev Cert.InProjRefIdeal.nD → PrngReg) :
    θ_run (Cert.InProjRefIdeal.defs (F := Ideal)) (onTc (τ := Cert.InProjRefIdeal.τ) (Cert.InProjRefIdeal.main (F := Ideal))) ⟨m, fun _ => 0, g⟩
      (fun r => (∀ c : Dev Cert.InProjRefIdeal.nD, r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0) ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1) ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2) ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3) ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4) ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5))
      ∧ r.2.sem = fun _ => 0) :=
  (θ_run Cert.InProjRefIdeal.defs _ _).mono (fun r h => ⟨fun c => (h c).2,
    Idealize.ShloMosaic.sem_eq_zero_of_no_sems (by decide) r.2⟩) (Cert.InProjRefIdeal.Value.run (F := Ideal) m g)

/-- The reference of Merge runs to an end, leaves its arguments and has no semaphore. -/
theorem ref_Merge (m : (ℓ : Loc Cert.MergeRefIdeal.nD Cert.MergeRefIdeal.τ Cert.MergeRefIdeal.sig) → Buf (Elt Ideal) ℓ)
    (g : Dev Cert.MergeRefIdeal.nD → PrngReg) :
    θ_run (Cert.MergeRefIdeal.defs (F := Ideal)) (onTc (τ := Cert.MergeRefIdeal.τ) (Cert.MergeRefIdeal.main (F := Ideal))) ⟨m, fun _ => 0, g⟩
      (fun r => (∀ c : Dev Cert.MergeRefIdeal.nD, r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0) ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1) ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2) ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3) ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4) ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5) ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0) :=
  (θ_run Cert.MergeRefIdeal.defs _ _).mono (fun r h => ⟨fun c => (h c).2,
    Idealize.ShloMosaic.sem_eq_zero_of_no_sems (by decide) r.2⟩) (Cert.MergeRefIdeal.Value.run (F := Ideal) m g)

/-- The reference of OutProj runs to an end, leaves its arguments and has no semaphore. -/
theorem ref_OutProj (m : (ℓ : Loc Cert.OutProjRefIdeal.nD Cert.OutProjRefIdeal.τ Cert.OutProjRefIdeal.sig) → Buf (Elt Ideal) ℓ)
    (g : Dev Cert.OutProjRefIdeal.nD → PrngReg) :
    θ_run (Cert.OutProjRefIdeal.defs (F := Ideal)) (onTc (τ := Cert.OutProjRefIdeal.τ) (Cert.OutProjRefIdeal.main (F := Ideal))) ⟨m, fun _ => 0, g⟩
      (fun r => (∀ c : Dev Cert.OutProjRefIdeal.nD, r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0) ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1) ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2) ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3) ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4) ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5))
      ∧ r.2.sem = fun _ => 0) :=
  (θ_run Cert.OutProjRefIdeal.defs _ _).mono (fun r h => ⟨fun c => (h c).2,
    Idealize.ShloMosaic.sem_eq_zero_of_no_sems (by decide) r.2⟩) (Cert.OutProjRefIdeal.Value.run (F := Ideal) m g)

/-- The reference of Moe runs to an end, leaves its arguments and has no semaphore. -/
theorem ref_Moe (m : (ℓ : Loc Cert.MoeRefIdeal.nD Cert.MoeRefIdeal.τ Cert.MoeRefIdeal.sig) → Buf (Elt Ideal) ℓ)
    (g : Dev Cert.MoeRefIdeal.nD → PrngReg) :
    θ_run (Cert.MoeRefIdeal.defs (F := Ideal)) (onTc (τ := Cert.MoeRefIdeal.τ) (Cert.MoeRefIdeal.main (F := Ideal))) ⟨m, fun _ => 0, g⟩
      (fun r => (∀ c : Dev Cert.MoeRefIdeal.nD, r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0) ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1) ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2) ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3) ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4) ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5) ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6) ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7) ∧ r.2.mem ((c.tc : Thread Cert.MoeRefIdeal.nD Cert.MoeRefIdeal.τ).loc Cert.MoeRefIdeal.main_arg8) = m ((c.tc : Thread Cert.MoeRefIdeal.nD Cert.MoeRefIdeal.τ).loc Cert.MoeRefIdeal.main_arg8) ∧ r.2.mem ((c.tc : Thread Cert.MoeRefIdeal.nD Cert.MoeRefIdeal.τ).loc Cert.MoeRefIdeal.main_arg9) = m ((c.tc : Thread Cert.MoeRefIdeal.nD Cert.MoeRefIdeal.τ).loc Cert.MoeRefIdeal.main_arg9))
      ∧ r.2.sem = fun _ => 0) :=
  (θ_run Cert.MoeRefIdeal.defs _ _).mono (fun r h => ⟨fun c => (h c).2,
    Idealize.ShloMosaic.sem_eq_zero_of_no_sems (by decide) r.2⟩) (Cert.MoeRefIdeal.Value.run (F := Ideal) m g)

/-- The reference of FourCh runs to an end, leaves its arguments and has no semaphore. -/
theorem ref_FourCh (m : (ℓ : Loc Cert.FourChRefIdeal.nD Cert.FourChRefIdeal.τ Cert.FourChRefIdeal.sig) → Buf (Elt Ideal) ℓ)
    (g : Dev Cert.FourChRefIdeal.nD → PrngReg) :
    θ_run (Cert.FourChRefIdeal.defs (F := Ideal)) (onTc (τ := Cert.FourChRefIdeal.τ) (Cert.FourChRefIdeal.main (F := Ideal))) ⟨m, fun _ => 0, g⟩
      (fun r => (∀ c : Dev Cert.FourChRefIdeal.nD, r.2.mem ((c.tc : Thread Cert.FourChRefIdeal.nD Cert.FourChRefIdeal.τ).loc Cert.FourChRefIdeal.main_arg0) = m ((c.tc : Thread Cert.FourChRefIdeal.nD Cert.FourChRefIdeal.τ).loc Cert.FourChRefIdeal.main_arg0) ∧ r.2.mem ((c.tc : Thread Cert.FourChRefIdeal.nD Cert.FourChRefIdeal.τ).loc Cert.FourChRefIdeal.main_arg1) = m ((c.tc : Thread Cert.FourChRefIdeal.nD Cert.FourChRefIdeal.τ).loc Cert.FourChRefIdeal.main_arg1) ∧ r.2.mem ((c.tc : Thread Cert.FourChRefIdeal.nD Cert.FourChRefIdeal.τ).loc Cert.FourChRefIdeal.main_arg2) = m ((c.tc : Thread Cert.FourChRefIdeal.nD Cert.FourChRefIdeal.τ).loc Cert.FourChRefIdeal.main_arg2))
      ∧ r.2.sem = fun _ => 0) :=
  (θ_run Cert.FourChRefIdeal.defs _ _).mono (fun r h => ⟨fun c => (h c).2,
    Idealize.ShloMosaic.sem_eq_zero_of_no_sems (by decide) r.2⟩) (Cert.FourChRefIdeal.Value.run (F := Ideal) m g)

/-- The reference of FourLat runs to an end, leaves its arguments and has no semaphore. -/
theorem ref_FourLat (m : (ℓ : Loc Cert.FourLatRefIdeal.nD Cert.FourLatRefIdeal.τ Cert.FourLatRefIdeal.sig) → Buf (Elt Ideal) ℓ)
    (g : Dev Cert.FourLatRefIdeal.nD → PrngReg) :
    θ_run (Cert.FourLatRefIdeal.defs (F := Ideal)) (onTc (τ := Cert.FourLatRefIdeal.τ) (Cert.FourLatRefIdeal.main (F := Ideal))) ⟨m, fun _ => 0, g⟩
      (fun r => (∀ c : Dev Cert.FourLatRefIdeal.nD, r.2.mem ((c.tc : Thread Cert.FourLatRefIdeal.nD Cert.FourLatRefIdeal.τ).loc Cert.FourLatRefIdeal.main_arg0) = m ((c.tc : Thread Cert.FourLatRefIdeal.nD Cert.FourLatRefIdeal.τ).loc Cert.FourLatRefIdeal.main_arg0) ∧ r.2.mem ((c.tc : Thread Cert.FourLatRefIdeal.nD Cert.FourLatRefIdeal.τ).loc Cert.FourLatRefIdeal.main_arg1) = m ((c.tc : Thread Cert.FourLatRefIdeal.nD Cert.FourLatRefIdeal.τ).loc Cert.FourLatRefIdeal.main_arg1) ∧ r.2.mem ((c.tc : Thread Cert.FourLatRefIdeal.nD Cert.FourLatRefIdeal.τ).loc Cert.FourLatRefIdeal.main_arg2) = m ((c.tc : Thread Cert.FourLatRefIdeal.nD Cert.FourLatRefIdeal.τ).loc Cert.FourLatRefIdeal.main_arg2))
      ∧ r.2.sem = fun _ => 0) :=
  (θ_run Cert.FourLatRefIdeal.defs _ _).mono (fun r h => ⟨fun c => (h c).2,
    Idealize.ShloMosaic.sem_eq_zero_of_no_sems (by decide) r.2⟩) (Cert.FourLatRefIdeal.Value.run (F := Ideal) m g)

/-- The reference of FourCtx runs to an end, leaves its arguments and has no semaphore. -/
theorem ref_FourCtx (m : (ℓ : Loc Cert.FourCtxRefIdeal.nD Cert.FourCtxRefIdeal.τ Cert.FourCtxRefIdeal.sig) → Buf (Elt Ideal) ℓ)
    (g : Dev Cert.FourCtxRefIdeal.nD → PrngReg) :
    θ_run (Cert.FourCtxRefIdeal.defs (F := Ideal)) (onTc (τ := Cert.FourCtxRefIdeal.τ) (Cert.FourCtxRefIdeal.main (F := Ideal))) ⟨m, fun _ => 0, g⟩
      (fun r => (∀ c : Dev Cert.FourCtxRefIdeal.nD, r.2.mem ((c.tc : Thread Cert.FourCtxRefIdeal.nD Cert.FourCtxRefIdeal.τ).loc Cert.FourCtxRefIdeal.main_arg0) = m ((c.tc : Thread Cert.FourCtxRefIdeal.nD Cert.FourCtxRefIdeal.τ).loc Cert.FourCtxRefIdeal.main_arg0) ∧ r.2.mem ((c.tc : Thread Cert.FourCtxRefIdeal.nD Cert.FourCtxRefIdeal.τ).loc Cert.FourCtxRefIdeal.main_arg1) = m ((c.tc : Thread Cert.FourCtxRefIdeal.nD Cert.FourCtxRefIdeal.τ).loc Cert.FourCtxRefIdeal.main_arg1) ∧ r.2.mem ((c.tc : Thread Cert.FourCtxRefIdeal.nD Cert.FourCtxRefIdeal.τ).loc Cert.FourCtxRefIdeal.main_arg2) = m ((c.tc : Thread Cert.FourCtxRefIdeal.nD Cert.FourCtxRefIdeal.τ).loc Cert.FourCtxRefIdeal.main_arg2))
      ∧ r.2.sem = fun _ => 0) :=
  (θ_run Cert.FourCtxRefIdeal.defs _ _).mono (fun r h => ⟨fun c => (h c).2,
    Idealize.ShloMosaic.sem_eq_zero_of_no_sems (by decide) r.2⟩) (Cert.FourCtxRefIdeal.Value.run (F := Ideal) m g)

/-- The reference of AdaLn runs to an end, leaves its arguments and has no semaphore. -/
theorem ref_AdaLn (m : (ℓ : Loc Cert.AdaLnRefIdeal.nD Cert.AdaLnRefIdeal.τ Cert.AdaLnRefIdeal.sig) → Buf (Elt Ideal) ℓ)
    (g : Dev Cert.AdaLnRefIdeal.nD → PrngReg) :
    θ_run (Cert.AdaLnRefIdeal.defs (F := Ideal)) (onTc (τ := Cert.AdaLnRefIdeal.τ) (Cert.AdaLnRefIdeal.main (F := Ideal))) ⟨m, fun _ => 0, g⟩
      (fun r => (∀ c : Dev Cert.AdaLnRefIdeal.nD, r.2.mem ((c.tc : Thread Cert.AdaLnRefIdeal.nD Cert.AdaLnRefIdeal.τ).loc Cert.AdaLnRefIdeal.main_arg0) = m ((c.tc : Thread Cert.AdaLnRefIdeal.nD Cert.AdaLnRefIdeal.τ).loc Cert.AdaLnRefIdeal.main_arg0) ∧ r.2.mem ((c.tc : Thread Cert.AdaLnRefIdeal.nD Cert.AdaLnRefIdeal.τ).loc Cert.AdaLnRefIdeal.main_arg1) = m ((c.tc : Thread Cert.AdaLnRefIdeal.nD Cert.AdaLnRefIdeal.τ).loc Cert.AdaLnRefIdeal.main_arg1) ∧ r.2.mem ((c.tc : Thread Cert.AdaLnRefIdeal.nD Cert.AdaLnRefIdeal.τ).loc Cert.AdaLnRefIdeal.main_arg2) = m ((c.tc : Thread Cert.AdaLnRefIdeal.nD Cert.AdaLnRefIdeal.τ).loc Cert.AdaLnRefIdeal.main_arg2) ∧ r.2.mem ((c.tc : Thread Cert.AdaLnRefIdeal.nD Cert.AdaLnRefIdeal.τ).loc Cert.AdaLnRefIdeal.main_arg3) = m ((c.tc : Thread Cert.AdaLnRefIdeal.nD Cert.AdaLnRefIdeal.τ).loc Cert.AdaLnRefIdeal.main_arg3))
      ∧ r.2.sem = fun _ => 0) :=
  (θ_run Cert.AdaLnRefIdeal.defs _ _).mono (fun r h => ⟨fun c => (h c).2,
    Idealize.ShloMosaic.sem_eq_zero_of_no_sems (by decide) r.2⟩) (Cert.AdaLnRefIdeal.Value.run (F := Ideal) m g)

/-- The reference of AttnPrep runs to an end, leaves its arguments and has no semaphore. -/
theorem ref_AttnPrep (m : (ℓ : Loc Cert.AttnPrepRefIdeal.nD Cert.AttnPrepRefIdeal.τ Cert.AttnPrepRefIdeal.sig) → Buf (Elt Ideal) ℓ)
    (g : Dev Cert.AttnPrepRefIdeal.nD → PrngReg) :
    θ_run (Cert.AttnPrepRefIdeal.defs (F := Ideal)) (onTc (τ := Cert.AttnPrepRefIdeal.τ) (Cert.AttnPrepRefIdeal.main (F := Ideal))) ⟨m, fun _ => 0, g⟩
      (fun r => (∀ c : Dev Cert.AttnPrepRefIdeal.nD, r.2.mem ((c.tc : Thread Cert.AttnPrepRefIdeal.nD Cert.AttnPrepRefIdeal.τ).loc Cert.AttnPrepRefIdeal.main_arg0) = m ((c.tc : Thread Cert.AttnPrepRefIdeal.nD Cert.AttnPrepRefIdeal.τ).loc Cert.AttnPrepRefIdeal.main_arg0) ∧ r.2.mem ((c.tc : Thread Cert.AttnPrepRefIdeal.nD Cert.AttnPrepRefIdeal.τ).loc Cert.AttnPrepRefIdeal.main_arg1) = m ((c.tc : Thread Cert.AttnPrepRefIdeal.nD Cert.AttnPrepRefIdeal.τ).loc Cert.AttnPrepRefIdeal.main_arg1) ∧ r.2.mem ((c.tc : Thread Cert.AttnPrepRefIdeal.nD Cert.AttnPrepRefIdeal.τ).loc Cert.AttnPrepRefIdeal.main_arg2) = m ((c.tc : Thread Cert.AttnPrepRefIdeal.nD Cert.AttnPrepRefIdeal.τ).loc Cert.AttnPrepRefIdeal.main_arg2) ∧ r.2.mem ((c.tc : Thread Cert.AttnPrepRefIdeal.nD Cert.AttnPrepRefIdeal.τ).loc Cert.AttnPrepRefIdeal.main_arg3) = m ((c.tc : Thread Cert.AttnPrepRefIdeal.nD Cert.AttnPrepRefIdeal.τ).loc Cert.AttnPrepRefIdeal.main_arg3) ∧ r.2.mem ((c.tc : Thread Cert.AttnPrepRefIdeal.nD Cert.AttnPrepRefIdeal.τ).loc Cert.AttnPrepRefIdeal.main_arg4) = m ((c.tc : Thread Cert.AttnPrepRefIdeal.nD Cert.AttnPrepRefIdeal.τ).loc Cert.AttnPrepRefIdeal.main_arg4))
      ∧ r.2.sem = fun _ => 0) :=
  (θ_run Cert.AttnPrepRefIdeal.defs _ _).mono (fun r h => ⟨fun c => (h c).2.2,
    Idealize.ShloMosaic.sem_eq_zero_of_no_sems (by decide) r.2⟩) (Cert.AttnPrepRefIdeal.Value.run (F := Ideal) m g)

set_option maxHeartbeats 2000000 in
/-- The kernel of AttnLat and its reference end with equal results. -/
theorem value_AttnLat : Cert.algebraic_AttnLatIdeal_AttnLatRefIdeal_pre_finite_qk := by
  intro m g m' g' hpre hagree
  refine ⟨fun c => Cert.AttnLatIdeal.HandValue.attn (m ((c.tc : Thread Cert.AttnLatIdeal.nD Cert.AttnLatIdeal.τ).loc Cert.AttnLatIdeal.main_arg0)) (m ((c.tc : Thread Cert.AttnLatIdeal.nD Cert.AttnLatIdeal.τ).loc Cert.AttnLatIdeal.main_arg1)) (m ((c.tc : Thread Cert.AttnLatIdeal.nD Cert.AttnLatIdeal.τ).loc Cert.AttnLatIdeal.main_arg2)), ?_, ?_⟩
  · refine (θ_run Cert.AttnLatIdeal.defs _ _).mono ?_ (Cert.AttnLatIdeal.Value.run_blocks m g)
    exact fun _ h c => ⟨(h c).1.trans (Cert.AttnLatIdeal.HandValue.array_eq m c), (h c).2⟩
  · refine (θ_run Cert.AttnLatRefIdeal.defs _ _).mono ?_ (Cert.AttnLatRefIdeal.Value.run (F := Ideal) m' g')
    refine fun _ h c => ⟨(h c).1.trans ?_, (h c).2⟩
    refine (Cert.AttnLatRefIdeal.RefValue.res_eq m' c).trans ?_
    rw [(hagree c).1, (hagree c).2.1, (hagree c).2.2]
    exact Cert.AttnLatRefIdeal.RefValue.attended_eq _ _ _ (Cert.Pre_finite_qk.queries_finite (hpre c).1) (Cert.Pre_finite_qk.keys_finite (hpre c).2)

set_option maxHeartbeats 2000000 in
/-- The kernel of AttnCtx and its reference end with equal results. -/
theorem value_AttnCtx : Cert.algebraic_AttnCtxIdeal_AttnCtxRefIdeal_pre_finite_qk := by
  intro m g m' g' hpre hagree
  refine ⟨fun c => Cert.AttnCtxIdeal.HandValue.attn (m ((c.tc : Thread Cert.AttnCtxIdeal.nD Cert.AttnCtxIdeal.τ).loc Cert.AttnCtxIdeal.main_arg0)) (m ((c.tc : Thread Cert.AttnCtxIdeal.nD Cert.AttnCtxIdeal.τ).loc Cert.AttnCtxIdeal.main_arg1)) (m ((c.tc : Thread Cert.AttnCtxIdeal.nD Cert.AttnCtxIdeal.τ).loc Cert.AttnCtxIdeal.main_arg2)), ?_, ?_⟩
  · refine (θ_run Cert.AttnCtxIdeal.defs _ _).mono ?_ (Cert.AttnCtxIdeal.Value.run_blocks m g)
    exact fun _ h c => ⟨(h c).1.trans (Cert.AttnCtxIdeal.HandValue.array_eq m c), (h c).2⟩
  · refine (θ_run Cert.AttnCtxRefIdeal.defs _ _).mono ?_ (Cert.AttnCtxRefIdeal.Value.run (F := Ideal) m' g')
    refine fun _ h c => ⟨(h c).1.trans ?_, (h c).2⟩
    refine (Cert.AttnCtxRefIdeal.RefValue.res_eq m' c).trans ?_
    rw [(hagree c).1, (hagree c).2.1, (hagree c).2.2]
    exact Cert.AttnCtxRefIdeal.RefValue.attended_eq _ _ _ (Cert.Pre_finite_qk.queries_finite (hpre c).1) (Cert.Pre_finite_qk.keys_finite (hpre c).2)

set_option maxHeartbeats 2000000 in
/-- The kernel of InProj and its reference end with equal results. -/
theorem value_InProj : Cert.algebraic_InProjIdeal_InProjRefIdeal := by
  intro m g m' g' hpre hagree
  refine ⟨fun c => Trunk.projected (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)), ?_, ?_⟩
  · refine (θ_run Cert.InProjIdeal.defs _ _).mono ?_ (Cert.InProjIdeal.Value.run_blocks m g)
    exact fun _ h c => ⟨(h c).1.trans (Cert.InProjIdeal.HandValue.array_eq m c), (h c).2⟩
  · refine (θ_run Cert.InProjRefIdeal.defs _ _).mono ?_ (Cert.InProjRefIdeal.Value.run (F := Ideal) m' g')
    refine fun _ h c => ⟨(h c).1.trans ?_, (h c).2⟩
    refine (Cert.InProjRefIdeal.RefValue.res_eq m' c).trans ?_
    rw [(hagree c).1, (hagree c).2.1, (hagree c).2.2.1, (hagree c).2.2.2.1, (hagree c).2.2.2.2.1, (hagree c).2.2.2.2.2]
    exact Cert.InProjRefIdeal.RefValue.result_eq _ _ _ _ _ _

set_option maxHeartbeats 2000000 in
/-- The kernel of Merge and its reference end with equal results. -/
theorem value_Merge : Cert.algebraic_MergeIdeal_MergeRefIdeal := by
  intro m g m' g' hpre hagree
  refine ⟨fun c => Cert.MergeIdeal.HandValue.merged (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)), ?_, ?_⟩
  · refine (θ_run Cert.MergeIdeal.defs _ _).mono ?_ (Cert.MergeIdeal.Value.run_blocks m g)
    exact fun _ h c => ⟨(h c).1.trans (Cert.MergeIdeal.HandValue.array_eq m c), (h c).2⟩
  · refine (θ_run Cert.MergeRefIdeal.defs _ _).mono ?_ (Cert.MergeRefIdeal.Value.run (F := Ideal) m' g')
    refine fun _ h c => ⟨(h c).1.trans ?_, (h c).2⟩
    refine (Cert.MergeRefIdeal.RefValue.result_eq _ _ _ _ _ _ _ ).trans ?_
    rw [(hagree c).1, (hagree c).2.1, (hagree c).2.2.1, (hagree c).2.2.2.1, (hagree c).2.2.2.2.1, (hagree c).2.2.2.2.2.1, (hagree c).2.2.2.2.2.2]

set_option maxHeartbeats 2000000 in
/-- The kernel of OutProj and its reference end with equal results. -/
theorem value_OutProj : Cert.algebraic_OutProjIdeal_OutProjRefIdeal := by
  intro m g m' g' hpre hagree
  refine ⟨fun c => Cert.OutProjIdeal.HandValue.resid (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)) (m ((c.tc : Thread Cert.OutProjIdeal.nD Cert.OutProjIdeal.τ).loc Cert.OutProjIdeal.main_arg5)), ?_, ?_⟩
  · refine (θ_run Cert.OutProjIdeal.defs _ _).mono ?_ (Cert.OutProjIdeal.Value.run_blocks m g)
    exact fun _ h c => ⟨(h c).1.trans (Cert.OutProjIdeal.HandValue.array_eq m c), (h c).2⟩
  · refine (θ_run Cert.OutProjRefIdeal.defs _ _).mono ?_ (Cert.OutProjRefIdeal.Value.run (F := Ideal) m' g')
    refine fun _ h c => ⟨(h c).1.trans ?_, (h c).2⟩
    refine (Cert.OutProjRefIdeal.RefValue.result_eq _ _ _ _ _ _ ).trans ?_
    rw [(hagree c).1, (hagree c).2.1, (hagree c).2.2.1, (hagree c).2.2.2.1, (hagree c).2.2.2.2.1, (hagree c).2.2.2.2.2]

set_option maxHeartbeats 2000000 in
/-- The kernel of Moe and its reference end with equal results. -/
theorem value_Moe : Cert.algebraic_MoeIdeal_MoeRefIdeal := by
  intro m g m' g' hpre hagree
  refine ⟨fun c => Cert.MoeIdeal.HandValue.mixed (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7)) (m ((c.tc : Thread Cert.MoeIdeal.nD Cert.MoeIdeal.τ).loc Cert.MoeIdeal.main_arg8)) (m ((c.tc : Thread Cert.MoeIdeal.nD Cert.MoeIdeal.τ).loc Cert.MoeIdeal.main_arg9)), ?_, ?_⟩
  · refine (θ_run Cert.MoeIdeal.defs _ _).mono ?_ (Cert.MoeIdeal.Value.run_blocks m g)
    exact fun _ h c => ⟨(h c).1.trans (Cert.MoeIdeal.HandValue.array_eq m c), (h c).2⟩
  · refine (θ_run Cert.MoeRefIdeal.defs _ _).mono ?_ (Cert.MoeRefIdeal.Value.run (F := Ideal) m' g')
    refine fun _ h c => ⟨(h c).1.trans ?_, (h c).2⟩
    refine (Cert.MoeRefIdeal.RefValue.res_eq m' c).trans ?_
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
    exact Cert.MoeRefIdeal.RefValue.result_eq _ _ _ _ _ _ _ _ _ _

set_option maxHeartbeats 2000000 in
/-- The kernel of FourCh and its reference end with equal results. -/
theorem value_FourCh : Cert.algebraic_FourChIdeal_FourChRefIdeal := by
  intro m g m' g' hpre hagree
  refine ⟨fun c => Cert.FourChIdeal.HandValue.channels (m ((c.tc : Thread Cert.FourChIdeal.nD Cert.FourChIdeal.τ).loc Cert.FourChIdeal.main_arg0)) (m ((c.tc : Thread Cert.FourChIdeal.nD Cert.FourChIdeal.τ).loc Cert.FourChIdeal.main_arg1)) (m ((c.tc : Thread Cert.FourChIdeal.nD Cert.FourChIdeal.τ).loc Cert.FourChIdeal.main_arg2)), ?_, ?_⟩
  · refine (θ_run Cert.FourChIdeal.defs _ _).mono ?_ (Cert.FourChIdeal.Value.run_blocks m g)
    exact fun _ h c => ⟨(h c).1.trans (Cert.FourChIdeal.HandValue.array_eq m c), (h c).2⟩
  · refine (θ_run Cert.FourChRefIdeal.defs _ _).mono ?_ (Cert.FourChRefIdeal.Value.run (F := Ideal) m' g')
    refine fun _ h c => ⟨(h c).1.trans ?_, (h c).2⟩
    refine (Cert.FourChRefIdeal.RefValue.result_eq _ _ _ ).trans ?_
    rw [(hagree c).1, (hagree c).2.1, (hagree c).2.2]

set_option maxHeartbeats 2000000 in
/-- The kernel of FourLat and its reference end with equal results. -/
theorem value_FourLat : Cert.algebraic_FourLatIdeal_FourLatRefIdeal := by
  intro m g m' g' hpre hagree
  refine ⟨fun c => Cert.FourLatIdeal.HandValue.positions (m ((c.tc : Thread Cert.FourLatIdeal.nD Cert.FourLatIdeal.τ).loc Cert.FourLatIdeal.main_arg0)) (m ((c.tc : Thread Cert.FourLatIdeal.nD Cert.FourLatIdeal.τ).loc Cert.FourLatIdeal.main_arg1)) (m ((c.tc : Thread Cert.FourLatIdeal.nD Cert.FourLatIdeal.τ).loc Cert.FourLatIdeal.main_arg2)), ?_, ?_⟩
  · refine (θ_run Cert.FourLatIdeal.defs _ _).mono ?_ (Cert.FourLatIdeal.Value.run_blocks m g)
    exact fun _ h c => ⟨(h c).1.trans (Cert.FourLatIdeal.HandValue.array_eq m c), (h c).2⟩
  · refine (θ_run Cert.FourLatRefIdeal.defs _ _).mono ?_ (Cert.FourLatRefIdeal.Value.run (F := Ideal) m' g')
    refine fun _ h c => ⟨(h c).1.trans ?_, (h c).2⟩
    refine (Cert.FourLatRefIdeal.RefValue.result_eq _ _ _ ).trans ?_
    rw [(hagree c).1, (hagree c).2.1, (hagree c).2.2]

set_option maxHeartbeats 2000000 in
/-- The kernel of FourCtx and its reference end with equal results. -/
theorem value_FourCtx : Cert.algebraic_FourCtxIdeal_FourCtxRefIdeal := by
  intro m g m' g' hpre hagree
  refine ⟨fun c => Cert.FourCtxIdeal.HandValue.positions (m ((c.tc : Thread Cert.FourCtxIdeal.nD Cert.FourCtxIdeal.τ).loc Cert.FourCtxIdeal.main_arg0)) (m ((c.tc : Thread Cert.FourCtxIdeal.nD Cert.FourCtxIdeal.τ).loc Cert.FourCtxIdeal.main_arg1)) (m ((c.tc : Thread Cert.FourCtxIdeal.nD Cert.FourCtxIdeal.τ).loc Cert.FourCtxIdeal.main_arg2)), ?_, ?_⟩
  · refine (θ_run Cert.FourCtxIdeal.defs _ _).mono ?_ (Cert.FourCtxIdeal.Value.run_blocks m g)
    exact fun _ h c => ⟨(h c).1.trans (Cert.FourCtxIdeal.HandValue.array_eq m c), (h c).2⟩
  · refine (θ_run Cert.FourCtxRefIdeal.defs _ _).mono ?_ (Cert.FourCtxRefIdeal.Value.run (F := Ideal) m' g')
    refine fun _ h c => ⟨(h c).1.trans ?_, (h c).2⟩
    refine (Cert.FourCtxRefIdeal.RefValue.result_eq _ _ _ ).trans ?_
    rw [(hagree c).1, (hagree c).2.1, (hagree c).2.2]

set_option maxHeartbeats 2000000 in
/-- The kernel of AdaLn and its reference end with equal results. -/
theorem value_AdaLn : Cert.algebraic_AdaLnIdeal_AdaLnRefIdeal := by
  intro m g m' g' hpre hagree
  refine ⟨fun c => Trunk.modulation (m ((c.tc : Thread Cert.AdaLnIdeal.nD Cert.AdaLnIdeal.τ).loc Cert.AdaLnIdeal.main_arg0)) (m ((c.tc : Thread Cert.AdaLnIdeal.nD Cert.AdaLnIdeal.τ).loc Cert.AdaLnIdeal.main_arg1)) (m ((c.tc : Thread Cert.AdaLnIdeal.nD Cert.AdaLnIdeal.τ).loc Cert.AdaLnIdeal.main_arg2)) (m ((c.tc : Thread Cert.AdaLnIdeal.nD Cert.AdaLnIdeal.τ).loc Cert.AdaLnIdeal.main_arg3)), ?_, ?_⟩
  · refine (θ_run Cert.AdaLnIdeal.defs _ _).mono ?_ (Cert.AdaLnIdeal.Value.run_blocks m g)
    exact fun _ h c => ⟨(h c).1.trans (Cert.AdaLnIdeal.HandValue.array_eq m c), (h c).2⟩
  · refine (θ_run Cert.AdaLnRefIdeal.defs _ _).mono ?_ (Cert.AdaLnRefIdeal.Value.run (F := Ideal) m' g')
    refine fun _ h c => ⟨(h c).1.trans ?_, (h c).2⟩
    refine (Cert.AdaLnRefIdeal.RefValue.result_eq _ _ _ _ ).trans ?_
    rw [(hagree c).1, (hagree c).2.1, (hagree c).2.2.1, (hagree c).2.2.2]

set_option maxHeartbeats 2000000 in
/-- The kernel of AttnPrep and its reference end with equal results. -/
theorem value_AttnPrep : Cert.algebraic_AttnPrepIdeal_AttnPrepRefIdeal := by
  intro m g m' g' hpre hagree
  refine ⟨fun c => Cert.AttnPrepIdeal.HandValue.queries (m ((c.tc : Thread Cert.AttnPrepIdeal.nD Cert.AttnPrepIdeal.τ).loc Cert.AttnPrepIdeal.main_arg0)) (m ((c.tc : Thread Cert.AttnPrepIdeal.nD Cert.AttnPrepIdeal.τ).loc Cert.AttnPrepIdeal.main_arg1)) (m ((c.tc : Thread Cert.AttnPrepIdeal.nD Cert.AttnPrepIdeal.τ).loc Cert.AttnPrepIdeal.main_arg2)) (m ((c.tc : Thread Cert.AttnPrepIdeal.nD Cert.AttnPrepIdeal.τ).loc Cert.AttnPrepIdeal.main_arg3)),
    fun c => Cert.AttnPrepIdeal.HandValue.keys (m ((c.tc : Thread Cert.AttnPrepIdeal.nD Cert.AttnPrepIdeal.τ).loc Cert.AttnPrepIdeal.main_arg0)) (m ((c.tc : Thread Cert.AttnPrepIdeal.nD Cert.AttnPrepIdeal.τ).loc Cert.AttnPrepIdeal.main_arg1)) (m ((c.tc : Thread Cert.AttnPrepIdeal.nD Cert.AttnPrepIdeal.τ).loc Cert.AttnPrepIdeal.main_arg2)) (m ((c.tc : Thread Cert.AttnPrepIdeal.nD Cert.AttnPrepIdeal.τ).loc Cert.AttnPrepIdeal.main_arg4)), ?_, ?_⟩
  · refine (θ_run Cert.AttnPrepIdeal.defs _ _).mono ?_ (Cert.AttnPrepIdeal.Value.run_blocks m g)
    exact fun _ h c => ⟨(h c).1.trans (Cert.AttnPrepIdeal.HandValue.queries_eq m c), (h c).2.1.trans (Cert.AttnPrepIdeal.HandValue.keys_eq m c), (h c).2.2⟩
  · refine (θ_run Cert.AttnPrepRefIdeal.defs _ _).mono ?_ (Cert.AttnPrepRefIdeal.Value.run (F := Ideal) m' g')
    refine fun _ h c => ⟨(h c).1.trans ?_, (h c).2.1.trans ?_, (h c).2.2⟩
    · refine (Cert.AttnPrepRefIdeal.RefValue.queries_res m' c).trans ?_
      rw [(hagree c).1, (hagree c).2.1, (hagree c).2.2.1, (hagree c).2.2.2.1]
      exact Cert.AttnPrepRefIdeal.RefValue.queries_eq _ _ _ _
    · refine (Cert.AttnPrepRefIdeal.RefValue.keys_res m' c).trans ?_
      rw [(hagree c).1, (hagree c).2.1, (hagree c).2.2.1, (hagree c).2.2.2.2]
      exact Cert.AttnPrepRefIdeal.RefValue.keys_eq _ _ _ _

/-- Every claim about the calls. -/
theorem claim : Cert.Claim :=
  ⟨Cert.AttnLat.Gen.facts,
   Cert.AttnLatIdeal.Gen.facts,
   Cert.AttnLatRefIdeal.Gen.facts,
   Cert.AttnCtx.Gen.facts,
   Cert.AttnCtxIdeal.Gen.facts,
   Cert.AttnCtxRefIdeal.Gen.facts,
   Cert.InProj.Gen.facts,
   Cert.InProjIdeal.Gen.facts,
   Cert.InProjRefIdeal.Gen.facts,
   Cert.Merge.Gen.facts,
   Cert.MergeIdeal.Gen.facts,
   Cert.MergeRefIdeal.Gen.facts,
   Cert.OutProj.Gen.facts,
   Cert.OutProjIdeal.Gen.facts,
   Cert.OutProjRefIdeal.Gen.facts,
   Cert.Moe.Gen.facts,
   Cert.MoeIdeal.Gen.facts,
   Cert.MoeRefIdeal.Gen.facts,
   Cert.FourCh.Gen.facts,
   Cert.FourChIdeal.Gen.facts,
   Cert.FourChRefIdeal.Gen.facts,
   Cert.FourLat.Gen.facts,
   Cert.FourLatIdeal.Gen.facts,
   Cert.FourLatRefIdeal.Gen.facts,
   Cert.FourCtx.Gen.facts,
   Cert.FourCtxIdeal.Gen.facts,
   Cert.FourCtxRefIdeal.Gen.facts,
   Cert.AdaLn.Gen.facts,
   Cert.AdaLnIdeal.Gen.facts,
   Cert.AdaLnRefIdeal.Gen.facts,
   Cert.AttnPrep.Gen.facts,
   Cert.AttnPrepIdeal.Gen.facts,
   Cert.AttnPrepRefIdeal.Gen.facts,
   Cert.Pre_finite_qk.sides,
   fun m g _ => Cert.AttnLat.Gen.frame m g,
   fun m g _ => Cert.AttnLatIdeal.Gen.frame m g,
   fun m g _ => Cert.AttnLatIdeal.Gen.frame m g,
   fun m g _ => ref_AttnLat m g,
   fun m g _ => ref_AttnLat m g,
   fun m g _ => Cert.AttnCtx.Gen.frame m g,
   fun m g _ => Cert.AttnCtxIdeal.Gen.frame m g,
   fun m g _ => Cert.AttnCtxIdeal.Gen.frame m g,
   fun m g _ => ref_AttnCtx m g,
   fun m g _ => ref_AttnCtx m g,
   fun m g _ => Cert.InProj.Gen.frame m g,
   fun m g _ => Cert.InProjIdeal.Gen.frame m g,
   fun m g _ => ref_InProj m g,
   fun m g _ => Cert.Merge.Gen.frame m g,
   fun m g _ => Cert.MergeIdeal.Gen.frame m g,
   fun m g _ => ref_Merge m g,
   fun m g _ => Cert.OutProj.Gen.frame m g,
   fun m g _ => Cert.OutProjIdeal.Gen.frame m g,
   fun m g _ => ref_OutProj m g,
   fun m g _ => Cert.Moe.Gen.frame m g,
   fun m g _ => Cert.MoeIdeal.Gen.frame m g,
   fun m g _ => ref_Moe m g,
   fun m g _ => Cert.FourCh.Gen.frame m g,
   fun m g _ => Cert.FourChIdeal.Gen.frame m g,
   fun m g _ => ref_FourCh m g,
   fun m g _ => Cert.FourLat.Gen.frame m g,
   fun m g _ => Cert.FourLatIdeal.Gen.frame m g,
   fun m g _ => ref_FourLat m g,
   fun m g _ => Cert.FourCtx.Gen.frame m g,
   fun m g _ => Cert.FourCtxIdeal.Gen.frame m g,
   fun m g _ => ref_FourCtx m g,
   fun m g _ => Cert.AdaLn.Gen.frame m g,
   fun m g _ => Cert.AdaLnIdeal.Gen.frame m g,
   fun m g _ => ref_AdaLn m g,
   fun m g _ => Cert.AttnPrep.Gen.frame m g,
   fun m g _ => Cert.AttnPrepIdeal.Gen.frame m g,
   fun m g _ => ref_AttnPrep m g,
   trivial,
   value_AttnLat,
   trivial,
   value_AttnCtx,
   trivial,
   value_InProj,
   trivial,
   value_Merge,
   trivial,
   value_OutProj,
   trivial,
   value_Moe,
   trivial,
   value_FourCh,
   trivial,
   value_FourLat,
   trivial,
   value_FourCtx,
   trivial,
   value_AdaLn,
   trivial,
   value_AttnPrep⟩

end Cert.Proof

end
